-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)) (v7 : (c : Dev Cert.KernelIdeal.nD) → Buf (Elt Ideal) ((c.tc : Thread Cert.KernelIdeal.nD Cert.KernelIdeal.τ).loc Cert.KernelIdeal.main_v9_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_v9_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_v156) = v4 c
          ∧ r.2.mem ((c.tc : Thread Cert.ReferenceIdeal.nD Cert.ReferenceIdeal.τ).loc Cert.ReferenceIdeal.main_v147) = v5 c
          ∧ r.2.mem ((c.tc : Thread Cert.ReferenceIdeal.nD Cert.ReferenceIdeal.τ).loc Cert.ReferenceIdeal.main_v152) = v6 c
          ∧ r.2.mem ((c.tc : Thread Cert.ReferenceIdeal.nD Cert.ReferenceIdeal.τ).loc Cert.ReferenceIdeal.main_v157) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v108_0)) (v1 : (c : Dev Cert.Kernel2Ideal.nD) → Buf (Elt Ideal) ((c.tc : Thread Cert.Kernel2Ideal.nD Cert.Kernel2Ideal.τ).loc Cert.Kernel2Ideal.main_v108_1)) (v2 : (c : Dev Cert.Kernel2Ideal.nD) → Buf (Elt Ideal) ((c.tc : Thread Cert.Kernel2Ideal.nD Cert.Kernel2Ideal.τ).loc Cert.Kernel2Ideal.main_v108_2)) (v3 : (c : Dev Cert.Kernel2Ideal.nD) → Buf (Elt Ideal) ((c.tc : Thread Cert.Kernel2Ideal.nD Cert.Kernel2Ideal.τ).loc Cert.Kernel2Ideal.main_v108_3)) (v4 : (c : Dev Cert.Kernel2Ideal.nD) → Buf (Elt Ideal) ((c.tc : Thread Cert.Kernel2Ideal.nD Cert.Kernel2Ideal.τ).loc Cert.Kernel2Ideal.main_v108_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v108_0) = v0 c
          ∧ r.2.mem ((c.tc : Thread Cert.Kernel2Ideal.nD Cert.Kernel2Ideal.τ).loc Cert.Kernel2Ideal.main_v108_1) = v1 c
          ∧ r.2.mem ((c.tc : Thread Cert.Kernel2Ideal.nD Cert.Kernel2Ideal.τ).loc Cert.Kernel2Ideal.main_v108_2) = v2 c
          ∧ r.2.mem ((c.tc : Thread Cert.Kernel2Ideal.nD Cert.Kernel2Ideal.τ).loc Cert.Kernel2Ideal.main_v108_3) = v3 c
          ∧ r.2.mem ((c.tc : Thread Cert.Kernel2Ideal.nD Cert.Kernel2Ideal.τ).loc Cert.Kernel2Ideal.main_v108_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v257) = v0 c
          ∧ r.2.mem ((c.tc : Thread Cert.Reference2Ideal.nD Cert.Reference2Ideal.τ).loc Cert.Reference2Ideal.main_v258) = v1 c
          ∧ r.2.mem ((c.tc : Thread Cert.Reference2Ideal.nD Cert.Reference2Ideal.τ).loc Cert.Reference2Ideal.main_v259) = v2 c
          ∧ r.2.mem ((c.tc : Thread Cert.Reference2Ideal.nD Cert.Reference2Ideal.τ).loc Cert.Reference2Ideal.main_v252) = v3 c
          ∧ r.2.mem ((c.tc : Thread Cert.Reference2Ideal.nD Cert.Reference2Ideal.τ).loc Cert.Reference2Ideal.main_v256) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v114) = v3 c
          ∧ r.2.mem ((c.tc : Thread Cert.Reference3Ideal.nD Cert.Reference3Ideal.τ).loc Cert.Reference3Ideal.main_v113) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v16) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x4096x1024 : Shape := ⟨3, ![2, 4096, 1024]⟩
abbrev S2x6144 : Shape := ⟨2, ![2, 6144]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x6144 : S_.BroadcastsInDim S2x6144 (![] : Fin 0 → Fin S2x6144.rank)
  reducesTo_S2x6144_S_d0_1 : S2x6144.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x1024x4096 .f32) (main_arg5 : FVec F S1x4096x1024 .f32) (main_arg6 : FVec F S1024 .f32) (main_v3 : IVec S_ 1) (main_v7 : IVec S_ 1) (main_v11 : IVec S_ 1) (main_v15 : IVec S_ 1) : IVec S_ 1 :=
  let main_v16 : FVec F S1x1024x4096 .f32 := Host.absf main_arg4
  let main_cst_6 : FVec F S_ .f32 := constant S_ .f32 0x7F800000#32
  let main_v17 : FVec F S1x1024x4096 .f32 := broadcastInDim S1x1024x4096 ![] bcast_S_S1x1024x4096 main_cst_6
  let main_v18 : IVec S1x1024x4096 1 := cmpf .olt main_v16 main_v17
  let main_c_7 : IVec S_ 1 := constantI S_ 1 1#1
  let main_v19 : IVec S_ 1 := (fun x v => Host.reduce IntOp.andi x v reducesTo_S1x1024x4096_S_d0_1_2 h_S_) main_v18 main_c_7
  let main_v20 : FVec F S1x4096x1024 .f32 := Host.absf main_arg5
  let main_cst_8 : FVec F S_ .f32 := constant S_ .f32 0x7F800000#32
  let main_v21 : FVec F S1x4096x1024 .f32 := broadcastInDim S1x4096x1024 ![] bcast_S_S1x4096x1024 main_cst_8
  let main_v22 : IVec S1x4096x1024 1 := cmpf .olt main_v20 main_v21
  let main_c_9 : IVec S_ 1 := constantI S_ 1 1#1
  let main_v23 : IVec S_ 1 := (fun x v => Host.reduce IntOp.andi x v reducesTo_S1x4096x1024_S_d0_1_2 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x4096x1024 .f32) (main_arg1 : FVec F S2x4096x1024 .f32) (main_arg2 : FVec F S2x4096x1024 .f32) (main_arg3 : FVec F S2x6144 .f32) (main_arg4 : FVec F S1x1024x4096 .f32) (main_arg5 : FVec F S1x4096x1024 .f32) (main_arg6 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : FVec F S2x4096x1024 .f32 := Host.absf main_arg2
  let main_cst_2 : FVec F S_ .f32 := constant S_ .f32 0x7F800000#32
  let main_v9 : FVec F S2x4096x1024 .f32 := broadcastInDim S2x4096x1024 ![] bcast_S_S2x4096x1024 main_cst_2
  let main_v10 : IVec S2x4096x1024 1 := cmpf .olt main_v8 main_v9
  let main_c_3 : IVec S_ 1 := constantI S_ 1 1#1
  let main_v11 : IVec S_ 1 := (fun x v => Host.reduce IntOp.andi x v reducesTo_S2x4096x1024_S_d0_1_2 h_S_) main_v10 main_c_3
  let main_v12 : FVec F S2x6144 .f32 := Host.absf main_arg3
  let main_cst_4 : FVec F S_ .f32 := constant S_ .f32 0x7F800000#32
  let main_v13 : FVec F S2x6144 .f32 := broadcastInDim S2x6144 ![] bcast_S_S2x6144 main_cst_4
  let main_v14 : IVec S2x6144 1 := cmpf .olt main_v12 main_v13
  let main_c_5 : IVec S_ 1 := constantI S_ 1 1#1
  let main_v15 : IVec S_ 1 := (fun x v => Host.reduce IntOp.andi x v reducesTo_S2x6144_S_d0_1 h_S_) main_v14 main_c_5
  fn_part1 (F := F) main_arg4 main_arg5 main_arg6 main_v3 main_v7 main_v11 main_v15
-- ==== Pre_finite2.lean ====
abbrev S2x4096x1024 : Shape := ⟨3, ![2, 4096, 1024]⟩
abbrev S2x6144 : Shape := ⟨2, ![2, 6144]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x6144 : S_.BroadcastsInDim S2x6144 (![] : Fin 0 → Fin S2x6144.rank)
  reducesTo_S2x6144_S_d0_1 : S2x6144.ReducesTo [0, 1] S_
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S1x31x512 : S_.BroadcastsInDim S1x31x512 (![] : Fin 0 → Fin S1x31x512.rank)
  reducesTo_S1x31x512_S_d0_1_2 : S1x31x512.ReducesTo [0, 1, 2] S_
  bcast_S_S1x512 : S_.BroadcastsInDim S1x512 (![] : Fin 0 → Fin S1x512.rank)
  reducesTo_S1x512_S_d0_1 : S1x512.ReducesTo [0, 1] S_
  bcast_S_S1x3x512 : S_.BroadcastsInDim S1x3x512 (![] : Fin 0 → Fin S1x3x512.rank)
  reducesTo_S1x3x512_S_d0_1_2 : S1x3x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part2 {F : FTy → Type} [FloatOps F] (main_arg8 : FVec F S1x3x512 .f32) (main_arg9 : FVec F S1x1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x3x512 .f32 := Host.absf main_arg8
  let main_cst_14 : FVec F S_ .f32 := constant S_ .f32 0x7F800000#32
  let main_v33 : FVec F S1x3x512 .f32 := broadcastInDim S1x3x512 ![] bcast_S_S1x3x512 main_cst_14
  let main_v34 : IVec S1x3x512 1 := cmpf .olt main_v32 main_v33
  let main_c_15 : IVec S_ 1 := constantI S_ 1 1#1
  let main_v35 : IVec S_ 1 := (fun x v => Host.reduce IntOp.andi x v reducesTo_S1x3x512_S_d0_1_2 h_S_) main_v34 main_c_15
  let main_v36 : FVec F S1x1024x1024 .f32 := Host.absf main_arg9
  let main_cst_16 : FVec F S_ .f32 := constant S_ .f32 0x7F800000#32
  let main_v37 : FVec F S1x1024x1024 .f32 := broadcastInDim S1x1024x1024 ![] bcast_S_S1x1024x1024 main_cst_16
  let main_v38 : IVec S1x1024x1024 1 := cmpf .olt main_v36 main_v37
  let main_c_17 : IVec S_ 1 := constantI S_ 1 1#1
  let main_v39 : IVec S_ 1 := (fun x v => Host.reduce IntOp.andi x v reducesTo_S1x1024x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S1x31x512 .f32) (main_arg5 : FVec F S1x512 .f32) (main_arg6 : FVec F S1x512 .f32) (main_arg7 : FVec F S1x512 .f32) (main_arg8 : FVec F S1x3x512 .f32) (main_arg9 : FVec F S1x1024x1024 .f32) (main_v3 : IVec S_ 1) (main_v7 : IVec S_ 1) (main_v11 : IVec S_ 1) (main_v15 : IVec S_ 1) : IVec S_ 1 :=
  let main_v16 : FVec F S1x31x512 .f32 := Host.absf main_arg4
  let main_cst_6 : FVec F S_ .f32 := constant S_ .f32 0x7F800000#32
  let main_v17 : FVec F S1x31x512 .f32 := broadcastInDim S1x31x512 ![] bcast_S_S1x31x512 main_cst_6
  let main_v18 : IVec S1x31x512 1 := cmpf .olt main_v16 main_v17
  let main_c_7 : IVec S_ 1 := constantI S_ 1 1#1
  let main_v19 : IVec S_ 1 := (fun x v => Host.reduce IntOp.andi x v reducesTo_S1x31x512_S_d0_1_2 h_S_) main_v18 main_c_7
  let main_v20 : FVec F S1x512 .f32 := Host.absf main_arg5
  let main_cst_8 : FVec F S_ .f32 := constant S_ .f32 0x7F800000#32
  let main_v21 : FVec F S1x512 .f32 := broadcastInDim S1x512 ![] bcast_S_S1x512 main_cst_8
  let main_v22 : IVec S1x512 1 := cmpf .olt main_v20 main_v21
  let main_c_9 : IVec S_ 1 := constantI S_ 1 1#1
  let main_v23 : IVec S_ 1 := (fun x v => Host.reduce IntOp.andi x v reducesTo_S1x512_S_d0_1 h_S_) main_v22 main_c_9
  let main_v24 : FVec F S1x512 .f32 := Host.absf main_arg6
  let main_cst_10 : FVec F S_ .f32 := constant S_ .f32 0x7F800000#32
  let main_v25 : FVec F S1x512 .f32 := broadcastInDim S1x512 ![] bcast_S_S1x512 main_cst_10
  let main_v26 : IVec S1x512 1 := cmpf .olt main_v24 main_v25
  let main_c_11 : IVec S_ 1 := constantI S_ 1 1#1
  let main_v27 : IVec S_ 1 := (fun x v => Host.reduce IntOp.andi x v reducesTo_S1x512_S_d0_1 h_S_) main_v26 main_c_11
  let main_v28 : FVec F S1x512 .f32 := Host.absf main_arg7
  let main_cst_12 : FVec F S_ .f32 := constant S_ .f32 0x7F800000#32
  let main_v29 : FVec F S1x512 .f32 := broadcastInDim S1x512 ![] bcast_S_S1x512 main_cst_12
  let main_v30 : IVec S1x512 1 := cmpf .olt main_v28 main_v29
  let main_c_13 : IVec S_ 1 := constantI S_ 1 1#1
  let main_v31 : IVec S_ 1 := (fun x v => Host.reduce IntOp.andi x v reducesTo_S1x512_S_d0_1 h_S_) main_v30 main_c_13
  fn_part2 (F := F) main_arg8 main_arg9 main_v3 main_v7 main_v11 main_v15 main_v19 main_v23 main_v27 main_v31

def fn {F : FTy → Type} [FloatOps F] (main_arg0 : FVec F S2x4096x1024 .f32) (main_arg1 : FVec F S2x4096x1024 .f32) (main_arg2 : FVec F S2x6144 .f32) (main_arg3 : FVec F S1x1024x2560 .f32) (main_arg4 : FVec F S1x31x512 .f32) (main_arg5 : FVec F S1x512 .f32) (main_arg6 : FVec F S1x512 .f32) (main_arg7 : FVec F S1x512 .f32) (main_arg8 : FVec F S1x3x512 .f32) (main_arg9 : FVec F S1x1024x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : FVec F S2x6144 .f32 := Host.absf main_arg2
  let main_cst_2 : FVec F S_ .f32 := constant S_ .f32 0x7F800000#32
  let main_v9 : FVec F S2x6144 .f32 := broadcastInDim S2x6144 ![] bcast_S_S2x6144 main_cst_2
  let main_v10 : IVec S2x6144 1 := cmpf .olt main_v8 main_v9
  let main_c_3 : IVec S_ 1 := constantI S_ 1 1#1
  let main_v11 : IVec S_ 1 := (fun x v => Host.reduce IntOp.andi x v reducesTo_S2x6144_S_d0_1 h_S_) main_v10 main_c_3
  let main_v12 : FVec F S1x1024x2560 .f32 := Host.absf main_arg3
  let main_cst_4 : FVec F S_ .f32 := constant S_ .f32 0x7F800000#32
  let main_v13 : FVec F S1x1024x2560 .f32 := broadcastInDim S1x1024x2560 ![] bcast_S_S1x1024x2560 main_cst_4
  let main_v14 : IVec S1x1024x2560 1 := cmpf .olt main_v12 main_v13
  let main_c_5 : IVec S_ 1 := constantI S_ 1 1#1
  let main_v15 : IVec S_ 1 := (fun x v => Host.reduce IntOp.andi x v reducesTo_S1x1024x2560_S_d0_1_2 h_S_) main_v14 main_c_5
  fn_part1 (F := F) main_arg4 main_arg5 main_arg6 main_arg7 main_arg8 main_arg9 main_v3 main_v7 main_v11 main_v15
-- ==== Kernel.lean ====
abbrev S2x4096x1024 : Shape := ⟨3, ![2, 4096, 1024]⟩
abbrev S2x6144 : Shape := ⟨2, ![2, 6144]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S8x512x1024 : Shape := ⟨3, ![8, 512, 1024]⟩
abbrev S2x6x1024 : Shape := ⟨3, ![2, 6, 1024]⟩
abbrev S1x1024 : Shape := ⟨2, ![1, 1024]⟩
abbrev S2x4096x4096 : Shape := ⟨3, ![2, 4096, 4096]⟩
abbrev S2x8x1024 : Shape := ⟨3, ![2, 8, 1024]⟩
abbrev S8x1024 : Shape := ⟨2, ![8, 1024]⟩
abbrev S1x256x1024 : Shape := ⟨3, ![1, 256, 1024]⟩
abbrev S1x6x1024 : Shape := ⟨3, ![1, 6, 1024]⟩
abbrev S1x256x4096 : Shape := ⟨3, ![1, 256, 4096]⟩
abbrev S1x8x1024 : Shape := ⟨3, ![1, 8, 1024]⟩
abbrev S256x4096 : Shape := ⟨2, ![256, 4096]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S256x512 : Shape := ⟨2, ![256, 512]⟩
abbrev S1x256x512 : Shape := ⟨3, ![1, 256, 512]⟩

abbrev nBuf : Space → Nat
  | .hbm => 24
  | .vmem => 27
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x6144, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S4096x1024, .bf16⟩
  | .hbm, ⟨10, _⟩ => ⟨S8x512x1024, .bf16⟩
  | .hbm, ⟨11, _⟩ => ⟨S4096x1024, .f32⟩
  | .hbm, ⟨12, _⟩ => ⟨S4096x1024, .bf16⟩
  | .hbm, ⟨13, _⟩ => ⟨S8x512x1024, .bf16⟩
  | .hbm, ⟨14, _⟩ => ⟨S2x6x1024, .f32⟩
  | .hbm, ⟨15, _⟩ => ⟨S1x1024, .f32⟩
  | .hbm, ⟨16, _⟩ => ⟨S2x4096x1024, .f32⟩
  | .hbm, ⟨17, _⟩ => ⟨S2x4096x1024, .bf16⟩
  | .hbm, ⟨18, _⟩ => ⟨S2x4096x1024, .bf16⟩
  | .hbm, ⟨19, _⟩ => ⟨S2x4096x4096, .bf16⟩
  | .hbm, ⟨20, _⟩ => ⟨S2x4096x4096, .bf16⟩
  | .hbm, ⟨21, _⟩ => ⟨S2x8x1024, .f32⟩
  | .hbm, ⟨22, _⟩ => ⟨S8x1024, .f32⟩
  | .hbm, ⟨23, _⟩ => ⟨S2x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x6x1024, .f32⟩
  | .local _ .vmem, ⟨7, _⟩ => ⟨S1x6x1024, .f32⟩
  | .local _ .vmem, ⟨8, _⟩ => ⟨S8x512x1024, .bf16⟩
  | .local _ .vmem, ⟨9, _⟩ => ⟨S8x512x1024, .bf16⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x4096, .bf16⟩
  | .local _ .vmem, ⟨18, _⟩ => ⟨S1x256x4096, .bf16⟩
  | .local _ .vmem, ⟨19, _⟩ => ⟨S1x256x4096, .bf16⟩
  | .local _ .vmem, ⟨20, _⟩ => ⟨S1x256x4096, .bf16⟩
  | .local _ .vmem, ⟨21, _⟩ => ⟨S1x8x1024, .f32⟩
  | .local _ .vmem, ⟨22, _⟩ => ⟨S1x8x1024, .f32⟩
  | .local _ .vmem, ⟨23, _⟩ => ⟨S8x1024, .f32⟩
  | .local _ .vmem, ⟨24, _⟩ => ⟨S1x256x1024, .bf16⟩
  | .local _ .vmem, ⟨25, _⟩ => ⟨S1x256x1024, .bf16⟩
  | .local _ .vmem, ⟨26, _⟩ => ⟨S256x4096, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2x4096x1024 : Shape := ⟨3, ![2, 4096, 1024]⟩
abbrev S2x6144 : Shape := ⟨2, ![2, 6144]⟩
abbrev S1x1024x4096 : Shape := ⟨3, ![1, 1024, 4096]⟩
abbrev S1x4096x1024 : Shape := ⟨3, ![1, 4096, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1024x4096 : Shape := ⟨2, ![1024, 4096]⟩
abbrev S2x4096x4096 : Shape := ⟨3, ![2, 4096, 4096]⟩
abbrev S4096x1024 : Shape := ⟨2, ![4096, 1024]⟩
abbrev S1x1x1024 : Shape := ⟨3, ![1, 1, 1024]⟩
abbrev S2x8x1024 : Shape := ⟨3, ![2, 8, 1024]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 207
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x4096x1024, .f32⟩
  | 3 => ⟨S2x6144, .f32⟩
  | 4 => ⟨S1x1024x4096, .f32⟩
  | 5 => ⟨S1x4096x1024, .f32⟩
  | 6 => ⟨S1024, .f32⟩
  | 7 => ⟨S2x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S_, .f32⟩
  | 19 => ⟨S2x4096, .f32⟩
  | 20 => ⟨S2x4096x1, .f32⟩
  | 21 => ⟨S_, .f32⟩
  | 22 => ⟨S2x4096x1, .f32⟩
  | 23 => ⟨S2x4096x1, .f32⟩
  | 24 => ⟨S_, .f32⟩
  | 25 => ⟨S2x4096x1, .f32⟩
  | 26 => ⟨S2x4096x1, .f32⟩
  | 27 => ⟨S2x4096x1, .f32⟩
  | 28 => ⟨S2x4096x1, .f32⟩
  | 29 => ⟨S_, .f32⟩
  | 30 => ⟨S2x4096x1, .f32⟩
  | 31 => ⟨S2x4096x1, .f32⟩
  | 32 => ⟨S2x4096x1024, .f32⟩
  | 33 => ⟨S2x4096x1024, .f32⟩
  | 34 => ⟨S2x1x1024, .f32⟩
  | 35 => ⟨S_, .f32⟩
  | 36 => ⟨S2x1x1024, .f32⟩
  | 37 => ⟨S2x1x1024, .f32⟩
  | 38 => ⟨S2x4096x1024, .f32⟩
  | 39 => ⟨S2x4096x1024, .f32⟩
  | 40 => ⟨S2x1x1024, .f32⟩
  | 41 => ⟨S2x4096x1024, .f32⟩
  | 42 => ⟨S2x4096x1024, .f32⟩
  | 43 => ⟨S1024x4096, .f32⟩
  | 44 => ⟨S2x4096x4096, .f32⟩
  | 45 => ⟨S_, .f32⟩
  | 46 => ⟨S2x4096x4096, .f32⟩
  | 47 => ⟨S2x4096x4096, .f32⟩
  | 48 => ⟨S_, .f32⟩
  | 49 => ⟨S2x4096x4096, .f32⟩
  | 50 => ⟨S2x4096x4096, .i1⟩
  | 51 => ⟨S_, .f32⟩
  | 52 => ⟨S2x4096x4096, .f32⟩
  | 53 => ⟨S2x4096x4096, .f32⟩
  | 54 => ⟨S_, .f32⟩
  | 55 => ⟨S2x4096x4096, .f32⟩
  | 56 => ⟨S2x4096x4096, .f32⟩
  | 57 => ⟨S4096x1024, .f32⟩
  | 58 => ⟨S2x4096x1024, .f32⟩
  | 59 => ⟨S2x1x1024, .f32⟩
  | 60 => ⟨S2x4096x1024, .f32⟩
  | 61 => ⟨S2x4096x1024, .f32⟩
  | 62 => ⟨S2x4096x1024, .f32⟩
  | 63 => ⟨S2x4096x1024, .f32⟩
  | 64 => ⟨S_, .f32⟩
  | 65 => ⟨S2x4096, .f32⟩
  | 66 => ⟨S2x4096x1, .f32⟩
  | 67 => ⟨S_, .f32⟩
  | 68 => ⟨S2x4096x1, .f32⟩
  | 69 => ⟨S2x4096x1, .f32⟩
  | 70 => ⟨S_, .f32⟩
  | 71 => ⟨S2x4096x1, .f32⟩
  | 72 => ⟨S2x4096x1, .f32⟩
  | 73 => ⟨S2x4096x1, .f32⟩
  | 74 => ⟨S2x4096x1, .f32⟩
  | 75 => ⟨S_, .f32⟩
  | 76 => ⟨S2x4096x1, .f32⟩
  | 77 => ⟨S2x4096x1, .f32⟩
  | 78 => ⟨S2x4096x1024, .f32⟩
  | 79 => ⟨S2x4096x1024, .f32⟩
  | 80 => ⟨S1x1x1024, .f32⟩
  | 81 => ⟨S2x4096x1024, .f32⟩
  | 82 => ⟨S2x4096x1024, .f32⟩
  | 83 => ⟨S2x4096x1024, .f32⟩
  | 84 => ⟨S2x4096x1024, .f32⟩
  | 85 => ⟨S_, .f32⟩
  | 86 => ⟨S2x4096x1024, .f32⟩
  | 87 => ⟨S2x4096x1024, .f32⟩
  | 88 => ⟨S_, .f32⟩
  | 89 => ⟨S2x4096, .f32⟩
  | 90 => ⟨S_, .f32⟩
  | 91 => ⟨S2x4096, .f32⟩
  | 92 => ⟨S2x4096, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S2x4096, .f32⟩
  | 101 => ⟨S_, .f32⟩
  | 102 => ⟨S2x4096, .f32⟩
  | 103 => ⟨S2x4096, .f32⟩
  | 104 => ⟨S2x4096x1024, .f32⟩
  | 105 => ⟨S2x4096x1024, .f32⟩
  | 106 => ⟨S2x4096x1024, .f32⟩
  | 107 => ⟨S_, .f32⟩
  | 108 => ⟨S1024, .f32⟩
  | 109 => ⟨S1x1x1024, .f32⟩
  | 110 => ⟨S2x4096x1024, .f32⟩
  | 111 => ⟨S2x4096x1024, .f32⟩
  | 112 => ⟨S_, .f32⟩
  | 113 => ⟨S1024, .f32⟩
  | 114 => ⟨S2x4096x1024, .f32⟩
  | 115 => ⟨S_, .f32⟩
  | 116 => ⟨S2x4096, .f32⟩
  | 117 => ⟨S2x4096x1, .f32⟩
  | 118 => ⟨S2x4096x1024, .f32⟩
  | 119 => ⟨S2x4096x1024, .f32⟩
  | 120 => ⟨S2x4096x1, .f32⟩
  | 121 => ⟨S_, .f32⟩
  | 122 => ⟨S2x4096x1, .f32⟩
  | 123 => ⟨S2x4096x1, .f32⟩
  | 124 => ⟨S_, .f32⟩
  | 125 => ⟨S2x4096, .f32⟩
  | 126 => ⟨S2x4096x1024, .f32⟩
  | 127 => ⟨S2x4096x1024, .f32⟩
  | _ => ⟨S2x4096x1024, .f32⟩

abbrev hbmTy0_1 (i : Nat) : BufTy := match i % 128 with
  | 0 => ⟨S2x4096x1024, .f32⟩
  | 1 => ⟨S2x4096x1024, .f32⟩
  | 2 => ⟨S2x4096x1024, .f32⟩
  | 3 => ⟨S2x4096x1024, .f32⟩
  | 4 => ⟨S2x4096x1024, .f32⟩
  | 5 => ⟨S2x4096x1024, .f32⟩
  | 6 => ⟨S_, .f32⟩
  | 7 => ⟨S2x1024, .f32⟩
  | 8 => ⟨S2x1x1024, .f32⟩
  | 9 => ⟨S_, .f32⟩
  | 10 => ⟨S2x1024, .f32⟩
  | 11 => ⟨S2x4096x4096, .f32⟩
  | 12 => ⟨S2x4096x4096, .f32⟩
  | 13 => ⟨S_, .f32⟩
  | 14 => ⟨S2x4096x4096, .f32⟩
  | 15 => ⟨S2x4096x4096, .f32⟩
  | 16 => ⟨S2x4096x1024, .f32⟩
  | 17 => ⟨S_, .f32⟩
  | 18 => ⟨S2x1024, .f32⟩
  | 19 => ⟨S2x1x1024, .f32⟩
  | 20 => ⟨S_, .f32⟩
  | 21 => ⟨S2x1024, .f32⟩
  | 22 => ⟨S2x4096x1024, .f32⟩
  | 23 => ⟨S_, .f32⟩
  | 24 => ⟨S2x1024, .f32⟩
  | 25 => ⟨S2x1x1024, .f32⟩
  | 26 => ⟨S2x4096x1024, .f32⟩
  | 27 => ⟨S2x4096x1024, .f32⟩
  | 28 => ⟨S_, .f32⟩
  | 29 => ⟨S2x1024, .f32⟩
  | 30 => ⟨S2x4096x1024, .f32⟩
  | 31 => ⟨S_, .f32⟩
  | 32 => ⟨S2x4096, .f32⟩
  | 33 => ⟨S2x4096x1, .f32⟩
  | 34 => ⟨S2x4096x1024, .f32⟩
  | 35 => ⟨S2x4096x1024, .f32⟩
  | 36 => ⟨S2x4096x1, .f32⟩
  | 37 => ⟨S_, .f32⟩
  | 38 => ⟨S2x4096x1, .f32⟩
  | 39 => ⟨S2x4096x1, .f32⟩
  | 40 => ⟨S_, .f32⟩
  | 41 => ⟨S2x4096, .f32⟩
  | 42 => ⟨S2x4096x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S_, .f32⟩
  | 52 => ⟨S2x1024, .f32⟩
  | 53 => ⟨S2x1x1024, .f32⟩
  | 54 => ⟨S_, .f32⟩
  | 55 => ⟨S2x1024, .f32⟩
  | 56 => ⟨S_, .f32⟩
  | 57 => ⟨S2x1024, .f32⟩
  | 58 => ⟨S2x1x1024, .f32⟩
  | 59 => ⟨S2x1x1024, .f32⟩
  | 60 => ⟨S2x1x1024, .f32⟩
  | 61 => ⟨S2x1x1024, .f32⟩
  | 62 => ⟨S2x1x1024, .f32⟩
  | 63 => ⟨S2x1x1024, .f32⟩
  | 64 => ⟨S2x1x1024, .f32⟩
  | 65 => ⟨S2x1x1024, .f32⟩
  | 66 => ⟨S2x8x1024, .f32⟩
  | 67 => ⟨S1x1024, .f32⟩
  | 68 => ⟨S_, .f32⟩
  | 69 => ⟨S1024, .f32⟩
  | 70 => ⟨S1x1024, .f32⟩
  | 71 => ⟨S_, .f32⟩
  | 72 => ⟨S6x1024, .f32⟩
  | 73 => ⟨S8x1024, .f32⟩
  | 74 => ⟨S2x4096x1024, .bf16⟩
  | 75 => ⟨S2x4096x1024, .bf16⟩
  | 76 => ⟨S2x4096x4096, .bf16⟩
  | 77 => ⟨S2x4096x4096, .bf16⟩
  | 78 => ⟨S2x4096x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_cst : Ref sig .tc := ⟨.hbm, 45, rfl⟩
abbrev main_call0_v0 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_cst_16 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_20 : Ref sig .tc := ⟨.hbm, 112, rfl⟩
abbrev main_v82 : Ref sig .tc := ⟨.hbm, 113, rfl⟩
abbrev main_v83 : Ref sig .tc := ⟨.hbm, 114, rfl⟩
abbrev main_cst_21 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_22 : Ref sig .tc := ⟨.hbm, 121, rfl⟩
abbrev main_v89 : Ref sig .tc := ⟨.hbm, 122, rfl⟩
abbrev main_v90 : Ref sig .tc := ⟨.hbm, 123, rfl⟩
abbrev main_cst_23 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_24 : Ref sig .tc := ⟨.hbm, 134, rfl⟩
abbrev main_v100 : Ref sig .tc := ⟨.hbm, 135, rfl⟩
abbrev main_v101 : Ref sig .tc := ⟨.hbm, 136, rfl⟩
abbrev main_cst_25 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_26 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_27 : Ref sig .tc := ⟨.hbm, 145, rfl⟩
abbrev main_v108 : Ref sig .tc := ⟨.hbm, 146, rfl⟩
abbrev main_v109 : Ref sig .tc := ⟨.hbm, 147, rfl⟩
abbrev main_cst_28 : Ref sig .tc := ⟨.hbm, 148, rfl⟩
abbrev main_v110 : Ref sig .tc := ⟨.hbm, 149, rfl⟩
abbrev main_v111 : Ref sig .tc := ⟨.hbm, 150, rfl⟩
abbrev main_cst_29 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_30 : Ref sig .tc := ⟨.hbm, 156, rfl⟩
abbrev main_v116 : Ref sig .tc := ⟨.hbm, 157, rfl⟩
abbrev main_v117 : Ref sig .tc := ⟨.hbm, 158, rfl⟩
abbrev main_cst_31 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_32 : Ref sig .tc := ⟨.hbm, 165, rfl⟩
abbrev main_v123 : Ref sig .tc := ⟨.hbm, 166, rfl⟩
abbrev main_v124 : Ref sig .tc := ⟨.hbm, 167, rfl⟩
abbrev main_cst_33 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_34 : Ref sig .tc := ⟨.hbm, 179, rfl⟩
abbrev main_v135 : Ref sig .tc := ⟨.hbm, 180, rfl⟩
abbrev main_v136 : Ref sig .tc := ⟨.hbm, 181, rfl⟩
abbrev main_cst_35 : Ref sig .tc := ⟨.hbm, 182, rfl⟩
abbrev main_v137 : Ref sig .tc := ⟨.hbm, 183, rfl⟩
abbrev main_cst_36 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_37 : Ref sig .tc := ⟨.hbm, 196, rfl⟩
abbrev main_v149 : Ref sig .tc := ⟨.hbm, 197, rfl⟩
abbrev main_v150 : Ref sig .tc := ⟨.hbm, 198, rfl⟩
abbrev main_cst_38 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x6144 : Shape := ⟨2, ![2, 6144]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S1024x2560 : Shape := ⟨2, ![1024, 2560]⟩
abbrev S2x4096x2560 : Shape := ⟨3, ![2, 4096, 2560]⟩
abbrev S2x4096x512 : Shape := ⟨3, ![2, 4096, 512]⟩
abbrev S31x512 : Shape := ⟨2, ![31, 512]⟩
abbrev S2x4126x512 : Shape := ⟨3, ![2, 4126, 512]⟩
abbrev S1x2x4126x512 : Shape := ⟨4, ![1, 2, 4126, 512]⟩
abbrev S1x2x4096x512 : Shape := ⟨4, ![1, 2, 4096, 512]⟩
abbrev S16x2x4096x512 : Shape := ⟨4, ![16, 2, 4096, 512]⟩
abbrev S15x2x4096x512 : Shape := ⟨4, ![15, 2, 4096, 512]⟩
abbrev S31x2x4096x512 : Shape := ⟨4, ![31, 2, 4096, 512]⟩
abbrev S31x1x1x512 : Shape := ⟨4, ![31, 1, 1, 512]⟩
abbrev S512 : Shape := ⟨1, ![512]⟩
abbrev S1x1x512 : Shape := ⟨3, ![1, 1, 512]⟩
abbrev S3x512 : Shape := ⟨2, ![3, 512]⟩
abbrev S2x4098x512 : Shape := ⟨3, ![2, 4098, 512]⟩
abbrev S1x2x4098x512 : Shape := ⟨4, ![1, 2, 4098, 512]⟩
abbrev S3x2x4096x512 : Shape := ⟨4, ![3, 2, 4096, 512]⟩
abbrev S3x1x1x512 : Shape := ⟨4, ![3, 1, 1, 512]⟩
abbrev S2560x1024 : Shape := ⟨2, ![2560, 1024]⟩
abbrev S8x320x1024 : Shape := ⟨3, ![8, 320, 1024]⟩
abbrev S1024x1024 : Shape := ⟨2, ![1024, 1024]⟩
abbrev S8x128x1024 : Shape := ⟨3, ![8, 128, 1024]⟩
abbrev S32x512 : Shape := ⟨2, ![32, 512]⟩
abbrev S2x512 : Shape := ⟨2, ![2, 512]⟩
abbrev S8x512 : Shape := ⟨2, ![8, 512]⟩
abbrev S2x6x1024 : Shape := ⟨3, ![2, 6, 1024]⟩
abbrev S2x8x1024 : Shape := ⟨3, ![2, 8, 1024]⟩
abbrev S40x512 : Shape := ⟨2, ![40, 512]⟩
abbrev S1x256x1024 : Shape := ⟨3, ![1, 256, 1024]⟩
abbrev S1x256x2560 : Shape := ⟨3, ![1, 256, 2560]⟩
abbrev S1x256x512 : Shape := ⟨3, ![1, 256, 512]⟩
abbrev S1x6x1024 : Shape := ⟨3, ![1, 6, 1024]⟩
abbrev S1x8x1024 : Shape := ⟨3, ![1, 8, 1024]⟩
abbrev S288x512 : Shape := ⟨2, ![288, 512]⟩
abbrev S264x512 : Shape := ⟨2, ![264, 512]⟩
abbrev S256x512 : Shape := ⟨2, ![256, 512]⟩
abbrev S7x280x512 : Shape := ⟨3, ![7, 280, 512]⟩
abbrev S256x1024 : Shape := ⟨2, ![256, 1024]⟩
abbrev S1x1x1024 : Shape := ⟨3, ![1, 1, 1024]⟩
abbrev S1x1024 : Shape := ⟨2, ![1, 1024]⟩
abbrev S8x1024 : Shape := ⟨2, ![8, 1024]⟩
abbrev S256 : Shape := ⟨1, ![256]⟩
abbrev S256x1 : Shape := ⟨2, ![256, 1]⟩
abbrev S280x512 : Shape := ⟨2, ![280, 512]⟩
abbrev S1x280x512 : Shape := ⟨3, ![1, 280, 512]⟩
abbrev S1x32x512 : Shape := ⟨3, ![1, 32, 512]⟩
abbrev S256x2560 : Shape := ⟨2, ![256, 2560]⟩
abbrev S1024 : Shape := ⟨1, ![1024]⟩
abbrev S32x8x512 : Shape := ⟨3, ![32, 8, 512]⟩

abbrev nBuf : Space → Nat
  | .hbm => 138
  | .vmem => 32
  | .smem => 0
  | _ => 0

abbrev hbmTy0_0 (i : Nat) : BufTy := match i % 128 with
  | 0 => ⟨S2x4096x1024, .f32⟩
  | 1 => ⟨S2x4096x1024, .f32⟩
  | 2 => ⟨S2x6144, .f32⟩
  | 3 => ⟨S1x1024x2560, .f32⟩
  | 4 => ⟨S1x31x512, .f32⟩
  | 5 => ⟨S1x512, .f32⟩
  | 6 => ⟨S1x512, .f32⟩
  | 7 => ⟨S1x512, .f32⟩
  | 8 => ⟨S1x3x512, .f32⟩
  | 9 => ⟨S1x1024x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x4096x1024, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1, .f32⟩
  | 27 => ⟨S2x4096x1024, .f32⟩
  | 28 => ⟨S2x4096x1024, .f32⟩
  | 29 => ⟨S2x1x1024, .f32⟩
  | 30 => ⟨S_, .f32⟩
  | 31 => ⟨S2x1x1024, .f32⟩
  | 32 => ⟨S2x1x1024, .f32⟩
  | 33 => ⟨S2x4096x1024, .f32⟩
  | 34 => ⟨S2x4096x1024, .f32⟩
  | 35 => ⟨S2x1x1024, .f32⟩
  | 36 => ⟨S2x4096x1024, .f32⟩
  | 37 => ⟨S2x4096x1024, .f32⟩
  | 38 => ⟨S1024x2560, .f32⟩
  | 39 => ⟨S2x4096x2560, .f32⟩
  | 40 => ⟨S2x4096x512, .f32⟩
  | 41 => ⟨S2x4096x512, .f32⟩
  | 42 => ⟨S2x4096x512, .f32⟩
  | 43 => ⟨S2x4096x512, .f32⟩
  | 44 => ⟨S2x4096x512, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S_, .f32⟩
  | 51 => ⟨S2x4096x512, .f32⟩
  | 52 => ⟨S2x4096x512, .f32⟩
  | 53 => ⟨S2x4096x512, .f32⟩
  | 54 => ⟨S31x512, .f32⟩
  | 55 => ⟨S_, .i32⟩
  | 56 => ⟨S_, .f32⟩
  | 57 => ⟨S2x4126x512, .f32⟩
  | 58 => ⟨S1x2x4126x512, .f32⟩
  | 59 => ⟨S1x2x4096x512, .f32⟩
  | 60 => ⟨S1x2x4096x512, .f32⟩
  | 61 => ⟨S1x2x4096x512, .f32⟩
  | 62 => ⟨S1x2x4096x512, .f32⟩
  | 63 => ⟨S1x2x4096x512, .f32⟩
  | 64 => ⟨S1x2x4096x512, .f32⟩
  | 65 => ⟨S1x2x4096x512, .f32⟩
  | 66 => ⟨S1x2x4096x512, .f32⟩
  | 67 => ⟨S1x2x4096x512, .f32⟩
  | 68 => ⟨S1x2x4096x512, .f32⟩
  | 69 => ⟨S1x2x4096x512, .f32⟩
  | 70 => ⟨S1x2x4096x512, .f32⟩
  | 71 => ⟨S1x2x4096x512, .f32⟩
  | 72 => ⟨S1x2x4096x512, .f32⟩
  | 73 => ⟨S1x2x4096x512, .f32⟩
  | 74 => ⟨S1x2x4096x512, .f32⟩
  | 75 => ⟨S1x2x4096x512, .f32⟩
  | 76 => ⟨S1x2x4096x512, .f32⟩
  | 77 => ⟨S1x2x4096x512, .f32⟩
  | 78 => ⟨S1x2x4096x512, .f32⟩
  | 79 => ⟨S1x2x4096x512, .f32⟩
  | 80 => ⟨S1x2x4096x512, .f32⟩
  | 81 => ⟨S1x2x4096x512, .f32⟩
  | 82 => ⟨S1x2x4096x512, .f32⟩
  | 83 => ⟨S1x2x4096x512, .f32⟩
  | 84 => ⟨S1x2x4096x512, .f32⟩
  | 85 => ⟨S1x2x4096x512, .f32⟩
  | 86 => ⟨S1x2x4096x512, .f32⟩
  | 87 => ⟨S1x2x4096x512, .f32⟩
  | 88 => ⟨S1x2x4096x512, .f32⟩
  | 89 => ⟨S1x2x4096x512, .f32⟩
  | 90 => ⟨S16x2x4096x512, .f32⟩
  | 91 => ⟨S15x2x4096x512, .f32⟩
  | 92 => ⟨S31x2x4096x512, .f32⟩
  | 93 => ⟨S31x1x1x512, .f32⟩
  | 94 => ⟨S31x2x4096x512, .f32⟩
  | 95 => ⟨S31x2x4096x512, .f32⟩
  | 96 => ⟨S_, .f32⟩
  | 97 => ⟨S2x4096x512, .f32⟩
  | 98 => ⟨S512, .f32⟩
  | 99 => ⟨S1x1x512, .f32⟩
  | 100 => ⟨S2x4096x512, .f32⟩
  | 101 => ⟨S2x4096x512, .f32⟩
  | 102 => ⟨S2x4096x512, .f32⟩
  | 103 => ⟨S3x512, .f32⟩
  | 104 => ⟨S_, .i32⟩
  | 105 => ⟨S_, .f32⟩
  | 106 => ⟨S2x4098x512, .f32⟩
  | 107 => ⟨S1x2x4098x512, .f32⟩
  | 108 => ⟨S1x2x4096x512, .f32⟩
  | 109 => ⟨S1x2x4096x512, .f32⟩
  | 110 => ⟨S1x2x4096x512, .f32⟩
  | 111 => ⟨S3x2x4096x512, .f32⟩
  | 112 => ⟨S3x1x1x512, .f32⟩
  | 113 => ⟨S3x2x4096x512, .f32⟩
  | 114 => ⟨S3x2x4096x512, .f32⟩
  | 115 => ⟨S_, .f32⟩
  | 116 => ⟨S2x4096x512, .f32⟩
  | 117 => ⟨S1024x2560, .f32⟩
  | 118 => ⟨S2560x1024, .f32⟩
  | 119 => ⟨S2560x1024, .bf16⟩
  | 120 => ⟨S8x320x1024, .bf16⟩
  | 121 => ⟨S1024x1024, .f32⟩
  | 122 => ⟨S1024x1024, .bf16⟩
  | 123 => ⟨S8x128x1024, .bf16⟩
  | 124 => ⟨S31x512, .f32⟩
  | 125 => ⟨S_, .i32⟩
  | 126 => ⟨S_, .f32⟩
  | 127 => ⟨S32x512, .f32⟩
  | _ => ⟨S2x4096x1024, .f32⟩

abbrev hbmTy0_1 (i : Nat) : BufTy := match i % 128 with
  | 0 => ⟨S3x512, .f32⟩
  | 1 => ⟨S_, .f32⟩
  | 2 => ⟨S2x512, .f32⟩
  | 3 => ⟨S8x512, .f32⟩
  | 4 => ⟨S2x6x1024, .f32⟩
  | 5 => ⟨S2x4096x1024, .f32⟩
  | 6 => ⟨S2x4096x2560, .bf16⟩
  | 7 => ⟨S2x4096x1024, .bf16⟩
  | 8 => ⟨S2x8x1024, .f32⟩
  | 9 => ⟨S40x512, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2560, .f32⟩
  | .local _ .vmem, ⟨5, _⟩ => ⟨S1x256x2560, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x6x1024, .f32⟩
  | .local _ .vmem, ⟨11, _⟩ => ⟨S1x6x1024, .f32⟩
  | .local _ .vmem, ⟨12, _⟩ => ⟨S8x320x1024, .bf16⟩
  | .local _ .vmem, ⟨13, _⟩ => ⟨S8x128x1024, .bf16⟩
  | .local _ .vmem, ⟨14, _⟩ => ⟨S32x512, .f32⟩
  | .local _ .vmem, ⟨15, _⟩ => ⟨S8x512, .f32⟩
  | .local _ .vmem, ⟨16, _⟩ => ⟨S1x256x1024, .f32⟩
  | .local _ .vmem, ⟨17, _⟩ => ⟨S1x256x1024, .f32⟩
  | .local _ .vmem, ⟨18, _⟩ => ⟨S1x256x2560, .bf16⟩
  | .local _ .vmem, ⟨19, _⟩ => ⟨S1x256x2560, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x8x1024, .f32⟩
  | .local _ .vmem, ⟨23, _⟩ => ⟨S1x8x1024, .f32⟩
  | .local _ .vmem, ⟨24, _⟩ => ⟨S40x512, .f32⟩
  | .local _ .vmem, ⟨25, _⟩ => ⟨S288x512, .f32⟩
  | .local _ .vmem, ⟨26, _⟩ => ⟨S264x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S8x512, .f32⟩
  | .local _ .vmem, ⟨31, _⟩ => ⟨S7x280x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_5 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_c_6 : Ref sig .tc := ⟨.hbm, 104, rfl⟩
abbrev main_call1_v0 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_7 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_c_8 : Ref sig .tc := ⟨.hbm, 125, rfl⟩
abbrev main_call2_v0 : Ref sig .tc := ⟨.hbm, 126, rfl⟩
abbrev main_v103 : Ref sig .tc := ⟨.hbm, 127, rfl⟩
abbrev main_v104 : Ref sig .tc := ⟨.hbm, 128, rfl⟩
abbrev main_cst_9 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108_0 : Ref sig .tc := ⟨.hbm, 133, rfl⟩
abbrev main_v108_1 : Ref sig .tc := ⟨.hbm, 134, rfl⟩
abbrev main_v108_2 : Ref sig .tc := ⟨.hbm, 135, rfl⟩
abbrev main_v108_3 : Ref sig .tc := ⟨.hbm, 136, rfl⟩
abbrev main_v108_4 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c15_i32 : BitVec 32 := 15#32
  let v4 : BitVec 1 := Scalar.cmpi .eq arg1 c15_i32
  let v5 : BitVec 1 := Scalar.andi v3 v4
  let v5245 : BitVec 32 := Scalar.extui v5
  let c0_i32_2358 : BitVec 32 := 0#32
  let v5246 : BitVec 1 := Scalar.cmpi .ne v5245 c0_i32_2358
  v5246

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x320x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S40x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference2Ideal.lean ====
abbrev S2x4096x1024 : Shape := ⟨3, ![2, 4096, 1024]⟩
abbrev S2x6144 : Shape := ⟨2, ![2, 6144]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S1024x2560 : Shape := ⟨2, ![1024, 2560]⟩
abbrev S2x4096x2560 : Shape := ⟨3, ![2, 4096, 2560]⟩
abbrev S2x4096x512 : Shape := ⟨3, ![2, 4096, 512]⟩
abbrev S31x512 : Shape := ⟨2, ![31, 512]⟩
abbrev S31x4096x4096 : Shape := ⟨3, ![31, 4096, 4096]⟩
abbrev S31x1x1x512 : Shape := ⟨4, ![31, 1, 1, 512]⟩
abbrev S2x512x31x4096 : Shape := ⟨4, ![2, 512, 31, 4096]⟩
abbrev S31x2x4096x512 : Shape := ⟨4, ![31, 2, 4096, 512]⟩
abbrev S512 : Shape := ⟨1, ![512]⟩
abbrev S1x1x512 : Shape := ⟨3, ![1, 1, 512]⟩
abbrev S3x512 : Shape := ⟨2, ![3, 512]⟩
abbrev S3x4096x4096 : Shape := ⟨3, ![3, 4096, 4096]⟩
abbrev S3x1x1x512 : Shape := ⟨4, ![3, 1, 1, 512]⟩
abbrev S2x512x3x4096 : Shape := ⟨4, ![2, 512, 3, 4096]⟩
abbrev S3x2x4096x512 : Shape := ⟨4, ![3, 2, 4096, 512]⟩
abbrev S1024x1024 : Shape := ⟨2, ![1024, 1024]⟩
abbrev S2x512x4096 : Shape := ⟨3, ![2, 512, 4096]⟩
abbrev S2x8x1024 : Shape := ⟨3, ![2, 8, 1024]⟩
abbrev S40x512 : Shape := ⟨2, ![40, 512]⟩

abbrev nBuf : Space → Nat
  | .hbm => 340
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x6144, .f32⟩
  | 3 => ⟨S1x1024x2560, .f32⟩
  | 4 => ⟨S1x31x512, .f32⟩
  | 5 => ⟨S1x512, .f32⟩
  | 6 => ⟨S1x512, .f32⟩
  | 7 => ⟨S1x512, .f32⟩
  | 8 => ⟨S1x3x512, .f32⟩
  | 9 => ⟨S1x1024x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x4096x1024, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1, .f32⟩
  | 27 => ⟨S2x4096x1, .f32⟩
  | 28 => ⟨S_, .f32⟩
  | 29 => ⟨S2x4096x1, .f32⟩
  | 30 => ⟨S2x4096x1, .f32⟩
  | 31 => ⟨S2x4096x1024, .f32⟩
  | 32 => ⟨S2x4096x1024, .f32⟩
  | 33 => ⟨S2x1x1024, .f32⟩
  | 34 => ⟨S_, .f32⟩
  | 35 => ⟨S2x1x1024, .f32⟩
  | 36 => ⟨S2x1x1024, .f32⟩
  | 37 => ⟨S2x4096x1024, .f32⟩
  | 38 => ⟨S2x4096x1024, .f32⟩
  | 39 => ⟨S2x1x1024, .f32⟩
  | 40 => ⟨S2x4096x1024, .f32⟩
  | 41 => ⟨S2x4096x1024, .f32⟩
  | 42 => ⟨S1024x2560, .f32⟩
  | 43 => ⟨S2x4096x2560, .f32⟩
  | 44 => ⟨S2x4096x512, .f32⟩
  | 45 => ⟨S2x4096x512, .f32⟩
  | 46 => ⟨S2x4096x512, .f32⟩
  | 47 => ⟨S2x4096x512, .f32⟩
  | 48 => ⟨S2x4096x512, .f32⟩
  | 49 => ⟨S2x4096x512, .f32⟩
  | 50 => ⟨S2x4096x512, .f32⟩
  | 51 => ⟨S_, .f32⟩
  | 52 => ⟨S2x4096x512, .f32⟩
  | 53 => ⟨S2x4096x512, .f32⟩
  | 54 => ⟨S_, .f32⟩
  | 55 => ⟨S2x4096x512, .f32⟩
  | 56 => ⟨S2x4096x512, .f32⟩
  | 57 => ⟨S_, .f32⟩
  | 58 => ⟨S2x4096x512, .f32⟩
  | 59 => ⟨S2x4096x512, .f32⟩
  | 60 => ⟨S2x4096x512, .f32⟩
  | 61 => ⟨S2x4096x512, .f32⟩
  | 62 => ⟨S31x512, .f32⟩
  | 63 => ⟨S31x4096x4096, .i32⟩
  | 64 => ⟨S31x4096x4096, .i32⟩
  | 65 => ⟨S31x4096x4096, .i32⟩
  | 66 => ⟨S_, .i32⟩
  | 67 => ⟨S31x4096x4096, .i32⟩
  | 68 => ⟨S31x4096x4096, .i32⟩
  | 69 => ⟨S31x4096x4096, .i32⟩
  | 70 => ⟨S31x4096x4096, .i1⟩
  | 71 => ⟨S31x4096x4096, .f32⟩
  | 72 => ⟨S31x1x1x512, .f32⟩
  | 73 => ⟨S2x512x31x4096, .f32⟩
  | 74 => ⟨S31x2x4096x512, .f32⟩
  | 75 => ⟨S31x2x4096x512, .f32⟩
  | 76 => ⟨S31x2x4096x512, .f32⟩
  | 77 => ⟨S_, .f32⟩
  | 78 => ⟨S2x4096x512, .f32⟩
  | 79 => ⟨S512, .f32⟩
  | 80 => ⟨S1x1x512, .f32⟩
  | 81 => ⟨S2x4096x512, .f32⟩
  | 82 => ⟨S2x4096x512, .f32⟩
  | 83 => ⟨S512, .f32⟩
  | 84 => ⟨S512, .f32⟩
  | 85 => ⟨S_, .f32⟩
  | 86 => ⟨S2x4096, .f32⟩
  | 87 => ⟨S2x4096x1, .f32⟩
  | 88 => ⟨S_, .f32⟩
  | 89 => ⟨S2x4096x1, .f32⟩
  | 90 => ⟨S2x4096x1, .f32⟩
  | 91 => ⟨S2x4096x512, .f32⟩
  | 92 => ⟨S2x4096x512, .f32⟩
  | 93 => ⟨S2x4096x512, .f32⟩
  | 94 => ⟨S_, .f32⟩
  | 95 => ⟨S2x4096x512, .f32⟩
  | 96 => ⟨S2x4096x512, .f32⟩
  | 97 => ⟨S_, .f32⟩
  | 98 => ⟨S2x4096, .f32⟩
  | 99 => ⟨S2x4096x1, .f32⟩
  | 100 => ⟨S_, .f32⟩
  | 101 => ⟨S2x4096x1, .f32⟩
  | 102 => ⟨S2x4096x1, .f32⟩
  | 103 => ⟨S2x4096x512, .f32⟩
  | 104 => ⟨S2x4096x512, .f32⟩
  | 105 => ⟨S_, .f32⟩
  | 106 => ⟨S2x4096x1, .f32⟩
  | 107 => ⟨S2x4096x1, .f32⟩
  | 108 => ⟨S2x4096x1, .f32⟩
  | 109 => ⟨S2x4096x1, .f32⟩
  | 110 => ⟨S_, .f32⟩
  | 111 => ⟨S2x4096x1, .f32⟩
  | 112 => ⟨S2x4096x1, .f32⟩
  | 113 => ⟨S2x4096x512, .f32⟩
  | 114 => ⟨S2x4096x512, .f32⟩
  | 115 => ⟨S1x1x512, .f32⟩
  | 116 => ⟨S2x4096x512, .f32⟩
  | 117 => ⟨S2x4096x512, .f32⟩
  | 118 => ⟨S1x1x512, .f32⟩
  | 119 => ⟨S2x4096x512, .f32⟩
  | 120 => ⟨S2x4096x512, .f32⟩
  | 121 => ⟨S2x4096x512, .f32⟩
  | 122 => ⟨S2x4096x512, .f32⟩
  | 123 => ⟨S_, .f32⟩
  | 124 => ⟨S2x4096x512, .f32⟩
  | 125 => ⟨S2x4096x512, .f32⟩
  | 126 => ⟨S_, .f32⟩
  | 127 => ⟨S2x4096x512, .f32⟩
  | _ => ⟨S2x4096x1024, .f32⟩

abbrev hbmTy0_1 (i : Nat) : BufTy := match i % 128 with
  | 0 => ⟨S2x4096x512, .f32⟩
  | 1 => ⟨S_, .f32⟩
  | 2 => ⟨S2x4096x512, .f32⟩
  | 3 => ⟨S2x4096x512, .f32⟩
  | 4 => ⟨S2x4096x512, .f32⟩
  | 5 => ⟨S2x4096x512, .f32⟩
  | 6 => ⟨S2x4096x512, .f32⟩
  | 7 => ⟨S2x4096x512, .f32⟩
  | 8 => ⟨S2x4096x512, .f32⟩
  | 9 => ⟨S2x4096x512, .f32⟩
  | 10 => ⟨S2x4096x512, .f32⟩
  | 11 => ⟨S2x4096x512, .f32⟩
  | 12 => ⟨S2x4096x512, .f32⟩
  | 13 => ⟨S2x4096x512, .f32⟩
  | 14 => ⟨S2x4096x512, .f32⟩
  | 15 => ⟨S2x4096x512, .f32⟩
  | 16 => ⟨S2x4096x512, .f32⟩
  | 17 => ⟨S3x512, .f32⟩
  | 18 => ⟨S3x4096x4096, .i32⟩
  | 19 => ⟨S3x4096x4096, .i32⟩
  | 20 => ⟨S3x4096x4096, .i32⟩
  | 21 => ⟨S_, .i32⟩
  | 22 => ⟨S3x4096x4096, .i32⟩
  | 23 => ⟨S3x4096x4096, .i32⟩
  | 24 => ⟨S3x4096x4096, .i32⟩
  | 25 => ⟨S3x4096x4096, .i1⟩
  | 26 => ⟨S3x4096x4096, .f32⟩
  | 27 => ⟨S3x1x1x512, .f32⟩
  | 28 => ⟨S2x512x3x4096, .f32⟩
  | 29 => ⟨S3x2x4096x512, .f32⟩
  | 30 => ⟨S3x2x4096x512, .f32⟩
  | 31 => ⟨S3x2x4096x512, .f32⟩
  | 32 => ⟨S_, .f32⟩
  | 33 => ⟨S2x4096x512, .f32⟩
  | 34 => ⟨S2x4096x512, .f32⟩
  | 35 => ⟨S2x4096x1024, .f32⟩
  | 36 => ⟨S2x1x1024, .f32⟩
  | 37 => ⟨S1024x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S2x4096x512, .f32⟩
  | 47 => ⟨S2x4096x512, .f32⟩
  | 48 => ⟨S2x4096x512, .f32⟩
  | 49 => ⟨S2x4096x512, .f32⟩
  | 50 => ⟨S3x2x4096x512, .f32⟩
  | 51 => ⟨S3x2x4096x512, .f32⟩
  | 52 => ⟨S3x2x4096x512, .f32⟩
  | 53 => ⟨S3x2x4096x512, .f32⟩
  | 54 => ⟨S_, .f32⟩
  | 55 => ⟨S3x512, .f32⟩
  | 56 => ⟨S3x1x1x512, .f32⟩
  | 57 => ⟨S2x512x3x4096, .f32⟩
  | 58 => ⟨S2x512x4096, .f32⟩
  | 59 => ⟨S2x4096x512, .f32⟩
  | 60 => ⟨S_, .f32⟩
  | 61 => ⟨S3x512, .f32⟩
  | 62 => ⟨S1x3x512, .f32⟩
  | 63 => ⟨S2x4096x512, .f32⟩
  | 64 => ⟨S2x4096x512, .f32⟩
  | 65 => ⟨S_, .f32⟩
  | 66 => ⟨S2x4096x512, .f32⟩
  | 67 => ⟨S_, .f32⟩
  | 68 => ⟨S2x4096x512, .f32⟩
  | 69 => ⟨S_, .f32⟩
  | 70 => ⟨S2x4096x512, .f32⟩
  | 71 => ⟨S2x4096x2560, .f32⟩
  | 72 => ⟨S_, .f32⟩
  | 73 => ⟨S2x4096x512, .f32⟩
  | 74 => ⟨S_, .f32⟩
  | 75 => ⟨S2x4096x512, .f32⟩
  | 76 => ⟨S_, .f32⟩
  | 77 => ⟨S2x4096x512, .f32⟩
  | 78 => ⟨S_, .f32⟩
  | 79 => ⟨S2x4096x512, .f32⟩
  | 80 => ⟨S2x4096x2560, .f32⟩
  | 81 => ⟨S2x4096x2560, .f32⟩
  | 82 => ⟨S2x4096x512, .f32⟩
  | 83 => ⟨S2x4096x512, .f32⟩
  | 84 => ⟨S2x4096x512, .f32⟩
  | 85 => ⟨S2x4096x512, .f32⟩
  | 86 => ⟨S_, .f32⟩
  | 87 => ⟨S512, .f32⟩
  | 88 => ⟨S1x1x512, .f32⟩
  | 89 => ⟨S_, .f32⟩
  | 90 => ⟨S512, .f32⟩
  | 91 => ⟨S2x4096x512, .f32⟩
  | 92 => ⟨S_, .f32⟩
  | 93 => ⟨S512, .f32⟩
  | 94 => ⟨S1x1x512, .f32⟩
  | 95 => ⟨S2x4096x512, .f32⟩
  | 96 => ⟨S2x4096x512, .f32⟩
  | 97 => ⟨S_, .f32⟩
  | 98 => ⟨S512, .f32⟩
  | 99 => ⟨S2x4096x512, .f32⟩
  | 100 => ⟨S_, .f32⟩
  | 101 => ⟨S2x4096, .f32⟩
  | 102 => ⟨S2x4096x1, .f32⟩
  | 103 => ⟨S2x4096x512, .f32⟩
  | 104 => ⟨S2x4096x512, .f32⟩
  | 105 => ⟨S2x4096x1, .f32⟩
  | 106 => ⟨S2x4096x512, .f32⟩
  | 107 => ⟨S_, .f32⟩
  | 108 => ⟨S2x4096, .f32⟩
  | 109 => ⟨S2x4096x1, .f32⟩
  | 110 => ⟨S_, .f32⟩
  | 111 => ⟨S2x4096x1, .f32⟩
  | 112 => ⟨S2x4096x1, .f32⟩
  | 113 => ⟨S_, .f32⟩
  | 114 => ⟨S2x4096, .f32⟩
  | 115 => ⟨S2x4096x512, .f32⟩
  | 116 => ⟨S2x4096x512, .f32⟩
  | 117 => ⟨S2x4096x512, .f32⟩
  | 118 => ⟨S_, .f32⟩
  | 119 => ⟨S2x4096, .f32⟩
  | 120 => ⟨S2x4096x1, .f32⟩
  | 121 => ⟨S2x4096x512, .f32⟩
  | 122 => ⟨S2x4096x1, .f32⟩
  | 123 => ⟨S_, .f32⟩
  | 124 => ⟨S2x4096x1, .f32⟩
  | 125 => ⟨S2x4096x1, .f32⟩
  | 126 => ⟨S_, .f32⟩
  | 127 => ⟨S2x4096, .f32⟩
  | _ => ⟨S2x4096x1024, .f32⟩

abbrev hbmTy0_2 (i : Nat) : BufTy := match i % 128 with
  | 0 => ⟨S2x4096x512, .f32⟩
  | 1 => ⟨S2x4096x512, .f32⟩
  | 2 => ⟨S1x512, .f32⟩
  | 3 => ⟨S1x512, .f32⟩
  | 4 => ⟨S_, .f32⟩
  | 5 => ⟨S512, .f32⟩
  | 6 => ⟨S1x1x512, .f32⟩
  | 7 => ⟨S_, .f32⟩
  | 8 => ⟨S512, .f32⟩
  | 9 => ⟨S1x512, .f32⟩
  | 10 => ⟨S31x2x4096x512, .f32⟩
  | 11 => ⟨S31x2x4096x512, .f32⟩
  | 12 => ⟨S31x2x4096x512, .f32⟩
  | 13 => ⟨S31x2x4096x512, .f32⟩
  | 14 => ⟨S_, .f32⟩
  | 15 => ⟨S31x512, .f32⟩
  | 16 => ⟨S31x1x1x512, .f32⟩
  | 17 => ⟨S2x512x31x4096, .f32⟩
  | 18 => ⟨S2x512x4096, .f32⟩
  | 19 => ⟨S2x4096x512, .f32⟩
  | 20 => ⟨S_, .f32⟩
  | 21 => ⟨S31x512, .f32⟩
  | 22 => ⟨S1x31x512, .f32⟩
  | 23 => ⟨S2x4096x512, .f32⟩
  | 24 => ⟨S2x4096x512, .f32⟩
  | 25 => ⟨S2x4096x512, .f32⟩
  | 26 => ⟨S_, .f32⟩
  | 27 => ⟨S2x4096x512, .f32⟩
  | 28 => ⟨S_, .f32⟩
  | 29 => ⟨S2x4096x512, .f32⟩
  | 30 => ⟨S_, .f32⟩
  | 31 => ⟨S2x4096x512, .f32⟩
  | 32 => ⟨S2x4096x2560, .f32⟩
  | 33 => ⟨S2x4096x2560, .f32⟩
  | 34 => ⟨S2x4096x1024, .f32⟩
  | 35 => ⟨S_, .f32⟩
  | 36 => ⟨S2x1024, .f32⟩
  | 37 => ⟨S2x1x1024, .f32⟩
  | 38 => ⟨S_, .f32⟩
  | 39 => ⟨S2x1024, .f32⟩
  | 40 => ⟨S2x4096x1024, .f32⟩
  | 41 => ⟨S_, .f32⟩
  | 42 => ⟨S2x1024, .f32⟩
  | 43 => ⟨S2x1x1024, .f32⟩
  | 44 => ⟨S2x4096x1024, .f32⟩
  | 45 => ⟨S2x4096x1024, .f32⟩
  | 46 => ⟨S_, .f32⟩
  | 47 => ⟨S2x1024, .f32⟩
  | 48 => ⟨S2x4096x1024, .f32⟩
  | 49 => ⟨S_, .f32⟩
  | 50 => ⟨S2x4096, .f32⟩
  | 51 => ⟨S2x4096x1, .f32⟩
  | 52 => ⟨S2x4096x1024, .f32⟩
  | 53 => ⟨S2x4096x1024, .f32⟩
  | 54 => ⟨S2x4096x1, .f32⟩
  | 55 => ⟨S_, .f32⟩
  | 56 => ⟨S2x4096x1, .f32⟩
  | 57 => ⟨S2x4096x1, .f32⟩
  | 58 => ⟨S_, .f32⟩
  | 59 => ⟨S2x4096, .f32⟩
  | 60 => ⟨S2x4096x1024, .f32⟩
  | 61 => ⟨S2x4096x1024, .f32⟩
  | 62 => ⟨S2x4096x1024, .f32⟩
  | 63 => ⟨S2x4096x1024, .f32⟩
  | 64 => ⟨S2x4096x1024, .f32⟩
  | 65 => ⟨S_, .f32⟩
  | 66 => ⟨S2x1024, .f32⟩
  | 67 => ⟨S2x1x1024, .f32⟩
  | 68 => ⟨S2x1x1024, .f32⟩
  | 69 => ⟨S2x1x1024, .f32⟩
  | 70 => ⟨S2x1x1024, .f32⟩
  | 71 => ⟨S2x1x1024, .f32⟩
  | 72 => ⟨S2x1x1024, .f32⟩
  | 73 => ⟨S2x1x1024, .f32⟩
  | 74 => ⟨S2x1x1024, .f32⟩
  | 75 => ⟨S2x8x1024, .f32⟩
  | 76 => ⟨S_, .f32⟩
  | 77 => ⟨S1x512, .f32⟩
  | 78 => ⟨S31x512, .f32⟩
  | 79 => ⟨S3x512, .f32⟩
  | 80 => ⟨S40x512, .f32⟩
  | 81 => ⟨S2x4096x1024, .f32⟩
  | 82 => ⟨S2x4096x2560, .bf16⟩
  | 83 => ⟨S2x4096x1024, .bf16⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call0_v0 : Ref sig .tc := ⟨.hbm, 121, rfl⟩
abbrev main_call0_v1 : Ref sig .tc := ⟨.hbm, 122, rfl⟩
abbrev main_call0_cst : Ref sig .tc := ⟨.hbm, 123, rfl⟩
abbrev main_call0_v2 : Ref sig .tc := ⟨.hbm, 124, rfl⟩
abbrev main_call0_v3 : Ref sig .tc := ⟨.hbm, 125, rfl⟩
abbrev main_call0_cst_0 : Ref sig .tc := ⟨.hbm, 126, rfl⟩
abbrev main_call0_v4 : Ref sig .tc := ⟨.hbm, 127, rfl⟩
abbrev main_v94_2 : Ref sig .tc := ⟨.hbm, 128, rfl⟩
abbrev main_call0_cst_1 : Ref sig .tc := ⟨.hbm, 129, rfl⟩
abbrev main_call0_v6 : Ref sig .tc := ⟨.hbm, 130, rfl⟩
abbrev main_call0_v7 : Ref sig .tc := ⟨.hbm, 131, rfl⟩
abbrev main_v94_1 : Ref sig .tc := ⟨.hbm, 132, rfl⟩
abbrev main_v94_0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_15 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_16 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_17 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_18 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_19 : Ref sig .tc := ⟨.hbm, 193, rfl⟩
abbrev main_v150 : Ref sig .tc := ⟨.hbm, 194, rfl⟩
abbrev main_cst_20 : Ref sig .tc := ⟨.hbm, 195, rfl⟩
abbrev main_v151 : Ref sig .tc := ⟨.hbm, 196, rfl⟩
abbrev main_cst_21 : Ref sig .tc := ⟨.hbm, 197, rfl⟩
abbrev main_v152 : Ref sig .tc := ⟨.hbm, 198, rfl⟩
abbrev main_v153 : Ref sig .tc := ⟨.hbm, 199, rfl⟩
abbrev main_cst_22 : Ref sig .tc := ⟨.hbm, 200, rfl⟩
abbrev main_v154 : Ref sig .tc := ⟨.hbm, 201, rfl⟩
abbrev main_cst_23 : Ref sig .tc := ⟨.hbm, 202, rfl⟩
abbrev main_v155 : Ref sig .tc := ⟨.hbm, 203, rfl⟩
abbrev main_cst_24 : Ref sig .tc := ⟨.hbm, 204, rfl⟩
abbrev main_v156 : Ref sig .tc := ⟨.hbm, 205, rfl⟩
abbrev main_cst_25 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_call1_v0 : Ref sig .tc := ⟨.hbm, 210, rfl⟩
abbrev main_call1_v1 : Ref sig .tc := ⟨.hbm, 211, rfl⟩
abbrev main_call1_v2 : Ref sig .tc := ⟨.hbm, 212, rfl⟩
abbrev main_v160 : Ref sig .tc := ⟨.hbm, 213, rfl⟩
abbrev main_cst_26 : Ref sig .tc := ⟨.hbm, 214, rfl⟩
abbrev main_v161 : Ref sig .tc := ⟨.hbm, 215, rfl⟩
abbrev main_v162 : Ref sig .tc := ⟨.hbm, 216, rfl⟩
abbrev main_cst_27 : Ref sig .tc := ⟨.hbm, 217, rfl⟩
abbrev main_v163 : Ref sig .tc := ⟨.hbm, 218, rfl⟩
abbrev main_v164 : Ref sig .tc := ⟨.hbm, 219, rfl⟩
abbrev main_cst_28 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_29 : Ref sig .tc := ⟨.hbm, 225, rfl⟩
abbrev main_v169 : Ref sig .tc := ⟨.hbm, 226, rfl⟩
abbrev main_v170 : Ref sig .tc := ⟨.hbm, 227, rfl⟩
abbrev main_cst_30 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_cst_31 : Ref sig .tc := ⟨.hbm, 235, rfl⟩
abbrev main_v177 : Ref sig .tc := ⟨.hbm, 236, rfl⟩
abbrev main_v178 : Ref sig .tc := ⟨.hbm, 237, rfl⟩
abbrev main_cst_32 : Ref sig .tc := ⟨.hbm, 238, rfl⟩
abbrev main_v179 : Ref sig .tc := ⟨.hbm, 239, rfl⟩
abbrev main_v180 : Ref sig .tc := ⟨.hbm, 240, rfl⟩
abbrev main_cst_33 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_cst_34 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_cst_35 : Ref sig .tc := ⟨.hbm, 251, rfl⟩
abbrev main_v189 : Ref sig .tc := ⟨.hbm, 252, rfl⟩
abbrev main_v190 : Ref sig .tc := ⟨.hbm, 253, rfl⟩
abbrev main_cst_36 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_cst_37 : Ref sig .tc := ⟨.hbm, 260, rfl⟩
abbrev main_v196 : Ref sig .tc := ⟨.hbm, 261, rfl⟩
abbrev main_v197 : Ref sig .tc := ⟨.hbm, 262, rfl⟩
abbrev main_cst_38 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_39 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_cst_40 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_41 : Ref sig .tc := ⟨.hbm, 282, rfl⟩
abbrev main_v214 : Ref sig .tc := ⟨.hbm, 283, rfl⟩
abbrev main_cst_42 : Ref sig .tc := ⟨.hbm, 284, rfl⟩
abbrev main_v215 : Ref sig .tc := ⟨.hbm, 285, rfl⟩
abbrev main_cst_43 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_cst_44 : Ref sig .tc := ⟨.hbm, 291, rfl⟩
abbrev main_v220 : Ref sig .tc := ⟨.hbm, 292, rfl⟩
abbrev main_v221 : Ref sig .tc := ⟨.hbm, 293, rfl⟩
abbrev main_cst_45 : Ref sig .tc := ⟨.hbm, 294, rfl⟩
abbrev main_v222 : Ref sig .tc := ⟨.hbm, 295, rfl⟩
abbrev main_v223 : Ref sig .tc := ⟨.hbm, 296, rfl⟩
abbrev main_cst_46 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_cst_47 : Ref sig .tc := ⟨.hbm, 302, rfl⟩
abbrev main_v228 : Ref sig .tc := ⟨.hbm, 303, rfl⟩
abbrev main_v229 : Ref sig .tc := ⟨.hbm, 304, rfl⟩
abbrev main_cst_48 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_cst_49 : Ref sig .tc := ⟨.hbm, 311, rfl⟩
abbrev main_v235 : Ref sig .tc := ⟨.hbm, 312, rfl⟩
abbrev main_v236 : Ref sig .tc := ⟨.hbm, 313, rfl⟩
abbrev main_cst_50 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_cst_51 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_cst_52 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩

abbrev nD : Nat := 1
abbrev τ : Topo := Topo.v7x

variable {F : FTy → Type} [FloatOps F]
-- ==== Kernel3.lean ====
abbrev S2x4096x1024 : Shape := ⟨3, ![2, 4096, 1024]⟩
abbrev S2x6144 : Shape := ⟨2, ![2, 6144]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S1024x2560 : Shape := ⟨2, ![1024, 2560]⟩
abbrev S2560x1024 : Shape := ⟨2, ![2560, 1024]⟩
abbrev S8x320x1024 : Shape := ⟨3, ![8, 320, 1024]⟩
abbrev S1024x1024 : Shape := ⟨2, ![1024, 1024]⟩
abbrev S8x128x1024 : Shape := ⟨3, ![8, 128, 1024]⟩
abbrev S31x512 : Shape := ⟨2, ![31, 512]⟩
abbrev S_ : Shape := ⟨0, ![]⟩
abbrev S32x512 : Shape := ⟨2, ![32, 512]⟩
abbrev S3x512 : Shape := ⟨2, ![3, 512]⟩
abbrev S2x512 : Shape := ⟨2, ![2, 512]⟩
abbrev S8x512 : Shape := ⟨2, ![8, 512]⟩
abbrev S2x6x1024 : Shape := ⟨3, ![2, 6, 1024]⟩
abbrev S2x4096x2560 : Shape := ⟨3, ![2, 4096, 2560]⟩
abbrev S2x4096x512 : Shape := ⟨3, ![2, 4096, 512]⟩
abbrev S1x512x1024 : Shape := ⟨3, ![1, 512, 1024]⟩
abbrev S1x6x1024 : Shape := ⟨3, ![1, 6, 1024]⟩
abbrev S1x512x2560 : Shape := ⟨3, ![1, 512, 2560]⟩
abbrev S1x512x512 : Shape := ⟨3, ![1, 512, 512]⟩
abbrev S544x512 : Shape := ⟨2, ![544, 512]⟩
abbrev S520x512 : Shape := ⟨2, ![520, 512]⟩
abbrev S7x536x512 : Shape := ⟨3, ![7, 536, 512]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x2560 : Shape := ⟨2, ![512, 2560]⟩
abbrev S512x512 : Shape := ⟨2, ![512, 512]⟩
abbrev S536x512 : Shape := ⟨2, ![536, 512]⟩
abbrev S1x536x512 : Shape := ⟨3, ![1, 536, 512]⟩
abbrev S1x32x512 : Shape := ⟨3, ![1, 32, 512]⟩

abbrev nBuf : Space → Nat
  | .hbm => 30
  | .vmem => 21
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1x1024x2560, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x3x512, .f32⟩
  | .hbm, ⟨8, _⟩ => ⟨S1x1024x1024, .f32⟩
  | .hbm, ⟨9, _⟩ => ⟨S1024x2560, .f32⟩
  | .hbm, ⟨10, _⟩ => ⟨S2560x1024, .f32⟩
  | .hbm, ⟨11, _⟩ => ⟨S2560x1024, .bf16⟩
  | .hbm, ⟨12, _⟩ => ⟨S8x320x1024, .bf16⟩
  | .hbm, ⟨13, _⟩ => ⟨S1024x1024, .f32⟩
  | .hbm, ⟨14, _⟩ => ⟨S1024x1024, .bf16⟩
  | .hbm, ⟨15, _⟩ => ⟨S8x128x1024, .bf16⟩
  | .hbm, ⟨16, _⟩ => ⟨S31x512, .f32⟩
  | .hbm, ⟨17, _⟩ => ⟨S_, .i32⟩
  | .hbm, ⟨18, _⟩ => ⟨S_, .f32⟩
  | .hbm, ⟨19, _⟩ => ⟨S32x512, .f32⟩
  | .hbm, ⟨20, _⟩ => ⟨S3x512, .f32⟩
  | .hbm, ⟨21, _⟩ => ⟨S_, .f32⟩
  | .hbm, ⟨22, _⟩ => ⟨S2x512, .f32⟩
  | .hbm, ⟨23, _⟩ => ⟨S8x512, .f32⟩
  | .hbm, ⟨24, _⟩ => ⟨S2x6x1024, .f32⟩
  | .hbm, ⟨25, _⟩ => ⟨S2x4096x2560, .f32⟩
  | .hbm, ⟨26, _⟩ => ⟨S2x4096x512, .f32⟩
  | .hbm, ⟨27, _⟩ => ⟨S2x4096x512, .f32⟩
  | .hbm, ⟨28, _⟩ => ⟨S2x4096x1024, .bf16⟩
  | .hbm, ⟨29, _⟩ => ⟨S2x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S8x320x1024, .bf16⟩
  | .local _ .vmem, ⟨5, _⟩ => ⟨S8x128x1024, .bf16⟩
  | .local _ .vmem, ⟨6, _⟩ => ⟨S32x512, .f32⟩
  | .local _ .vmem, ⟨7, _⟩ => ⟨S8x512, .f32⟩
  | .local _ .vmem, ⟨8, _⟩ => ⟨S1x512x2560, .f32⟩
  | .local _ .vmem, ⟨9, _⟩ => ⟨S1x512x2560, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S544x512, .f32⟩
  | .local _ .vmem, ⟨19, _⟩ => ⟨S520x512, .f32⟩
  | .local _ .vmem, ⟨20, _⟩ => ⟨S7x536x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x320x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x4096x1024 : Shape := ⟨3, ![2, 4096, 1024]⟩
abbrev S2x6144 : Shape := ⟨2, ![2, 6144]⟩
abbrev S1x1024x2560 : Shape := ⟨3, ![1, 1024, 2560]⟩
abbrev S1x31x512 : Shape := ⟨3, ![1, 31, 512]⟩
abbrev S1x512 : Shape := ⟨2, ![1, 512]⟩
abbrev S1x3x512 : Shape := ⟨3, ![1, 3, 512]⟩
abbrev S1x1024x1024 : Shape := ⟨3, ![1, 1024, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S1024x2560 : Shape := ⟨2, ![1024, 2560]⟩
abbrev S2x4096x2560 : Shape := ⟨3, ![2, 4096, 2560]⟩
abbrev S2x4096x512 : Shape := ⟨3, ![2, 4096, 512]⟩
abbrev S31x512 : Shape := ⟨2, ![31, 512]⟩
abbrev S31x4096x4096 : Shape := ⟨3, ![31, 4096, 4096]⟩
abbrev S31x1x1x512 : Shape := ⟨4, ![31, 1, 1, 512]⟩
abbrev S2x512x31x4096 : Shape := ⟨4, ![2, 512, 31, 4096]⟩
abbrev S31x2x4096x512 : Shape := ⟨4, ![31, 2, 4096, 512]⟩
abbrev S512 : Shape := ⟨1, ![512]⟩
abbrev S1x1x512 : Shape := ⟨3, ![1, 1, 512]⟩
abbrev S3x512 : Shape := ⟨2, ![3, 512]⟩
abbrev S3x4096x4096 : Shape := ⟨3, ![3, 4096, 4096]⟩
abbrev S3x1x1x512 : Shape := ⟨4, ![3, 1, 1, 512]⟩
abbrev S2x512x3x4096 : Shape := ⟨4, ![2, 512, 3, 4096]⟩
abbrev S3x2x4096x512 : Shape := ⟨4, ![3, 2, 4096, 512]⟩
abbrev S1024x1024 : Shape := ⟨2, ![1024, 1024]⟩

abbrev nBuf : Space → Nat
  | .hbm => 147
  | .vmem => 0
  | .smem => 0
  | _ => 0

abbrev hbmTy0_0 (i : Nat) : BufTy := match i % 128 with
  | 0 => ⟨S2x4096x1024, .f32⟩
  | 1 => ⟨S2x6144, .f32⟩
  | 2 => ⟨S1x1024x2560, .f32⟩
  | 3 => ⟨S1x31x512, .f32⟩
  | 4 => ⟨S1x512, .f32⟩
  | 5 => ⟨S1x512, .f32⟩
  | 6 => ⟨S1x512, .f32⟩
  | 7 => ⟨S1x3x512, .f32⟩
  | 8 => ⟨S1x1024x1024, .f32⟩
  | 9 => ⟨S2x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x4096x1024, .f32⟩
  | 16 => ⟨S_, .f32⟩
  | 17 => ⟨S2x4096, .f32⟩
  | 18 => ⟨S2x4096x1, .f32⟩
  | 19 => ⟨S_, .f32⟩
  | 20 => ⟨S2x4096x1, .f32⟩
  | 21 => ⟨S2x4096x1, .f32⟩
  | 22 => ⟨S_, .f32⟩
  | 23 => ⟨S2x4096x1, .f32⟩
  | 24 => ⟨S2x4096x1, .f32⟩
  | 25 => ⟨S2x4096x1, .f32⟩
  | 26 => ⟨S2x4096x1024, .f32⟩
  | 27 => ⟨S2x4096x1024, .f32⟩
  | 28 => ⟨S2x1x1024, .f32⟩
  | 29 => ⟨S_, .f32⟩
  | 30 => ⟨S2x1x1024, .f32⟩
  | 31 => ⟨S2x1x1024, .f32⟩
  | 32 => ⟨S2x4096x1024, .f32⟩
  | 33 => ⟨S2x4096x1024, .f32⟩
  | 34 => ⟨S2x1x1024, .f32⟩
  | 35 => ⟨S2x4096x1024, .f32⟩
  | 36 => ⟨S2x4096x1024, .f32⟩
  | 37 => ⟨S1024x2560, .f32⟩
  | 38 => ⟨S2x4096x2560, .f32⟩
  | 39 => ⟨S2x4096x512, .f32⟩
  | 40 => ⟨S2x4096x512, .f32⟩
  | 41 => ⟨S2x4096x512, .f32⟩
  | 42 => ⟨S2x4096x512, .f32⟩
  | 43 => ⟨S2x4096x512, .f32⟩
  | 44 => ⟨S2x4096x512, .f32⟩
  | 45 => ⟨S2x4096x512, .f32⟩
  | 46 => ⟨S_, .f32⟩
  | 47 => ⟨S2x4096x512, .f32⟩
  | 48 => ⟨S2x4096x512, .f32⟩
  | 49 => ⟨S_, .f32⟩
  | 50 => ⟨S2x4096x512, .f32⟩
  | 51 => ⟨S2x4096x512, .f32⟩
  | 52 => ⟨S2x4096x512, .f32⟩
  | 53 => ⟨S31x512, .f32⟩
  | 54 => ⟨S31x4096x4096, .i32⟩
  | 55 => ⟨S31x4096x4096, .i32⟩
  | 56 => ⟨S31x4096x4096, .i32⟩
  | 57 => ⟨S_, .i32⟩
  | 58 => ⟨S31x4096x4096, .i32⟩
  | 59 => ⟨S31x4096x4096, .i32⟩
  | 60 => ⟨S31x4096x4096, .i32⟩
  | 61 => ⟨S31x4096x4096, .i1⟩
  | 62 => ⟨S31x4096x4096, .f32⟩
  | 63 => ⟨S31x1x1x512, .f32⟩
  | 64 => ⟨S2x512x31x4096, .f32⟩
  | 65 => ⟨S31x2x4096x512, .f32⟩
  | 66 => ⟨S31x2x4096x512, .f32⟩
  | 67 => ⟨S31x2x4096x512, .f32⟩
  | 68 => ⟨S_, .f32⟩
  | 69 => ⟨S2x4096x512, .f32⟩
  | 70 => ⟨S512, .f32⟩
  | 71 => ⟨S1x1x512, .f32⟩
  | 72 => ⟨S2x4096x512, .f32⟩
  | 73 => ⟨S2x4096x512, .f32⟩
  | 74 => ⟨S2x4096x512, .f32⟩
  | 75 => ⟨S2x4096x512, .f32⟩
  | 76 => ⟨S2x4096x512, .f32⟩
  | 77 => ⟨S2x4096x512, .f32⟩
  | 78 => ⟨S2x4096x512, .f32⟩
  | 79 => ⟨S2x4096x512, .f32⟩
  | 80 => ⟨S3x512, .f32⟩
  | 81 => ⟨S3x4096x4096, .i32⟩
  | 82 => ⟨S3x4096x4096, .i32⟩
  | 83 => ⟨S3x4096x4096, .i32⟩
  | 84 => ⟨S_, .i32⟩
  | 85 => ⟨S3x4096x4096, .i32⟩
  | 86 => ⟨S3x4096x4096, .i32⟩
  | 87 => ⟨S3x4096x4096, .i32⟩
  | 88 => ⟨S3x4096x4096, .i1⟩
  | 89 => ⟨S3x4096x4096, .f32⟩
  | 90 => ⟨S3x1x1x512, .f32⟩
  | 91 => ⟨S2x512x3x4096, .f32⟩
  | 92 => ⟨S3x2x4096x512, .f32⟩
  | 93 => ⟨S3x2x4096x512, .f32⟩
  | 94 => ⟨S3x2x4096x512, .f32⟩
  | 95 => ⟨S_, .f32⟩
  | 96 => ⟨S2x4096x512, .f32⟩
  | 97 => ⟨S512, .f32⟩
  | 98 => ⟨S512, .f32⟩
  | 99 => ⟨S_, .f32⟩
  | 100 => ⟨S2x4096, .f32⟩
  | 101 => ⟨S2x4096x1, .f32⟩
  | 102 => ⟨S_, .f32⟩
  | 103 => ⟨S2x4096x1, .f32⟩
  | 104 => ⟨S2x4096x1, .f32⟩
  | 105 => ⟨S2x4096x512, .f32⟩
  | 106 => ⟨S2x4096x512, .f32⟩
  | 107 => ⟨S2x4096x512, .f32⟩
  | 108 => ⟨S_, .f32⟩
  | 109 => ⟨S2x4096, .f32⟩
  | 110 => ⟨S2x4096x1, .f32⟩
  | 111 => ⟨S_, .f32⟩
  | 112 => ⟨S2x4096x1, .f32⟩
  | 113 => ⟨S2x4096x1, .f32⟩
  | 114 => ⟨S2x4096x512, .f32⟩
  | 115 => ⟨S2x4096x512, .f32⟩
  | 116 => ⟨S_, .f32⟩
  | 117 => ⟨S2x4096x1, .f32⟩
  | 118 => ⟨S2x4096x1, .f32⟩
  | 119 => ⟨S2x4096x1, .f32⟩
  | 120 => ⟨S2x4096x512, .f32⟩
  | 121 => ⟨S2x4096x512, .f32⟩
  | 122 => ⟨S1x1x512, .f32⟩
  | 123 => ⟨S2x4096x512, .f32⟩
  | 124 => ⟨S2x4096x512, .f32⟩
  | 125 => ⟨S1x1x512, .f32⟩
  | 126 => ⟨S2x4096x512, .f32⟩
  | 127 => ⟨S2x4096x512, .f32⟩
  | _ => ⟨S2x4096x1024, .f32⟩

abbrev hbmTy0_1 (i : Nat) : BufTy := match i % 128 with
  | 0 => ⟨S2x4096x512, .f32⟩
  | 1 => ⟨S2x4096x512, .f32⟩
  | 2 => ⟨S_, .f32⟩
  | 3 => ⟨S2x4096x512, .f32⟩
  | 4 => ⟨S2x4096x512, .f32⟩
  | 5 => ⟨S_, .f32⟩
  | 6 => ⟨S2x4096x512, .f32⟩
  | 7 => ⟨S2x4096x512, .f32⟩
  | 8 => ⟨S2x4096x512, .f32⟩
  | 9 => ⟨S2x4096x512, .f32⟩
  | 10 => ⟨S2x4096x512, .f32⟩
  | 11 => ⟨S2x4096x512, .f32⟩
  | 12 => ⟨S2x4096x512, .f32⟩
  | 13 => ⟨S2x4096x512, .f32⟩
  | 14 => ⟨S2x4096x512, .f32⟩
  | 15 => ⟨S2x4096x1024, .f32⟩
  | 16 => ⟨S1024x1024, .f32⟩
  | 17 => ⟨S2x4096x1024, .f32⟩
  | 18 => ⟨S2x4096x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_6 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_7 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_8 : Ref sig .tc := ⟨.hbm, 99, rfl⟩
abbrev main_v80 : Ref sig .tc := ⟨.hbm, 100, rfl⟩
abbrev main_v81 : Ref sig .tc := ⟨.hbm, 101, rfl⟩
abbrev main_cst_9 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_10 : Ref sig .tc := ⟨.hbm, 108, rfl⟩
abbrev main_v87 : Ref sig .tc := ⟨.hbm, 109, rfl⟩
abbrev main_v88 : Ref sig .tc := ⟨.hbm, 110, rfl⟩
abbrev main_cst_11 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_12 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_call0_v0 : Ref sig .tc := ⟨.hbm, 128, rfl⟩
abbrev main_call0_v1 : Ref sig .tc := ⟨.hbm, 129, rfl⟩
abbrev main_call0_cst : Ref sig .tc := ⟨.hbm, 130, rfl⟩
abbrev main_call0_v2 : Ref sig .tc := ⟨.hbm, 131, rfl⟩
abbrev main_call0_v3 : Ref sig .tc := ⟨.hbm, 132, rfl⟩
abbrev main_call0_cst_0 : Ref sig .tc := ⟨.hbm, 133, rfl⟩
abbrev main_call0_v4 : Ref sig .tc := ⟨.hbm, 134, rfl⟩
abbrev main_call0_v5 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]
-- ==== Kernel4.lean ====
abbrev S2x4096x4096 : Shape := ⟨3, ![2, 4096, 4096]⟩
abbrev S2x4096x1024 : Shape := ⟨3, ![2, 4096, 1024]⟩
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x1024, .bf16⟩
  | .hbm, ⟨2, _⟩ => ⟨S8192x4096, .bf16⟩
  | .hbm, ⟨3, _⟩ => ⟨S8192x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x4096 : Shape := ⟨3, ![2, 4096, 4096]⟩
abbrev S2x4096x1024 : Shape := ⟨3, ![2, 4096, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x1024, .bf16⟩
  | .hbm, ⟨2, _⟩ => ⟨S_, .f32⟩
  | .hbm, ⟨3, _⟩ => ⟨S1024x4096, .f32⟩
  | .hbm, ⟨4, _⟩ => ⟨S2x4096x1024, .f32⟩
  | .hbm, ⟨5, _⟩ => ⟨S2x4096x4096, .f32⟩
  | .hbm, ⟨6, _⟩ => ⟨S2x4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S16x1024 : Shape := ⟨2, ![16, 1024]⟩
abbrev S1x1024x768 : Shape := ⟨3, ![1, 1024, 768]⟩
abbrev S1x768 : Shape := ⟨2, ![1, 768]⟩
abbrev S8x2x1024 : Shape := ⟨3, ![8, 2, 1024]⟩
abbrev S_ : Shape := ⟨0, ![]⟩
abbrev S8x8x1024 : Shape := ⟨3, ![8, 8, 1024]⟩
abbrev S1024x768 : Shape := ⟨2, ![1024, 768]⟩
abbrev S64x768 : Shape := ⟨2, ![64, 768]⟩
abbrev S64x1024 : Shape := ⟨2, ![64, 1024]⟩

abbrev nBuf : Space → Nat
  | .hbm => 9
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1x1024x768, .f32⟩
  | .hbm, ⟨2, _⟩ => ⟨S1x768, .f32⟩
  | .hbm, ⟨3, _⟩ => ⟨S8x2x1024, .f32⟩
  | .hbm, ⟨4, _⟩ => ⟨S_, .i32⟩
  | .hbm, ⟨5, _⟩ => ⟨S_, .f32⟩
  | .hbm, ⟨6, _⟩ => ⟨S8x8x1024, .f32⟩
  | .hbm, ⟨7, _⟩ => ⟨S1024x768, .f32⟩
  | .hbm, ⟨8, _⟩ => ⟨S64x768, .f32⟩
  | .local _ .vmem, ⟨0, _⟩ => ⟨S8x8x1024, .f32⟩
  | .local _ .vmem, ⟨1, _⟩ => ⟨S1024x768, .f32⟩
  | .local _ .vmem, ⟨2, _⟩ => ⟨S1x768, .f32⟩
  | .local _ .vmem, ⟨3, _⟩ => ⟨S64x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference5Ideal.lean ====
abbrev S16x1024 : Shape := ⟨2, ![16, 1024]⟩
abbrev S1x1024x768 : Shape := ⟨3, ![1, 1024, 768]⟩
abbrev S1x768 : Shape := ⟨2, ![1, 768]⟩
abbrev S8x2x1024 : Shape := ⟨3, ![8, 2, 1024]⟩
abbrev S_ : Shape := ⟨0, ![]⟩
abbrev S8x8x1024 : Shape := ⟨3, ![8, 8, 1024]⟩
abbrev S1024x768 : Shape := ⟨2, ![1024, 768]⟩
abbrev S8x8x768 : Shape := ⟨3, ![8, 8, 768]⟩
abbrev S768 : Shape := ⟨1, ![768]⟩
abbrev S1x1x768 : Shape := ⟨3, ![1, 1, 768]⟩
abbrev S64x768 : Shape := ⟨2, ![64, 768]⟩

abbrev nBuf : Space → Nat
  | .hbm => 23
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x768, .f32⟩
  | .hbm, ⟨2, _⟩ => ⟨S1x768, .f32⟩
  | .hbm, ⟨3, _⟩ => ⟨S8x2x1024, .f32⟩
  | .hbm, ⟨4, _⟩ => ⟨S_, .i32⟩
  | .hbm, ⟨5, _⟩ => ⟨S_, .f32⟩
  | .hbm, ⟨6, _⟩ => ⟨S8x8x1024, .f32⟩
  | .hbm, ⟨7, _⟩ => ⟨S8x8x1024, .f32⟩
  | .hbm, ⟨8, _⟩ => ⟨S8x8x1024, .f32⟩
  | .hbm, ⟨9, _⟩ => ⟨S_, .f32⟩
  | .hbm, ⟨10, _⟩ => ⟨S8x8x1024, .f32⟩
  | .hbm, ⟨11, _⟩ => ⟨S8x8x1024, .f32⟩
  | .hbm, ⟨12, _⟩ => ⟨S_, .f32⟩
  | .hbm, ⟨13, _⟩ => ⟨S8x8x1024, .f32⟩
  | .hbm, ⟨14, _⟩ => ⟨S8x8x1024, .f32⟩
  | .hbm, ⟨15, _⟩ => ⟨S8x8x1024, .f32⟩
  | .hbm, ⟨16, _⟩ => ⟨S1024x768, .f32⟩
  | .hbm, ⟨17, _⟩ => ⟨S8x8x768, .f32⟩
  | .hbm, ⟨18, _⟩ => ⟨S768, .f32⟩
  | .hbm, ⟨19, _⟩ => ⟨S1x1x768, .f32⟩
  | .hbm, ⟨20, _⟩ => ⟨S8x8x768, .f32⟩
  | .hbm, ⟨21, _⟩ => ⟨S8x8x768, .f32⟩
  | .hbm, ⟨22, _⟩ => ⟨S64x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_call1_v0 : Ref sig .tc := ⟨.hbm, 7, rfl⟩
abbrev main_call1_v1 : Ref sig .tc := ⟨.hbm, 8, rfl⟩
abbrev main_call1_cst : Ref sig .tc := ⟨.hbm, 9, rfl⟩
abbrev main_call1_v2 : Ref sig .tc := ⟨.hbm, 10, rfl⟩
abbrev main_call1_v3 : Ref sig .tc := ⟨.hbm, 11, rfl⟩
abbrev main_call1_cst_0 : Ref sig .tc := ⟨.hbm, 12, rfl⟩
abbrev main_call1_v4 : Ref sig .tc := ⟨.hbm, 13, rfl⟩
abbrev main_call1_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel6.lean ====
abbrev S16x1024 : Shape := ⟨2, ![16, 1024]⟩
abbrev S16x768 : Shape := ⟨2, ![16, 768]⟩
abbrev S1x1024x768 : Shape := ⟨3, ![1, 1024, 768]⟩
abbrev S8x2x1024 : Shape := ⟨3, ![8, 2, 1024]⟩
abbrev S_ : Shape := ⟨0, ![]⟩
abbrev S8x8x1024 : Shape := ⟨3, ![8, 8, 1024]⟩
abbrev S64x1024 : Shape := ⟨2, ![64, 1024]⟩
abbrev S8x2x768 : Shape := ⟨3, ![8, 2, 768]⟩
abbrev S8x8x768 : Shape := ⟨3, ![8, 8, 768]⟩
abbrev S64x768 : Shape := ⟨2, ![64, 768]⟩
abbrev S1024x768 : Shape := ⟨2, ![1024, 768]⟩
abbrev S64x256 : Shape := ⟨2, ![64, 256]⟩
abbrev S256x768 : Shape := ⟨2, ![256, 768]⟩

abbrev nBuf : Space → Nat
  | .hbm => 22
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S8x2x1024, .f32⟩
  | .hbm, ⟨6, _⟩ => ⟨S_, .i32⟩
  | .hbm, ⟨7, _⟩ => ⟨S_, .f32⟩
  | .hbm, ⟨8, _⟩ => ⟨S8x8x1024, .f32⟩
  | .hbm, ⟨9, _⟩ => ⟨S64x1024, .f32⟩
  | .hbm, ⟨10, _⟩ => ⟨S8x2x768, .f32⟩
  | .hbm, ⟨11, _⟩ => ⟨S_, .i32⟩
  | .hbm, ⟨12, _⟩ => ⟨S_, .f32⟩
  | .hbm, ⟨13, _⟩ => ⟨S8x8x768, .f32⟩
  | .hbm, ⟨14, _⟩ => ⟨S64x768, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S1024x768, .f32⟩
  | .local _ .vmem, ⟨0, _⟩ => ⟨S64x256, .f32⟩
  | .local _ .vmem, ⟨1, _⟩ => ⟨S64x256, .f32⟩
  | .local _ .vmem, ⟨2, _⟩ => ⟨S64x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16x1024 : Shape := ⟨2, ![16, 1024]⟩
abbrev S16x768 : Shape := ⟨2, ![16, 768]⟩
abbrev S1x1024x768 : Shape := ⟨3, ![1, 1024, 768]⟩
abbrev S1024x768 : Shape := ⟨2, ![1024, 768]⟩
abbrev S_ : Shape := ⟨0, ![]⟩
abbrev S768x1024 : Shape := ⟨2, ![768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1024x768, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x768, .f32⟩
  | .hbm, ⟨16, _⟩ => ⟨S768x1024, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S1024x768, .f32⟩
  | .hbm, ⟨53, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Kernel7.lean ====
abbrev S4x512x1024 : Shape := ⟨3, ![4, 512, 1024]⟩
abbrev S1x1024x512 : Shape := ⟨3, ![1, 1024, 512]⟩
abbrev S1024x512 : Shape := ⟨2, ![1024, 512]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S4x256x1024, .bf16⟩
  | .local _ .vmem, ⟨1, _⟩ => ⟨S4x256x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4x512x1024 : Shape := ⟨3, ![4, 512, 1024]⟩
abbrev S1x1024x512 : Shape := ⟨3, ![1, 1024, 512]⟩
abbrev S_ : Shape := ⟨0, ![]⟩
abbrev S512x1024 : Shape := ⟨2, ![512, 1024]⟩
abbrev S1024x512 : Shape := ⟨2, ![1024, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Lift.lean ====
/-
  Real numbers inside the extended reals: the constants both programs use, and the few laws that carry an operation on
  coerced reals back to a coerced real. Every value proof of this directory reads an array entry down to a scalar
  expression over coerced reals and closes with these.
-/
module

public import Idealize.ShloMosaic.Lib.Pointwise

@[expose] public section

noncomputable section

open Idealize.ShloMosaic

namespace Cert.Lift

/-- A finite sum of coerced reals is the coerced sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The larger of two coerced reals is the coerced larger one. -/
theorem max_coe (a b : ℝ) : max (a : EReal) (b : EReal) = ((max a b : ℝ) : EReal) :=
  (EReal.coe_strictMono.monotone.map_max).symm

/-- The larger of a coerced real and zero. -/
theorem max_coe_zero (a : ℝ) : max (a : EReal) 0 = ((max a 0 : ℝ) : EReal) := max_coe a 0

/-- A quotient of coerced reals with a nonzero divisor. -/
theorem div_coe_coe {a b : ℝ} (h : b ≠ 0) : Ideal.div (a : EReal) (b : EReal) = ((a / b : ℝ) : EReal) := by
  rw [Ideal.div_coe h, ← EReal.coe_mul, mul_one_div]

/-- The reciprocal square root of a positive real. -/
theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- An extended real strictly between the infinities is its real part. -/
theorem coe_of_abs_lt {a : EReal} (h : max a (-a) < ⊤) : a = ((a.toReal : ℝ) : EReal) := by
  induction a with
  | bot => simp at h
  | top => simp at h
  | coe x => simp

/-- `2.0`. -/
theorem c_two : Ideal.ofBits .f32 0x40000000#32 = ((2 : ℝ) : EReal) := by
  simp [Ideal.ofBits, Ideal.ieee, -EReal.coe_mul]; norm_num

/-- `0.5`. -/
theorem c_half : Ideal.ofBits .f32 0x3F000000#32 = ((1 / 2 : ℝ) : EReal) := by
  simp [Ideal.ofBits, Ideal.ieee, -EReal.coe_mul]; norm_num

/-- `-0.5`. -/
theorem c_neg_half : Ideal.ofBits .f32 0xBF000000#32 = ((-(1 / 2) : ℝ) : EReal) := by
  simp [Ideal.ofBits, Ideal.ieee, -EReal.coe_mul]; norm_num

/-- `1024.0`, the row length. -/
theorem c_1024 : Ideal.ofBits .f32 0x44800000#32 = ((1024 : ℝ) : EReal) := by
  simp [Ideal.ofBits, Ideal.ieee, -EReal.coe_mul]; norm_num

/-- `1/1024`. -/
theorem c_inv_1024 : Ideal.ofBits .f32 0x3A800000#32 = ((1 / 1024 : ℝ) : EReal) := by
  simp [Ideal.ofBits, Ideal.ieee, -EReal.coe_mul]; norm_num

/-- The normalisation's epsilon as the real its pattern denotes. -/
def eps : ℝ := 8796093 / 8796093022208

theorem c_eps : Ideal.ofBits .f32 0x358637BD#32 = ((eps : ℝ) : EReal) := by
  simp [Ideal.ofBits, Ideal.ieee, eps, -EReal.coe_mul]; norm_num

theorem eps_pos : 0 < eps := by unfold eps; norm_num

/-- Positive infinity, the precondition's bound. -/
theorem c_inf : Ideal.ofBits .f32 0x7F800000#32 = ⊤ := by
  simp [Ideal.ofBits, Ideal.ieee]

/-! ## One row's root-mean-square normalisation and its gradient -/

variable {n : ℕ}

/-- The mean of a row's squares, plus epsilon (rows have 1024 entries). -/
def ms (a : Fin n → ℝ) : ℝ := (∑ k, a k * a k) / 1024 + eps

theorem ms_pos (a : Fin n → ℝ) : 0 < ms a :=
  add_pos_of_nonneg_of_pos (div_nonneg (Finset.sum_nonneg fun k _ => mul_self_nonneg (a k)) (by norm_num)) eps_pos

/-- The row's scale. -/
def rn (a : Fin n → ℝ) : ℝ := (Real.sqrt (ms a))⁻¹

theorem rn_sq (a : Fin n → ℝ) : rn a * rn a * ms a = 1 := by
  have h := ms_pos a
  have h' : Real.sqrt (ms a) ≠ 0 := (Real.sqrt_pos.mpr h).ne'
  unfold rn
  nth_rewrite 3 [← Real.mul_self_sqrt h.le]
  field_simp

/-- The gradient of `a ↦ a · rn a` on one row, from the cotangent `g`: written with the normalised row. -/
def normBwd (a g : Fin n → ℝ) (d : Fin n) : ℝ :=
  rn a * (g d - a d * rn a * ((∑ k, g k * (a k * rn a)) / 1024))

/-- The cotangent the mean of squares sends to each square. -/
def msBwd (a g : Fin n → ℝ) : ℝ := ((∑ k, a k * g k) * (-(1 / 2) * (rn a / ms a))) / 1024

/-- The gradient as the chain rule spells it: the product's two factors, the square's two factors. -/
theorem normBwd_eq (a g : Fin n → ℝ) (d : Fin n) :
    normBwd a g d = g d * rn a + a d * msBwd a g + msBwd a g * a d := by
  have h := ms_pos a
  have hr : rn a / ms a = rn a * rn a * rn a := by
    rw [div_eq_iff h.ne']
    calc rn a = rn a * (rn a * rn a * ms a) := by rw [rn_sq, mul_one]
      _ = _ := by ring
  have hs : (∑ k, g k * (a k * rn a)) = (∑ k, a k * g k) * rn a := by
    rw [Finset.sum_mul]; exact Finset.sum_congr rfl fun k _ => by ring
  unfold normBwd msBwd
  rw [hr, hs]
  ring

/-- A coerced real over the row length. -/
theorem div_1024 (a : ℝ) : Ideal.div (a : EReal) (Ideal.ofBits .f32 0x44800000#32) = ((a / 1024 : ℝ) : EReal) := by
  rw [c_1024, div_coe_coe (by norm_num)]

/-- The mean of squares as both programs spell it. -/
theorem ms_at (a : Fin n → ℝ) : Ideal.div (∑ k, (a k : EReal) * (a k : EReal)) (Ideal.ofBits .f32 0x44800000#32)
    + Ideal.ofBits .f32 0x358637BD#32 = ((ms a : ℝ) : EReal) := by
  simp only [← EReal.coe_mul, sum_coe, div_1024, c_eps, ← EReal.coe_add]
  rfl

/-- The row's scale as both programs spell it. -/
theorem rn_at (a : Fin n → ℝ) : Ideal.rsqrt (ms a : EReal) = ((rn a : ℝ) : EReal) := rsqrt_pos (ms_pos a)

end Cert.Lift
-- ==== Proof.LiftPre.lean ====
/-
  What a precondition of finite arguments says of one argument: every entry is a real number.
-/
module

public import proofs.«01_k».proof.Proof.Lift
public import Idealize.ShloMosaic.Lib.ReduceAll
public import Idealize.ShloMosaic.Lib.Affine
public import Idealize.ShloMosaic.Lib.Pointwise

@[expose] public section

set_option maxRecDepth 16384

noncomputable section

namespace Cert.Lift

open Idealize.ShloMosaic Idealize.ShloMosaic.TcCoe

/-- The shape of a single value. -/
abbrev One : Shape := ⟨0, ![]⟩

/-- One comparison with infinity: the entry is a real number. -/
theorem real_of_olt {s : Shape} (a : FVec Ideal s .f32) (b : One.BroadcastsInDim s (![] : Fin 0 → Fin s.rank)) (i : s.Idx)
    (h : cmpf .olt (Host.absf a) (broadcastInDim s ![] b (constant (F := Ideal) One .f32 0x7F800000#32)) i = 1#1) :
    a i = ((a i).toReal : EReal) := by
  refine coe_of_abs_lt ?_
  pointwise at h
  rw [c_inf] at h
  by_contra hn
  rw [show decide (FloatOps.absf (a i) < (⊤ : EReal)) = false from decide_eq_false hn] at h
  exact absurd h (by decide)

/-- One argument: the conjunction of the comparisons is one, so every entry is a real number. -/
theorem real_of_all {s : Shape} {ds : List (Fin s.rank)} (a : FVec Ideal s .f32) (b : One.BroadcastsInDim s (![] : Fin 0 → Fin s.rank))
    (hr : s.ReducesTo ds One) (hn : 0 < One.numel) (j : One.Idx)
    (h : Host.reduce IntOp.andi (cmpf .olt (Host.absf a) (broadcastInDim s ![] b (constant (F := Ideal) One .f32 0x7F800000#32)))
      (constantI One 1 1#1) hr hn j = 1#1) (i : s.Idx) : a i = ((a i).toReal : EReal) := by
  haveI : Subsingleton One.Idx := ⟨fun _ _ => funext fun a => a.elim0⟩
  exact real_of_olt a b i (Host.reduce_andi_all _ _ hr hn j h i)

end Cert.Lift

end
-- ==== Proof.MlpSpec.lean ====
/-
  The MLP block and the loss head on ONE token, over the reals: forward, and the gradient of the summed loss. A token is
  its row of the residual stream, of the mixer's output and of the target; the parameters are one batch element's.
-/
module

public import proofs.«01_k».proof.Proof.Lift

@[expose] public section

noncomputable section

namespace Cert.Mlp

open Cert.Lift

/-- What every token of one batch element shares: the modulation rows used here, the final gain, the two matrices. -/
structure Par where
  g1 : Fin 1024 → ℝ
  sh : Fin 1024 → ℝ
  sc : Fin 1024 → ℝ
  g2 : Fin 1024 → ℝ
  gf : Fin 1024 → ℝ
  w1 : Fin 1024 → Fin 4096 → ℝ
  w2 : Fin 4096 → Fin 1024 → ℝ

variable (p : Par) (x y t : Fin 1024 → ℝ)

/-- The residual stream after the mixer. -/
def x1 (d : Fin 1024) : ℝ := x d + p.g1 d * y d
/-- It normalised. -/
def xn (d : Fin 1024) : ℝ := x1 p x y d * rn (x1 p x y)
/-- The MLP's input. -/
def h2 (d : Fin 1024) : ℝ := xn p x y d * (1 + p.sc d) + p.sh d
/-- The hidden layer, before and after the rectifier. -/
def z (f : Fin 4096) : ℝ := ∑ d, h2 p x y d * p.w1 d f
def rl (f : Fin 4096) : ℝ := max (z p x y f) 0
/-- The squared rectifier. -/
def u (f : Fin 4096) : ℝ := rl p x y f * rl p x y f
/-- The MLP's output. -/
def y2 (d : Fin 1024) : ℝ := ∑ f, u p x y f * p.w2 f d
/-- The residual stream after the MLP. -/
def x2 (d : Fin 1024) : ℝ := x1 p x y d + p.g2 d * y2 p x y d
/-- It normalised. -/
def xf (d : Fin 1024) : ℝ := x2 p x y d * rn (x2 p x y)
/-- The prediction's error. -/
def diff (d : Fin 1024) : ℝ := xf p x y d * p.gf d - t d
/-- The loss's gradient in the prediction. -/
def dout (d : Fin 1024) : ℝ := diff p x y t d * (1 / 1024)
/-- … in the normalised stream, in the stream itself. -/
def dxf (d : Fin 1024) : ℝ := dout p x y t d * p.gf d
def dx2 (d : Fin 1024) : ℝ := normBwd (x2 p x y) (dxf p x y t) d
/-- … in the MLP's output, in the hidden layer, in the MLP's input. -/
def dy2 (d : Fin 1024) : ℝ := p.g2 d * dx2 p x y t d
def dz (f : Fin 4096) : ℝ := (∑ d, dy2 p x y t d * p.w2 f d) * (2 * rl p x y f)
def dh2 (d : Fin 1024) : ℝ := ∑ f, dz p x y t f * p.w1 d f
/-- … in the first normalised stream, in the stream after the mixer, in the mixer's output. -/
def dxn (d : Fin 1024) : ℝ := dh2 p x y t d * (1 + p.sc d)
def dx1 (d : Fin 1024) : ℝ := dx2 p x y t d + normBwd (x1 p x y) (dxn p x y t) d
def dy1 (d : Fin 1024) : ℝ := p.g1 d * dx1 p x y t d

/-- One token's contribution to the eight packed modulation rows: shift, scale, second gate, first gate, four unused. -/
def modTerm (k : Fin 8) (d : Fin 1024) : ℝ :=
  if k.val = 0 then dh2 p x y t d
  else if k.val = 1 then dh2 p x y t d * xn p x y d
  else if k.val = 2 then dx2 p x y t d * y2 p x y d
  else if k.val = 3 then dx1 p x y t d * y d
  else 0

/-- One token's contribution to the eight packed head rows: the final gain, the squared error, six unused. -/
def headTerm (k : Fin 8) (d : Fin 1024) : ℝ :=
  if k.val = 0 then dout p x y t d * xf p x y d
  else if k.val = 1 then diff p x y t d * diff p x y t d
  else 0

end Cert.Mlp
-- ==== Proof.MlpData.lean ====
/-
  The arrays the MLP block reads, as arrays of reals: what "these arrays hold that data" says, and the block's rows.
-/
module

public import proofs.«01_k».proof.Proof.MlpSpec
public import Idealize.ShloMosaic.Lib.Pointwise

@[expose] public section

noncomputable section

open Idealize.ShloMosaic

namespace Cert.Mlp

/-- The seven arguments as reals: residual stream, mixer output, target, modulation, the two matrices, the final gain. -/
structure Data where
  X : Fin 2 → Fin 4096 → Fin 1024 → ℝ
  Y : Fin 2 → Fin 4096 → Fin 1024 → ℝ
  T : Fin 2 → Fin 4096 → Fin 1024 → ℝ
  M : Fin 2 → Fin 6144 → ℝ
  W1 : Fin 1024 → Fin 4096 → ℝ
  W2 : Fin 4096 → Fin 1024 → ℝ
  G : Fin 1024 → ℝ

/-- Row `j` of the six modulation rows, at channel `d`. -/
abbrev chan (j : Fin 6) (d : Fin 1024) : Fin 6144 := ⟨j.val * 1024 + d.val, by omega⟩

/-- One batch element's parameters. -/
def Data.par (D : Data) (b : Fin 2) : Par where
  g1 d := D.M b (chan 2 d)
  sh d := D.M b (chan 3 d)
  sc d := D.M b (chan 4 d)
  g2 d := D.M b (chan 5 d)
  gf := D.G
  w1 := D.W1
  w2 := D.W2

/-- The seven argument arrays hold the data. -/
structure Holds (D : Data) (a0 a1 a2 : Vec Ideal ⟨3, ![2, 4096, 1024]⟩ .f32) (a3 : Vec Ideal ⟨2, ![2, 6144]⟩ .f32)
    (a4 : Vec Ideal ⟨3, ![1, 1024, 4096]⟩ .f32) (a5 : Vec Ideal ⟨3, ![1, 4096, 1024]⟩ .f32) (a6 : Vec Ideal ⟨1, ![1024]⟩ .f32) : Prop where
  h0 : ∀ b t d, a0 (ix3 b t d) = ((D.X b t d : ℝ) : EReal)
  h1 : ∀ b t d, a1 (ix3 b t d) = ((D.Y b t d : ℝ) : EReal)
  h2 : ∀ b t d, a2 (ix3 b t d) = ((D.T b t d : ℝ) : EReal)
  h3 : ∀ b c, a3 (ix2 b c) = ((D.M b c : ℝ) : EReal)
  h4 : ∀ d f, a4 (ix3 0 d f) = ((D.W1 d f : ℝ) : EReal)
  h5 : ∀ f d, a5 (ix3 0 f d) = ((D.W2 f d : ℝ) : EReal)
  h6 : ∀ d, a6 (ix1 d) = ((D.G d : ℝ) : EReal)

/-! ## The eight results -/

/-- The gradient in the stream after the mixer. -/
def Data.arrDx1 (D : Data) : Vec Ideal ⟨3, ![2, 4096, 1024]⟩ .f32 := fun i =>
  ((dx1 (D.par (i 0)) (D.X (i 0) (i 1)) (D.Y (i 0) (i 1)) (D.T (i 0) (i 1)) (i 2) : ℝ) : EReal)

/-- The MLP's input. -/
def Data.arrH2 (D : Data) : Vec Ideal ⟨3, ![2, 4096, 1024]⟩ .bf16 := fun i =>
  ((h2 (D.par (i 0)) (D.X (i 0) (i 1)) (D.Y (i 0) (i 1)) (i 2) : ℝ) : EReal)

/-- The gradient in the MLP's output. -/
def Data.arrDy2 (D : Data) : Vec Ideal ⟨3, ![2, 4096, 1024]⟩ .bf16 := fun i =>
  ((dy2 (D.par (i 0)) (D.X (i 0) (i 1)) (D.Y (i 0) (i 1)) (D.T (i 0) (i 1)) (i 2) : ℝ) : EReal)

/-- The squared hidden layer. -/
def Data.arrU (D : Data) : Vec Ideal ⟨3, ![2, 4096, 4096]⟩ .bf16 := fun i =>
  ((u (D.par (i 0)) (D.X (i 0) (i 1)) (D.Y (i 0) (i 1)) (i 2) : ℝ) : EReal)

/-- The gradient in the hidden layer. -/
def Data.arrDz (D : Data) : Vec Ideal ⟨3, ![2, 4096, 4096]⟩ .bf16 := fun i =>
  ((dz (D.par (i 0)) (D.X (i 0) (i 1)) (D.Y (i 0) (i 1)) (D.T (i 0) (i 1)) (i 2) : ℝ) : EReal)

/-- The gradient in the mixer's output. -/
def Data.arrDy1 (D : Data) : Vec Ideal ⟨3, ![2, 4096, 1024]⟩ .bf16 := fun i =>
  ((dy1 (D.par (i 0)) (D.X (i 0) (i 1)) (D.Y (i 0) (i 1)) (D.T (i 0) (i 1)) (i 2) : ℝ) : EReal)

/-- The packed modulation gradients of each batch element. -/
def Data.arrMod (D : Data) : Vec Ideal ⟨3, ![2, 8, 1024]⟩ .f32 := fun i =>
  ((∑ t, modTerm (D.par (i 0)) (D.X (i 0) t) (D.Y (i 0) t) (D.T (i 0) t) (i 1) (i 2) : ℝ) : EReal)

/-- The packed head rows. -/
def Data.arrHead (D : Data) : Vec Ideal ⟨2, ![8, 1024]⟩ .f32 := fun i =>
  ((∑ b, ∑ t, headTerm (D.par b) (D.X b t) (D.Y b t) (D.T b t) (i 0) (i 1) : ℝ) : EReal)

end Cert.Mlp
-- ==== Proof.Finite.lean ====
module

public import proofs.«01_k».proof.Pre_finite
public import proofs.«01_k».proof.Proof.Gen.Pre_finite
public import proofs.«01_k».proof.Proof.LiftPre
public import proofs.«01_k».proof.Proof.MlpData

@[expose] public section

/-!
# What the precondition says

Every entry of the seven arguments has an absolute value below infinity; so each is a real number, and the arguments hold
the data made of those numbers.
-/

set_option maxRecDepth 16384

noncomputable section

namespace Cert.Mlp

open Idealize.ShloMosaic Idealize.ShloMosaic.TcCoe
open Cert.Lift Cert.Pre_finite Cert.Pre_finite.Gen

/-- The data made of seven arrays' entries. -/
def Data.of (a0 a1 a2 : Vec Ideal ⟨3, ![2, 4096, 1024]⟩ .f32) (a3 : Vec Ideal ⟨2, ![2, 6144]⟩ .f32)
    (a4 : Vec Ideal ⟨3, ![1, 1024, 4096]⟩ .f32) (a5 : Vec Ideal ⟨3, ![1, 4096, 1024]⟩ .f32) (a6 : Vec Ideal ⟨1, ![1024]⟩ .f32) : Data where
  X b t d := EReal.toReal (a0 (ix3 b t d))
  Y b t d := EReal.toReal (a1 (ix3 b t d))
  T b t d := EReal.toReal (a2 (ix3 b t d))
  M b c := EReal.toReal (a3 (ix2 b c))
  W1 d f := EReal.toReal (a4 (ix3 0 d f))
  W2 f d := EReal.toReal (a5 (ix3 0 f d))
  G d := EReal.toReal (a6 (ix1 d))

theorem holds_of_finite (a0 a1 a2 : Vec Ideal ⟨3, ![2, 4096, 1024]⟩ .f32) (a3 : Vec Ideal ⟨2, ![2, 6144]⟩ .f32)
    (a4 : Vec Ideal ⟨3, ![1, 1024, 4096]⟩ .f32) (a5 : Vec Ideal ⟨3, ![1, 4096, 1024]⟩ .f32) (a6 : Vec Ideal ⟨1, ![1024]⟩ .f32)
    (h : Cert.Pre_finite.fn (F := Ideal) a0 a1 a2 a3 a4 a5 a6 = fun _ => 1#1) : Holds (Data.of a0 a1 a2 a3 a4 a5 a6) a0 a1 a2 a3 a4 a5 a6 := by
  have h := congrFun h (fun a => a.elim0)
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun _ _ _ => real_of_all a0 _ _ _ _ h0 _, fun _ _ _ => real_of_all a1 _ _ _ _ h1 _, fun _ _ _ => real_of_all a2 _ _ _ _ h2 _,
    fun _ _ => real_of_all a3 _ _ _ _ h3 _, fun _ _ => real_of_all a4 _ _ _ _ h4 _, fun _ _ => real_of_all a5 _ _ _ _ h5 _,
    fun _ => real_of_all a6 _ _ _ _ h6 _⟩

end Cert.Mlp
-- ==== Proof.MlpPay.lean ====
/-
  What the MLP kernel's printed operations compute on one block of 256 tokens: every value of the body, read at an
  index, is the coerced real the specification names.
-/
module

public import proofs.«01_k».proof.Proof.MlpSpec
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Pay

open Cert.KernelIdeal Cert.KernelIdeal.Gen Cert.Lift Cert.Mlp

/-- The hidden unit a chunk's lane is. -/
abbrev lane (k : Fin 8) (l : Fin 512) : Fin 4096 := ⟨k.val * 512 + l.val, by omega⟩

/-- The block's inputs hold these reals: the tokens' rows, the batch element's parameters. -/
structure Reads (p : Par) (X Y T : Fin 256 → Fin 1024 → ℝ) (x y t : Vec Ideal S1x256x1024 .f32)
    (g1 sh sc g2 : Vec Ideal S1x1x1024 .f32) (gf : Vec Ideal S1x1024 .f32) (w1 w2 : Vec Ideal S8x512x1024 .bf16) : Prop where
  hx : ∀ r d, x (ix3 0 r d) = ((X r d : ℝ) : EReal)
  hy : ∀ r d, y (ix3 0 r d) = ((Y r d : ℝ) : EReal)
  ht : ∀ r d, t (ix3 0 r d) = ((T r d : ℝ) : EReal)
  hg1 : ∀ d, g1 (ix3 0 0 d) = ((p.g1 d : ℝ) : EReal)
  hsh : ∀ d, sh (ix3 0 0 d) = ((p.sh d : ℝ) : EReal)
  hsc : ∀ d, sc (ix3 0 0 d) = ((p.sc d : ℝ) : EReal)
  hg2 : ∀ d, g2 (ix3 0 0 d) = ((p.g2 d : ℝ) : EReal)
  hgf : ∀ d, gf (ix2 0 d) = ((p.gf d : ℝ) : EReal)
  hw1 : ∀ k l d, w1 (ix3 k l d) = ((p.w1 d (lane k l) : ℝ) : EReal)
  hw2 : ∀ k l d, w2 (ix3 k l d) = ((p.w2 (lane k l) d : ℝ) : EReal)

variable {p : Par} {X Y T : Fin 256 → Fin 1024 → ℝ} {x y t : Vec Ideal S1x256x1024 .f32}
    {g1 sh sc g2 : Vec Ideal S1x1x1024 .f32} {gf : Vec Ideal S1x1024 .f32} {w1 w2 : Vec Ideal S8x512x1024 .bf16}
    (h : Reads p X Y T x y t g1 sh sc g2 gf w1 w2)

include h

/-! ## Forward -/

theorem x1_at (r : Fin 256) (d : Fin 1024) :
    k0_pay2 (F := Ideal) x g1 y (ix2 r d) = ((x1 p (X r) (Y r) d : ℝ) : EReal) := by
  pointwise [k0_pay2]
  simp only [h.hx, h.hy, h.hg1, ← EReal.coe_mul, ← EReal.coe_add]
  rfl

theorem rn1_at (r : Fin 256) : k0_pay6 (F := Ideal) x g1 y (ix2 r 0) = ((rn (x1 p (X r) (Y r)) : ℝ) : EReal) := by
  pointwise [k0_pay6]
  simp only [x1_at h]
  rw [ms_at, rn_at]

theorem xn_at (r : Fin 256) (d : Fin 1024) :
    k0_pay7 (F := Ideal) x g1 y (ix2 r d) = ((xn p (X r) (Y r) d : ℝ) : EReal) := by
  pointwise [k0_pay7]
  simp only [x1_at h, rn1_at h, ← EReal.coe_mul]
  rfl

theorem h2_at (r : Fin 256) (d : Fin 1024) :
    k0_pay8 (F := Ideal) x g1 y sh sc (ix2 r d) = ((h2 p (X r) (Y r) d : ℝ) : EReal) := by
  pointwise [k0_pay8, k0_pay3]
  simp only [xn_at h, h.hsh, h.hsc, ← EReal.coe_one, ← EReal.coe_mul, ← EReal.coe_add]
  rfl

theorem h2_out (r : Fin 256) (d : Fin 1024) :
    k0_pay9 (F := Ideal) (k0_pay8 x g1 y sh sc) (ix3 0 r d) = ((h2 p (X r) (Y r) d : ℝ) : EReal) := by
  pointwise [k0_pay9]
  exact h2_at h r d

/-- One chunk of the rectified hidden layer, from its 512 rows of the first matrix. -/
theorem rl_at (k : Fin 8) (w : Vec Ideal S1x512x1024 .bf16) (hw : ∀ l d, w (ix3 0 l d) = w1 (ix3 k l d)) (r : Fin 256) (l : Fin 512) :
    k0_pay11 (F := Ideal) (k0_pay8 x g1 y sh sc) w (ix2 r l) = ((rl p (X r) (Y r) (lane k l) : ℝ) : EReal) := by
  pointwise [k0_pay11, k0_pay10]
  simp only [h2_at h, hw, h.hw1, ← EReal.coe_mul, sum_coe, max_coe_zero]
  rfl

/-- … and squared. -/
theorem u_at (k : Fin 8) (w : Vec Ideal S1x512x1024 .bf16) (hw : ∀ l d, w (ix3 0 l d) = w1 (ix3 k l d)) (r : Fin 256) (l : Fin 512) :
    k0_pay12 (F := Ideal) (k0_pay8 x g1 y sh sc) w (ix3 0 r l) = ((u p (X r) (Y r) (lane k l) : ℝ) : EReal) := by
  pointwise [k0_pay12, k0_pay10]
  simp only [h2_at h, hw, h.hw1, ← EReal.coe_mul, sum_coe, max_coe_zero]
  rfl

theorem g2_at (d : Fin 1024) : k0_pay4 (F := Ideal) g2 (ix2 0 d) = ((p.g2 d : ℝ) : EReal) := by
  pointwise [k0_pay4]
  exact h.hg2 d

theorem gf_at (d : Fin 1024) : k0_pay5 (F := Ideal) gf (ix2 0 d) = ((p.gf d : ℝ) : EReal) := by
  pointwise [k0_pay5]
  exact h.hgf d

/-! ## Over the whole squared hidden layer -/

variable {U : Vec Ideal S1x256x4096 .bf16} (hU : ∀ r f, U (ix3 0 r f) = ((u p (X r) (Y r) f : ℝ) : EReal))

include hU

theorem y2_at (r : Fin 256) (d : Fin 1024) : k0_pay35 (F := Ideal) U w2 (ix2 r d) = ((y2 p (X r) (Y r) d : ℝ) : EReal) := by
  pointwise [k0_pay35]
  simp only [hU, h.hw2, lane, Nat.div_add_mod', Fin.eta, ← EReal.coe_mul, sum_coe]
  rfl

theorem x2_at (r : Fin 256) (d : Fin 1024) :
    k0_pay36 (F := Ideal) (k0_pay2 x g1 y) (k0_pay4 g2) U w2 (ix2 r d) = ((x2 p (X r) (Y r) d : ℝ) : EReal) := by
  pointwise [k0_pay36]
  simp only [x1_at h, y2_at h hU, g2_at h, ← EReal.coe_mul, ← EReal.coe_add]
  rfl

theorem rn2_at (r : Fin 256) :
    k0_pay37 (F := Ideal) (k0_pay2 x g1 y) (k0_pay4 g2) U w2 (ix2 r 0) = ((rn (x2 p (X r) (Y r)) : ℝ) : EReal) := by
  pointwise [k0_pay37]
  simp only [x2_at h hU]
  rw [ms_at, rn_at]

theorem xf_at (r : Fin 256) (d : Fin 1024) :
    k0_pay38 (F := Ideal) (k0_pay2 x g1 y) (k0_pay4 g2) U w2 (ix2 r d) = ((xf p (X r) (Y r) d : ℝ) : EReal) := by
  pointwise [k0_pay38]
  simp only [x2_at h hU, rn2_at h hU, ← EReal.coe_mul]
  rfl

theorem diff_at (r : Fin 256) (d : Fin 1024) :
    k0_pay40 (F := Ideal) (k0_pay39 (k0_pay2 x g1 y) (k0_pay4 g2) (k0_pay5 gf) U w2) t (ix2 r d)
      = ((diff p (X r) (Y r) (T r) d : ℝ) : EReal) := by
  pointwise [k0_pay40, k0_pay39]
  simp only [xf_at h hU, gf_at h, h.ht, ← EReal.coe_mul, ← EReal.coe_sub]
  rfl

theorem dout_at (r : Fin 256) (d : Fin 1024) :
    k0_pay41 (F := Ideal) (k0_pay39 (k0_pay2 x g1 y) (k0_pay4 g2) (k0_pay5 gf) U w2) t (ix2 r d)
      = ((dout p (X r) (Y r) (T r) d : ℝ) : EReal) := by
  pointwise [k0_pay41]
  simp only [diff_at h hU, c_inv_1024, ← EReal.coe_mul]
  rfl

theorem head0_at (acc : Vec Ideal S1x1024 .f32) (d : Fin 1024) :
    k0_pay44 (F := Ideal) (k0_pay38 (k0_pay2 x g1 y) (k0_pay4 g2) U w2) (k0_pay39 (k0_pay2 x g1 y) (k0_pay4 g2) (k0_pay5 gf) U w2) t acc (ix2 0 d)
      = acc (ix2 0 d) + ((∑ r, dout p (X r) (Y r) (T r) d * xf p (X r) (Y r) d : ℝ) : EReal) := by
  pointwise [k0_pay44]
  simp only [dout_at h hU, xf_at h hU, ← EReal.coe_mul, sum_coe]

theorem head1_at (acc : Vec Ideal S1x1024 .f32) (d : Fin 1024) :
    k0_pay45 (F := Ideal) (k0_pay39 (k0_pay2 x g1 y) (k0_pay4 g2) (k0_pay5 gf) U w2) t acc (ix2 0 d)
      = acc (ix2 0 d) + ((∑ r, diff p (X r) (Y r) (T r) d * diff p (X r) (Y r) (T r) d : ℝ) : EReal) := by
  pointwise [k0_pay45]
  simp only [diff_at h hU, ← EReal.coe_mul, sum_coe]

/-! ## The gradient through the head -/

theorem dx2_at (r : Fin 256) (d : Fin 1024) :
    k0_pay47 (F := Ideal) (k0_pay37 (k0_pay2 x g1 y) (k0_pay4 g2) U w2)
        (k0_pay46 (k0_pay5 gf) (k0_pay38 (k0_pay2 x g1 y) (k0_pay4 g2) U w2)
          (k0_pay39 (k0_pay2 x g1 y) (k0_pay4 g2) (k0_pay5 gf) U w2) t) (ix2 r d)
      = ((dx2 p (X r) (Y r) (T r) d : ℝ) : EReal) := by
  pointwise [k0_pay47, k0_pay46]
  simp only [rn2_at h hU, dout_at h hU, xf_at h hU, gf_at h, ← EReal.coe_mul, sum_coe, div_1024, ← EReal.coe_sub]
  rfl

theorem mod2_at (acc : Vec Ideal S1x1x1024 .f32) (d : Fin 1024) :
    k0_pay48 (F := Ideal) (k0_pay35 U w2) (k0_pay37 (k0_pay2 x g1 y) (k0_pay4 g2) U w2)
        (k0_pay46 (k0_pay5 gf) (k0_pay38 (k0_pay2 x g1 y) (k0_pay4 g2) U w2)
          (k0_pay39 (k0_pay2 x g1 y) (k0_pay4 g2) (k0_pay5 gf) U w2) t) acc (ix3 0 0 d)
      = acc (ix3 0 0 d) + ((∑ r, dx2 p (X r) (Y r) (T r) d * y2 p (X r) (Y r) d : ℝ) : EReal) := by
  pointwise [k0_pay48]
  simp only [dx2_at h hU, y2_at h hU, ← EReal.coe_mul, sum_coe]

theorem dy2_at (r : Fin 256) (d : Fin 1024) :
    k0_pay49 (F := Ideal) (k0_pay4 g2) (k0_pay37 (k0_pay2 x g1 y) (k0_pay4 g2) U w2)
        (k0_pay46 (k0_pay5 gf) (k0_pay38 (k0_pay2 x g1 y) (k0_pay4 g2) U w2)
          (k0_pay39 (k0_pay2 x g1 y) (k0_pay4 g2) (k0_pay5 gf) U w2) t) (ix2 r d)
      = ((dy2 p (X r) (Y r) (T r) d : ℝ) : EReal) := by
  pointwise [k0_pay49]
  simp only [dx2_at h hU, g2_at h, ← EReal.coe_mul]
  rfl

theorem dy2_out (r : Fin 256) (d : Fin 1024) :
    k0_pay50 (F := Ideal) (k0_pay4 g2) (k0_pay37 (k0_pay2 x g1 y) (k0_pay4 g2) U w2)
        (k0_pay46 (k0_pay5 gf) (k0_pay38 (k0_pay2 x g1 y) (k0_pay4 g2) U w2)
          (k0_pay39 (k0_pay2 x g1 y) (k0_pay4 g2) (k0_pay5 gf) U w2) t) (ix3 0 r d)
      = ((dy2 p (X r) (Y r) (T r) d : ℝ) : EReal) := by
  pointwise [k0_pay50]
  exact dy2_at h hU r d

/-- One chunk of the gradient in the hidden layer, from its 512 rows of the second matrix and of the rectified layer. -/
theorem dz_at (k : Fin 8) (w : Vec Ideal S1x512x1024 .bf16) (w' : Vec Ideal S1x512x1024 .bf16)
    (hw : ∀ l d, w (ix3 0 l d) = w2 (ix3 k l d)) (hw' : ∀ l d, w' (ix3 0 l d) = w1 (ix3 k l d)) (r : Fin 256) (l : Fin 512) :
    k0_pay54 (F := Ideal) (k0_pay49 (k0_pay4 g2) (k0_pay37 (k0_pay2 x g1 y) (k0_pay4 g2) U w2)
        (k0_pay46 (k0_pay5 gf) (k0_pay38 (k0_pay2 x g1 y) (k0_pay4 g2) U w2)
          (k0_pay39 (k0_pay2 x g1 y) (k0_pay4 g2) (k0_pay5 gf) U w2) t)) w
        (k0_pay11 (k0_pay8 x g1 y sh sc) w') (ix3 0 r l)
      = ((dz p (X r) (Y r) (T r) (lane k l) : ℝ) : EReal) := by
  pointwise [k0_pay54]
  simp only [dy2_at h hU, rl_at h k w' hw', hw, h.hw2, c_two, ← EReal.coe_mul, sum_coe]
  rfl

/-! ## Over the whole gradient in the hidden layer -/

variable {Z : Vec Ideal S1x256x4096 .bf16} (hZ : ∀ r f, Z (ix3 0 r f) = ((dz p (X r) (Y r) (T r) f : ℝ) : EReal))

include hZ

omit hU in
theorem dh2_at (r : Fin 256) (d : Fin 1024) : k0_pay61 (F := Ideal) Z w1 (ix2 r d) = ((dh2 p (X r) (Y r) (T r) d : ℝ) : EReal) := by
  pointwise [k0_pay61]
  simp only [hZ, h.hw1, lane, Nat.div_add_mod', Fin.eta, ← EReal.coe_mul, sum_coe]
  rfl

omit hU in
theorem mod0_at (acc : Vec Ideal S1x1x1024 .f32) (d : Fin 1024) :
    k0_pay62 (F := Ideal) Z w1 acc (ix3 0 0 d) = acc (ix3 0 0 d) + ((∑ r, dh2 p (X r) (Y r) (T r) d : ℝ) : EReal) := by
  pointwise [k0_pay62]
  simp only [dh2_at h hZ, sum_coe]

omit hU in
theorem mod1_at (acc : Vec Ideal S1x1x1024 .f32) (d : Fin 1024) :
    k0_pay65 (F := Ideal) (k0_pay63 acc) (k0_pay64 (k0_pay7 x g1 y) Z w1) (ix3 0 0 d)
      = acc (ix3 0 0 d) + ((∑ r, dh2 p (X r) (Y r) (T r) d * xn p (X r) (Y r) d : ℝ) : EReal) := by
  pointwise [k0_pay65, k0_pay63, k0_pay64]
  simp only [dh2_at h hZ, xn_at h, ← EReal.coe_mul, sum_coe]

theorem dx1_at (r : Fin 256) (d : Fin 1024) :
    k0_pay66 (F := Ideal) (k0_pay3 sc) (k0_pay6 x g1 y) (k0_pay7 x g1 y)
        (k0_pay47 (k0_pay37 (k0_pay2 x g1 y) (k0_pay4 g2) U w2)
          (k0_pay46 (k0_pay5 gf) (k0_pay38 (k0_pay2 x g1 y) (k0_pay4 g2) U w2)
            (k0_pay39 (k0_pay2 x g1 y) (k0_pay4 g2) (k0_pay5 gf) U w2) t)) (k0_pay61 Z w1) (ix2 r d)
      = ((dx1 p (X r) (Y r) (T r) d : ℝ) : EReal) := by
  pointwise [k0_pay66, k0_pay3]
  simp only [dx2_at h hU, dh2_at h hZ, xn_at h, rn1_at h, h.hsc, ← EReal.coe_one, ← EReal.coe_mul, ← EReal.coe_add, sum_coe, div_1024,
    ← EReal.coe_sub]
  rfl

theorem dx1_out (r : Fin 256) (d : Fin 1024) :
    k0_pay67 (F := Ideal) (k0_pay3 sc) (k0_pay6 x g1 y) (k0_pay7 x g1 y)
        (k0_pay47 (k0_pay37 (k0_pay2 x g1 y) (k0_pay4 g2) U w2)
          (k0_pay46 (k0_pay5 gf) (k0_pay38 (k0_pay2 x g1 y) (k0_pay4 g2) U w2)
            (k0_pay39 (k0_pay2 x g1 y) (k0_pay4 g2) (k0_pay5 gf) U w2) t)) (k0_pay61 Z w1) (ix3 0 r d)
      = ((dx1 p (X r) (Y r) (T r) d : ℝ) : EReal) := by
  pointwise [k0_pay67]
  exact dx1_at h hU hZ r d

theorem dy1_out (r : Fin 256) (d : Fin 1024) :
    k0_pay68 (F := Ideal) (k0_pay3 sc) (k0_pay6 x g1 y) (k0_pay7 x g1 y)
        (k0_pay47 (k0_pay37 (k0_pay2 x g1 y) (k0_pay4 g2) U w2)
          (k0_pay46 (k0_pay5 gf) (k0_pay38 (k0_pay2 x g1 y) (k0_pay4 g2) U w2)
            (k0_pay39 (k0_pay2 x g1 y) (k0_pay4 g2) (k0_pay5 gf) U w2) t)) (k0_pay61 Z w1) g1 (ix3 0 r d)
      = ((dy1 p (X r) (Y r) (T r) d : ℝ) : EReal) := by
  pointwise [k0_pay68]
  simp only [dx1_at h hU hZ, h.hg1, ← EReal.coe_mul]
  rfl

theorem mod3_at (acc : Vec Ideal S1x1x1024 .f32) (d : Fin 1024) :
    k0_pay1 (F := Ideal) (k0_pay66 (k0_pay3 sc) (k0_pay6 x g1 y) (k0_pay7 x g1 y)
        (k0_pay47 (k0_pay37 (k0_pay2 x g1 y) (k0_pay4 g2) U w2)
          (k0_pay46 (k0_pay5 gf) (k0_pay38 (k0_pay2 x g1 y) (k0_pay4 g2) U w2)
            (k0_pay39 (k0_pay2 x g1 y) (k0_pay4 g2) (k0_pay5 gf) U w2) t)) (k0_pay61 Z w1)) (k0_pay69 acc) y (ix3 0 0 d)
      = acc (ix3 0 0 d) + ((∑ r, dx1 p (X r) (Y r) (T r) d * Y r d : ℝ) : EReal) := by
  pointwise [k0_pay1, k0_pay69]
  simp only [dx1_at h hU hZ, h.hy, ← EReal.coe_mul, sum_coe]

end Cert.KernelIdeal.Pay
-- ==== Proof.MlpBlk.lean ====
/-
  The MLP kernel's blocks at a grid point: the tokens' rows and the batch element's parameters.
-/
module

public import proofs.«01_k».proof.Proof.MlpData
public import proofs.«01_k».proof.Proof.MlpPay
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Mlp

open Cert.KernelIdeal Cert.KernelIdeal.Gen Cert.Lift Cert.Mlp Cert.KernelIdeal.Pay

variable (m : (ℓ : Loc nD τ sig) → Buf (Elt Ideal) ℓ)

/-- The kernel's arguments hold the data. -/
abbrev HoldsAt (D : Data) (c : Dev nD) : Prop :=
  Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The batch element and the tokens of a grid point. -/
abbrev bat (t : Fin cfg0.N) : Fin 2 := ⟨t.val / 16, Nat.div_lt_of_lt_mul t.isLt⟩
abbrev tok (t : Fin cfg0.N) (r : Fin 256) : Fin 4096 := ⟨t.val % 16 * 256 + r.val, by omega⟩

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, 0, 0] ∧ win0_4.index t = ![0, 0, 0]
    ∧ win0_5.index t = ![0, 0, 0] ∧ win0_6.index t = ![0, 0] :=
  (by decide +kernel : ∀ t : Fin grid0.N, _)

variable {m} {D : Data} {c : Dev nD} (h : HoldsAt m D c)

include h

theorem x_at (t : Fin cfg0.N) (r : Fin 256) (d : Fin 1024) :
    (iblk m c 0 t : Vec Ideal S1x256x1024 .f32) (ix3 0 r d) = ((D.X (bat t) (tok t r) d : ℝ) : EReal) := by
  rw [← h.h0]
  blk_ext! [iblk, V, idx t]

theorem y_at (t : Fin cfg0.N) (r : Fin 256) (d : Fin 1024) :
    (iblk m c 1 t : Vec Ideal S1x256x1024 .f32) (ix3 0 r d) = ((D.Y (bat t) (tok t r) d : ℝ) : EReal) := by
  rw [← h.h1]
  blk_ext! [iblk, V, idx t]

theorem t_at (t : Fin cfg0.N) (r : Fin 256) (d : Fin 1024) :
    (iblk m c 2 t : Vec Ideal S1x256x1024 .f32) (ix3 0 r d) = ((D.T (bat t) (tok t r) d : ℝ) : EReal) := by
  rw [← h.h2]
  blk_ext! [iblk, V, idx t]

theorem mod_at (t : Fin cfg0.N) (j : Fin 6) (d : Fin 1024) :
    (iblk m c 3 t : Vec Ideal S1x6x1024 .f32) (ix3 0 j d) = ((D.M (bat t) (chan j d) : ℝ) : EReal) := by
  rw [← h.h3]
  blk_ext! [iblk, V, idx t]

theorem w1_at (t : Fin cfg0.N) (k : Fin 8) (l : Fin 512) (d : Fin 1024) :
    (iblk m c 4 t : Vec Ideal S8x512x1024 .bf16) (ix3 k l d) = ((D.W1 d (lane k l) : ℝ) : EReal) := by
  rw [← h.h4]
  blk_ext! [iblk, V, idx t]

theorem w2_at (t : Fin cfg0.N) (k : Fin 8) (l : Fin 512) (d : Fin 1024) :
    (iblk m c 5 t : Vec Ideal S8x512x1024 .bf16) (ix3 k l d) = ((D.W2 (lane k l) d : ℝ) : EReal) := by
  rw [← h.h5]
  blk_ext! [iblk, V, idx t]

theorem gf_at (t : Fin cfg0.N) (d : Fin 1024) :
    (iblk m c 6 t : Vec Ideal S1x1024 .f32) (ix2 0 d) = ((D.G d : ℝ) : EReal) := by
  rw [← h.h6]
  blk_ext! [iblk, V, idx t]

/-- One modulation row of the block. -/
abbrev row (c : Dev nD) (t : Fin cfg0.N) (off : Fin 3 → ℕ)
    (inb : ∀ a : Fin S1x6x1024.rank, off a + (![1, 1, 1024] : Fin 3 → ℕ) a ≤ S1x6x1024.size a) : Vec Ideal S1x1x1024 .f32 :=
  View.ld (iblk m c 3 t : Vec Ideal S1x6x1024 .f32) (Rect.unit off ![1, 1, 1024] inb)

theorem row_at (t : Fin cfg0.N) (j : Fin 6) (inb) (d : Fin 1024) :
    row (m := m) c t ![0, j.val, 0] inb (ix3 0 0 d) = ((D.M (bat t) (chan j d) : ℝ) : EReal) := by
  refine (View.ld_unit_apply_of _ _ _ _ _ (ix3 0 j d) fun a => ?_).trans (mod_at h t j d)
  fin_cases a <;> simp

theorem reads (t : Fin cfg0.N) :
    Reads (D.par (bat t)) (fun r => D.X (bat t) (tok t r)) (fun r => D.Y (bat t) (tok t r)) (fun r => D.T (bat t) (tok t r))
      (iblk m c 0 t) (iblk m c 1 t) (iblk m c 2 t)
      (row (m := m) c t ![0, 2, 0] inb_S1x6x1024_S1x1x1024_0_2_0) (row (m := m) c t ![0, 3, 0] inb_S1x6x1024_S1x1x1024_0_3_0)
      (row (m := m) c t ![0, 4, 0] inb_S1x6x1024_S1x1x1024_0_4_0) (row (m := m) c t ![0, 5, 0] inb_S1x6x1024_S1x1x1024_0_5_0) (iblk m c 6 t) (iblk m c 4 t) (iblk m c 5 t) where
  hx := x_at h t
  hy := y_at h t
  ht := t_at h t
  hg1 := row_at h t 2 _
  hsh := row_at h t 3 _
  hsc := row_at h t 4 _
  hg2 := row_at h t 5 _
  hgf := gf_at h t
  hw1 := w1_at h t
  hw2 := w2_at h t

/-! ## Eight chunks side by side -/

omit h in
/-- A chunk of 512 rows of a packed matrix. -/
theorem chunk_at (w : Vec Ideal S8x512x1024 .bf16) (k : Fin 8) (inb) (l : Fin 512) (d : Fin 1024) :
    View.ld w (Rect.unit ![k.val, 0, 0] ![1, 512, 1024] inb) (ix3 0 l d) = w (ix3 k l d) := by
  refine View.ld_unit_apply_of _ _ _ _ _ (ix3 k l d) fun a => ?_
  fin_cases a <;> simp

omit h in
/-- Eight stores of 512 lanes each leave the whole hidden layer. -/
theorem tiles_at (Q : Fin 256 → Fin 4096 → ℝ) (P0 P1 P2 P3 P4 P5 P6 P7 : Vec Ideal S1x256x512 .bf16)
    (h0 : ∀ r l, P0 (ix3 0 r l) = ((Q r (lane 0 l) : ℝ) : EReal)) (h1 : ∀ r l, P1 (ix3 0 r l) = ((Q r (lane 1 l) : ℝ) : EReal))
    (h2 : ∀ r l, P2 (ix3 0 r l) = ((Q r (lane 2 l) : ℝ) : EReal)) (h3 : ∀ r l, P3 (ix3 0 r l) = ((Q r (lane 3 l) : ℝ) : EReal))
    (h4 : ∀ r l, P4 (ix3 0 r l) = ((Q r (lane 4 l) : ℝ) : EReal)) (h5 : ∀ r l, P5 (ix3 0 r l) = ((Q r (lane 5 l) : ℝ) : EReal))
    (h6 : ∀ r l, P6 (ix3 0 r l) = ((Q r (lane 6 l) : ℝ) : EReal)) (h7 : ∀ r l, P7 (ix3 0 r l) = ((Q r (lane 7 l) : ℝ) : EReal))
    (r : Fin 256) (f : Fin 4096) :
    View.canon (Val := Elt Ideal) (s := S1x256x4096) (e := .bf16)
      [⟨Rect.unit ![0, 0, 3584] ![1, 256, 512] inb_S1x256x4096_S1x256x512_0_0_3584, P7⟩,
       ⟨Rect.unit ![0, 0, 3072] ![1, 256, 512] inb_S1x256x4096_S1x256x512_0_0_3072, P6⟩,
       ⟨Rect.unit ![0, 0, 2560] ![1, 256, 512] inb_S1x256x4096_S1x256x512_0_0_2560, P5⟩,
       ⟨Rect.unit ![0, 0, 2048] ![1, 256, 512] inb_S1x256x4096_S1x256x512_0_0_2048, P4⟩,
       ⟨Rect.unit ![0, 0, 1536] ![1, 256, 512] inb_S1x256x4096_S1x256x512_0_0_1536, P3⟩,
       ⟨Rect.unit ![0, 0, 1024] ![1, 256, 512] inb_S1x256x4096_S1x256x512_0_0_1024, P2⟩,
       ⟨Rect.unit ![0, 0, 512] ![1, 256, 512] inb_S1x256x4096_S1x256x512_0_0_512, P1⟩,
       ⟨Rect.unit ![0, 0, 0] ![1, 256, 512] inb_S1x256x4096_S1x256x512_0_0_0, P0⟩] (ix3 0 r f)
      = ((Q r f : ℝ) : EReal) := by
  have key (P : Vec Ideal S1x256x512 .bf16) (k : Fin 8) (hP : ∀ r l, P (ix3 0 r l) = ((Q r (lane k l) : ℝ) : EReal))
      (x : S1x256x512.Idx) (e1 : r.val = (x 1).val) (e2 : f.val = k.val * 512 + (x 2).val) : P x = ((Q r f : ℝ) : EReal) := by
    obtain ⟨l, hl⟩ : ∃ l : Fin 512, l = x 2 := ⟨_, rfl⟩
    have hx : x = ix3 0 r l := by
      funext a
      fin_cases a
      · exact Subsingleton.elim (α := Fin 1) _ _
      · exact Fin.ext e1.symm
      · exact hl.symm
    rw [hx, hP]
    exact congrArg (fun f => ((Q r f : ℝ) : EReal)) (Fin.ext (by rw [e2, ← hl]))
  canon_tiles x hx
  exacts [key P7 7 h7 x hx1 hx2, key P6 6 h6 x hx1 hx2, key P5 5 h5 x hx1 hx2, key P4 4 h4 x hx1 hx2, key P3 3 h3 x hx1 hx2,
    key P2 2 h2 x hx1 hx2, key P1 1 h1 x hx1 hx2, key P0 0 h0 x hx1 (hx2.trans (Nat.zero_add _).symm)]

omit h in
/-- Reading the whole buffer back is reading what the stores left. -/
theorem whole_at (Q : Fin 256 → Fin 4096 → ℝ) {κ sp} (v : View sig κ sp S1x256x4096 .bf16) (L : List (View.Piece (Elt Ideal) S1x256x4096 .bf16))
    (hL : ∀ r f, View.canon L (ix3 0 r f) = ((Q r f : ℝ) : EReal)) (inb) (r : Fin 256) (f : Fin 4096) :
    (v.readCov L (Rect.unit (s := S1x256x4096) ![0, 0, 0] ![1, 256, 4096] inb).toLoadRect : Vec Ideal S1x256x4096 .bf16) (ix3 0 r f) = ((Q r f : ℝ) : EReal) := by
  rw [View.readCov_eq_canon', ← hL]
  refine congrArg (View.canon L) (funext fun a => Fin.ext ?_)
  fin_cases a <;> simp [LoadRect.idx, Rect.unit, Rect.toLoadRect]

end Cert.KernelIdeal.Mlp
-- ==== Proof.MlpOut.lean ====
/-
  What the MLP kernel leaves in its eight result blocks at a grid point.
-/
module

public import proofs.«01_k».proof.Proof.MlpBlk

@[expose] public section

set_option maxRecDepth 16384

noncomputable section

open Idealize.ShloMosaic Idealize.ShloMosaic.TcCoe Idealize.SL.Sem
open Idealize.ShloMosaic.Pipeline (Dat)

namespace Cert.KernelIdeal.Mlp

open Cert.KernelIdeal Cert.KernelIdeal.Gen Cert.Lift Cert.Mlp Cert.KernelIdeal.Pay

variable {m : (ℓ : Loc nD τ sig) → Buf (Elt Ideal) ℓ} {D : Data} {c : Dev nD}

section terms

variable (m) (c) (t : Fin cfg0.N)

/-- The MLP's input at a point, from the point's blocks. -/
abbrev hid : Vec Ideal S256x1024 .bf16 :=
  k0_pay8 (iblk m c 0 t) (row (m := m) c t ![0, 2, 0] inb_S1x6x1024_S1x1x1024_0_2_0) (iblk m c 1 t)
    (row (m := m) c t ![0, 3, 0] inb_S1x6x1024_S1x1x1024_0_3_0) (row (m := m) c t ![0, 4, 0] inb_S1x6x1024_S1x1x1024_0_4_0)

/-- The squared hidden layer as the body stores it, the eight chunks. -/
abbrev uL : List (View.Piece (Elt Ideal) S1x256x4096 .bf16) :=
  [⟨Rect.unit ![0, 0, 3584] ![1, 256, 512] inb_S1x256x4096_S1x256x512_0_0_3584, k0_pay12 (hid m c t) (View.ld (iblk m c 4 t) (Rect.unit ![7, 0, 0] ![1, 512, 1024] inb_S8x512x1024_S1x512x1024_7_0_0))⟩,
   ⟨Rect.unit ![0, 0, 3072] ![1, 256, 512] inb_S1x256x4096_S1x256x512_0_0_3072, k0_pay12 (hid m c t) (View.ld (iblk m c 4 t) (Rect.unit ![6, 0, 0] ![1, 512, 1024] inb_S8x512x1024_S1x512x1024_6_0_0))⟩,
   ⟨Rect.unit ![0, 0, 2560] ![1, 256, 512] inb_S1x256x4096_S1x256x512_0_0_2560, k0_pay12 (hid m c t) (View.ld (iblk m c 4 t) (Rect.unit ![5, 0, 0] ![1, 512, 1024] inb_S8x512x1024_S1x512x1024_5_0_0))⟩,
   ⟨Rect.unit ![0, 0, 2048] ![1, 256, 512] inb_S1x256x4096_S1x256x512_0_0_2048, k0_pay12 (hid m c t) (View.ld (iblk m c 4 t) (Rect.unit ![4, 0, 0] ![1, 512, 1024] inb_S8x512x1024_S1x512x1024_4_0_0))⟩,
   ⟨Rect.unit ![0, 0, 1536] ![1, 256, 512] inb_S1x256x4096_S1x256x512_0_0_1536, k0_pay12 (hid m c t) (View.ld (iblk m c 4 t) (Rect.unit ![3, 0, 0] ![1, 512, 1024] inb_S8x512x1024_S1x512x1024_3_0_0))⟩,
   ⟨Rect.unit ![0, 0, 1024] ![1, 256, 512] inb_S1x256x4096_S1x256x512_0_0_1024, k0_pay12 (hid m c t) (View.ld (iblk m c 4 t) (Rect.unit ![2, 0, 0] ![1, 512, 1024] inb_S8x512x1024_S1x512x1024_2_0_0))⟩,
   ⟨Rect.unit ![0, 0, 512] ![1, 256, 512] inb_S1x256x4096_S1x256x512_0_0_512, k0_pay12 (hid m c t) (View.ld (iblk m c 4 t) (Rect.unit ![1, 0, 0] ![1, 512, 1024] inb_S8x512x1024_S1x512x1024_1_0_0))⟩,
   ⟨Rect.unit ![0, 0, 0] ![1, 256, 512] inb_S1x256x4096_S1x256x512_0_0_0, k0_pay12 (hid m c t) (View.ld (iblk m c 4 t) (Rect.unit ![0, 0, 0] ![1, 512, 1024] inb_S8x512x1024_S1x512x1024_0_0_0))⟩]

/-- The gradient in the MLP's output, from the point's blocks and the squared hidden layer `U`. -/
abbrev dy2v (U : Vec Ideal S1x256x4096 .bf16) : Vec Ideal S256x1024 .bf16 :=
  k0_pay49 (k0_pay4 (row (m := m) c t ![0, 5, 0] inb_S1x6x1024_S1x1x1024_0_5_0))
    (k0_pay37 (k0_pay2 (iblk m c 0 t) (row (m := m) c t ![0, 2, 0] inb_S1x6x1024_S1x1x1024_0_2_0) (iblk m c 1 t))
      (k0_pay4 (row (m := m) c t ![0, 5, 0] inb_S1x6x1024_S1x1x1024_0_5_0)) U (iblk m c 5 t))
    (k0_pay46 (k0_pay5 (iblk m c 6 t))
      (k0_pay38 (k0_pay2 (iblk m c 0 t) (row (m := m) c t ![0, 2, 0] inb_S1x6x1024_S1x1x1024_0_2_0) (iblk m c 1 t))
        (k0_pay4 (row (m := m) c t ![0, 5, 0] inb_S1x6x1024_S1x1x1024_0_5_0)) U (iblk m c 5 t))
      (k0_pay39 (k0_pay2 (iblk m c 0 t) (row (m := m) c t ![0, 2, 0] inb_S1x6x1024_S1x1x1024_0_2_0) (iblk m c 1 t))
        (k0_pay4 (row (m := m) c t ![0, 5, 0] inb_S1x6x1024_S1x1x1024_0_5_0)) (k0_pay5 (iblk m c 6 t)) U (iblk m c 5 t))
      (iblk m c 2 t))

/-- The gradient in the hidden layer as the body stores it, the eight chunks. -/
abbrev dzL (U : Vec Ideal S1x256x4096 .bf16) : List (View.Piece (Elt Ideal) S1x256x4096 .bf16) :=
  [⟨Rect.unit ![0, 0, 3584] ![1, 256, 512] inb_S1x256x4096_S1x256x512_0_0_3584, k0_pay54 (dy2v m c t U) (View.ld (iblk m c 5 t) (Rect.unit ![7, 0, 0] ![1, 512, 1024] inb_S8x512x1024_S1x512x1024_7_0_0))
     (k0_pay11 (hid m c t) (View.ld (iblk m c 4 t) (Rect.unit ![7, 0, 0] ![1, 512, 1024] inb_S8x512x1024_S1x512x1024_7_0_0)))⟩,
   ⟨Rect.unit ![0, 0, 3072] ![1, 256, 512] inb_S1x256x4096_S1x256x512_0_0_3072, k0_pay54 (dy2v m c t U) (View.ld (iblk m c 5 t) (Rect.unit ![6, 0, 0] ![1, 512, 1024] inb_S8x512x1024_S1x512x1024_6_0_0))
     (k0_pay11 (hid m c t) (View.ld (iblk m c 4 t) (Rect.unit ![6, 0, 0] ![1, 512, 1024] inb_S8x512x1024_S1x512x1024_6_0_0)))⟩,
   ⟨Rect.unit ![0, 0, 2560] ![1, 256, 512] inb_S1x256x4096_S1x256x512_0_0_2560, k0_pay54 (dy2v m c t U) (View.ld (iblk m c 5 t) (Rect.unit ![5, 0, 0] ![1, 512, 1024] inb_S8x512x1024_S1x512x1024_5_0_0))
     (k0_pay11 (hid m c t) (View.ld (iblk m c 4 t) (Rect.unit ![5, 0, 0] ![1, 512, 1024] inb_S8x512x1024_S1x512x1024_5_0_0)))⟩,
   ⟨Rect.unit ![0, 0, 2048] ![1, 256, 512] inb_S1x256x4096_S1x256x512_0_0_2048, k0_pay54 (dy2v m c t U) (View.ld (iblk m c 5 t) (Rect.unit ![4, 0, 0] ![1, 512, 1024] inb_S8x512x1024_S1x512x1024_4_0_0))
     (k0_pay11 (hid m c t) (View.ld (iblk m c 4 t) (Rect.unit ![4, 0, 0] ![1, 512, 1024] inb_S8x512x1024_S1x512x1024_4_0_0)))⟩,
   ⟨Rect.unit ![0, 0, 1536] ![1, 256, 512] inb_S1x256x4096_S1x256x512_0_0_1536, k0_pay54 (dy2v m c t U) (View.ld (iblk m c 5 t) (Rect.unit ![3, 0, 0] ![1, 512, 1024] inb_S8x512x1024_S1x512x1024_3_0_0))
     (k0_pay11 (hid m c t) (View.ld (iblk m c 4 t) (Rect.unit ![3, 0, 0] ![1, 512, 1024] inb_S8x512x1024_S1x512x1024_3_0_0)))⟩,
   ⟨Rect.unit ![0, 0, 1024] ![1, 256, 512] inb_S1x256x4096_S1x256x512_0_0_1024, k0_pay54 (dy2v m c t U) (View.ld (iblk m c 5 t) (Rect.unit ![2, 0, 0] ![1, 512, 1024] inb_S8x512x1024_S1x512x1024_2_0_0))
     (k0_pay11 (hid m c t) (View.ld (iblk m c 4 t) (Rect.unit ![2, 0, 0] ![1, 512, 1024] inb_S8x512x1024_S1x512x1024_2_0_0)))⟩,
   ⟨Rect.unit ![0, 0, 512] ![1, 256, 512] inb_S1x256x4096_S1x256x512_0_0_512, k0_pay54 (dy2v m c t U) (View.ld (iblk m c 5 t) (Rect.unit ![1, 0, 0] ![1, 512, 1024] inb_S8x512x1024_S1x512x1024_1_0_0))
     (k0_pay11 (hid m c t) (View.ld (iblk m c 4 t) (Rect.unit ![1, 0, 0] ![1, 512, 1024] inb_S8x512x1024_S1x512x1024_1_0_0)))⟩,
   ⟨Rect.unit ![0, 0, 0] ![1, 256, 512] inb_S1x256x4096_S1x256x512_0_0_0, k0_pay54 (dy2v m c t U) (View.ld (iblk m c 5 t) (Rect.unit ![0, 0, 0] ![1, 512, 1024] inb_S8x512x1024_S1x512x1024_0_0_0))
     (k0_pay11 (hid m c t) (View.ld (iblk m c 4 t) (Rect.unit ![0, 0, 0] ![1, 512, 1024] inb_S8x512x1024_S1x512x1024_0_0_0)))⟩]

end terms

variable (h : HoldsAt m D c) (t : Fin cfg0.N)

include h

theorem u_tiles (r : Fin 256) (f : Fin 4096) :
    View.canon (uL m c t) (ix3 0 r f) = ((u (D.par (bat t)) (D.X (bat t) (tok t r)) (D.Y (bat t) (tok t r)) f : ℝ) : EReal) :=
  have hk (k : Fin 8) (inb) := u_at (reads h t) k (View.ld (iblk m c 4 t) (Rect.unit ![k.val, 0, 0] ![1, 512, 1024] inb)) (chunk_at _ k inb)
  tiles_at (fun r f => u (D.par (bat t)) (D.X (bat t) (tok t r)) (D.Y (bat t) (tok t r)) f) _ _ _ _ _ _ _ _
    (hk 0 _) (hk 1 _) (hk 2 _) (hk 3 _) (hk 4 _) (hk 5 _) (hk 6 _) (hk 7 _) r f

/-- The squared hidden layer read back. -/
theorem u_back {κ sp} (v : View sig κ sp S1x256x4096 .bf16) (r : Fin 256) (f : Fin 4096) :
    (v.readCov (uL m c t) (Rect.unit (s := S1x256x4096) ![0, 0, 0] ![1, 256, 4096] inb_S1x256x4096_S1x256x4096_0_0_0).toLoadRect
        : Vec Ideal S1x256x4096 .bf16) (ix3 0 r f)
      = ((u (D.par (bat t)) (D.X (bat t) (tok t r)) (D.Y (bat t) (tok t r)) f : ℝ) : EReal) :=
  whole_at (fun r f => u (D.par (bat t)) (D.X (bat t) (tok t r)) (D.Y (bat t) (tok t r)) f) v _ (u_tiles h t) _ r f

section overU

variable {U : Vec Ideal S1x256x4096 .bf16}
  (hU : ∀ r f, U (ix3 0 r f) = ((u (D.par (bat t)) (D.X (bat t) (tok t r)) (D.Y (bat t) (tok t r)) f : ℝ) : EReal))

include hU

theorem dz_tiles (r : Fin 256) (f : Fin 4096) :
    View.canon (dzL m c t U) (ix3 0 r f)
      = ((dz (D.par (bat t)) (D.X (bat t) (tok t r)) (D.Y (bat t) (tok t r)) (D.T (bat t) (tok t r)) f : ℝ) : EReal) :=
  have hk (k : Fin 8) (inb inb') := dz_at (reads h t) hU k (View.ld (iblk m c 5 t) (Rect.unit ![k.val, 0, 0] ![1, 512, 1024] inb))
    (View.ld (iblk m c 4 t) (Rect.unit ![k.val, 0, 0] ![1, 512, 1024] inb')) (chunk_at _ k inb) (chunk_at _ k inb')
  tiles_at (fun r f => dz (D.par (bat t)) (D.X (bat t) (tok t r)) (D.Y (bat t) (tok t r)) (D.T (bat t) (tok t r)) f) _ _ _ _ _ _ _ _
    (hk 0 _ _) (hk 1 _ _) (hk 2 _ _) (hk 3 _ _) (hk 4 _ _) (hk 5 _ _) (hk 6 _ _) (hk 7 _ _) r f

/-- The gradient in the hidden layer read back. -/
theorem dz_back {κ sp} (v : View sig κ sp S1x256x4096 .bf16) (r : Fin 256) (f : Fin 4096) :
    (v.readCov (dzL m c t U) (Rect.unit (s := S1x256x4096) ![0, 0, 0] ![1, 256, 4096] inb_S1x256x4096_S1x256x4096_0_0_0).toLoadRect
        : Vec Ideal S1x256x4096 .bf16) (ix3 0 r f)
      = ((dz (D.par (bat t)) (D.X (bat t) (tok t r)) (D.Y (bat t) (tok t r)) (D.T (bat t) (tok t r)) f : ℝ) : EReal) :=
  whole_at (fun r f => dz (D.par (bat t)) (D.X (bat t) (tok t r)) (D.Y (bat t) (tok t r)) (D.T (bat t) (tok t r)) f) v _
    (dz_tiles h t hU) _ r f

end overU

/-! ## The blocks every point writes afresh -/

omit h in
/-- The three cases of a point: the first of the grid, within a batch element, the first of the second batch element. -/
theorem cases : (t.val % 32 = 0 ∧ t.val % 16 = 0) ∨ (¬t.val % 32 = 0 ∧ ¬t.val % 16 = 0) ∨ (¬t.val % 32 = 0 ∧ t.val % 16 = 0) := by
  omega

/-- The MLP's input. -/
theorem h2_pt (r : Fin 256) (d : Fin 1024) :
    (outsAt0 m c t.val t.isLt).2.1 (ix3 0 r d)
      = ((h2 (D.par (bat t)) (D.X (bat t) (tok t r)) (D.Y (bat t) (tok t r)) d : ℝ) : EReal) := by
  obtain ⟨h0, h1⟩ | ⟨h0, h1⟩ | ⟨h0, h1⟩ := cases t <;>
    first | rw [outsAt0_A m c t h0 h1] | rw [outsAt0_B m c t h0 h1] | rw [outsAt0_C m c t h0 h1]
  all_goals
    frame_open
    simp (disch := decide) only [↓ View.readCov_skip, ↓ View.readCov_cons_toLoadRect, ↓ View.readCov_fill]
    frame_out
    exact h2_out (reads h t) r d

/-- The squared hidden layer. -/
theorem u_pt (r : Fin 256) (f : Fin 4096) :
    (outsAt0 m c t.val t.isLt).2.2.2.1 (ix3 0 r f)
      = ((u (D.par (bat t)) (D.X (bat t) (tok t r)) (D.Y (bat t) (tok t r)) f : ℝ) : EReal) := by
  obtain ⟨h0, h1⟩ | ⟨h0, h1⟩ | ⟨h0, h1⟩ := cases t <;>
    first | rw [outsAt0_A m c t h0 h1] | rw [outsAt0_B m c t h0 h1] | rw [outsAt0_C m c t h0 h1]
  all_goals
    frame_open
    simp (disch := decide) only [↓ View.readCov_skip, ↓ View.readCov_cons_toLoadRect, ↓ View.readCov_fill]
    frame_out
    exact u_tiles h t r f

/-- The gradient in the MLP's output. -/
theorem dy2_pt (r : Fin 256) (d : Fin 1024) :
    (outsAt0 m c t.val t.isLt).2.2.1 (ix3 0 r d)
      = ((dy2 (D.par (bat t)) (D.X (bat t) (tok t r)) (D.Y (bat t) (tok t r)) (D.T (bat t) (tok t r)) d : ℝ) : EReal) := by
  obtain ⟨h0, h1⟩ | ⟨h0, h1⟩ | ⟨h0, h1⟩ := cases t <;>
    first | rw [outsAt0_A m c t h0 h1] | rw [outsAt0_B m c t h0 h1] | rw [outsAt0_C m c t h0 h1]
  all_goals
    frame_open
    simp (disch := decide) only [↓ View.readCov_skip, ↓ View.readCov_cons_toLoadRect, ↓ View.readCov_fill]
    frame_out
    exact dy2_out (reads h t) (u_back h t _) r d

/-- The gradient in the hidden layer. -/
theorem dz_pt (r : Fin 256) (f : Fin 4096) :
    (outsAt0 m c t.val t.isLt).2.2.2.2.1 (ix3 0 r f)
      = ((dz (D.par (bat t)) (D.X (bat t) (tok t r)) (D.Y (bat t) (tok t r)) (D.T (bat t) (tok t r)) f : ℝ) : EReal) := by
  obtain ⟨h0, h1⟩ | ⟨h0, h1⟩ | ⟨h0, h1⟩ := cases t <;>
    first | rw [outsAt0_A m c t h0 h1] | rw [outsAt0_B m c t h0 h1] | rw [outsAt0_C m c t h0 h1]
  all_goals
    frame_open
    simp (disch := decide) only [↓ View.readCov_skip, ↓ View.readCov_cons_toLoadRect, ↓ View.readCov_fill]
    frame_out
    exact dz_tiles h t (u_back h t _) r f

/-- The gradient in the stream after the mixer. -/
theorem dx1_pt (r : Fin 256) (d : Fin 1024) :
    (outsAt0 m c t.val t.isLt).1 (ix3 0 r d)
      = ((dx1 (D.par (bat t)) (D.X (bat t) (tok t r)) (D.Y (bat t) (tok t r)) (D.T (bat t) (tok t r)) d : ℝ) : EReal) := by
  obtain ⟨h0, h1⟩ | ⟨h0, h1⟩ | ⟨h0, h1⟩ := cases t <;>
    first | rw [outsAt0_A m c t h0 h1] | rw [outsAt0_B m c t h0 h1] | rw [outsAt0_C m c t h0 h1]
  all_goals
    frame_open
    simp (disch := decide) only [↓ View.readCov_skip, ↓ View.readCov_cons_toLoadRect, ↓ View.readCov_fill]
    frame_out
    exact dx1_out (reads h t) (u_back h t _) (dz_back h t (u_back h t _) _) r d

/-- The gradient in the mixer's output. -/
theorem dy1_pt (r : Fin 256) (d : Fin 1024) :
    (outsAt0 m c t.val t.isLt).2.2.2.2.2.2.2 (ix3 0 r d)
      = ((dy1 (D.par (bat t)) (D.X (bat t) (tok t r)) (D.Y (bat t) (tok t r)) (D.T (bat t) (tok t r)) d : ℝ) : EReal) := by
  obtain ⟨h0, h1⟩ | ⟨h0, h1⟩ | ⟨h0, h1⟩ := cases t <;>
    first | rw [outsAt0_A m c t h0 h1] | rw [outsAt0_B m c t h0 h1] | rw [outsAt0_C m c t h0 h1]
  all_goals
    frame_open
    simp (disch := decide) only [↓ View.readCov_skip, ↓ View.readCov_cons_toLoadRect, ↓ View.readCov_fill]
    frame_out
    exact dy1_out (reads h t) (u_back h t _) (dz_back h t (u_back h t _) _) r d

end Cert.KernelIdeal.Mlp
-- ==== Proof.MlpAcc.lean ====
module

public import proofs.«01_k».proof.Proof.MlpOut
public import Idealize.ShloMosaic.Lib.WritesUnit

@[expose] public section

/-!
# The two blocks a point adds to

The packed modulation block (rows of column sums over the tokens of a batch element) and the packed head block (rows of
column sums over all tokens) are zeroed at the first point of their run and added to at every point. Here: what one
point adds, and the sums over a run.
-/

set_option maxRecDepth 16384

noncomputable section

namespace Cert.KernelIdeal.Mlp

open Idealize.ShloMosaic Idealize.ShloMosaic.TcCoe Idealize.SL.Sem
open Idealize.ShloMosaic.Pipeline (Dat)
open Cert.KernelIdeal Cert.KernelIdeal.Gen Cert.KernelIdeal.Pay
open Cert.Mlp

variable {m : (ℓ : Loc nD τ sig) → Buf (Elt Ideal) ℓ} {D : Data} {c : Dev nD}

/-! ## Reading a block of rows stored one by one -/

section rows

variable {κ : Kind} {sp : Space}

theorem mod_row {o : ℕ} (v : View sig κ sp S1x8x1024 .f32) (f : v.ty.Contents (Elt Ideal))
    (inb : ∀ a : Fin S1x8x1024.rank, (![0, o, 0] : Fin 3 → ℕ) a + (![1, 1, 1024] : Fin 3 → ℕ) a ≤ S1x8x1024.size a)
    (P : Vec Ideal S1x1x1024 .f32) (L : List (View.Piece (Elt Ideal) S1x8x1024 .f32)) (k : Fin 8) (d : Fin 1024) :
    v.read (Elt Ideal) (v.writes (Elt Ideal) f (⟨Rect.unit ![0, o, 0] ![1, 1, 1024] inb, P⟩ :: L)) (ix3 0 k d)
      = if k.val = o then P (ix3 0 0 d) else v.read (Elt Ideal) (v.writes (Elt Ideal) f L) (ix3 0 k d) := by
  by_cases hk : k.val = o
  · rw [if_pos hk]
    refine View.read_writes_cons_unit_of_mem v f inb P L (ix3 0 k d) (ix3 0 0 d) rfl fun a => ?_
    fin_cases a <;> simp [hk]
  · rw [if_neg hk]
    exact View.read_writes_cons_unit_of_not_mem v f inb P L (ix3 0 k d) rfl 1 (by
      show k.val < o ∨ o + 1 ≤ k.val
      omega)

theorem mod_ld {o : ℕ} (B : Vec Ideal S1x8x1024 .f32)
    (inb : ∀ a : Fin S1x8x1024.rank, (![0, o, 0] : Fin 3 → ℕ) a + (![1, 1, 1024] : Fin 3 → ℕ) a ≤ S1x8x1024.size a)
    (k : Fin 8) (hk : k.val = o) (d : Fin 1024) :
    (View.ld B (Rect.unit ![0, o, 0] ![1, 1, 1024] inb) : Vec Ideal S1x1x1024 .f32) (ix3 0 0 d) = B (ix3 0 k d) :=
  View.ld_unit_apply_of _ _ _ _ _ (ix3 0 k d) fun a => by fin_cases a <;> simp [hk]

/-- Four rows stored over a block, each the old row and a term: the block and the terms. -/
theorem mod_rows (v : View sig κ sp S1x8x1024 .f32) (f : v.ty.Contents (Elt Ideal))
    (B : Vec Ideal S1x8x1024 .f32) (g : Fin 8 → Fin 1024 → ℝ) (P0 P1 P2 P3 : Vec Ideal S1x1x1024 .f32)
    (L : List (View.Piece (Elt Ideal) S1x8x1024 .f32))
    (hL : ∀ k d, v.read (Elt Ideal) (v.writes (Elt Ideal) f L) (ix3 0 k d) = B (ix3 0 k d))
    (h0 : ∀ d, P0 (ix3 0 0 d) = (View.ld B (Rect.unit ![0, 0, 0] ![1, 1, 1024] inb_S1x8x1024_S1x1x1024_0_0_0)
      : Vec Ideal S1x1x1024 .f32) (ix3 0 0 d) + ((g 0 d : ℝ) : EReal))
    (h1 : ∀ d, P1 (ix3 0 0 d) = (View.ld B (Rect.unit ![0, 1, 0] ![1, 1, 1024] inb_S1x8x1024_S1x1x1024_0_1_0)
      : Vec Ideal S1x1x1024 .f32) (ix3 0 0 d) + ((g 1 d : ℝ) : EReal))
    (h2 : ∀ d, P2 (ix3 0 0 d) = (View.ld B (Rect.unit ![0, 2, 0] ![1, 1, 1024] inb_S1x8x1024_S1x1x1024_0_2_0)
      : Vec Ideal S1x1x1024 .f32) (ix3 0 0 d) + ((g 2 d : ℝ) : EReal))
    (h3 : ∀ d, P3 (ix3 0 0 d) = (View.ld B (Rect.unit ![0, 3, 0] ![1, 1, 1024] inb_S1x8x1024_S1x1x1024_0_3_0)
      : Vec Ideal S1x1x1024 .f32) (ix3 0 0 d) + ((g 3 d : ℝ) : EReal))
    (hg : ∀ k d, 4 ≤ k.val → g k d = 0) (k : Fin 8) (d : Fin 1024) :
    v.read (Elt Ideal) (v.writes (Elt Ideal) f
        (⟨Rect.unit ![0, 3, 0] ![1, 1, 1024] inb_S1x8x1024_S1x1x1024_0_3_0, P3⟩
          :: ⟨Rect.unit ![0, 1, 0] ![1, 1, 1024] inb_S1x8x1024_S1x1x1024_0_1_0, P1⟩
          :: ⟨Rect.unit ![0, 0, 0] ![1, 1, 1024] inb_S1x8x1024_S1x1x1024_0_0_0, P0⟩
          :: ⟨Rect.unit ![0, 2, 0] ![1, 1, 1024] inb_S1x8x1024_S1x1x1024_0_2_0, P2⟩ :: L)) (ix3 0 k d)
      = B (ix3 0 k d) + ((g k d : ℝ) : EReal) := by
  rw [mod_row, mod_row, mod_row, mod_row]
  split_ifs with e3 e1 e0 e2
  · rw [h3, mod_ld B _ k e3, show k = 3 from Fin.ext e3]
  · rw [h1, mod_ld B _ k e1, show k = 1 from Fin.ext e1]
  · rw [h0, mod_ld B _ k e0, show k = 0 from Fin.ext e0]
  · rw [h2, mod_ld B _ k e2, show k = 2 from Fin.ext e2]
  · rw [hL, hg k d (by omega), EReal.coe_zero]
    exact (add_zero _).symm

theorem head_row {o : ℕ} (v : View sig κ sp S8x1024 .f32) (f : v.ty.Contents (Elt Ideal))
    (inb : ∀ a : Fin S8x1024.rank, (![o, 0] : Fin 2 → ℕ) a + (![1, 1024] : Fin 2 → ℕ) a ≤ S8x1024.size a)
    (P : Vec Ideal S1x1024 .f32) (L : List (View.Piece (Elt Ideal) S8x1024 .f32)) (k : Fin 8) (d : Fin 1024) :
    v.read (Elt Ideal) (v.writes (Elt Ideal) f (⟨Rect.unit ![o, 0] ![1, 1024] inb, P⟩ :: L)) (ix2 k d)
      = if k.val = o then P (ix2 0 d) else v.read (Elt Ideal) (v.writes (Elt Ideal) f L) (ix2 k d) := by
  by_cases hk : k.val = o
  · rw [if_pos hk]
    refine View.read_writes_cons_unit_of_mem v f inb P L (ix2 k d) (ix2 0 d) rfl fun a => ?_
    fin_cases a <;> simp [hk]
  · rw [if_neg hk]
    exact View.read_writes_cons_unit_of_not_mem v f inb P L (ix2 k d) rfl 0 (by
      show k.val < o ∨ o + 1 ≤ k.val
      omega)

theorem head_ld {o : ℕ} (B : Vec Ideal S8x1024 .f32)
    (inb : ∀ a : Fin S8x1024.rank, (![o, 0] : Fin 2 → ℕ) a + (![1, 1024] : Fin 2 → ℕ) a ≤ S8x1024.size a)
    (k : Fin 8) (hk : k.val = o) (d : Fin 1024) :
    (View.ld B (Rect.unit ![o, 0] ![1, 1024] inb) : Vec Ideal S1x1024 .f32) (ix2 0 d) = B (ix2 k d) :=
  View.ld_unit_apply_of _ _ _ _ _ (ix2 k d) fun a => by fin_cases a <;> simp [hk]

/-- Two rows stored over a block, each the old row and a term: the block and the terms. -/
theorem head_rows (v : View sig κ sp S8x1024 .f32) (f : v.ty.Contents (Elt Ideal))
    (B : Vec Ideal S8x1024 .f32) (g : Fin 8 → Fin 1024 → ℝ) (P0 P1 : Vec Ideal S1x1024 .f32)
    (L : List (View.Piece (Elt Ideal) S8x1024 .f32))
    (hL : ∀ k d, v.read (Elt Ideal) (v.writes (Elt Ideal) f L) (ix2 k d) = B (ix2 k d))
    (h0 : ∀ d, P0 (ix2 0 d) = (View.ld B (Rect.unit ![0, 0] ![1, 1024] inb_S8x1024_S1x1024_0_0)
      : Vec Ideal S1x1024 .f32) (ix2 0 d) + ((g 0 d : ℝ) : EReal))
    (h1 : ∀ d, P1 (ix2 0 d) = (View.ld B (Rect.unit ![1, 0] ![1, 1024] inb_S8x1024_S1x1024_1_0)
      : Vec Ideal S1x1024 .f32) (ix2 0 d) + ((g 1 d : ℝ) : EReal))
    (hg : ∀ k d, 2 ≤ k.val → g k d = 0) (k : Fin 8) (d : Fin 1024) :
    v.read (Elt Ideal) (v.writes (Elt Ideal) f
        (⟨Rect.unit ![1, 0] ![1, 1024] inb_S8x1024_S1x1024_1_0, P1⟩
          :: ⟨Rect.unit ![0, 0] ![1, 1024] inb_S8x1024_S1x1024_0_0, P0⟩ :: L)) (ix2 k d)
      = B (ix2 k d) + ((g k d : ℝ) : EReal) := by
  rw [head_row, head_row]
  split_ifs with e1 e0
  · rw [h1, head_ld B _ k e1, show k = 1 from Fin.ext e1]
  · rw [h0, head_ld B _ k e0, show k = 0 from Fin.ext e0]
  · rw [hL, hg k d (by omega), EReal.coe_zero]
    exact (add_zero _).symm

end rows

/-! ## What one point adds -/

/-- The sum over a point's tokens of the packed modulation rows. -/
def modSum (D : Data) (t : Fin cfg0.N) (k : Fin 8) (d : Fin 1024) : ℝ :=
  ∑ r, modTerm (D.par (bat t)) (D.X (bat t) (tok t r)) (D.Y (bat t) (tok t r)) (D.T (bat t) (tok t r)) k d

/-- The sum over a point's tokens of the packed head rows. -/
def headSum (D : Data) (t : Fin cfg0.N) (k : Fin 8) (d : Fin 1024) : ℝ :=
  ∑ r, headTerm (D.par (bat t)) (D.X (bat t) (tok t r)) (D.Y (bat t) (tok t r)) (D.T (bat t) (tok t r)) k d

theorem modSum_top (t : Fin cfg0.N) (k : Fin 8) (d : Fin 1024) (hk : 4 ≤ k.val) : modSum D t k d = 0 :=
  Finset.sum_eq_zero fun r _ => by
    unfold modTerm
    rw [if_neg (by omega), if_neg (by omega), if_neg (by omega), if_neg (by omega)]

theorem headSum_top (t : Fin cfg0.N) (k : Fin 8) (d : Fin 1024) (hk : 2 ≤ k.val) : headSum D t k d = 0 :=
  Finset.sum_eq_zero fun r _ => by
    unfold headTerm
    rw [if_neg (by omega), if_neg (by omega)]

theorem mod_fill {κ : Kind} {sp : Space} (v : View sig κ sp S1x8x1024 .f32) (f : v.ty.Contents (Elt Ideal)) (Z : Vec Ideal S1x8x1024 .f32) (k : Fin 8) (d : Fin 1024) :
    v.read (Elt Ideal) (v.writes (Elt Ideal) f [⟨Rect.unit ![0, 0, 0] ![1, 8, 1024] inb_S1x8x1024_S1x8x1024_0_0_0, Z⟩]) (ix3 0 k d)
      = Z (ix3 0 k d) :=
  View.read_writes_cons_unit_of_mem v f _ Z [] (ix3 0 k d) (ix3 0 k d) rfl fun a => by fin_cases a <;> simp

theorem head_fill {κ : Kind} {sp : Space} (v : View sig κ sp S8x1024 .f32) (f : v.ty.Contents (Elt Ideal)) (Z : Vec Ideal S8x1024 .f32) (k : Fin 8) (d : Fin 1024) :
    v.read (Elt Ideal) (v.writes (Elt Ideal) f [⟨Rect.unit ![0, 0] ![8, 1024] inb_S8x1024_S8x1024_0_0, Z⟩]) (ix2 k d)
      = Z (ix2 k d) :=
  View.read_writes_cons_unit_of_mem v f _ Z [] (ix2 k d) (ix2 k d) rfl fun a => by fin_cases a <;> simp

theorem mod_zero (j : S1x8x1024.Idx) : k0_pay43 (F := Ideal) j = 0 := by
  pointwise [k0_pay43]

theorem head_zero (j : S8x1024.Idx) : k0_pay42 (F := Ideal) j = 0 := by
  pointwise [k0_pay42]

variable (h : HoldsAt m D c) (t : Fin cfg0.N)

include h

/-- At the first point of a batch element the block is what the point adds. -/
theorem mod_reset (h1 : t.val % 16 = 0) (k : Fin 8) (d : Fin 1024) :
    (outsAt0 m c t.val t.isLt).2.2.2.2.2.1 (ix3 0 k d)
      = k0_pay43 (F := Ideal) (ix3 0 k d) + ((modSum D t k d : ℝ) : EReal) := by
  by_cases h0 : t.val % 32 = 0
  · rw [outsAt0_A m c t h0 h1]
    frame_open
    simp (disch := decide) only [↓ View.readCov_skip, ↓ View.readCov_cons_toLoadRect, ↓ View.readCov_fill]
    frame_out
    rw [← View.read_writes_junk_apply_eq_canon (ms0_12 t).view]
    exact mod_rows _ _ _ (modSum D t) _ _ _ _ _ (mod_fill _ _ _)
      (fun d => mod0_at (reads h t) (dz_back h t (u_back h t _) _) _ d)
      (fun d => mod1_at (reads h t) (dz_back h t (u_back h t _) _) _ d)
      (fun d => mod2_at (reads h t) (u_back h t _) _ d)
      (fun d => mod3_at (reads h t) (u_back h t _) (dz_back h t (u_back h t _) _) _ d)
      (modSum_top t) k d
  · rw [outsAt0_C m c t h0 h1]
    frame_open
    simp (disch := decide) only [↓ View.readCov_skip, ↓ View.readCov_cons_toLoadRect, ↓ View.readCov_fill]
    frame_out
    rw [← View.read_writes_junk_apply_eq_canon (ms0_12 t).view]
    exact mod_rows _ _ _ (modSum D t) _ _ _ _ _ (mod_fill _ _ _)
      (fun d => mod0_at (reads h t) (dz_back h t (u_back h t _) _) _ d)
      (fun d => mod1_at (reads h t) (dz_back h t (u_back h t _) _) _ d)
      (fun d => mod2_at (reads h t) (u_back h t _) _ d)
      (fun d => mod3_at (reads h t) (u_back h t _) (dz_back h t (u_back h t _) _) _ d)
      (modSum_top t) k d

/-- At every other point the block is the one before and what the point adds. -/
theorem mod_step (h1 : ¬t.val % 16 = 0) (k : Fin 8) (d : Fin 1024) :
    (outsAt0 m c t.val t.isLt).2.2.2.2.2.1 (ix3 0 k d)
      = (outsAt0 m c (t.val - 1) (Nat.lt_of_le_of_lt (Nat.sub_le _ _) t.isLt)).2.2.2.2.2.1 (ix3 0 k d) + ((modSum D t k d : ℝ) : EReal) := by
  rw [outsAt0_B m c t (by omega) h1]
  frame_open
  simp (disch := decide) only [↓ View.readCov_skip, ↓ View.readCov_cons_toLoadRect, ↓ View.readCov_fill]
  frame_out
  exact mod_rows _ _ _ (modSum D t) _ _ _ _ _ (fun k d => congrFun (Memref.IsWhole.read_unread _ _) _)
      (fun d => mod0_at (reads h t) (dz_back h t (u_back h t _) _) _ d)
      (fun d => mod1_at (reads h t) (dz_back h t (u_back h t _) _) _ d)
      (fun d => mod2_at (reads h t) (u_back h t _) _ d)
      (fun d => mod3_at (reads h t) (u_back h t _) (dz_back h t (u_back h t _) _) _ d)
      (modSum_top t) k d

/-- At the first point of the grid the head block is what the point adds. -/
theorem head_reset (h0 : t.val % 32 = 0) (k : Fin 8) (d : Fin 1024) :
    (outsAt0 m c t.val t.isLt).2.2.2.2.2.2.1 (ix2 k d)
      = k0_pay42 (F := Ideal) (ix2 k d) + ((headSum D t k d : ℝ) : EReal) := by
  rw [outsAt0_A m c t h0 (by omega)]
  frame_open
  simp (disch := decide) only [↓ View.readCov_skip, ↓ View.readCov_cons_toLoadRect, ↓ View.readCov_fill]
  frame_out
  rw [← View.read_writes_junk_apply_eq_canon (ms0_13 t).view]
  exact head_rows _ _ _ (headSum D t) _ _ _ (head_fill _ _ _)
      (fun d => head0_at (reads h t) (u_back h t _) _ d) (fun d => head1_at (reads h t) (u_back h t _) _ d)
      (headSum_top t) k d

/-- At every other point the head block is the one before and what the point adds. -/
theorem head_step (h0 : ¬t.val % 32 = 0) (k : Fin 8) (d : Fin 1024) :
    (outsAt0 m c t.val t.isLt).2.2.2.2.2.2.1 (ix2 k d)
      = (outsAt0 m c (t.val - 1) (Nat.lt_of_le_of_lt (Nat.sub_le _ _) t.isLt)).2.2.2.2.2.2.1 (ix2 k d) + ((headSum D t k d : ℝ) : EReal) := by
  by_cases h1 : t.val % 16 = 0
  · rw [outsAt0_C m c t h0 h1]
    frame_open
    simp (disch := decide) only [↓ View.readCov_skip, ↓ View.readCov_cons_toLoadRect, ↓ View.readCov_fill]
    frame_out
    exact head_rows _ _ _ (headSum D t) _ _ _ (fun k d => congrFun (Memref.IsWhole.read_unread _ _) _)
      (fun d => head0_at (reads h t) (u_back h t _) _ d) (fun d => head1_at (reads h t) (u_back h t _) _ d)
      (headSum_top t) k d
  · rw [outsAt0_B m c t h0 h1]
    frame_open
    simp (disch := decide) only [↓ View.readCov_skip, ↓ View.readCov_cons_toLoadRect, ↓ View.readCov_fill]
    frame_out
    exact head_rows _ _ _ (headSum D t) _ _ _ (fun k d => congrFun (Memref.IsWhole.read_unread _ _) _)
      (fun d => head0_at (reads h t) (u_back h t _) _ d) (fun d => head1_at (reads h t) (u_back h t _) _ d)
      (headSum_top t) k d

end Cert.KernelIdeal.Mlp
-- ==== Proof.MlpArr.lean ====
module

public import proofs.«01_k».proof.Proof.MlpAcc

public section

/-!
# The kernel's eight arrays

What the run leaves in each result, over the real data: six arrays written block by block, and the two accumulated ones.
-/

set_option maxRecDepth 16384

noncomputable section

namespace Cert.KernelIdeal.Mlp

open Idealize.ShloMosaic Idealize.ShloMosaic.TcCoe Idealize.SL.Sem
open Idealize.ShloMosaic.Pipeline (Dat)
open Cert.KernelIdeal Cert.KernelIdeal.Gen Cert.KernelIdeal.Pay
open Cert.Mlp Cert.Lift

variable {m : (ℓ : Loc nD τ sig) → Buf (Elt Ideal) ℓ} {D : Data} {c : Dev nD} (h : HoldsAt m D c)

/-- Where a point writes. -/
theorem odx : ∀ t : Fin cfg0.N, win0_7.index t = ![t.val / 16, t.val % 16, 0] ∧ win0_8.index t = ![t.val / 16, t.val % 16, 0]
    ∧ win0_9.index t = ![t.val / 16, t.val % 16, 0] ∧ win0_10.index t = ![t.val / 16, t.val % 16, 0]
    ∧ win0_11.index t = ![t.val / 16, t.val % 16, 0] ∧ win0_14.index t = ![t.val / 16, t.val % 16, 0]
    ∧ win0_12.index t = ![t.val / 16, 0, 0] ∧ win0_13.index t = ![0, 0] :=
  (by decide +kernel : ∀ t : Fin grid0.N, _)

theorem emb7 (t : Fin cfg0.N) (r : Fin 256) (d : Fin 1024) :
    (win0_7.blk t).view.emb (ix3 0 r d) = ix3 (bat t) (tok t r) d := by
  blk_ext! [odx t]

theorem emb8 (t : Fin cfg0.N) (r : Fin 256) (d : Fin 1024) :
    (win0_8.blk t).view.emb (ix3 0 r d) = ix3 (bat t) (tok t r) d := by
  blk_ext! [odx t]

theorem emb9 (t : Fin cfg0.N) (r : Fin 256) (d : Fin 1024) :
    (win0_9.blk t).view.emb (ix3 0 r d) = ix3 (bat t) (tok t r) d := by
  blk_ext! [odx t]

theorem emb10 (t : Fin cfg0.N) (r : Fin 256) (f : Fin 4096) :
    (win0_10.blk t).view.emb (ix3 0 r f) = ix3 (bat t) (tok t r) f := by
  blk_ext! [odx t]

theorem emb11 (t : Fin cfg0.N) (r : Fin 256) (f : Fin 4096) :
    (win0_11.blk t).view.emb (ix3 0 r f) = ix3 (bat t) (tok t r) f := by
  blk_ext! [odx t]

theorem emb14 (t : Fin cfg0.N) (r : Fin 256) (d : Fin 1024) :
    (win0_14.blk t).view.emb (ix3 0 r d) = ix3 (bat t) (tok t r) d := by
  blk_ext! [odx t]

theorem emb12 (t : Fin cfg0.N) (k : Fin 8) (d : Fin 1024) : (win0_12.blk t).view.emb (ix3 0 k d) = ix3 (bat t) k d := by
  blk_ext! [odx t]

theorem emb13 (t : Fin cfg0.N) (k : Fin 8) (d : Fin 1024) : (win0_13.blk t).view.emb (ix2 k d) = ix2 k d := by
  blk_ext! [odx t]

/-- An index of a block whose leading axis has extent one. -/
theorem lead {a b : ℕ} (y : (⟨3, ![1, a, b]⟩ : Shape).Idx) : ∃ (r : Fin a) (d : Fin b), y = ix3 0 r d :=
  ⟨y 1, y 2, by
    rw [eq_ix3 y]
    congr
    exact Fin.fin_one_eq_zero _⟩

omit h in
/-- The sixteen points of a batch element hold its tokens. -/
theorem mod_run (t : Fin cfg0.N) (hf : t.val % 16 = 16 - 1) (k : Fin 8) (d : Fin 1024) :
    ∑ s : Fin 16, modSum D ⟨16 * (t.val / 16) + s.val, Pipeline.run_point_lt_of_flush t hf s⟩ k d
      = ∑ i, modTerm (D.par (bat t)) (D.X (bat t) i) (D.Y (bat t) i) (D.T (bat t) i) k d := by
  have e (s : Fin 16) : modSum D ⟨16 * (t.val / 16) + s.val, Pipeline.run_point_lt_of_flush t hf s⟩ k d
      = ∑ r : Fin 256, (fun i : Fin 4096 => modTerm (D.par (bat t)) (D.X (bat t) i) (D.Y (bat t) i) (D.T (bat t) i) k d) ⟨s.val * 256 + r.val, by omega⟩ := by
    refine Finset.sum_congr rfl fun r _ => ?_
    have hb : bat ⟨16 * (t.val / 16) + s.val, Pipeline.run_point_lt_of_flush t hf s⟩ = bat t :=
      Fin.ext (by show (16 * (t.val / 16) + s.val) / 16 = t.val / 16; omega)
    have ht : tok ⟨16 * (t.val / 16) + s.val, Pipeline.run_point_lt_of_flush t hf s⟩ r = ⟨s.val * 256 + r.val, by omega⟩ :=
      Fin.ext (by show (16 * (t.val / 16) + s.val) % 16 * 256 + r.val = s.val * 256 + r.val; omega)
    rw [hb, ht]
  rw [Finset.sum_congr rfl fun s _ => e s]
  exact Fin.sum_mul_add_fin (M := ℝ) (L := 4096) 16 256 fun i => modTerm (D.par (bat t)) (D.X (bat t) i) (D.Y (bat t) i) (D.T (bat t) i) k d

omit h in
/-- The points of the grid hold all tokens. -/
theorem head_run (k : Fin 8) (d : Fin 1024) :
    ∑ t : Fin cfg0.N, headSum D t k d = ∑ b, ∑ i, headTerm (D.par b) (D.X b i) (D.Y b i) (D.T b i) k d :=
  Fin.sum_points_lanes_fin (N := 32) (n := 256) 16 fun b i => headTerm (D.par b) (D.X b i) (D.Y b i) (D.T b i) k d

include h

theorem out7 : (dats m 0 c).arrAt 7 cfg0.N = D.arrDx1 := by
  refine (dats m 0 c).arrAt_eq_of_covers 7 _ (by decide +kernel) fun t hf y => ?_
  blk_simp
  rw [after0_7]
  obtain ⟨r, d, rfl⟩ := lead y
  exact (dx1_pt h t r d).trans (congrArg D.arrDx1 (emb7 t r d)).symm

theorem out8 : (dats m 0 c).arrAt 8 cfg0.N = D.arrH2 := by
  refine (dats m 0 c).arrAt_eq_of_covers 8 _ (by decide +kernel) fun t hf y => ?_
  blk_simp
  rw [after0_8]
  obtain ⟨r, d, rfl⟩ := lead y
  exact (h2_pt h t r d).trans (congrArg D.arrH2 (emb8 t r d)).symm

theorem out9 : (dats m 0 c).arrAt 9 cfg0.N = D.arrDy2 := by
  refine (dats m 0 c).arrAt_eq_of_covers 9 _ (by decide +kernel) fun t hf y => ?_
  blk_simp
  rw [after0_9]
  obtain ⟨r, d, rfl⟩ := lead y
  exact (dy2_pt h t r d).trans (congrArg D.arrDy2 (emb9 t r d)).symm

theorem out10 : (dats m 0 c).arrAt 10 cfg0.N = D.arrU := by
  refine (dats m 0 c).arrAt_eq_of_covers 10 _ (by decide +kernel) fun t hf y => ?_
  blk_simp
  rw [after0_10]
  obtain ⟨r, f, rfl⟩ := lead y
  exact (u_pt h t r f).trans (congrArg D.arrU (emb10 t r f)).symm

theorem out11 : (dats m 0 c).arrAt 11 cfg0.N = D.arrDz := by
  refine (dats m 0 c).arrAt_eq_of_covers 11 _ (by decide +kernel) fun t hf y => ?_
  blk_simp
  rw [after0_11]
  obtain ⟨r, f, rfl⟩ := lead y
  exact (dz_pt h t r f).trans (congrArg D.arrDz (emb11 t r f)).symm

theorem out14 : (dats m 0 c).arrAt 14 cfg0.N = D.arrDy1 := by
  refine (dats m 0 c).arrAt_eq_of_covers 14 _ (by decide +kernel) fun t hf y => ?_
  blk_simp
  rw [after0_14]
  obtain ⟨r, d, rfl⟩ := lead y
  exact (dy1_pt h t r d).trans (congrArg D.arrDy1 (emb14 t r d)).symm

theorem out12 : (dats m 0 c).arrAt 12 cfg0.N = D.arrMod := by
  refine (dats m 0 c).arrAt_eq_of_covers 12 _ (by decide +kernel) fun t hf y => ?_
  blk_simp
  rw [after0_12]
  obtain ⟨k, d, rfl⟩ := lead y
  refine Eq.trans ?_ (congrArg D.arrMod (emb12 t k d)).symm
  refine (Pipeline.eq_sum_fin_of_reset_step_apply_of_flush (fun n hn => (outsAt0 m c n hn).2.2.2.2.2.1) 16 (k0_pay43 (F := Ideal))
    (fun t j => ((modSum D t (j 1) (j 2) : ℝ) : EReal))
    (fun t ht j => by obtain ⟨k, d, rfl⟩ := lead j; exact mod_reset h t ht k d)
    (fun t ht j => by obtain ⟨k, d, rfl⟩ := lead j; exact mod_step h t ht k d) t ((flush0_12 t).mp hf) (ix3 0 k d)).trans ?_
  rw [mod_zero]
  refine (zero_add _).trans ((sum_coe _ _).trans (congrArg _ ?_))
  exact mod_run t ((flush0_12 t).mp hf) k d

theorem out13 : (dats m 0 c).arrAt 13 cfg0.N = D.arrHead := by
  refine (dats m 0 c).arrAt_eq_of_covers 13 _ (by decide +kernel) fun t hf y => ?_
  blk_simp
  rw [after0_13]
  obtain ⟨k, d, rfl⟩ : ∃ (k : Fin 8) (d : Fin 1024), y = ix2 k d := ⟨y 0, y 1, eq_ix2 y⟩
  refine Eq.trans ?_ (congrArg D.arrHead (emb13 t k d)).symm
  have hl : t.val + 1 = cfg0.N := by
    have := (flush0_13 t).mp hf
    have ht : t.val < 32 := t.isLt
    show t.val + 1 = 32
    omega
  refine (Pipeline.eq_sum_fin_of_reset_step_apply_last (fun n hn => (outsAt0 m c n hn).2.2.2.2.2.2.1) 32 (k0_pay42 (F := Ideal))
    (fun t j => ((headSum D t (j 0) (j 1) : ℝ) : EReal))
    (fun t ht j => by rw [eq_ix2 j]; exact head_reset h t ht (j 0) (j 1))
    (fun t ht j => by rw [eq_ix2 j]; exact head_step h t ht (j 0) (j 1)) (by decide) t hl (ix2 k d)).trans ?_
  rw [head_zero]
  refine (zero_add _).trans ((sum_coe _ _).trans (congrArg _ ?_))
  exact head_run k d

end Cert.KernelIdeal.Mlp
-- ==== Proof.MlpRef.lean ====
/-
  The reference's values, read at an index: each is the coerced real the specification names.
-/
module

public import proofs.«01_k».proof.Proof.MlpData
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Mlp

open Cert.ReferenceIdeal Cert.ReferenceIdeal.Gen Cert.ReferenceIdeal.Value Cert.Lift Cert.Mlp

/-- The reference's arguments hold the data. -/
abbrev HoldsAt (D : Data) (V : Valuation τ sig (Elt Ideal)) : Prop :=
  Holds D (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6))

variable {D : Data} {V : Valuation τ sig (Elt Ideal)} (h : HoldsAt D V)

include h

/-! ## Forward -/

theorem v9_at (b : Fin 2) (t : Fin 4096) (d : Fin 1024) :
    res_main_v9 V (ix3 b t d) = ((x1 (D.par b) (D.X b t) (D.Y b t) d : ℝ) : EReal) := by
  pointwise [res_main_v9, res_main_v6]
  simp only [h.h0, h.h1, h.h3, ← EReal.coe_mul, ← EReal.coe_add]
  rfl

theorem v16_at (b : Fin 2) (t : Fin 4096) :
    res_main_v16 V (ix3 b t 0) = ((ms (x1 (D.par b) (D.X b t) (D.Y b t)) : ℝ) : EReal) := by
  pointwise [res_main_v16]
  simp only [v9_at h]
  rw [ms_at]

theorem v17_at (b : Fin 2) (t : Fin 4096) :
    res_main_v17 V (ix3 b t 0) = ((rn (x1 (D.par b) (D.X b t) (D.Y b t)) : ℝ) : EReal) := by
  pointwise [res_main_v17]
  rw [v16_at h, rn_at]

theorem v22_at (b : Fin 2) (t : Fin 4096) (d : Fin 1024) :
    res_main_v22 V (ix3 b t d) = ((xn (D.par b) (D.X b t) (D.Y b t) d : ℝ) : EReal) := by
  pointwise [res_main_v22]
  simp only [v9_at h, v17_at h, ← EReal.coe_mul]
  rfl

theorem v25_at (b : Fin 2) (d : Fin 1024) :
    res_main_v25 V (ix3 b 0 d) = ((1 + (D.par b).sc d : ℝ) : EReal) := by
  pointwise [res_main_v25]
  simp only [h.h3, ← EReal.coe_one, ← EReal.coe_add]
  rfl

theorem v30_at (b : Fin 2) (t : Fin 4096) (d : Fin 1024) :
    res_main_v30 V (ix3 b t d) = ((h2 (D.par b) (D.X b t) (D.Y b t) d : ℝ) : EReal) := by
  pointwise [res_main_v30]
  simp only [v22_at h, v25_at h, h.h3, ← EReal.coe_mul, ← EReal.coe_add]
  rfl

theorem v31_at (d : Fin 1024) (f : Fin 4096) : res_main_v31 V (ix2 d f) = ((D.W1 d f : ℝ) : EReal) := by
  pointwise [res_main_v31]
  simp only [h.h4]

theorem v40_at (f : Fin 4096) (d : Fin 1024) : res_main_v40 V (ix2 f d) = ((D.W2 f d : ℝ) : EReal) := by
  pointwise [res_main_v40]
  simp only [h.h5]

theorem v32_at (b : Fin 2) (t : Fin 4096) (f : Fin 4096) :
    res_main_v32 V (ix3 b t f) = ((z (D.par b) (D.X b t) (D.Y b t) f : ℝ) : EReal) := by
  pointwise [res_main_v32]
  simp only [v30_at h, v31_at h, ← EReal.coe_mul, Lift.sum_coe]
  rfl

theorem v33_at (b : Fin 2) (t : Fin 4096) (f : Fin 4096) :
    res_main_v33 V (ix3 b t f) = ((rl (D.par b) (D.X b t) (D.Y b t) f : ℝ) : EReal) := by
  pointwise [res_main_v33]
  simp only [v32_at h, Lift.max_coe_zero]
  rfl

theorem v37_at (b : Fin 2) (t : Fin 4096) (f : Fin 4096) :
    res_main_v37 V (ix3 b t f) = ((u (D.par b) (D.X b t) (D.Y b t) f : ℝ) : EReal) := by
  pointwise [res_main_v37]
  simp only [v33_at h, ← EReal.coe_mul]
  rfl

theorem v41_at (b : Fin 2) (t : Fin 4096) (d : Fin 1024) :
    res_main_v41 V (ix3 b t d) = ((y2 (D.par b) (D.X b t) (D.Y b t) d : ℝ) : EReal) := by
  pointwise [res_main_v41]
  simp only [v37_at h, v40_at h, ← EReal.coe_mul, Lift.sum_coe]
  rfl

theorem v42_at (b : Fin 2) (d : Fin 1024) : res_main_v42 V (ix3 b 0 d) = (((D.par b).g2 d : ℝ) : EReal) := by
  pointwise [res_main_v42]
  simp only [h.h3]
  rfl

theorem v45_at (b : Fin 2) (t : Fin 4096) (d : Fin 1024) :
    res_main_v45 V (ix3 b t d) = ((x2 (D.par b) (D.X b t) (D.Y b t) d : ℝ) : EReal) := by
  pointwise [res_main_v45]
  simp only [v9_at h, v42_at h, v41_at h, ← EReal.coe_mul, ← EReal.coe_add]
  rfl

theorem v52_at (b : Fin 2) (t : Fin 4096) :
    res_main_v52 V (ix3 b t 0) = ((ms (x2 (D.par b) (D.X b t) (D.Y b t)) : ℝ) : EReal) := by
  pointwise [res_main_v52]
  simp only [v45_at h]
  rw [ms_at]

theorem v53_at (b : Fin 2) (t : Fin 4096) :
    res_main_v53 V (ix3 b t 0) = ((rn (x2 (D.par b) (D.X b t) (D.Y b t)) : ℝ) : EReal) := by
  pointwise [res_main_v53]
  rw [v52_at h, rn_at]

theorem v58_at (b : Fin 2) (t : Fin 4096) (d : Fin 1024) :
    res_main_v58 V (ix3 b t d) = ((xf (D.par b) (D.X b t) (D.Y b t) d : ℝ) : EReal) := by
  pointwise [res_main_v58]
  simp only [v45_at h, v53_at h, ← EReal.coe_mul]
  rfl

theorem v59_at (d : Fin 1024) : res_main_v59 V (ix3 0 0 d) = ((D.G d : ℝ) : EReal) := by
  pointwise [res_main_v59]
  simp only [h.h6]

theorem v62_at (b : Fin 2) (t : Fin 4096) (d : Fin 1024) :
    res_main_v62 V (ix3 b t d) = ((diff (D.par b) (D.X b t) (D.Y b t) (D.T b t) d : ℝ) : EReal) := by
  pointwise [res_main_v62]
  simp only [v58_at h, v59_at h, h.h2, ← EReal.coe_mul, ← EReal.coe_sub]
  rfl

/-! ## Backward -/

theorem v76_at (b : Fin 2) (t : Fin 4096) (d : Fin 1024) :
    res_main_v76 V (ix3 b t d) = ((dout (D.par b) (D.X b t) (D.Y b t) (D.T b t) d : ℝ) : EReal) := by
  pointwise [res_main_v76]
  simp only [v62_at h, c_half, c_two, ← EReal.coe_mul, ← EReal.coe_one, div_1024]
  unfold dout
  exact congrArg _ (by ring)

theorem v81_at (b : Fin 2) (t : Fin 4096) (d : Fin 1024) :
    res_main_v81 V (ix3 b t d) = ((dxf (D.par b) (D.X b t) (D.Y b t) (D.T b t) d : ℝ) : EReal) := by
  pointwise [res_main_v81]
  simp only [v76_at h, v59_at h, ← EReal.coe_mul]
  rfl

theorem v92_at (b : Fin 2) (t : Fin 4096) (d : Fin 1024) :
    res_main_v92 V (ix3 b t d)
      = ((msBwd (x2 (D.par b) (D.X b t) (D.Y b t)) (dxf (D.par b) (D.X b t) (D.Y b t) (D.T b t)) : ℝ) : EReal) := by
  pointwise [res_main_v92]
  simp only [v45_at h, v81_at h, v52_at h, v53_at h, c_neg_half, Fin.sum_univ_one, ← EReal.coe_mul, Lift.sum_coe, div_coe_coe (ms_pos _).ne', div_1024]
  rfl

theorem v96_at (b : Fin 2) (t : Fin 4096) (d : Fin 1024) :
    res_main_v96 V (ix3 b t d) = ((dx2 (D.par b) (D.X b t) (D.Y b t) (D.T b t) d : ℝ) : EReal) := by
  pointwise [res_main_v96]
  simp only [v81_at h, v45_at h, v53_at h, v92_at h, ← EReal.coe_mul, ← EReal.coe_add]
  rw [dx2, normBwd_eq]

theorem v98_at (b : Fin 2) (t : Fin 4096) (d : Fin 1024) :
    res_main_v98 V (ix3 b t d) = ((dy2 (D.par b) (D.X b t) (D.Y b t) (D.T b t) d : ℝ) : EReal) := by
  pointwise [res_main_v98]
  simp only [v96_at h, v42_at h, ← EReal.coe_mul]
  rfl

theorem v106_at (b : Fin 2) (t : Fin 4096) (f : Fin 4096) :
    res_main_v106 V (ix3 b t f) = ((dz (D.par b) (D.X b t) (D.Y b t) (D.T b t) f : ℝ) : EReal) := by
  pointwise [res_main_v106]
  simp only [v98_at h, v40_at h, v32_at h, v33_at h, c_two, ← EReal.coe_mul, Lift.sum_coe]
  by_cases hz : 0 < z (D.par b) (D.X b t) (D.Y b t) f
  · rw [if_pos (EReal.coe_pos.mpr hz)]
    rfl
  · rw [if_neg (fun hc => hz (EReal.coe_pos.mp hc)), dz, rl, max_eq_right (not_lt.mp hz)]
    simp

theorem v107_at (b : Fin 2) (t : Fin 4096) (d : Fin 1024) :
    res_main_v107 V (ix3 b t d) = ((dh2 (D.par b) (D.X b t) (D.Y b t) (D.T b t) d : ℝ) : EReal) := by
  pointwise [res_main_v107]
  simp only [v106_at h, v31_at h, ← EReal.coe_mul, Lift.sum_coe]
  rfl

theorem v115_at (b : Fin 2) (t : Fin 4096) (d : Fin 1024) :
    res_main_v115 V (ix3 b t d) = ((dxn (D.par b) (D.X b t) (D.Y b t) (D.T b t) d : ℝ) : EReal) := by
  pointwise [res_main_v115]
  simp only [v107_at h, v25_at h, ← EReal.coe_mul]
  rfl

theorem v126_at (b : Fin 2) (t : Fin 4096) (d : Fin 1024) :
    res_main_v126 V (ix3 b t d)
      = ((msBwd (x1 (D.par b) (D.X b t) (D.Y b t)) (dxn (D.par b) (D.X b t) (D.Y b t) (D.T b t)) : ℝ) : EReal) := by
  pointwise [res_main_v126]
  simp only [v9_at h, v115_at h, v16_at h, v17_at h, c_neg_half, Fin.sum_univ_one, ← EReal.coe_mul, Lift.sum_coe, div_coe_coe (ms_pos _).ne', div_1024]
  rfl

theorem v131_at (b : Fin 2) (t : Fin 4096) (d : Fin 1024) :
    res_main_v131 V (ix3 b t d) = ((dx1 (D.par b) (D.X b t) (D.Y b t) (D.T b t) d : ℝ) : EReal) := by
  pointwise [res_main_v131]
  simp only [v96_at h, v115_at h, v17_at h, v9_at h, v126_at h, ← EReal.coe_mul, ← EReal.coe_add]
  rw [dx1, normBwd_eq]

/-! ## The gradients summed over tokens -/

omit h in
/-- A gradient's sum over the tokens of each batch element, a row of the packed modulation gradient. -/
def perBatch (a : FVec Ideal S2x4096x1024 .f32) : FVec Ideal S2x1x1024 .f32 :=
  broadcastInDim S2x1x1024 ![0, 2] bcast_S2x1024_S2x1x1024_0_2
    (Host.reduceAdd (shapeCast _ (Host.reduceAdd a (constant S_ .f32 0x00000000#32) reducesTo_S2x4096x1024_S2x1024_d1 h_S_)
      shapeCasts_S2x1024_S2x1x1024) (constant S_ .f32 0x00000000#32) reducesTo_S2x1x1024_S2x1024_d1 h_S_)

omit h in
/-- A row left zero. -/
def noRow (V : Valuation τ sig (Elt Ideal)) : FVec Ideal S2x1x1024 .f32 :=
  broadcastInDim S2x1x1024 ![0, 2] bcast_S2x1024_S2x1x1024_0_2 (res_main_v138 V)

omit h in
/-- The packed modulation gradient. -/
def dmod (V : Valuation τ sig (Elt Ideal)) : FVec Ideal S2x8x1024 .f32 :=
  concatenate S2x8x1024 1
    [⟨S2x1x1024, perBatch (res_main_v107 V)⟩,
     ⟨S2x1x1024, perBatch (mulf (res_main_v22 V) (res_main_v107 V))⟩,
     ⟨S2x1x1024, perBatch (mulf (res_main_v96 V) (res_main_v41 V))⟩,
     ⟨S2x1x1024, perBatch (mulf (res_main_v131 V) (V (Proc.devRef .tc main_arg1)))⟩,
     ⟨S2x1x1024, noRow V⟩, ⟨S2x1x1024, noRow V⟩, ⟨S2x1x1024, noRow V⟩, ⟨S2x1x1024, noRow V⟩]
    concatenates_S2x1x1024_S2x1x1024_S2x1x1024_S2x1x1024_S2x1x1024_S2x1x1024_S2x1x1024_S2x1x1024_S2x8x1024_d1

omit h in
/-- The packed head: the final gain's gradient and the squared errors, each summed over all tokens. -/
def head (V : Valuation τ sig (Elt Ideal)) : FVec Ideal S8x1024 .f32 :=
  concatenate S8x1024 0
    [⟨S1x1024, broadcastInDim S1x1024 ![1] bcast_S1024_S1x1024_1
        (Host.reduceAdd (shapeCast _ (Host.reduceAdd (mulf (res_main_v58 V) (res_main_v76 V)) (constant S_ .f32 0x00000000#32)
          reducesTo_S2x4096x1024_S1024_d0_1 h_S_) shapeCasts_S1024_S1x1x1024) (constant S_ .f32 0x00000000#32)
          reducesTo_S1x1x1024_S1024_d0_1 h_S_)⟩,
     ⟨S1x1024, broadcastInDim S1x1024 ![1] bcast_S1024_S1x1024_1
        (Host.reduceAdd (res_main_v63 V) (constant S_ .f32 0x00000000#32) reducesTo_S2x4096x1024_S1024_d0_1 h_S_)⟩,
     ⟨S6x1024, broadcastInDim S6x1024 ![] bcast_S_S6x1024 (constant S_ .f32 0x00000000#32)⟩]
    concatenates_S1x1024_S1x1024_S6x1024_S8x1024_d0

omit h in
theorem perBatch_at (a : FVec Ideal S2x4096x1024 .f32) (b : Fin 2) (d : Fin 1024) :
    perBatch a (ix3 b 0 d) = ∑ t, a (ix3 b t d) := by
  pointwise [perBatch]
  simp only [Fin.sum_univ_one]

omit h in
theorem noRow_at (b : Fin 2) (d : Fin 1024) : noRow V (ix3 b 0 d) = 0 := by
  pointwise [noRow, res_main_v138]

theorem dmod_at (b : Fin 2) (k : Fin 8) (d : Fin 1024) :
    dmod V (ix3 b k d) = ((∑ t, modTerm (D.par b) (D.X b t) (D.Y b t) (D.T b t) k d : ℝ) : EReal) := by
  have hd := v107_at h
  have hm (t : Fin 4096) : mulf (res_main_v22 V) (res_main_v107 V) (ix3 b t d)
      = ((xn (D.par b) (D.X b t) (D.Y b t) d * dh2 (D.par b) (D.X b t) (D.Y b t) (D.T b t) d : ℝ) : EReal) := by
    pointwise
    rw [v22_at h, v107_at h, ← EReal.coe_mul]
  have hg (t : Fin 4096) : mulf (res_main_v96 V) (res_main_v41 V) (ix3 b t d)
      = ((dx2 (D.par b) (D.X b t) (D.Y b t) (D.T b t) d * y2 (D.par b) (D.X b t) (D.Y b t) d : ℝ) : EReal) := by
    pointwise
    rw [v96_at h, v41_at h, ← EReal.coe_mul]
  have hy (t : Fin 4096) : mulf (res_main_v131 V) (V (Proc.devRef .tc main_arg1)) (ix3 b t d)
      = ((dx1 (D.par b) (D.X b t) (D.Y b t) (D.T b t) d * D.Y b t d : ℝ) : EReal) := by
    pointwise
    rw [v131_at h, h.h1, ← EReal.coe_mul]
  fin_cases k <;> pointwise [dmod]
  all_goals simp only [perBatch_at, noRow_at, hd, hm, hg, hy, Lift.sum_coe]
  all_goals simp [modTerm, mul_comm]

omit h in
/-- A sum over both leading axes, at a channel. -/
theorem sum_lead {n0 n1 n2 : ℕ} (hr : (⟨3, ![n0, n1, n2]⟩ : Shape).ReducesTo [0, 1] ⟨1, ![n2]⟩)
    (v : (⟨3, ![n0, n1, n2]⟩ : Shape).Idx → EReal) (z : EReal) (d : Fin n2) :
    Ideal.hostReduceAdd hr v z (ix1 d) = z + ∑ b : Fin n0, ∑ t : Fin n1, v (ix3 b t d) := by
  refine congrArg (z + ·) ((Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans (Fintype.sum_prod_type _))
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

theorem head_at (k : Fin 8) (d : Fin 1024) :
    head V (ix2 k d) = ((∑ b, ∑ t, headTerm (D.par b) (D.X b t) (D.Y b t) (D.T b t) k d : ℝ) : EReal) := by
  have hx (b : Fin 2) (t : Fin 4096) : mulf (res_main_v58 V) (res_main_v76 V) (ix3 b t d)
      = ((xf (D.par b) (D.X b t) (D.Y b t) d * dout (D.par b) (D.X b t) (D.Y b t) (D.T b t) d : ℝ) : EReal) := by
    pointwise
    rw [v58_at h, v76_at h, ← EReal.coe_mul]
  have he (b : Fin 2) (t : Fin 4096) : mulf (res_main_v62 V) (res_main_v62 V) (ix3 b t d)
      = ((diff (D.par b) (D.X b t) (D.Y b t) (D.T b t) d * diff (D.par b) (D.X b t) (D.Y b t) (D.T b t) d : ℝ) : EReal) := by
    pointwise
    rw [v62_at h, ← EReal.coe_mul]
  fin_cases k <;> pointwise [head, res_main_v63]
  · rw [sum_lead]
    pointwise
    simp only [Fin.sum_univ_one, zero_add, sum_lead, hx, Lift.sum_coe]
    simp [headTerm, mul_comm]
  · rw [sum_lead]
    simp only [zero_add, he, Lift.sum_coe]
    simp [headTerm]
  all_goals simp [headTerm]

/-- The gradient in the mixer's output. -/
theorem dy1_at (b : Fin 2) (t : Fin 4096) (d : Fin 1024) :
    truncf .bf16 (mulf (broadcastInDim S2x4096x1024 ![0, 1, 2] bcast_S2x1x1024_S2x4096x1024_0_1_2 (res_main_v6 V)) (res_main_v131 V))
      bitsLt_bf16_f32 (ix3 b t d) = ((dy1 (D.par b) (D.X b t) (D.Y b t) (D.T b t) d : ℝ) : EReal) := by
  pointwise [res_main_v6]
  simp only [v131_at h, h.h3, ← EReal.coe_mul]
  rfl

/-! ## The eight arrays -/

theorem dx1_arr : res_main_v131 V = D.arrDx1 := by
  funext i
  rw [eq_ix3 i]
  exact v131_at h _ _ _

theorem h2_arr : truncf .bf16 (res_main_v30 V) bitsLt_bf16_f32 = D.arrH2 := by
  funext i
  rw [eq_ix3 i]
  exact v30_at h _ _ _

theorem dy2_arr : truncf .bf16 (res_main_v98 V) bitsLt_bf16_f32 = D.arrDy2 := by
  funext i
  rw [eq_ix3 i]
  exact v98_at h _ _ _

theorem u_arr : truncf .bf16 (res_main_v37 V) bitsLt_bf16_f32 = D.arrU := by
  funext i
  rw [eq_ix3 i]
  exact v37_at h _ _ _

theorem dz_arr : truncf .bf16 (res_main_v106 V) bitsLt_bf16_f32 = D.arrDz := by
  funext i
  rw [eq_ix3 i]
  exact v106_at h _ _ _

theorem mod_arr : dmod V = D.arrMod := by
  funext i
  rw [eq_ix3 i]
  exact dmod_at h _ _ _

theorem head_arr : head V = D.arrHead := by
  funext i
  rw [eq_ix2 i]
  exact head_at h _ _

theorem dy1_arr : truncf .bf16 (mulf (broadcastInDim S2x4096x1024 ![0, 1, 2] bcast_S2x1x1024_S2x4096x1024_0_1_2 (res_main_v6 V))
    (res_main_v131 V)) bitsLt_bf16_f32 = D.arrDy1 := by
  funext i
  rw [eq_ix3 i]
  exact dy1_at h _ _ _

end Cert.ReferenceIdeal.Mlp
-- ==== Proof.LiftLn.lean ====
/-
  One row's layer normalisation and its gradient, the logistic function, and rows shifted along a sequence: over the
  reals, with the extended-real spellings that carry back to them.
-/
module

public import proofs.«01_k».proof.Proof.Lift

@[expose] public section

noncomputable section

open Idealize.ShloMosaic

namespace Cert.Lift

/-- `512.0`, the row length. -/
theorem c_512 : Ideal.ofBits .f32 0x44000000#32 = ((512 : ℝ) : EReal) := by
  simp [Ideal.ofBits, Ideal.ieee, -EReal.coe_mul]; norm_num

/-- `1.0`. -/
theorem c_one : Ideal.ofBits .f32 0x3F800000#32 = ((1 : ℝ) : EReal) := by
  simp [Ideal.ofBits, Ideal.ieee, -EReal.coe_mul]; norm_num

/-- A coerced real over the row length. -/
theorem div_512 (a : ℝ) : Ideal.div (a : EReal) (Ideal.ofBits .f32 0x44000000#32) = ((a / 512 : ℝ) : EReal) := by
  rw [c_512, div_coe_coe (by norm_num)]

/-! ## The logistic function -/

/-- The logistic function. -/
def sig (z : ℝ) : ℝ := 1 / (1 + Real.exp (-z))

/-- As both programs spell it. -/
theorem sig_at (z : ℝ) : Ideal.div ((1 : ℝ) : EReal) (((1 : ℝ) : EReal) + Ideal.exp (-(z : EReal))) = ((sig z : ℝ) : EReal) := by
  have h : (1 + Real.exp (-z) : ℝ) ≠ 0 := by positivity
  rw [← EReal.coe_neg, Ideal.exp_coe, ← EReal.coe_add, div_coe_coe h]
  rfl

/-! ## Layer normalisation of a row of 512 -/

variable (a g : Fin 512 → ℝ)

/-- The mean. -/
def mu : ℝ := (∑ k, a k) / 512
/-- The centred row. -/
def xc (c : Fin 512) : ℝ := a c - mu a
/-- The variance plus epsilon. -/
def vr : ℝ := (∑ k, xc a k * xc a k) / 512 + eps
/-- The row's scale. -/
def rs : ℝ := (Real.sqrt (vr a))⁻¹
/-- The normalised row. -/
def nm (c : Fin 512) : ℝ := xc a c * rs a

theorem vr_pos : 0 < vr a :=
  add_pos_of_nonneg_of_pos (div_nonneg (Finset.sum_nonneg fun k _ => mul_self_nonneg (xc a k)) (by norm_num)) eps_pos

theorem rs_sq : rs a * rs a * vr a = 1 := by
  have h := vr_pos a
  have h' : Real.sqrt (vr a) ≠ 0 := (Real.sqrt_pos.mpr h).ne'
  unfold rs
  nth_rewrite 3 [← Real.mul_self_sqrt h.le]
  field_simp

theorem sum_xc : ∑ k, xc a k = 0 := by
  simp only [xc, Finset.sum_sub_distrib, Finset.sum_const, Finset.card_univ, Fintype.card_fin, nsmul_eq_mul, mu]
  push_cast
  ring

/-- The gradient of `a ↦ nm a` from the cotangent `g`, written with the normalised row. -/
def lnBwd (c : Fin 512) : ℝ := rs a * (g c - (∑ k, g k) / 512 - nm a c * ((∑ k, g k * nm a k) / 512))

/-- The part of the gradient through the variance, as the chain rule spells it. -/
def varBwd (c : Fin 512) : ℝ := ((∑ k, xc a k * g k) * (-(1 / 2) * (rs a / vr a))) / 512 * (2 * xc a c)

theorem sum_varBwd : ∑ k, varBwd a g k = 0 := by
  simp only [varBwd, ← Finset.mul_sum, sum_xc, mul_zero]

/-- The gradient as the chain rule spells it: the product, the variance, and the mean of both. -/
theorem lnBwd_eq (c : Fin 512) :
    lnBwd a g c = g c * rs a + varBwd a g c + ((∑ k, -(g k * rs a)) + ∑ k, -varBwd a g k) / 512 := by
  have hr : rs a / vr a = rs a * rs a * rs a := by
    rw [div_eq_iff (vr_pos a).ne']
    calc rs a = rs a * (rs a * rs a * vr a) := by rw [rs_sq, mul_one]
      _ = _ := by ring
  have hs : (∑ k, g k * nm a k) = (∑ k, xc a k * g k) * rs a := by
    rw [Finset.sum_mul]; exact Finset.sum_congr rfl fun k _ => by unfold nm; ring
  rw [Finset.sum_neg_distrib, Finset.sum_neg_distrib, sum_varBwd, ← Finset.sum_mul]
  unfold lnBwd varBwd
  rw [hr, hs]
  unfold nm
  ring

/-- The variance plus epsilon as both programs spell it. -/
theorem vr_at : Ideal.div (∑ k, (xc a k : EReal) * (xc a k : EReal)) (Ideal.ofBits .f32 0x44000000#32)
    + Ideal.ofBits .f32 0x358637BD#32 = ((vr a : ℝ) : EReal) := by
  simp only [← EReal.coe_mul, sum_coe, div_512, c_eps, ← EReal.coe_add]
  rfl

/-- The row's scale as both programs spell it. -/
theorem rs_at : Ideal.rsqrt (vr a : EReal) = ((rs a : ℝ) : EReal) := rsqrt_pos (vr_pos a)

/-! ## Shifts along a sequence, zero outside it -/

variable {n : ℕ}

/-- The entry `k` places earlier. -/
def past (f : Fin n → ℝ) (t k : ℕ) : ℝ := if h : k ≤ t ∧ t < n + k then f ⟨t - k, by omega⟩ else 0

/-- The entry `k` places later. -/
def fut (f : Fin n → ℝ) (t k : ℕ) : ℝ := if h : t + k < n then f ⟨t + k, h⟩ else 0

/-- A shift is a sum against the zeros and ones of the shift's matrix. -/
theorem sum_past (f : Fin n → ℝ) (t : Fin n) (k : ℕ) : (∑ s : Fin n, f s * (if s.val + k = t.val then 1 else 0)) = past f t.val k := by
  unfold past
  split
  · next h =>
    rw [Finset.sum_eq_single (⟨t.val - k, by omega⟩ : Fin n)]
    · rw [if_pos (by simp; omega), mul_one]
    · intro s _ hs
      rw [if_neg (fun e => hs (Fin.ext (by simp; omega))), mul_zero]
    · intro hn; exact absurd (Finset.mem_univ _) hn
  · next h =>
    refine Finset.sum_eq_zero fun s _ => ?_
    rw [if_neg (fun e => h ⟨by omega, by omega⟩), mul_zero]

theorem sum_fut (f : Fin n → ℝ) (s : Fin n) (k : ℕ) : (∑ t : Fin n, f t * (if s.val + k = t.val then 1 else 0)) = fut f s.val k := by
  unfold fut
  split
  · next h =>
    rw [Finset.sum_eq_single (⟨s.val + k, h⟩ : Fin n)]
    · rw [if_pos rfl, mul_one]
    · intro t _ ht
      rw [if_neg (fun e => ht (Fin.ext (by simp; omega))), mul_zero]
    · intro hn; exact absurd (Finset.mem_univ _) hn
  · next h =>
    refine Finset.sum_eq_zero fun t _ => ?_
    rw [if_neg (fun e => h (by omega)), mul_zero]

/-- Shifting one factor later is shifting the other earlier. -/
theorem sum_past_mul (f g : Fin n → ℝ) (k : ℕ) : (∑ t : Fin n, past f t.val k * g t) = ∑ t : Fin n, f t * fut g t.val k := by
  simp only [← sum_past, ← sum_fut, Finset.sum_mul, Finset.mul_sum]
  rw [Finset.sum_comm]
  exact Finset.sum_congr rfl fun s _ => Finset.sum_congr rfl fun t _ => by ring

end Cert.Lift
-- ==== Proof.MixSpec.lean ====
/-
  The token-mixing sub-layer over the reals: its forward lines on the arrays' data, and the gradient of the step through
  it. The short branch is a product of three projections with a short causal convolution; the conformer branch is a gated
  unit, a causal depthwise convolution, a layer normalisation and a smooth rectifier.
-/
module

public import proofs.«01_k».proof.Proof.LiftLn

@[expose] public section

noncomputable section

open Idealize.ShloMosaic

namespace Cert.Mix

open Cert.Lift

/-- The ten arguments as reals: the cotangent, the residual stream, the modulation, the input projection, the conformer
    taps, bias, gain and offset, the short taps, the output projection. -/
structure Data where
  G : Fin 2 → Fin 4096 → Fin 1024 → ℝ
  X : Fin 2 → Fin 4096 → Fin 1024 → ℝ
  M : Fin 2 → Fin 6144 → ℝ
  Wi : Fin 1024 → Fin 2560 → ℝ
  Wd : Fin 31 → Fin 512 → ℝ
  bd : Fin 512 → ℝ
  lg : Fin 512 → ℝ
  lb : Fin 512 → ℝ
  Ws : Fin 3 → Fin 512 → ℝ
  Wo : Fin 1024 → Fin 1024 → ℝ

/-- Row `j` of the six modulation rows, at channel `d`. -/
abbrev chan (j : Fin 6) (d : Fin 1024) : Fin 6144 := ⟨j.val * 1024 + d.val, by omega⟩
/-- Part `j` of the five parts of a projected row, at channel `c`. -/
abbrev col (j : Fin 5) (c : Fin 512) : Fin 2560 := ⟨j.val * 512 + c.val, by omega⟩
/-- Half `j` of a mixed row, at channel `c`. -/
abbrev half (j : Fin 2) (c : Fin 512) : Fin 1024 := ⟨j.val * 512 + c.val, by omega⟩

theorem chan_zero (d : Fin 1024) (hd : d.val < 6144) : (⟨d.val, hd⟩ : Fin 6144) = chan 0 d := Fin.ext (by simp)
theorem col_zero (c : Fin 512) (hc : c.val < 2560) : (⟨c.val, hc⟩ : Fin 2560) = col 0 c := Fin.ext (by simp)
theorem half_zero (c : Fin 512) (hc : c.val < 1024) : (⟨c.val, hc⟩ : Fin 1024) = half 0 c := Fin.ext (by simp)

theorem eq_col (e : Fin 2560) : ∃ (j : Fin 5) (c : Fin 512), e = col j c :=
  ⟨⟨e.val / 512, by omega⟩, ⟨e.val % 512, by omega⟩, Fin.ext (by simp only [col]; omega)⟩

namespace Data

variable (D : Data) (b : Fin 2) (t : Fin 4096)

/-! ## Forward -/

def sh (d : Fin 1024) : ℝ := D.M b (chan 0 d)
def sc (d : Fin 1024) : ℝ := D.M b (chan 1 d)
def g1 (d : Fin 1024) : ℝ := D.M b (chan 2 d)
/-- The normalised stream, and the sub-layer's input. -/
def xn (d : Fin 1024) : ℝ := D.X b t d * rn (D.X b t)
def h (d : Fin 1024) : ℝ := D.xn b t d * (1 + D.sc b d) + D.sh b d
/-- The projection. -/
def pj (e : Fin 2560) : ℝ := ∑ d, D.h b t d * D.Wi d e
/-- The gated unit, and its gate's logistic. -/
def sgg (c : Fin 512) : ℝ := sig (D.pj b t (col 1 c))
def a0 (c : Fin 512) : ℝ := D.pj b t (col 0 c) * D.sgg b t c
/-- The conformer convolution. -/
def a1 (c : Fin 512) : ℝ := (∑ k : Fin 31, D.Wd k c * past (fun s => D.a0 b s c) t.val (30 - k.val)) + D.bd c
/-- Its normalised row, scaled and offset, and that row's logistic. -/
def a2 (c : Fin 512) : ℝ := nm (D.a1 b t) c * D.lg c + D.lb c
def sg (c : Fin 512) : ℝ := sig (D.a2 b t c)
/-- The short branch's product and its convolution. -/
def q (c : Fin 512) : ℝ := D.pj b t (col 3 c) * D.pj b t (col 4 c)
def cv (c : Fin 512) : ℝ := ∑ k : Fin 3, D.Ws k c * past (fun s => D.q b s c) t.val (2 - k.val)

/-! ## Backward -/

/-- The gradient in the mixed row. -/
def dmx (e : Fin 1024) : ℝ := ∑ d, (D.g1 b d * D.G b t d) * D.Wo e d
/-- … in the short branch: the gating projection, the convolution's result, the product of the two others. -/
def dsb (c : Fin 512) : ℝ := D.dmx b t (half 1 c) * D.cv b t c
def dcv (c : Fin 512) : ℝ := D.dmx b t (half 1 c) * D.pj b t (col 2 c)
def dq (c : Fin 512) : ℝ := ∑ k : Fin 3, D.Ws k c * fut (fun s => D.dcv b s c) t.val (2 - k.val)
/-- … in the conformer branch: the normalised row scaled and offset, the convolution's result, the gated unit. -/
def da2 (c : Fin 512) : ℝ := D.dmx b t (half 0 c) * (D.sg b t c * (1 + D.a2 b t c * (1 - D.sg b t c)))
def da1 (c : Fin 512) : ℝ := lnBwd (D.a1 b t) (fun c => D.da2 b t c * D.lg c) c
def da0 (c : Fin 512) : ℝ := ∑ k : Fin 31, D.Wd k c * fut (fun s => D.da1 b s c) t.val (30 - k.val)
/-- … in the five parts of the projection. -/
def part (j : Fin 5) (c : Fin 512) : ℝ :=
  match j with
  | 0 => D.da0 b t c * D.sgg b t c
  | 1 => D.da0 b t c * D.pj b t (col 0 c) * D.sgg b t c * (1 - D.sgg b t c)
  | 2 => D.dsb b t c
  | 3 => D.dq b t c * D.pj b t (col 4 c)
  | 4 => D.dq b t c * D.pj b t (col 3 c)
def dpj (e : Fin 2560) : ℝ := D.part b t ⟨e.val / 512, by omega⟩ ⟨e.val % 512, by omega⟩
theorem dpj_col (j : Fin 5) (c : Fin 512) : D.dpj b t (col j c) = D.part b t j c := by
  unfold dpj
  congr 1 <;> (apply Fin.ext; simp only [col]; omega)
/-- … in the sub-layer's input, and in the residual stream. -/
def dh (d : Fin 1024) : ℝ := ∑ e, D.dpj b t e * D.Wi d e
def gx (d : Fin 1024) : ℝ := D.G b t d + normBwd (D.X b t) (fun d => D.dh b t d * (1 + D.sc b d)) d

/-- One token's contribution to the eight packed modulation rows: shift, scale, six unused. -/
def modTerm (k : Fin 8) (d : Fin 1024) : ℝ :=
  if k.val = 0 then D.dh b t d else if k.val = 1 then D.dh b t d * D.xn b t d else 0

/-- One token's contribution to the conformer taps' gradient. -/
def tapTerm (k : ℕ) (c : Fin 512) : ℝ := D.a0 b t c * fut (fun s => D.da1 b s c) t.val (30 - k)

/-- One token's contribution to the eight packed rows of the mixer's small parameters: the three short taps, the
    conformer bias, gain and offset, two unused. -/
def rowTerm (k : Fin 8) (c : Fin 512) : ℝ :=
  if k.val < 3 then D.q b t c * fut (fun s => D.dcv b s c) t.val (2 - k.val)
  else if k.val = 3 then D.da1 b t c
  else if k.val = 4 then D.da2 b t c * nm (D.a1 b t) c
  else if k.val = 5 then D.da2 b t c
  else 0

/-- One token's contribution to the forty packed rows: thirty-one taps, one unused, the eight small rows. -/
def packTerm (r : Fin 40) (c : Fin 512) : ℝ :=
  if r.val < 31 then D.tapTerm b t r.val c
  else if h : 32 ≤ r.val then D.rowTerm b t ⟨r.val - 32, by omega⟩ c
  else 0

/-! ## The five results -/

/-- The gradient in the residual stream. -/
def arrGx : Vec Ideal ⟨3, ![2, 4096, 1024]⟩ .f32 := fun i => ((D.gx (i 0) (i 1) (i 2) : ℝ) : EReal)
/-- The gradient in the projection. -/
def arrDpj : Vec Ideal ⟨3, ![2, 4096, 2560]⟩ .bf16 := fun i => ((D.dpj (i 0) (i 1) (i 2) : ℝ) : EReal)
/-- The sub-layer's input. -/
def arrH : Vec Ideal ⟨3, ![2, 4096, 1024]⟩ .bf16 := fun i => ((D.h (i 0) (i 1) (i 2) : ℝ) : EReal)
/-- The packed modulation gradients of each batch element. -/
def arrMod : Vec Ideal ⟨3, ![2, 8, 1024]⟩ .f32 := fun i => ((∑ t, D.modTerm (i 0) t (i 1) (i 2) : ℝ) : EReal)
/-- The packed gradients of the mixer's small parameters. -/
def arrPack : Vec Ideal ⟨2, ![40, 512]⟩ .f32 := fun i => ((∑ b, ∑ t, D.packTerm b t (i 0) (i 1) : ℝ) : EReal)

end Data

/-- The ten argument arrays hold the data. -/
structure Holds (D : Data) (a0 a1 : Vec Ideal ⟨3, ![2, 4096, 1024]⟩ .f32) (a2 : Vec Ideal ⟨2, ![2, 6144]⟩ .f32)
    (a3 : Vec Ideal ⟨3, ![1, 1024, 2560]⟩ .f32) (a4 : Vec Ideal ⟨3, ![1, 31, 512]⟩ .f32) (a5 a6 a7 : Vec Ideal ⟨2, ![1, 512]⟩ .f32)
    (a8 : Vec Ideal ⟨3, ![1, 3, 512]⟩ .f32) (a9 : Vec Ideal ⟨3, ![1, 1024, 1024]⟩ .f32) : Prop where
  h0 : ∀ b t d, a0 (ix3 b t d) = ((D.G b t d : ℝ) : EReal)
  h1 : ∀ b t d, a1 (ix3 b t d) = ((D.X b t d : ℝ) : EReal)
  h2 : ∀ b c, a2 (ix2 b c) = ((D.M b c : ℝ) : EReal)
  h3 : ∀ d e, a3 (ix3 0 d e) = ((D.Wi d e : ℝ) : EReal)
  h4 : ∀ k c, a4 (ix3 0 k c) = ((D.Wd k c : ℝ) : EReal)
  h5 : ∀ c, a5 (ix2 0 c) = ((D.bd c : ℝ) : EReal)
  h6 : ∀ c, a6 (ix2 0 c) = ((D.lg c : ℝ) : EReal)
  h7 : ∀ c, a7 (ix2 0 c) = ((D.lb c : ℝ) : EReal)
  h8 : ∀ k c, a8 (ix3 0 k c) = ((D.Ws k c : ℝ) : EReal)
  h9 : ∀ e d, a9 (ix3 0 e d) = ((D.Wo e d : ℝ) : EReal)

end Cert.Mix
-- ==== Proof.MixFinite.lean ====
/-
  What the mixer's precondition says: every entry of the ten arguments is a real number, so the arguments hold the data
  made of those numbers.
-/
module

public import proofs.«01_k».proof.Pre_finite2
public import proofs.«01_k».proof.Proof.Gen.Pre_finite2
public import proofs.«01_k».proof.Proof.LiftPre
public import proofs.«01_k».proof.Proof.MixSpec

@[expose] public section

set_option maxRecDepth 16384

noncomputable section

namespace Cert.Mix

open Idealize.ShloMosaic Idealize.ShloMosaic.TcCoe
open Cert.Lift Cert.Pre_finite2 Cert.Pre_finite2.Gen

variable (a0 a1 : Vec Ideal ⟨3, ![2, 4096, 1024]⟩ .f32) (a2 : Vec Ideal ⟨2, ![2, 6144]⟩ .f32)
    (a3 : Vec Ideal ⟨3, ![1, 1024, 2560]⟩ .f32) (a4 : Vec Ideal ⟨3, ![1, 31, 512]⟩ .f32) (a5 a6 a7 : Vec Ideal ⟨2, ![1, 512]⟩ .f32)
    (a8 : Vec Ideal ⟨3, ![1, 3, 512]⟩ .f32) (a9 : Vec Ideal ⟨3, ![1, 1024, 1024]⟩ .f32)

/-- The data made of ten arrays' entries. -/
def Data.of : Data where
  G b t d := EReal.toReal (a0 (ix3 b t d))
  X b t d := EReal.toReal (a1 (ix3 b t d))
  M b c := EReal.toReal (a2 (ix2 b c))
  Wi d e := EReal.toReal (a3 (ix3 0 d e))
  Wd k c := EReal.toReal (a4 (ix3 0 k c))
  bd c := EReal.toReal (a5 (ix2 0 c))
  lg c := EReal.toReal (a6 (ix2 0 c))
  lb c := EReal.toReal (a7 (ix2 0 c))
  Ws k c := EReal.toReal (a8 (ix3 0 k c))
  Wo e d := EReal.toReal (a9 (ix3 0 e d))

theorem holds_of_finite (h : Cert.Pre_finite2.fn (F := Ideal) a0 a1 a2 a3 a4 a5 a6 a7 a8 a9 = fun _ => 1#1) :
    Holds (Data.of a0 a1 a2 a3 a4 a5 a6 a7 a8 a9) a0 a1 a2 a3 a4 a5 a6 a7 a8 a9 := by
  have h := congrFun h (fun a => a.elim0)
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun _ _ _ => real_of_all a0 _ _ _ _ h0 _, fun _ _ _ => real_of_all a1 _ _ _ _ h1 _, fun _ _ => real_of_all a2 _ _ _ _ h2 _,
    fun _ _ => real_of_all a3 _ _ _ _ h3 _, fun _ _ => real_of_all a4 _ _ _ _ h4 _, fun _ => real_of_all a5 _ _ _ _ h5 _,
    fun _ => real_of_all a6 _ _ _ _ h6 _, fun _ => real_of_all a7 _ _ _ _ h7 _, fun _ _ => real_of_all a8 _ _ _ _ h8 _,
    fun _ _ => real_of_all a9 _ _ _ _ h9 _⟩

end Cert.Mix

end
-- ==== Proof.MixLine.lean ====
/-
  The mixer kernel's operands: what the host's lines leave in the arrays the kernel reads.
-/
module

public import proofs.«01_k».proof.Proof.MixSpec
public import proofs.«01_k».proof.Proof.Gen.Kernel2Ideal.Frame.Runs
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel2Ideal.Mix

open Cert.Kernel2Ideal Cert.Kernel2Ideal.Gen Cert.Lift Cert.Mix

variable (m : (ℓ : Loc nD τ sig) → Buf (Elt Ideal) ℓ)

/-- The kernel's arguments hold the data. -/
abbrev HoldsAt (D : Data) (c : Dev nD) : Prop :=
  Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-! ## The host's lines, operation by operation -/

section lines

variable (c : Dev nD)

abbrev A23 : FVec Ideal S2x4096x1024 .f32 := V m c main_v23
abbrev A24 : FVec Ideal S1024x2560 .f32 := V m c main_v24
abbrev A25 : FVec Ideal S2x4096x2560 .f32 := V m c main_v25
abbrev A36 : FVec Ideal S2x4096x512 .f32 := V m c main_v36
abbrev A37 : FVec Ideal S2x4096x512 .f32 := V m c main_v37
abbrev A38 : FVec Ideal S31x512 .f32 := V m c main_v38
abbrev A40 : FVec Ideal S1x2x4126x512 .f32 := V m c main_v40
abbrev A72 : FVec Ideal S16x2x4096x512 .f32 := V m c main_v72
abbrev A73 : FVec Ideal S15x2x4096x512 .f32 := V m c main_v73
abbrev A82 : FVec Ideal S2x4096x512 .f32 := V m c main_v82
abbrev A83 : FVec Ideal S2x4096x512 .f32 := V m c main_v83
abbrev A84 : FVec Ideal S3x512 .f32 := V m c main_v84
abbrev A86 : FVec Ideal S1x2x4098x512 .f32 := V m c main_v86
abbrev A90 : FVec Ideal S3x2x4096x512 .f32 := V m c main_v90
abbrev A94 : FVec Ideal S2x4096x512 .f32 := V m c main_v94

theorem v25_line : A25 m c
    = Host.dotGeneral dot_S2x4096x1024_S1024x2560_S2x4096x2560_2_0_01_1_n_n none (A23 m c) (A24 m c) := by
  unfold A25 A23 A24 V
  after_reads_simp

theorem v36_line : A36 m c
    = Host.divf (broadcastInDim S2x4096x512 ![] bcast_S_S2x4096x512 (constant S_ .f32 0x3F800000#32))
        (addf (broadcastInDim S2x4096x512 ![] bcast_S_S2x4096x512 (constant S_ .f32 0x3F800000#32))
          (Host.exp (Host.negf (extractStridedSlice S2x4096x512 ![0, 0, 512] (A25 m c) slices_S2x4096x2560_S2x4096x512_0_0_512)))) := by
  unfold A36 A25 V
  after_reads_simp

theorem v37_line : A37 m c
    = mulf (extractStridedSlice S2x4096x512 ![0, 0, 0] (A25 m c) slices_S2x4096x2560_S2x4096x512_0_0_0) (A36 m c) := by
  unfold A37 A36 A25 V
  after_reads_simp

theorem v40_line : A40 m c
    = broadcastInDim S1x2x4126x512 ![1, 2, 3] bcast_S2x4126x512_S1x2x4126x512_1_2_3
        (pad S2x4126x512 ![0, 30, 0] ![0, 0, 0] ![0, 0, 0] (A37 m c) (sitofp .f32 (constantI S_ 32 0#32)) pads_S2x4096x512_S2x4126x512_000_3000_000 h_S_) := by
  unfold A40 A37 V
  after_reads_simp
  rfl

set_option maxHeartbeats 2000000 in
/-- The first sixteen shifted copies, and the fifteen others. -/
theorem v72_line : A72 m c
    = concatenate S16x2x4096x512 0 (List.ofFn fun k : Fin 16 => (⟨S1x2x4096x512, extractStridedSlice S1x2x4096x512 ![0, 0, k.val, 0] (A40 m c) (by revert k; decide)⟩ : (s : Shape) × (s.Idx → EReal)))
        concatenates_S1x2x4096x512_S1x2x4096x512_S1x2x4096x512_S1x2x4096x512_S1x2x4096x512_S1x2x4096x512_S1x2x4096x512_S1x2x4096x512_S1x2x4096x512_S1x2x4096x512_S1x2x4096x512_S1x2x4096x512_S1x2x4096x512_S1x2x4096x512_S1x2x4096x512_S1x2x4096x512_S16x2x4096x512_d0 := by
  unfold A72 A40 V
  after_reads_simp
  rfl

set_option maxHeartbeats 2000000 in
theorem v73_line : A73 m c
    = concatenate S15x2x4096x512 0 (List.ofFn fun k : Fin 15 => (⟨S1x2x4096x512, extractStridedSlice S1x2x4096x512 ![0, 0, 16 + k.val, 0] (A40 m c) (by revert k; decide)⟩ : (s : Shape) × (s.Idx → EReal)))
        concatenates_S1x2x4096x512_S1x2x4096x512_S1x2x4096x512_S1x2x4096x512_S1x2x4096x512_S1x2x4096x512_S1x2x4096x512_S1x2x4096x512_S1x2x4096x512_S1x2x4096x512_S1x2x4096x512_S1x2x4096x512_S1x2x4096x512_S1x2x4096x512_S1x2x4096x512_S15x2x4096x512_d0 := by
  unfold A73 A40 V
  after_reads_simp
  rfl

set_option maxHeartbeats 2000000 in
theorem v82_line : A82 m c
    = addf (Host.reduceAdd (mulf (broadcastInDim S31x2x4096x512 ![0, 1, 2, 3] bcast_S31x1x1x512_S31x2x4096x512_0_1_2_3 (broadcastInDim S31x1x1x512 ![0, 3] bcast_S31x512_S31x1x1x512_0_3 (A38 m c)))
          (concatenate S31x2x4096x512 0 [⟨S16x2x4096x512, A72 m c⟩, ⟨S15x2x4096x512, A73 m c⟩] concatenates_S16x2x4096x512_S15x2x4096x512_S31x2x4096x512_d0))
          (constant S_ .f32 0x00000000#32) reducesTo_S31x2x4096x512_S2x4096x512_d0 h_S_)
        (broadcastInDim S2x4096x512 ![0, 1, 2] bcast_S1x1x512_S2x4096x512_0_1_2 (broadcastInDim S1x1x512 ![2] bcast_S512_S1x1x512_2
          (shapeCast S512 (m ((c.tc : Thread nD τ).loc main_arg5)) shapeCasts_S1x512_S512))) := by
  unfold A82 A72 A73 A38 V
  after_reads_simp
  rfl

theorem v86_line : A86 m c
    = broadcastInDim S1x2x4098x512 ![1, 2, 3] bcast_S2x4098x512_S1x2x4098x512_1_2_3
        (pad S2x4098x512 ![0, 2, 0] ![0, 0, 0] ![0, 0, 0] (A83 m c) (sitofp .f32 (constantI S_ 32 0#32)) pads_S2x4096x512_S2x4098x512_000_200_000 h_S_) := by
  unfold A86 A83 V
  after_reads_simp
  rfl

theorem v83_line : A83 m c
    = mulf (extractStridedSlice S2x4096x512 ![0, 0, 1536] (A25 m c) slices_S2x4096x2560_S2x4096x512_0_0_1536)
        (extractStridedSlice S2x4096x512 ![0, 0, 2048] (A25 m c) slices_S2x4096x2560_S2x4096x512_0_0_2048) := by
  unfold A83 A25 V
  after_reads_simp

theorem v90_line : A90 m c
    = concatenate S3x2x4096x512 0 (List.ofFn fun k : Fin 3 => (⟨S1x2x4096x512, extractStridedSlice S1x2x4096x512 ![0, 0, k.val, 0] (A86 m c) (by revert k; decide)⟩ : (s : Shape) × (s.Idx → EReal)))
        concatenates_S1x2x4096x512_S1x2x4096x512_S1x2x4096x512_S3x2x4096x512_d0 := by
  unfold A90 A86 V
  after_reads_simp
  rfl

theorem v94_line : A94 m c
    = Host.reduceAdd (mulf (broadcastInDim S3x2x4096x512 ![0, 1, 2, 3] bcast_S3x1x1x512_S3x2x4096x512_0_1_2_3 (broadcastInDim S3x1x1x512 ![0, 3] bcast_S3x512_S3x1x1x512_0_3 (A84 m c)))
          (A90 m c)) (constant S_ .f32 0x00000000#32) reducesTo_S3x2x4096x512_S2x4096x512_d0 h_S_ := by
  unfold A94 A84 A90 V
  after_reads_simp

end lines

end Cert.Kernel2Ideal.Mix
-- ==== Proof.MixHost.lean ====
/-
  The mixer kernel's saved arrays: the projection and the two convolutions, as the host's lines leave them.
-/
module

public import proofs.«01_k».proof.Proof.MixLine
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.Kernel2Ideal.Mix

open Cert.Kernel2Ideal Cert.Kernel2Ideal.Gen Cert.Lift Cert.Mix

/-! ## The three saved arrays -/

/-- The word the arrays are padded with is zero. -/
theorem zero_word : (FloatOps.sitofp (F := Ideal) FTy.f32 (0#32) : EReal) = ((0 : ℝ) : EReal) := by
  show (((0#32 : BitVec 32).toInt : ℝ) : EReal) = _
  simp

/-- Arrays stacked along a new leading axis, read at an index. -/
theorem stack_at {N : ℕ} (f : Fin N → S1x2x4096x512.Idx → EReal) (hc) (k : Fin N) (b : Fin 2) (t : Fin 4096) (e : Fin 512) :
    concatenate ⟨4, ![N, 2, 4096, 512]⟩ 0 (List.ofFn fun k : Fin N => (⟨S1x2x4096x512, f k⟩ : (s : Shape) × (s.Idx → EReal))) hc (ix4 k b t e)
      = f k (ix4 0 b t e) :=
  concatenate_ofFn_unit_apply (t := ⟨4, ![N, 2, 4096, 512]⟩) (s₁ := S1x2x4096x512) 0 f hc rfl rfl (ix4 k b t e) k rfl (ix4 0 b t e)
    (fun a ha => by fin_cases a <;> first | rfl | exact absurd rfl ha)

variable {m : (ℓ : Loc nD τ sig) → Buf (Elt Ideal) ℓ} {D : Data} {c : Dev nD} (h : HoldsAt m D c)

include h

theorem v23_at (b : Fin 2) (t : Fin 4096) (d : Fin 1024) : A23 m c (ix3 b t d) = ((D.h b t d : ℝ) : EReal) := by
  unfold A23 V
  after_reads_at
  have h1 := h.h1
  have h2 := h.h2
  dsimp only [Thread.loc, Dev.tc] at h1 h2
  simp only [h1, h2, ms_at, rn_at]
  simp only [← EReal.coe_one, ← EReal.coe_add, ← EReal.coe_mul, chan_zero]
  rfl

theorem v24_at (d : Fin 1024) (e : Fin 2560) : A24 m c (ix2 d e) = ((D.Wi d e : ℝ) : EReal) := by
  unfold A24 V
  after_reads_at
  exact h.h3 d e

theorem v38_at (k : Fin 31) (c' : Fin 512) : A38 m c (ix2 k c') = ((D.Wd k c' : ℝ) : EReal) := by
  unfold A38 V
  after_reads_at
  exact h.h4 k c'

theorem v84_at (k : Fin 3) (c' : Fin 512) : A84 m c (ix2 k c') = ((D.Ws k c' : ℝ) : EReal) := by
  unfold A84 V
  after_reads_at
  exact h.h8 k c'

/-- The projection. -/
theorem v25_at (b : Fin 2) (t : Fin 4096) (e : Fin 2560) : A25 m c (ix3 b t e) = ((D.pj b t e : ℝ) : EReal) := by
  rw [v25_line]
  pointwise
  simp only [v23_at h, v24_at h, ← EReal.coe_mul, Lift.sum_coe]
  rfl

theorem v36_at (b : Fin 2) (t : Fin 4096) (e : Fin 512) : A36 m c (ix3 b t e) = ((D.sgg b t e : ℝ) : EReal) := by
  rw [v36_line]
  pointwise
  rw [v25_at h, ← EReal.coe_one, sig_at]
  rfl

theorem v37_at (b : Fin 2) (t : Fin 4096) (e : Fin 512) : A37 m c (ix3 b t e) = ((D.a0 b t e : ℝ) : EReal) := by
  rw [v37_line]
  pointwise
  rw [v25_at h, v36_at h, col_zero, ← EReal.coe_mul]
  rfl

theorem v40_at (b : Fin 2) (t : Fin 4096) (k : ℕ) (hk : k < 31) (ht : k + t.val < 4126) (e : Fin 512) :
    A40 m c (ix4 0 b ⟨k + t.val, ht⟩ e) = ((past (fun s => D.a0 b s e) t.val (30 - k) : ℝ) : EReal) := by
  rw [v40_line]
  pointwise
  unfold past
  split
  · rw [dif_pos (by omega), v37_at h]
    exact congrArg (fun s => ((D.a0 b s e : ℝ) : EReal)) (Fin.ext (by simp only; omega))
  · rw [dif_neg (by omega)]
    exact zero_word

theorem v72_at (k : Fin 16) (b : Fin 2) (t : Fin 4096) (e : Fin 512) :
    A72 m c (ix4 k b t e) = ((past (fun s => D.a0 b s e) t.val (30 - k.val) : ℝ) : EReal) := by
  rw [v72_line]
  refine (stack_at _ _ k b t e).trans ?_
  refine Eq.trans ?_ (v40_at h b t k.val (by omega) (by omega) e)
  pointwise

theorem v73_at (k : Fin 15) (b : Fin 2) (t : Fin 4096) (e : Fin 512) :
    A73 m c (ix4 k b t e) = ((past (fun s => D.a0 b s e) t.val (30 - (16 + k.val)) : ℝ) : EReal) := by
  rw [v73_line]
  refine (stack_at _ _ k b t e).trans ?_
  refine Eq.trans ?_ (v40_at h b t (16 + k.val) (by omega) (by omega) e)
  pointwise

/-- The conformer convolution. -/
theorem v82_at (b : Fin 2) (t : Fin 4096) (e : Fin 512) : A82 m c (ix3 b t e) = ((D.a1 b t e : ℝ) : EReal) := by
  rw [v82_line]
  pointwise
  simp only [v38_at h, v72_at h, v73_at h, h.h5, ← EReal.coe_mul, Lift.sum_coe, ← EReal.coe_add]
  refine congrArg Real.toEReal (congrArg (· + D.bd e) ?_)
  exact (Fin.sum_univ_add (a := 16) (b := 15) fun k : Fin 31 => D.Wd k e * past (fun s => D.a0 b s e) t.val (30 - k.val)).symm

theorem v83_at (b : Fin 2) (t : Fin 4096) (e : Fin 512) : A83 m c (ix3 b t e) = ((D.q b t e : ℝ) : EReal) := by
  rw [v83_line]
  pointwise
  rw [v25_at h, v25_at h, ← EReal.coe_mul]
  rfl

theorem v86_at (b : Fin 2) (t : Fin 4096) (k : ℕ) (hk : k < 3) (ht : k + t.val < 4098) (e : Fin 512) :
    A86 m c (ix4 0 b ⟨k + t.val, ht⟩ e) = ((past (fun s => D.q b s e) t.val (2 - k) : ℝ) : EReal) := by
  rw [v86_line]
  pointwise
  unfold past
  split
  · rw [dif_pos (by omega), v83_at h]
    exact congrArg (fun s => ((D.q b s e : ℝ) : EReal)) (Fin.ext (by simp only; omega))
  · rw [dif_neg (by omega)]
    exact zero_word

theorem v90_at (k : Fin 3) (b : Fin 2) (t : Fin 4096) (e : Fin 512) :
    A90 m c (ix4 k b t e) = ((past (fun s => D.q b s e) t.val (2 - k.val) : ℝ) : EReal) := by
  rw [v90_line]
  refine (stack_at _ _ k b t e).trans ?_
  refine Eq.trans ?_ (v86_at h b t k.val k.isLt (by omega) e)
  pointwise

/-- The short convolution. -/
theorem v94_at (b : Fin 2) (t : Fin 4096) (e : Fin 512) : A94 m c (ix3 b t e) = ((D.cv b t e : ℝ) : EReal) := by
  rw [v94_line]
  pointwise
  simp only [v84_at h, v90_at h, ← EReal.coe_mul, Lift.sum_coe]
  rfl

/-! ## The parameters -/

theorem v107_at (b : Fin 2) (j : Fin 6) (d : Fin 1024) :
    (V m c main_v107 : Vec Ideal S2x6x1024 .f32) (ix3 b j d) = ((D.M b (chan j d) : ℝ) : EReal) := by
  unfold V
  after_reads_at
  exact h.h2 b _

theorem v98_at (k : Fin 8) (l : Fin 320) (d : Fin 1024) :
    (V m c main_v98 : Vec Ideal S8x320x1024 .bf16) (ix3 k l d) = ((D.Wi d ⟨k.val * 320 + l.val, by omega⟩ : ℝ) : EReal) := by
  unfold V
  after_reads_at
  exact h.h3 d _

theorem v101_at (k : Fin 8) (l : Fin 128) (d : Fin 1024) :
    (V m c main_v101 : Vec Ideal S8x128x1024 .bf16) (ix3 k l d) = ((D.Wo ⟨k.val * 128 + l.val, by omega⟩ d : ℝ) : EReal) := by
  unfold V
  after_reads_at
  exact h.h9 _ d

theorem v103_at (k : Fin 31) (e : Fin 512) :
    (V m c main_v103 : Vec Ideal S32x512 .f32) (ix2 ⟨k.val, by omega⟩ e) = ((D.Wd k e : ℝ) : EReal) := by
  unfold V
  after_reads_at
  exact h.h4 k e

theorem v106_1 (e : Fin 512) : (V m c main_v106 : Vec Ideal S8x512 .f32) (ix2 1 e) = ((D.lg e : ℝ) : EReal) := by
  unfold V
  after_reads_at
  exact h.h6 e

theorem v106_2 (e : Fin 512) : (V m c main_v106 : Vec Ideal S8x512 .f32) (ix2 2 e) = ((D.lb e : ℝ) : EReal) := by
  unfold V
  after_reads_at
  exact h.h7 e

theorem v106_3 (k : Fin 3) (e : Fin 512) : (V m c main_v106 : Vec Ideal S8x512 .f32) (ix2 ⟨3 + k.val, by omega⟩ e) = ((D.Ws k e : ℝ) : EReal) := by
  unfold V
  after_reads_at
  simp (disch := omega) only [dif_pos, dif_neg]
  after_reads_at
  refine Eq.trans (congrArg _ ?_) (h.h8 k e)
  exact congrArg (fun k => ix3 0 k e) (Fin.ext (by simp only; omega))

end Cert.Kernel2Ideal.Mix
-- ==== Proof.MixBlk.lean ====
/-
  The mixer kernel's blocks at a grid point: the tokens' rows and the batch element's parameters. The grid walks each batch
  element's token blocks backwards.
-/
module

public import proofs.«01_k».proof.Proof.MixHost
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Lift Cert.Mix

/-- The batch element, the block's first token and the tokens of a grid point. -/
abbrev bat (t : Fin cfg0.N) : Fin 2 := ⟨t.val / 16, Nat.div_lt_of_lt_mul t.isLt⟩
abbrev base (t : Fin cfg0.N) : ℕ := (15 - t.val % 16) * 256
abbrev tok (t : Fin cfg0.N) (r : Fin 256) : Fin 4096 := ⟨(15 - t.val % 16) * 256 + r.val, by omega⟩

theorem idx : ∀ t : Fin cfg0.N, win0_0.index t = ![t.val / 16, 15 - t.val % 16, 0] ∧ win0_1.index t = ![t.val / 16, 15 - t.val % 16, 0]
    ∧ win0_2.index t = ![t.val / 16, 15 - t.val % 16, 0] ∧ win0_3.index t = ![t.val / 16, 15 - t.val % 16, 0]
    ∧ win0_4.index t = ![t.val / 16, 15 - t.val % 16, 0] ∧ win0_5.index t = ![t.val / 16, 0, 0] ∧ win0_6.index t = ![0, 0, 0]
    ∧ win0_7.index t = ![0, 0, 0] ∧ win0_8.index t = ![0, 0] ∧ win0_9.index t = ![0, 0] :=
  (by decide +kernel : ∀ t : Fin grid0.N, _)

variable {m : (ℓ : Loc nD τ sig) → Buf (Elt Ideal) ℓ} {D : Data} {c : Dev nD} (h : HoldsAt m D c)

include h

theorem g_at (t : Fin cfg0.N) (r : Fin 256) (d : Fin 1024) :
    (iblk m c 0 t : Vec Ideal S1x256x1024 .f32) (ix3 0 r d) = ((D.G (bat t) (tok t r) d : ℝ) : EReal) := by
  rw [← h.h0]
  blk_ext! [iblk, V, idx t]

theorem x_at (t : Fin cfg0.N) (r : Fin 256) (d : Fin 1024) :
    (iblk m c 1 t : Vec Ideal S1x256x1024 .f32) (ix3 0 r d) = ((D.X (bat t) (tok t r) d : ℝ) : EReal) := by
  rw [← h.h1]
  blk_ext! [iblk, V, idx t]

theorem pj_at (t : Fin cfg0.N) (r : Fin 256) (e : Fin 2560) :
    (iblk m c 2 t : Vec Ideal S1x256x2560 .f32) (ix3 0 r e) = ((D.pj (bat t) (tok t r) e : ℝ) : EReal) := by
  rw [← v25_at h]
  blk_ext! [iblk, idx t]

theorem a1_at (t : Fin cfg0.N) (r : Fin 256) (e : Fin 512) :
    (iblk m c 3 t : Vec Ideal S1x256x512 .f32) (ix3 0 r e) = ((D.a1 (bat t) (tok t r) e : ℝ) : EReal) := by
  rw [← v82_at h]
  blk_ext! [iblk, idx t]

theorem cv_at (t : Fin cfg0.N) (r : Fin 256) (e : Fin 512) :
    (iblk m c 4 t : Vec Ideal S1x256x512 .f32) (ix3 0 r e) = ((D.cv (bat t) (tok t r) e : ℝ) : EReal) := by
  rw [← v94_at h]
  blk_ext! [iblk, idx t]

theorem mod_at (t : Fin cfg0.N) (j : Fin 6) (d : Fin 1024) :
    (iblk m c 5 t : Vec Ideal S1x6x1024 .f32) (ix3 0 j d) = ((D.M (bat t) (chan j d) : ℝ) : EReal) := by
  rw [← v107_at h]
  blk_ext! [iblk, idx t]

theorem wi_at (t : Fin cfg0.N) (k : Fin 8) (l : Fin 320) (d : Fin 1024) :
    (iblk m c 6 t : Vec Ideal S8x320x1024 .bf16) (ix3 k l d) = ((D.Wi d ⟨k.val * 320 + l.val, by omega⟩ : ℝ) : EReal) := by
  rw [← v98_at h]
  blk_ext! [iblk, idx t]

theorem wo_at (t : Fin cfg0.N) (k : Fin 8) (l : Fin 128) (d : Fin 1024) :
    (iblk m c 7 t : Vec Ideal S8x128x1024 .bf16) (ix3 k l d) = ((D.Wo ⟨k.val * 128 + l.val, by omega⟩ d : ℝ) : EReal) := by
  rw [← v101_at h]
  blk_ext! [iblk, idx t]

theorem wd_at (t : Fin cfg0.N) (k : Fin 31) (e : Fin 512) :
    (iblk m c 8 t : Vec Ideal S32x512 .f32) (ix2 ⟨k.val, by omega⟩ e) = ((D.Wd k e : ℝ) : EReal) := by
  rw [← v103_at h]
  blk_ext! [iblk, idx t]

theorem lg_at (t : Fin cfg0.N) (e : Fin 512) :
    (iblk m c 9 t : Vec Ideal S8x512 .f32) (ix2 1 e) = ((D.lg e : ℝ) : EReal) := by
  rw [← v106_1 h]
  blk_ext! [iblk, idx t]

theorem lb_at (t : Fin cfg0.N) (e : Fin 512) :
    (iblk m c 9 t : Vec Ideal S8x512 .f32) (ix2 2 e) = ((D.lb e : ℝ) : EReal) := by
  rw [← v106_2 h]
  blk_ext! [iblk, idx t]

theorem ws_at (t : Fin cfg0.N) (k : Fin 3) (e : Fin 512) :
    (iblk m c 9 t : Vec Ideal S8x512 .f32) (ix2 ⟨3 + k.val, by omega⟩ e) = ((D.Ws k e : ℝ) : EReal) := by
  rw [← v106_3 h]
  blk_ext! [iblk, idx t]

end Cert.Kernel2Ideal.Mix
-- ==== Proof.MixPay.lean ====
/-
  What the mixer kernel's printed operations compute on one block of 256 tokens: every value of the body, read at an
  index, is the coerced real the specification names. The two convolutions' shifted rows and the gated unit's gradient
  are taken as given here.
-/
module

public import proofs.«01_k».proof.Proof.MixSpec
public import proofs.«01_k».proof.Proof.Gen.Kernel2Ideal.Skeleton
public import Idealize.ShloMosaic.Lib.Pointwise

@[expose] public section

set_option maxRecDepth 16384

noncomputable section

open Idealize.ShloMosaic Idealize.ShloMosaic.TcCoe Idealize.SL.Sem

namespace Cert.Kernel2Ideal.Pay

open Cert.Kernel2Ideal Cert.Kernel2Ideal.Gen Cert.Lift Cert.Mix

/-- The logistic function as the kernel names it. -/
theorem logistic_at (z : ℝ) : Ideal.logistic (z : EReal) = ((Cert.Lift.sig z : ℝ) : EReal) := by
  rw [← sig_at, EReal.coe_one]
  rfl

/-- The block's inputs hold the data at these tokens of a batch element. -/
structure Reads (D : Data) (b : Fin 2) (tk : Fin 256 → Fin 4096) (g x : Vec Ideal S1x256x1024 .f32)
    (sh sc g1 : Vec Ideal S1x1x1024 .f32) (p0 p1 p2 p3 p4 a1 cv : Vec Ideal S1x256x512 .f32)
    (lg lb w0 w1 w2 : Vec Ideal S1x512 .f32) (wi : Vec Ideal S8x320x1024 .bf16) (wo : Vec Ideal S8x128x1024 .bf16) : Prop where
  hg : ∀ r d, g (ix3 0 r d) = ((D.G b (tk r) d : ℝ) : EReal)
  hx : ∀ r d, x (ix3 0 r d) = ((D.X b (tk r) d : ℝ) : EReal)
  hsh : ∀ d, sh (ix3 0 0 d) = ((D.sh b d : ℝ) : EReal)
  hsc : ∀ d, sc (ix3 0 0 d) = ((D.sc b d : ℝ) : EReal)
  hg1 : ∀ d, g1 (ix3 0 0 d) = ((D.g1 b d : ℝ) : EReal)
  hp0 : ∀ r e, p0 (ix3 0 r e) = ((D.pj b (tk r) (col 0 e) : ℝ) : EReal)
  hp1 : ∀ r e, p1 (ix3 0 r e) = ((D.pj b (tk r) (col 1 e) : ℝ) : EReal)
  hp2 : ∀ r e, p2 (ix3 0 r e) = ((D.pj b (tk r) (col 2 e) : ℝ) : EReal)
  hp3 : ∀ r e, p3 (ix3 0 r e) = ((D.pj b (tk r) (col 3 e) : ℝ) : EReal)
  hp4 : ∀ r e, p4 (ix3 0 r e) = ((D.pj b (tk r) (col 4 e) : ℝ) : EReal)
  ha1 : ∀ r e, a1 (ix3 0 r e) = ((D.a1 b (tk r) e : ℝ) : EReal)
  hcv : ∀ r e, cv (ix3 0 r e) = ((D.cv b (tk r) e : ℝ) : EReal)
  hlg : ∀ e, lg (ix2 0 e) = ((D.lg e : ℝ) : EReal)
  hlb : ∀ e, lb (ix2 0 e) = ((D.lb e : ℝ) : EReal)
  hw0 : ∀ e, w0 (ix2 0 e) = ((D.Ws 0 e : ℝ) : EReal)
  hw1 : ∀ e, w1 (ix2 0 e) = ((D.Ws 1 e : ℝ) : EReal)
  hw2 : ∀ e, w2 (ix2 0 e) = ((D.Ws 2 e : ℝ) : EReal)
  hwi : ∀ k l d, wi (ix3 k l d) = ((D.Wi d ⟨k.val * 320 + l.val, by omega⟩ : ℝ) : EReal)
  hwo : ∀ k l d, wo (ix3 k l d) = ((D.Wo ⟨k.val * 128 + l.val, by omega⟩ d : ℝ) : EReal)

variable {D : Data} {b : Fin 2} {tk : Fin 256 → Fin 4096} {g x : Vec Ideal S1x256x1024 .f32}
    {sh sc g1 : Vec Ideal S1x1x1024 .f32} {p0 p1 p2 p3 p4 a1 cv : Vec Ideal S1x256x512 .f32}
    {lg lb w0 w1 w2 : Vec Ideal S1x512 .f32} {wi : Vec Ideal S8x320x1024 .bf16} {wo : Vec Ideal S8x128x1024 .bf16}
    (h : Reads D b tk g x sh sc g1 p0 p1 p2 p3 p4 a1 cv lg lb w0 w1 w2 wi wo)

include h

/-! ## The gradient in the mixed row and in the short branch -/

theorem dy1_at (r : Fin 256) (d : Fin 1024) :
    k0_pay15 (F := Ideal) g g1 (ix2 r d) = ((D.g1 b d * D.G b (tk r) d : ℝ) : EReal) := by
  pointwise [k0_pay15, k0_pay4]
  simp only [h.hg, h.hg1, ← EReal.coe_mul]

theorem mx_at (r : Fin 256) (e : Fin 1024) :
    k0_pay16 (F := Ideal) (k0_pay15 g g1) wo (ix2 r e) = ((D.dmx b (tk r) e : ℝ) : EReal) := by
  pointwise [k0_pay16]
  simp only [dy1_at h, h.hwo, Nat.div_add_mod', Fin.eta, ← EReal.coe_mul, sum_coe]
  rfl

theorem da_at (r : Fin 256) (c : Fin 512) :
    k0_pay17 (F := Ideal) (k0_pay15 g g1) wo (ix2 r c) = ((D.dmx b (tk r) (half 0 c) : ℝ) : EReal) := by
  pointwise [k0_pay17]
  simp only [mx_at h, half_zero]

theorem db_at (r : Fin 256) (c : Fin 512) :
    k0_pay18 (F := Ideal) (k0_pay15 g g1) wo (ix2 r c) = ((D.dmx b (tk r) (half 1 c) : ℝ) : EReal) := by
  pointwise [k0_pay18]
  simp only [mx_at h]
  congr 3

theorem dsb_at (r : Fin 256) (c : Fin 512) :
    k0_pay23 (F := Ideal) (k0_pay15 g g1) wo cv (ix2 r c) = ((D.dsb b (tk r) c : ℝ) : EReal) := by
  pointwise [k0_pay23]
  simp only [db_at h, h.hcv, ← EReal.coe_mul]
  rfl

theorem dcv_at (r : Fin 256) (c : Fin 512) :
    k0_pay24 (F := Ideal) (k0_pay15 g g1) wo p2 (ix2 r c) = ((D.dcv b (tk r) c : ℝ) : EReal) := by
  pointwise [k0_pay24]
  simp only [db_at h, h.hp2, ← EReal.coe_mul]
  rfl

theorem q_at (r : Fin 256) (c : Fin 512) :
    k0_pay25 (F := Ideal) p3 p4 (ix2 r c) = ((D.q b (tk r) c : ℝ) : EReal) := by
  pointwise [k0_pay25, k0_pay21, k0_pay22]
  simp only [h.hp3, h.hp4, ← EReal.coe_mul]
  rfl

section short

variable {C0 C1 C2 : Vec Ideal S256x512 .f32}
  (hC0 : ∀ r c, C0 (ix2 r c) = ((fut (fun s => D.dcv b s c) (tk r).val 0 : ℝ) : EReal))
  (hC1 : ∀ r c, C1 (ix2 r c) = ((fut (fun s => D.dcv b s c) (tk r).val 1 : ℝ) : EReal))
  (hC2 : ∀ r c, C2 (ix2 r c) = ((fut (fun s => D.dcv b s c) (tk r).val 2 : ℝ) : EReal))

include hC0 hC1 hC2

theorem dq_at (r : Fin 256) (c : Fin 512) :
    k0_pay29 (F := Ideal) (k0_pay26 C2 w0) C1 w1 C0 w2 (ix2 r c) = ((D.dq b (tk r) c : ℝ) : EReal) := by
  pointwise [k0_pay29, k0_pay26]
  simp only [hC0, hC1, hC2, h.hw0, h.hw1, h.hw2, zero_add, ← EReal.coe_mul, ← EReal.coe_add]
  unfold Data.dq
  rw [Fin.sum_univ_three]
  rfl

theorem dsc_at (r : Fin 256) (c : Fin 512) :
    k0_pay31 (F := Ideal) (k0_pay22 p4) (k0_pay26 C2 w0) C1 w1 C0 w2 (ix2 r c) = ((D.part b (tk r) 3 c : ℝ) : EReal) := by
  pointwise [k0_pay31, k0_pay22]
  simp only [dq_at h hC0 hC1 hC2, h.hp4, ← EReal.coe_mul]
  rfl

theorem dsh_at (r : Fin 256) (c : Fin 512) :
    k0_pay32 (F := Ideal) (k0_pay21 p3) (k0_pay29 (k0_pay26 C2 w0) C1 w1 C0 w2) (ix2 r c) = ((D.part b (tk r) 4 c : ℝ) : EReal) := by
  pointwise [k0_pay32, k0_pay21]
  simp only [dq_at h hC0 hC1 hC2, h.hp3, ← EReal.coe_mul]
  rfl

omit hC0 hC1 in
theorem row0_at (acc : Vec Ideal S1x512 .f32) (c : Fin 512) :
    k0_pay27 (F := Ideal) (k0_pay25 p3 p4) C2 acc (ix2 0 c) = acc (ix2 0 c) + ((∑ r, D.rowTerm b (tk r) 0 c : ℝ) : EReal) := by
  pointwise [k0_pay27]
  simp only [q_at h, hC2, ← EReal.coe_mul, sum_coe]
  rfl

omit hC0 hC2 in
theorem row1_at (acc : Vec Ideal S1x512 .f32) (c : Fin 512) :
    k0_pay28 (F := Ideal) (k0_pay25 p3 p4) C1 acc (ix2 0 c) = acc (ix2 0 c) + ((∑ r, D.rowTerm b (tk r) 1 c : ℝ) : EReal) := by
  pointwise [k0_pay28]
  simp only [q_at h, hC1, ← EReal.coe_mul, sum_coe]
  rfl

omit hC1 hC2 in
theorem row2_at (acc : Vec Ideal S1x512 .f32) (c : Fin 512) :
    k0_pay30 (F := Ideal) (k0_pay25 p3 p4) C0 acc (ix2 0 c) = acc (ix2 0 c) + ((∑ r, D.rowTerm b (tk r) 2 c : ℝ) : EReal) := by
  pointwise [k0_pay30]
  simp only [q_at h, hC0, ← EReal.coe_mul, sum_coe]
  rfl

end short

/-! ## The conformer branch -/

theorem xc_at (r : Fin 256) (c : Fin 512) : k0_pay33 (F := Ideal) a1 (ix2 r c) = ((xc (D.a1 b (tk r)) c : ℝ) : EReal) := by
  pointwise [k0_pay33]
  simp only [h.ha1, sum_coe, div_512, ← EReal.coe_sub]
  rfl

theorem rs_at' (r : Fin 256) : k0_pay34 (F := Ideal) a1 (ix2 r 0) = ((rs (D.a1 b (tk r)) : ℝ) : EReal) := by
  pointwise [k0_pay34]
  simp only [xc_at h]
  rw [vr_at, rs_at]

theorem nm_at (r : Fin 256) (c : Fin 512) : k0_pay35 (F := Ideal) a1 (ix2 r c) = ((nm (D.a1 b (tk r)) c : ℝ) : EReal) := by
  pointwise [k0_pay35]
  simp only [xc_at h, rs_at' h, ← EReal.coe_mul]
  rfl

theorem da2_at (r : Fin 256) (c : Fin 512) :
    k0_pay37 (F := Ideal) (k0_pay17 (k0_pay15 g g1) wo) a1 lg lb (ix2 r c) = ((D.da2 b (tk r) c : ℝ) : EReal) := by
  pointwise [k0_pay37, k0_pay36]
  simp only [da_at h, nm_at h, h.hlg, h.hlb, ← EReal.coe_one, ← EReal.coe_mul, ← EReal.coe_add, logistic_at, ← EReal.coe_sub]
  rfl

theorem row4_at (acc : Vec Ideal S1x512 .f32) (c : Fin 512) :
    k0_pay39 (F := Ideal) (k0_pay38 (k0_pay17 (k0_pay15 g g1) wo) a1 lg lb acc) (ix2 0 c)
      = acc (ix2 0 c) + ((∑ r, D.rowTerm b (tk r) 4 c : ℝ) : EReal) := by
  pointwise [k0_pay39, k0_pay38]
  simp only [da2_at h, nm_at h, ← EReal.coe_mul, sum_coe]
  rfl

theorem row5_at (acc : Vec Ideal S1x512 .f32) (c : Fin 512) :
    k0_pay40 (F := Ideal) (k0_pay37 (k0_pay17 (k0_pay15 g g1) wo) a1 lg lb) acc (ix2 0 c)
      = acc (ix2 0 c) + ((∑ r, D.rowTerm b (tk r) 5 c : ℝ) : EReal) := by
  pointwise [k0_pay40]
  simp only [da2_at h, sum_coe]
  rfl

theorem da1_mid (r : Fin 256) (c : Fin 512) :
    k0_pay41 (F := Ideal) (k0_pay34 a1) (k0_pay35 a1) (k0_pay36 lg) (k0_pay37 (k0_pay17 (k0_pay15 g g1) wo) a1 lg lb) (ix2 r c)
      = ((D.da1 b (tk r) c : ℝ) : EReal) := by
  pointwise [k0_pay41, k0_pay36]
  simp only [da2_at h, nm_at h, rs_at' h, h.hlg, ← EReal.coe_mul, sum_coe, div_512, ← EReal.coe_sub]
  rfl

theorem row3_at (acc : Vec Ideal S1x512 .f32) (c : Fin 512) :
    k0_pay42 (F := Ideal) (k0_pay34 a1) (k0_pay35 a1) (k0_pay36 lg) (k0_pay37 (k0_pay17 (k0_pay15 g g1) wo) a1 lg lb) acc (ix2 0 c)
      = acc (ix2 0 c) + ((∑ r, D.rowTerm b (tk r) 3 c : ℝ) : EReal) := by
  pointwise [k0_pay42]
  simp only [da1_mid h, sum_coe]
  rfl

theorem da1_at (r : Fin 256) (c : Fin 512) :
    k0_pay43 (F := Ideal) (k0_pay34 a1) (k0_pay35 a1) (k0_pay36 lg) (k0_pay37 (k0_pay17 (k0_pay15 g g1) wo) a1 lg lb) (ix2 r c)
      = ((D.da1 b (tk r) c : ℝ) : EReal) := by
  pointwise [k0_pay43]
  exact da1_mid h r c

theorem sgg_at (r : Fin 256) (c : Fin 512) : k0_pay44 (F := Ideal) (k0_pay20 p1) (ix2 r c) = ((D.sgg b (tk r) c : ℝ) : EReal) := by
  pointwise [k0_pay44, k0_pay20]
  simp only [h.hp1, logistic_at]
  rfl

theorem a0_at (r : Fin 256) (c : Fin 512) :
    k0_pay46 (F := Ideal) (k0_pay45 (k0_pay19 p0) (k0_pay20 p1)) (ix2 r c) = ((D.a0 b (tk r) c : ℝ) : EReal) := by
  pointwise [k0_pay46, k0_pay45, k0_pay19]
  simp only [sgg_at h, h.hp0, ← EReal.coe_mul]
  rfl

/-! ## The gradient in the projection, in the sub-layer's input and in the residual stream -/

section proj

variable {C0 C1 C2 A : Vec Ideal S256x512 .f32}
  (hC0 : ∀ r c, C0 (ix2 r c) = ((fut (fun s => D.dcv b s c) (tk r).val 0 : ℝ) : EReal))
  (hC1 : ∀ r c, C1 (ix2 r c) = ((fut (fun s => D.dcv b s c) (tk r).val 1 : ℝ) : EReal))
  (hC2 : ∀ r c, C2 (ix2 r c) = ((fut (fun s => D.dcv b s c) (tk r).val 2 : ℝ) : EReal))
  (hA : ∀ r c, A (ix2 r c) = ((D.da0 b (tk r) c : ℝ) : EReal))

include hC0 hC1 hC2 hA

theorem dpj_at (r : Fin 256) (e : Fin 2560) :
    k0_pay734 (F := Ideal) (k0_pay19 p0) (k0_pay23 (k0_pay15 g g1) wo cv)
        (k0_pay31 (k0_pay22 p4) (k0_pay26 C2 w0) C1 w1 C0 w2) (k0_pay32 (k0_pay21 p3) (k0_pay29 (k0_pay26 C2 w0) C1 w1 C0 w2))
        (k0_pay44 (k0_pay20 p1)) A (ix2 r e)
      = ((D.dpj b (tk r) e : ℝ) : EReal) := by
  obtain ⟨j, c, rfl⟩ := eq_col e
  rw [D.dpj_col]
  have h0 := dsb_at h r c
  have h3 := dsc_at h hC0 hC1 hC2 r c
  have h4 := dsh_at h hC0 hC1 hC2 r c
  have hs := sgg_at h r c
  have hp : k0_pay19 (F := Ideal) p0 (ix2 r c) = ((D.pj b (tk r) (col 0 c) : ℝ) : EReal) := by
    pointwise [k0_pay19]
    exact h.hp0 r c
  have hk (n : ℕ) (hn : n = c.val) (hlt : n < 512) : (⟨n, hlt⟩ : Fin 512) = c := Fin.ext hn
  fin_cases j <;> pointwise [k0_pay734] <;>
    simp (disch := omega) only [dif_pos, dif_neg, hk, hA, hs, hp, h0, h3, h4, ← EReal.coe_one, ← EReal.coe_mul, ← EReal.coe_sub] <;> rfl

end proj

section input

variable {P : FVec Ideal S256x2560 .bf16} (hP : ∀ r e, P (ix2 r e) = ((D.dpj b (tk r) e : ℝ) : EReal))

omit h in
include hP in
theorem dh_at (hwi : ∀ k l d, wi (ix3 k l d) = ((D.Wi d ⟨k.val * 320 + l.val, by omega⟩ : ℝ) : EReal)) (r : Fin 256) (d : Fin 1024) :
    k0_pay736 (F := Ideal) P wi (ix2 r d) = ((D.dh b (tk r) d : ℝ) : EReal) := by
  pointwise [k0_pay736]
  simp only [hP, hwi, Nat.div_add_mod', Fin.eta, ← EReal.coe_mul, sum_coe]
  rfl

theorem rn_at' (r : Fin 256) : k0_pay737 (F := Ideal) (k0_pay5 x) (ix2 r 0) = ((rn (D.X b (tk r)) : ℝ) : EReal) := by
  pointwise [k0_pay737, k0_pay5]
  simp only [h.hx]
  rw [ms_at, rn_at]

theorem x_at' (r : Fin 256) (d : Fin 1024) : k0_pay5 (F := Ideal) x (ix2 r d) = ((D.X b (tk r) d : ℝ) : EReal) := by
  pointwise [k0_pay5]
  exact h.hx r d

theorem xn_at (r : Fin 256) (d : Fin 1024) : k0_pay738 (F := Ideal) (k0_pay5 x) (ix2 r d) = ((D.xn b (tk r) d : ℝ) : EReal) := by
  pointwise [k0_pay738]
  simp only [x_at' h, rn_at' h, ← EReal.coe_mul]
  rfl

theorem h_at (r : Fin 256) (d : Fin 1024) :
    k0_pay739 (F := Ideal) (k0_pay5 x) (k0_pay6 sh) (k0_pay7 sc) (ix3 0 r d) = ((D.h b (tk r) d : ℝ) : EReal) := by
  pointwise [k0_pay739, k0_pay6, k0_pay7]
  simp only [xn_at h, h.hsh, h.hsc, ← EReal.coe_one, ← EReal.coe_mul, ← EReal.coe_add]
  rfl

include hP

theorem mod0_at (acc : Vec Ideal S1x1x1024 .f32) (d : Fin 1024) :
    k0_pay740 (F := Ideal) P wi acc (ix3 0 0 d) = acc (ix3 0 0 d) + ((∑ r, D.modTerm b (tk r) 0 d : ℝ) : EReal) := by
  pointwise [k0_pay740]
  simp only [dh_at hP h.hwi, sum_coe]
  rfl

theorem mod1_at (acc : Vec Ideal S1x1x1024 .f32) (d : Fin 1024) :
    k0_pay1 (F := Ideal) (k0_pay741 (k0_pay5 x) P wi acc) (ix3 0 0 d)
      = acc (ix3 0 0 d) + ((∑ r, D.modTerm b (tk r) 1 d : ℝ) : EReal) := by
  pointwise [k0_pay1, k0_pay741]
  simp only [dh_at hP h.hwi, xn_at h, ← EReal.coe_mul, sum_coe]
  rfl

theorem gx_at (r : Fin 256) (d : Fin 1024) :
    k0_pay2 (F := Ideal) (k0_pay4 g) (k0_pay7 sc) (k0_pay736 P wi) (k0_pay737 (k0_pay5 x)) (k0_pay738 (k0_pay5 x)) (ix3 0 r d)
      = ((D.gx b (tk r) d : ℝ) : EReal) := by
  pointwise [k0_pay2, k0_pay4, k0_pay7]
  simp only [dh_at hP h.hwi, xn_at h, rn_at' h, h.hg, h.hsc, ← EReal.coe_one, ← EReal.coe_mul, ← EReal.coe_add, sum_coe, div_1024,
    ← EReal.coe_sub]
  rfl

end input

end Cert.Kernel2Ideal.Pay
-- ==== Proof.Rows.lean ====
/-
  Whole rows of 512 stored in and read back from a buffer: a read over a list of stores is the newest store that reaches it.
-/
module

public import Idealize.ShloMosaic.Lib.Pointwise
public import Idealize.ShloMosaic.Lib.Pipeline.ReadBack
public import Idealize.ShloMosaic.Lib.WritesUnit

@[expose] public section

noncomputable section

open Idealize.ShloMosaic

namespace Cert.Rows

variable {σ : RefSig} {κ : Kind} {sp : Space} {N R o : ℕ}

/-- Rows read back from what was stored. -/
theorem rows_back (v : View σ κ sp ⟨2, ![N, 512]⟩ .f32) (L : List (View.Piece (Elt Ideal) ⟨2, ![N, 512]⟩ .f32))
    (inb : ∀ a : Fin 2, (![o, 0] : Fin 2 → ℕ) a + (![R, 512] : Fin 2 → ℕ) a ≤ (![N, 512] : Fin 2 → ℕ) a) (r : Fin R) (c : Fin 512)
    (h : o + r.val < N) :
    (v.readCov L (Rect.unit (s := ⟨2, ![N, 512]⟩) ![o, 0] ![R, 512] inb).toLoadRect : Vec Ideal ⟨2, ![R, 512]⟩ .f32) (ix2 r c)
      = View.canon L (ix2 ⟨o + r.val, h⟩ c) := by
  rw [View.readCov_eq_canon']
  refine congrArg (View.canon L) (funext fun a => Fin.ext ?_)
  fin_cases a <;> simp [Rect.toLoadRect, LoadRect.idx, Rect.unit]

/-- Rows under the newest piece. -/
theorem rows_new (inb : ∀ a : Fin 2, (![o, 0] : Fin 2 → ℕ) a + (![R, 512] : Fin 2 → ℕ) a ≤ (![N, 512] : Fin 2 → ℕ) a)
    (P : Vec Ideal ⟨2, ![R, 512]⟩ .f32) (L : List (View.Piece (Elt Ideal) ⟨2, ![N, 512]⟩ .f32)) (r : Fin R) (c : Fin 512)
    (n : Fin N) (h : n.val = o + r.val) :
    View.canon (⟨Rect.unit (s := ⟨2, ![N, 512]⟩) ![o, 0] ![R, 512] inb, P⟩ :: L) (ix2 n c) = P (ix2 r c) := by
  refine Eq.trans (congrArg _ (funext fun a => Fin.ext ?_)) (View.canon_cons_emb (Rect.unit (s := ⟨2, ![N, 512]⟩) ![o, 0] ![R, 512] inb) P L (ix2 r c))
  fin_cases a <;> simp [Rect.emb, Rect.unit, h]

/-- Rows off the newest piece. -/
theorem rows_old (inb : ∀ a : Fin 2, (![o, 0] : Fin 2 → ℕ) a + (![R, 512] : Fin 2 → ℕ) a ≤ (![N, 512] : Fin 2 → ℕ) a)
    (P : Vec Ideal ⟨2, ![R, 512]⟩ .f32) (L : List (View.Piece (Elt Ideal) ⟨2, ![N, 512]⟩ .f32)) (c : Fin 512)
    (n : Fin N) (h : n.val < o ∨ o + R ≤ n.val) :
    View.canon (⟨Rect.unit (s := ⟨2, ![N, 512]⟩) ![o, 0] ![R, 512] inb, P⟩ :: L) (ix2 n c) = View.canon L (ix2 n c) := by
  refine View.canon_cons_of_not_mem _ _ fun hm => ?_
  have hm' : ix2 n c ∈ (Rect.unit (s := ⟨2, ![N, 512]⟩) ![o, 0] ![R, 512] inb).set := hm
  have := (Rect.mem_set_unit.mp hm') 0
  simp at this
  omega

/-! ## Blocks of a stack of row blocks -/

/-- One block of the stack under the newest piece. -/
theorem slab_new {B M : ℕ} {p : ℕ} (inb : ∀ a : Fin 3, (![p, o, 0] : Fin 3 → ℕ) a + (![1, R, 512] : Fin 3 → ℕ) a ≤ (![B, M, 512] : Fin 3 → ℕ) a)
    (P : Vec Ideal ⟨3, ![1, R, 512]⟩ .f32) (L : List (View.Piece (Elt Ideal) ⟨3, ![B, M, 512]⟩ .f32)) (r : Fin R) (c : Fin 512)
    (q : Fin B) (hq : q.val = p) (n : Fin M) (h : n.val = o + r.val) :
    View.canon (⟨Rect.unit (s := ⟨3, ![B, M, 512]⟩) ![p, o, 0] ![1, R, 512] inb, P⟩ :: L) (ix3 q n c) = P (ix3 0 r c) := by
  refine Eq.trans (congrArg _ (funext fun a => Fin.ext ?_))
    (View.canon_cons_emb (Rect.unit (s := ⟨3, ![B, M, 512]⟩) ![p, o, 0] ![1, R, 512] inb) P L (ix3 0 r c))
  fin_cases a <;> simp [Rect.emb, Rect.unit, h, hq]

/-- A block of the stack off the newest piece. -/
theorem slab_old {B M : ℕ} {p : ℕ} (inb : ∀ a : Fin 3, (![p, o, 0] : Fin 3 → ℕ) a + (![1, R, 512] : Fin 3 → ℕ) a ≤ (![B, M, 512] : Fin 3 → ℕ) a)
    (P : Vec Ideal ⟨3, ![1, R, 512]⟩ .f32) (L : List (View.Piece (Elt Ideal) ⟨3, ![B, M, 512]⟩ .f32)) (c : Fin 512)
    (q : Fin B) (n : Fin M) (h : q.val ≠ p ∨ n.val < o ∨ o + R ≤ n.val) :
    View.canon (⟨Rect.unit (s := ⟨3, ![B, M, 512]⟩) ![p, o, 0] ![1, R, 512] inb, P⟩ :: L) (ix3 q n c) = View.canon L (ix3 q n c) := by
  refine View.canon_cons_of_not_mem _ _ fun hm => ?_
  have hm' : ix3 q n c ∈ (Rect.unit (s := ⟨3, ![B, M, 512]⟩) ![p, o, 0] ![1, R, 512] inb).set := hm
  have h0 := (Rect.mem_set_unit.mp hm') 0
  have h1 := (Rect.mem_set_unit.mp hm') 1
  simp at h0 h1
  omega

/-- Blocks of the stack read back from what was stored. -/
theorem slab_back {B M : ℕ} {p : ℕ} (v : View σ κ sp ⟨3, ![B, M, 512]⟩ .f32) (L : List (View.Piece (Elt Ideal) ⟨3, ![B, M, 512]⟩ .f32))
    (inb : ∀ a : Fin 3, (![p, o, 0] : Fin 3 → ℕ) a + (![1, R, 512] : Fin 3 → ℕ) a ≤ (![B, M, 512] : Fin 3 → ℕ) a) (r : Fin R) (c : Fin 512)
    (hp : p < B) (h : o + r.val < M) :
    (v.readCov L (Rect.unit (s := ⟨3, ![B, M, 512]⟩) ![p, o, 0] ![1, R, 512] inb).toLoadRect : Vec Ideal ⟨3, ![1, R, 512]⟩ .f32) (ix3 0 r c)
      = View.canon L (ix3 ⟨p, hp⟩ ⟨o + r.val, h⟩ c) := by
  rw [View.readCov_eq_canon']
  refine congrArg (View.canon L) (funext fun a => Fin.ext ?_)
  fin_cases a <;> simp [Rect.toLoadRect, LoadRect.idx, Rect.unit]

/-- A block of rows stored over the rows before it: both are rows of one sequence. -/
theorem seq_at {H : ℕ} (F : ℕ → Fin 512 → EReal)
    (i1 : ∀ a : Fin 2, (![H, 0] : Fin 2 → ℕ) a + (![R, 512] : Fin 2 → ℕ) a ≤ (![N, 512] : Fin 2 → ℕ) a)
    (i0 : ∀ a : Fin 2, (![0, 0] : Fin 2 → ℕ) a + (![H, 512] : Fin 2 → ℕ) a ≤ (![N, 512] : Fin 2 → ℕ) a)
    (P : Vec Ideal ⟨2, ![R, 512]⟩ .f32) (Q : Vec Ideal ⟨2, ![H, 512]⟩ .f32)
    (hP : ∀ r c, P (ix2 r c) = F (H + r.val) c) (hQ : ∀ r c, Q (ix2 r c) = F r.val c) (hN : N = H + R) (n : Fin N) (c : Fin 512) :
    View.canon [(⟨Rect.unit (s := ⟨2, ![N, 512]⟩) ![H, 0] ![R, 512] i1, P⟩ : View.Piece (Elt Ideal) ⟨2, ![N, 512]⟩ .f32),
        ⟨Rect.unit (s := ⟨2, ![N, 512]⟩) ![0, 0] ![H, 512] i0, Q⟩] (ix2 n c) = F n.val c := by
  by_cases h : n.val < H
  · rw [rows_old i1 P _ c n (by omega), rows_new i0 Q _ ⟨n.val, h⟩ c n (by simp), hQ]
  · rw [rows_new i1 P _ ⟨n.val - H, by omega⟩ c n (by simp; omega), hP]
    simp only [show H + (n.val - H) = n.val by omega]

end Cert.Rows
-- ==== Proof.MixTap.lean ====
/-
  The conformer convolution's gradient as the mixer kernel computes it: rows shifted along the block are read from the
  block's rows and from seven copies shifted by one to seven, thirty-one taps are summed over each of eight chunks of 32
  rows, and each tap's own gradient is accumulated in eight partial sums.
-/
module

public import proofs.«01_k».proof.Proof.MixPay
public import proofs.«01_k».proof.Proof.Rows
public import Idealize.ShloMosaic.Lib.Pipeline.ReadBack
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem

namespace Cert.Kernel2Ideal.Tap

open Cert.Kernel2Ideal Cert.Kernel2Ideal.Gen Cert.Lift Cert.Mix
open Cert.Rows (rows_back rows_new rows_old)

/-! ## Blocks of whole rows -/

section rows

variable {κ : Kind} {sp : Space} {N R o : ℕ}

/-- A block of 256 rows stored under a tail of rows: both are rows of one sequence. -/
theorem seq_at {M T : ℕ} (F : ℕ → Fin 512 → ℝ)
    (i0 : ∀ a : Fin 2, (![0, 0] : Fin 2 → ℕ) a + (![M, 512] : Fin 2 → ℕ) a ≤ (![N, 512] : Fin 2 → ℕ) a)
    (i1 : ∀ a : Fin 2, (![M, 0] : Fin 2 → ℕ) a + (![T, 512] : Fin 2 → ℕ) a ≤ (![N, 512] : Fin 2 → ℕ) a)
    (P : Vec Ideal ⟨2, ![M, 512]⟩ .f32) (Q : Vec Ideal ⟨2, ![T, 512]⟩ .f32)
    (hP : ∀ r c, P (ix2 r c) = ((F r.val c : ℝ) : EReal)) (hQ : ∀ r c, Q (ix2 r c) = ((F (M + r.val) c : ℝ) : EReal))
    (hN : N = M + T) (n : Fin N) (c : Fin 512) :
    View.canon [(⟨Rect.unit (s := ⟨2, ![N, 512]⟩) ![0, 0] ![M, 512] i0, P⟩ : View.Piece (Elt Ideal) ⟨2, ![N, 512]⟩ .f32),
        ⟨Rect.unit (s := ⟨2, ![N, 512]⟩) ![M, 0] ![T, 512] i1, Q⟩] (ix2 n c) = ((F n.val c : ℝ) : EReal) := by
  by_cases h : n.val < M
  · rw [rows_new i0 P _ ⟨n.val, h⟩ c n (by simp), hP]
  · rw [rows_old i0 P _ c n (by omega), rows_new i1 Q _ ⟨n.val - M, by omega⟩ c n (by simp; omega), hQ]
    simp only [show M + (n.val - M) = n.val by omega]

end rows

/-! ## The shifted rows -/

/-- Where a chunk's rows at a tap begin. -/
abbrev off (ch k : ℕ) : ℕ := 32 * (ch % 8) + (30 - k % 31)

theorem off_le (ch k : ℕ) : off ch k ≤ 254 := by unfold off; omega

section shift

variable {κ0 κ6 : Kind} {sp0 sp6 : Space} (v0 : View sig κ0 sp0 S288x512 .f32) (v6 : View sig κ6 sp6 S7x280x512 .f32)
  (L : List (View.Piece (Elt Ideal) S288x512 .f32)) (L6 : List (View.Piece (Elt Ideal) S7x280x512 .f32))

/-- The seven shifted copies, newest first. -/
def shL (n : ℕ) : List (View.Piece (Elt Ideal) S7x280x512 .f32) :=
  Nat.rec [] (fun p A => ⟨Rect.unit (s := S7x280x512) ![p % 7, 0, 0] ![1, 280, 512] (fun a => by fin_cases a <;> simp [S7x280x512]; omega),
    shapeCast S1x280x512 (v0.readCov L (Rect.unit (s := S288x512) ![p % 7 + 1, 0] ![280, 512] (fun a => by fin_cases a <;> simp [S288x512]; omega)).toLoadRect
      : Vec Ideal S280x512 .f32) shapeCasts_S280x512_S1x280x512⟩ :: A) n

/-- A chunk's rows at a tap, as they are read. -/
def win (ch k : ℕ) : Vec Ideal S32x512 .f32 :=
  Bool.rec (motive := fun _ => Vec Ideal S32x512 .f32)
    (shapeCast S32x512 (v6.readCov L6 (Rect.unit (s := S7x280x512) ![off ch k % 8 - 1, off ch k - off ch k % 8, 0] ![1, 32, 512]
      (fun a => by have := off_le ch k; fin_cases a <;> simp [S7x280x512] <;> omega)).toLoadRect : Vec Ideal S1x32x512 .f32)
      shapeCasts_S1x32x512_S32x512)
    (v0.readCov L (Rect.unit (s := S288x512) ![off ch k, 0] ![32, 512] (fun a => by have := off_le ch k; fin_cases a <;> simp [S288x512]; omega)).toLoadRect)
    (Nat.beq (off ch k % 8) 0)

theorem lead_at (x : Vec Ideal S280x512 .f32) (r : Fin 280) (c : Fin 512) :
    shapeCast S1x280x512 x shapeCasts_S280x512_S1x280x512 (ix3 0 r c) = x (ix2 r c) := by
  pointwise

theorem drop_at (x : Vec Ideal S1x32x512 .f32) (r : Fin 32) (c : Fin 512) :
    shapeCast S32x512 x shapeCasts_S1x32x512_S32x512 (ix2 r c) = x (ix3 0 r c) := by
  pointwise

variable {v0 L L6} (F : ℕ → Fin 512 → ℝ) (hL : ∀ (n : Fin 288) c, View.canon L (ix2 n c) = ((F n.val c : ℝ) : EReal)) (h6 : L6 = shL v0 L 7)

include hL

theorem shL_at (n : ℕ) (hn : n ≤ 7) (p : Fin 7) (hp : p.val < n) (r : Fin 280) (c : Fin 512) :
    View.canon (shL v0 L n) (ix3 p r c) = ((F (p.val + 1 + r.val) c : ℝ) : EReal) := by
  induction n with
  | zero => omega
  | succ n ih =>
    by_cases hpn : p.val = n
    · refine Eq.trans (congrArg _ (funext fun a => Fin.ext ?_)) ((View.canon_cons_emb (Rect.unit (s := S7x280x512) ![n % 7, 0, 0] ![1, 280, 512] _) _ (shL v0 L n) (ix3 0 r c)).trans ?_)
      · have : n % 7 = n := Nat.mod_eq_of_lt (by omega)
        fin_cases a <;> simp [Rect.emb, Rect.unit, hpn, this]
      · have hs : n % 7 = p.val := by omega
        refine (lead_at _ r c).trans ?_
        refine (rows_back v0 L _ r c (by omega)).trans ?_
        rw [hL]
        simp only [hs]
    · refine Eq.trans (View.canon_cons_of_not_mem _ _ fun hm => ?_) (ih (by omega) (by omega))
      have hm' : ix3 p r c ∈ (Rect.unit (s := S7x280x512) ![n % 7, 0, 0] ![1, 280, 512] (fun a => by fin_cases a <;> simp [S7x280x512]; omega)).set := hm
      have := (Rect.mem_set_unit.mp hm') 0
      simp at this
      omega

include h6

theorem win_at (ch k : ℕ) (r : Fin 32) (c : Fin 512) :
    win v0 v6 L L6 ch k (ix2 r c) = ((F (off ch k + r.val) c : ℝ) : EReal) := by
  have ho := off_le ch k
  unfold win
  cases hb : Nat.beq (off ch k % 8) 0
  · have hz : off ch k % 8 ≠ 0 := fun h => by simp [h] at hb
    refine (drop_at _ r c).trans ?_
    rw [View.readCov_eq_canon', h6]
    refine Eq.trans (congrArg (View.canon (shL v0 L 7)) (funext fun a => Fin.ext ?_))
      ((shL_at F hL 7 le_rfl ⟨off ch k % 8 - 1, by omega⟩ (by show off ch k % 8 - 1 < 7; omega) ⟨off ch k - off ch k % 8 + r.val, by omega⟩ c).trans ?_)
    · fin_cases a <;> simp [Rect.toLoadRect, LoadRect.idx, Rect.unit]
    · simp only [show off ch k % 8 - 1 + 1 + (off ch k - off ch k % 8 + r.val) = off ch k + r.val by omega]
  · refine (rows_back v0 L _ r c (by omega)).trans ?_
    rw [hL]

omit hL h6

/-! ## Thirty-one taps over a chunk -/

variable (v0 L L6) (W : ℕ → Vec Ideal S1x512 .f32)

/-- The first `n` taps summed over a chunk's rows. -/
def accTo (ch n : ℕ) : Vec Ideal S32x512 .f32 :=
  Nat.rec (broadcast S32x512 (Scalar.ofBits (F := Ideal) .f32 0x00000000#32))
    (fun k A => addf (F := Ideal) (φ := .f32) A (mulf (F := Ideal) (φ := .f32)
      (broadcastTo S32x512 (shapeCast S1x512 (W k) shapeCasts_S1x512_S1x512 : Vec Ideal S1x512 .f32) broadcasts_S1x512_S32x512)
      (win v0 v6 L L6 ch k))) n

/-- The chunks' sums as they are stored, newest first. -/
def sumL (n : ℕ) : List (View.Piece (Elt Ideal) S256x512 .f32) :=
  Nat.rec [] (fun ch A => ⟨Rect.unit (s := S256x512) ![32 * (ch % 8), 0] ![32, 512] (fun a => by fin_cases a <;> simp [S256x512]; omega),
    shapeCast S32x512 (accTo v0 v6 L L6 W ch 31) shapeCasts_S32x512_S32x512⟩ :: A) n

theorem step_at (A B : Vec Ideal S32x512 .f32) (w : Vec Ideal S1x512 .f32) (r : Fin 32) (c : Fin 512) :
    addf (F := Ideal) (φ := .f32) A (mulf (broadcastTo S32x512 (shapeCast S1x512 w shapeCasts_S1x512_S1x512 : Vec Ideal S1x512 .f32) broadcasts_S1x512_S32x512) B) (ix2 r c)
      = A (ix2 r c) + w (ix2 0 c) * B (ix2 r c) := by
  pointwise

theorem zero_at (r : Fin 32) (c : Fin 512) : (broadcast S32x512 (Scalar.ofBits (F := Ideal) .f32 0x00000000#32) : FVec Ideal S32x512 .f32) (ix2 r c) = 0 := by
  pointwise

theorem same_at (A : Vec Ideal S32x512 .f32) (r : Fin 32) (c : Fin 512) :
    shapeCast S32x512 A shapeCasts_S32x512_S32x512 (ix2 r c) = A (ix2 r c) := by
  pointwise

variable {W L L6} (w : ℕ → Fin 512 → ℝ) (hW : ∀ k c, W k (ix2 0 c) = ((w k c : ℝ) : EReal))

include hL hW h6

theorem accTo_at (ch n : ℕ) (r : Fin 32) (c : Fin 512) :
    accTo v0 v6 L L6 W ch n (ix2 r c) = ((∑ k ∈ Finset.range n, w k c * F (off ch k + r.val) c : ℝ) : EReal) := by
  induction n with
  | zero => exact (zero_at r c).trans (by simp)
  | succ n ih =>
    refine (step_at _ _ _ r c).trans ?_
    rw [hW, win_at v6 F hL h6, Finset.sum_range_succ, EReal.coe_add, EReal.coe_mul]
    exact congrArg (· + _) ih

theorem sumL_at (n : ℕ) (hn : n ≤ 8) (y : Fin 256) (hy : y.val < 32 * n) (c : Fin 512) :
    View.canon (sumL v0 v6 L L6 W n) (ix2 y c) = ((∑ k ∈ Finset.range 31, w k c * F (y.val + (30 - k)) c : ℝ) : EReal) := by
  induction n with
  | zero => omega
  | succ n ih =>
    have hm : n % 8 = n := Nat.mod_eq_of_lt (by omega)
    by_cases h : 32 * n ≤ y.val
    · refine (rows_new (N := 256) (R := 32) (o := 32 * (n % 8)) _ _ (sumL v0 v6 L L6 W n) ⟨y.val - 32 * n, by omega⟩ c y (by simp; omega)).trans ?_
      refine (same_at _ _ c).trans ((accTo_at v0 v6 F hL h6 w hW n 31 _ c).trans ?_)
      refine congrArg _ (Finset.sum_congr rfl fun k hk => ?_)
      have := Finset.mem_range.mp hk
      simp only [off, show 32 * (n % 8) + (30 - k % 31) + (y.val - 32 * n) = y.val + (30 - k) by omega]
    · refine (rows_old (N := 256) (R := 32) (o := 32 * (n % 8)) _ _ (sumL v0 v6 L L6 W n) c y (by omega)).trans ?_
      exact ih (by omega) (by omega)

/-- The convolution's gradient read back whole. -/
theorem sum_back {κ : Kind} {sp : Space} (v : View sig κ sp S256x512 .f32)
    (inb : ∀ a : Fin 2, (![0, 0] : Fin 2 → ℕ) a + (![256, 512] : Fin 2 → ℕ) a ≤ (![256, 512] : Fin 2 → ℕ) a) (y : Fin 256) (c : Fin 512) :
    (v.readCov (sumL v0 v6 L L6 W 8) (Rect.unit (s := S256x512) ![0, 0] ![256, 512] inb).toLoadRect : Vec Ideal S256x512 .f32) (ix2 y c)
      = ((∑ k ∈ Finset.range 31, w k c * F (y.val + (30 - k)) c : ℝ) : EReal) := by
  refine (rows_back v _ inb y c (by omega)).trans ?_
  simp only [Nat.zero_add, Fin.eta]
  exact sumL_at v0 v6 F hL h6 w hW 8 le_rfl y (by omega) c

omit hW

/-! ## The taps' own gradients -/

omit hL h6

/-- Four groups of eight rows of a product, added to a partial sum. -/
def tapAdd (old : Vec Ideal S8x512 .f32) (a s : Vec Ideal S32x512 .f32) : FVec Ideal S8x512 .f32 :=
  shapeCast S8x512 (addf (F := Ideal) (φ := .f32) old (addf (addf (addf
    (extractStridedSlice S8x512 ![0, 0] (mulf (F := Ideal) (φ := .f32) a s) slices_S32x512_o0_0_S8x512)
    (extractStridedSlice S8x512 ![8, 0] (mulf (F := Ideal) (φ := .f32) a s) slices_S32x512_o8_0_S8x512))
    (extractStridedSlice S8x512 ![16, 0] (mulf (F := Ideal) (φ := .f32) a s) slices_S32x512_o16_0_S8x512))
    (extractStridedSlice S8x512 ![24, 0] (mulf (F := Ideal) (φ := .f32) a s) slices_S32x512_o24_0_S8x512))) shapeCasts_S8x512_S8x512

theorem tapAdd_at (old : Vec Ideal S8x512 .f32) (a s : Vec Ideal S32x512 .f32) (i : Fin 8) (c : Fin 512) :
    tapAdd old a s (ix2 i c) = old (ix2 i c) + ∑ q : Fin 4, a (ix2 ⟨8 * q.val + i.val, by omega⟩ c) * s (ix2 ⟨8 * q.val + i.val, by omega⟩ c) := by
  pointwise [tapAdd]
  rw [Fin.sum_univ_four]
  simp

variable (L L6)
variable {κ2 κ4 : Kind} {sp2 sp4 : Space} (v2 : View sig κ2 sp2 S256x512 .f32) (v4 : View sig κ4 sp4 S256x512 .f32)
  (A : Vec Ideal S256x512 .f32) (rd : ℕ → List (View.Piece (Elt Ideal) S256x512 .f32) → Vec Ideal S8x512 .f32)
  (L4 : List (View.Piece (Elt Ideal) S256x512 .f32))

/-- A chunk's rows of the gated unit, read back. -/
def gate (ch : ℕ) : Vec Ideal S32x512 .f32 :=
  v2.readCov [⟨Rect.unit (s := S256x512) ![0, 0] ![256, 512] inb_S256x512_S256x512_0_0, A⟩]
    (Rect.unit (s := S256x512) ![32 * (ch % 8), 0] ![32, 512] (fun a => by fin_cases a <;> simp [S256x512]; omega)).toLoadRect

/-- The partial sums as they are stored: tap by tap, chunk by chunk, newest first. -/
def tapL (n : ℕ) : List (View.Piece (Elt Ideal) S256x512 .f32) :=
  Nat.rec L4 (fun j B => ⟨Rect.unit (s := S256x512) ![8 * (j % 31), 0] ![8, 512] (fun a => by fin_cases a <;> simp [S256x512]; omega),
    tapAdd (rd j B) (gate v2 A (j / 31)) (win v0 v6 L L6 (j / 31) j)⟩ :: B) n

/-- A list of stores is the first `n` of these. -/
def IsTap (n : ℕ) (B : List (View.Piece (Elt Ideal) S256x512 .f32)) : Prop := B = tapL v0 v6 L L6 v2 A rd L4 n

theorem isTap_succ (n : ℕ) (B : List (View.Piece (Elt Ideal) S256x512 .f32)) (hB : IsTap v0 v6 L L6 v2 A rd L4 n B) :
    IsTap v0 v6 L L6 v2 A rd L4 (n + 1) (⟨Rect.unit (s := S256x512) ![8 * (n % 31), 0] ![8, 512] (fun a => by fin_cases a <;> simp [S256x512]; omega),
      tapAdd (rd n B) (gate v2 A (n / 31)) (win v0 v6 L L6 (n / 31) n)⟩ :: B) := by
  unfold IsTap at hB
  subst hB
  rfl

theorem isTap_zero : IsTap v0 v6 L L6 v2 A rd L4 0 L4 := rfl

theorem gate_at (ch : ℕ) (r : Fin 32) (c : Fin 512) : gate v2 A ch (ix2 r c) = A (ix2 ⟨32 * (ch % 8) + r.val, by omega⟩ c) :=
  (rows_back v2 _ _ r c (by omega)).trans (rows_new _ A [] ⟨32 * (ch % 8) + r.val, by omega⟩ c _ (by simp))

/-- One chunk's contribution to a tap's partial sum. -/
def tapPart (a0 F : ℕ → Fin 512 → ℝ) (ch k : ℕ) (i : Fin 8) (c : Fin 512) : ℝ :=
  ∑ q : Fin 4, a0 (32 * ch + (8 * q.val + i.val)) c * F (32 * ch + (8 * q.val + i.val) + (30 - k)) c

variable {A L L6} (a0 : ℕ → Fin 512 → ℝ) (hA : ∀ (r : Fin 256) c, A (ix2 r c) = ((a0 r.val c : ℝ) : EReal))

variable (L L6) in
/-- Rows no tap has reached keep what was there. -/
theorem tapL_old (f : v4.ty.Contents (Elt Ideal)) (n : ℕ) (y : Fin 256) (c : Fin 512) (hy : 8 * n ≤ y.val ∨ 248 ≤ y.val) :
    v4.read (Elt Ideal) (v4.writes (Elt Ideal) f (tapL v0 v6 L L6 v2 A rd L4 n)) (ix2 y c)
      = v4.read (Elt Ideal) (v4.writes (Elt Ideal) f L4) (ix2 y c) := by
  induction n with
  | zero => rfl
  | succ n ih =>
    refine Eq.trans (View.read_writes_cons_unit_of_not_mem v4 f _ _ (tapL v0 v6 L L6 v2 A rd L4 n) (ix2 y c) rfl 0 ?_) (ih (by omega))
    show y.val < 8 * (n % 31) ∨ 8 * (n % 31) + 8 ≤ y.val
    omega

include hL hA h6

theorem tapL_at (old : ℕ → Vec Ideal S8x512 .f32) (h0 : ∀ j, j < 31 → ∀ i c, rd j (tapL v0 v6 L L6 v2 A rd L4 j) (ix2 i c) = old j (ix2 i c))
    (h1 : ∀ j B, 31 ≤ j → rd j B = (v4.readCov B (Rect.unit (s := S256x512) ![8 * (j % 31), 0] ![8, 512]
      (fun a => by fin_cases a <;> simp [S256x512]; omega)).toLoadRect : Vec Ideal S8x512 .f32))
    (n : ℕ) (hn : n ≤ 248) (k : ℕ) (hk : k < 31) (hkn : k < n) (i : Fin 8) (c : Fin 512) (y : Fin 256) (hy : y.val = 8 * k + i.val)
    (f : v4.ty.Contents (Elt Ideal)) :
    v4.read (Elt Ideal) (v4.writes (Elt Ideal) f (tapL v0 v6 L L6 v2 A rd L4 n)) (ix2 y c)
      = old k (ix2 i c) + ((∑ ch ∈ Finset.range ((n + 30 - k) / 31), tapPart a0 F ch k i c : ℝ) : EReal) := by
  induction n generalizing f with
  | zero => omega
  | succ n ih =>
    by_cases h : n % 31 = k
    · refine Eq.trans (View.read_writes_cons_unit_of_mem v4 f _ _ (tapL v0 v6 L L6 v2 A rd L4 n) (ix2 y c) (ix2 i c) rfl fun a => ?_) ?_
      · fin_cases a <;> simp [hy, h]
      · refine (tapAdd_at _ _ _ i c).trans ?_
        have hp : (∑ q : Fin 4, gate v2 A (n / 31) (ix2 ⟨8 * q.val + i.val, by omega⟩ c) * win v0 v6 L L6 (n / 31) n (ix2 ⟨8 * q.val + i.val, by omega⟩ c))
            = ((tapPart a0 F (n / 31) k i c : ℝ) : EReal) := by
          unfold tapPart
          rw [← sum_coe]
          refine Finset.sum_congr rfl fun q _ => ?_
          rw [gate_at, hA, win_at v6 F hL h6, ← EReal.coe_mul]
          have hq : n / 31 % 8 = n / 31 := Nat.mod_eq_of_lt (by omega)
          simp only [off, hq, h, show 32 * (n / 31) + (30 - k) + (8 * q.val + i.val) = 32 * (n / 31) + (8 * q.val + i.val) + (30 - k) by omega]
        rw [hp, show (n + 1 + 30 - k) / 31 = n / 31 + 1 by omega, Finset.sum_range_succ, EReal.coe_add, ← add_assoc]
        refine congrArg (· + _) ?_
        by_cases hj : n < 31
        · refine (h0 n hj i c).trans ?_
          rw [show n = k by omega, show k / 31 = 0 by omega]
          simp
        · rw [h1 n _ (by omega)]
          refine (rows_back v4 _ _ i c (by omega)).trans ?_
          rw [← View.read_writes_junk_apply_eq_canon v4]
          have hy' : (⟨8 * (n % 31) + i.val, by omega⟩ : Fin 256) = y := Fin.ext (by simp [hy, h])
          rw [hy']
          refine (ih (by omega) (by omega) _).trans ?_
          rw [show (n + 30 - k) / 31 = n / 31 by omega]
    · refine Eq.trans (View.read_writes_cons_unit_of_not_mem v4 f _ _ (tapL v0 v6 L L6 v2 A rd L4 n) (ix2 y c) rfl 0 ?_) ((ih (by omega) (by omega) f).trans ?_)
      · show y.val < 8 * (n % 31) ∨ 8 * (n % 31) + 8 ≤ y.val
        omega
      · rw [show (n + 1 + 30 - k) / 31 = (n + 30 - k) / 31 by omega]

omit hL h6 hA

/-- A point's whole contribution to the partial sums' row `y`; the last eight rows get nothing. -/
def tapBlk (a0 F : ℕ → Fin 512 → ℝ) (y : ℕ) (c : Fin 512) : ℝ :=
  if y < 248 then ∑ ch ∈ Finset.range 8, tapPart a0 F ch (y / 8) ⟨y % 8, Nat.mod_lt _ (by norm_num)⟩ c else 0

/-- A partial sum as a point reads it: what was stored, or before the point's first chunk what the point before left. -/
def rdNew (j : ℕ) (B : List (View.Piece (Elt Ideal) S256x512 .f32)) : Vec Ideal S8x512 .f32 :=
  v4.readCov B (Rect.unit (s := S256x512) ![8 * (j % 31), 0] ![8, 512] (fun a => by fin_cases a <;> simp [S256x512]; omega)).toLoadRect
def rdKeep (X : Vec Ideal S256x512 .f32) (j : ℕ) (B : List (View.Piece (Elt Ideal) S256x512 .f32)) : Vec Ideal S8x512 .f32 :=
  Bool.rec (motive := fun _ => Vec Ideal S8x512 .f32) (rdNew v4 j B)
    (View.ld X (Rect.unit (s := S256x512) ![8 * (j % 31), 0] ![8, 512] (fun a => by fin_cases a <;> simp [S256x512]; omega))) (Nat.blt j 31)

include hL h6 hA

/-- The partial sums after a point that adds to what the point before left. -/
theorem tap_keep (X : Vec Ideal S256x512 .f32) (f : v4.ty.Contents (Elt Ideal)) (hX : ∀ j, v4.read (Elt Ideal) f j = X j) (y : Fin 256) (c : Fin 512) :
    v4.read (Elt Ideal) (v4.writes (Elt Ideal) f (tapL v0 v6 L L6 v2 A (rdKeep v4 X) [] 248)) (ix2 y c)
      = X (ix2 y c) + ((tapBlk a0 F y.val c : ℝ) : EReal) := by
  unfold tapBlk
  by_cases hy : y.val < 248
  · rw [if_pos hy]
    refine (tapL_at v0 v6 F hL h6 v2 v4 (rdKeep v4 X) [] a0 hA
      (fun j => View.ld X (Rect.unit (s := S256x512) ![8 * (j % 31), 0] ![8, 512] (fun a => by fin_cases a <;> simp [S256x512]; omega)))
      (fun j hj i c => by
        have hb : Nat.blt j 31 = true := by simpa [Nat.blt_eq] using hj
        simp only [rdKeep, hb])
      (fun j B hj => by
        have hb : Nat.blt j 31 = false := by
          rw [← Bool.not_eq_true, Nat.blt_eq]
          omega
        simp only [rdKeep, hb, rdNew])
      248 le_rfl (y.val / 8) (by omega) (by omega) ⟨y.val % 8, by omega⟩ c y (by show y.val = 8 * (y.val / 8) + y.val % 8; omega) f).trans ?_
    rw [show (248 + 30 - y.val / 8) / 31 = 8 by omega]
    refine congrArg (· + _) (View.ld_unit_apply_of _ _ _ _ _ (ix2 y c) fun a => ?_)
    fin_cases a <;> simp
    omega
  · rw [if_neg hy, EReal.coe_zero, add_zero]
    exact (tapL_old v0 v6 L L6 v2 v4 _ [] f 248 y c (by omega)).trans (hX _)

/-- The partial sums after the first point, which starts from zeros. -/
theorem tap_new (Z : Vec Ideal S256x512 .f32) (hZ : ∀ j, Z j = 0) (f : v4.ty.Contents (Elt Ideal)) (y : Fin 256) (c : Fin 512) :
    v4.read (Elt Ideal) (v4.writes (Elt Ideal) f (tapL v0 v6 L L6 v2 A (rdNew v4)
        [⟨Rect.unit (s := S256x512) ![0, 0] ![256, 512] inb_S256x512_S256x512_0_0, Z⟩] 248)) (ix2 y c)
      = ((tapBlk a0 F y.val c : ℝ) : EReal) := by
  have hB : ∀ f : v4.ty.Contents (Elt Ideal), ∀ y : Fin 256, v4.read (Elt Ideal) (v4.writes (Elt Ideal) f
      [⟨Rect.unit (s := S256x512) ![0, 0] ![256, 512] inb_S256x512_S256x512_0_0, Z⟩]) (ix2 y c) = 0 := fun f y =>
    (View.read_writes_cons_unit_of_mem v4 f _ Z [] (ix2 y c) (ix2 y c) rfl fun a => by fin_cases a <;> simp).trans (hZ _)
  unfold tapBlk
  by_cases hy : y.val < 248
  · rw [if_pos hy]
    refine (tapL_at v0 v6 F hL h6 v2 v4 (rdNew v4) _ a0 hA (fun j => fun _ => 0)
      (fun j hj i c => by
        refine (rows_back v4 _ _ i c (by omega)).trans ?_
        rw [← View.read_writes_junk_apply_eq_canon v4]
        refine (tapL_old v0 v6 L L6 v2 v4 _ _ _ j _ c (Or.inl (by show 8 * j ≤ 8 * (j % 31) + i.val; omega))).trans ?_
        exact (View.read_writes_cons_unit_of_mem v4 _ _ Z [] _ (ix2 ⟨8 * (j % 31) + i.val, by omega⟩ c) rfl fun a => by fin_cases a <;> simp).trans (hZ _))
      (fun j B hj => rfl)
      248 le_rfl (y.val / 8) (by omega) (by omega) ⟨y.val % 8, by omega⟩ c y (by show y.val = 8 * (y.val / 8) + y.val % 8; omega) f).trans ?_
    rw [show (248 + 30 - y.val / 8) / 31 = 8 by omega, zero_add]
  · rw [if_neg hy, EReal.coe_zero]
    exact (tapL_old v0 v6 L L6 v2 v4 _ _ f 248 y c (by omega)).trans (hB _ _)

end shift

end Cert.Kernel2Ideal.Tap
-- ==== Proof.MixOut.lean ====
/-
  One point of the mixer kernel: the block's inputs, the two convolutions' gradients followed along the sequence, and the
  blocks of the three results every point writes. The grid walks the tokens backwards, so the rows beyond a block are the
  first rows of the point before; at a batch element's last block they are zero.
-/
module

public import proofs.«01_k».proof.Proof.MixBlk
public import proofs.«01_k».proof.Proof.MixTap

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix
open Cert.Rows (rows_back rows_new rows_old)

/-- A shift from a later row. -/
theorem fut_add {n : ℕ} (f : Fin n → ℝ) (t r k : ℕ) : fut f (t + r) k = fut f t (r + k) := by
  unfold fut
  simp only [Nat.add_assoc]

section reads

variable (m : (ℓ : Loc nD τ sig) → Buf (Elt Ideal) ℓ) (c : Dev nD) (t : Fin cfg0.N)

/-! ## The reads of a point -/

abbrev bG : Vec Ideal S1x256x1024 .f32 := iblk m c 0 t
abbrev bX : Vec Ideal S1x256x1024 .f32 := iblk m c 1 t
abbrev bP : Vec Ideal S1x256x2560 .f32 := iblk m c 2 t
abbrev bA : Vec Ideal S1x256x512 .f32 := iblk m c 3 t
abbrev bV : Vec Ideal S1x256x512 .f32 := iblk m c 4 t
abbrev bM : Vec Ideal S1x6x1024 .f32 := iblk m c 5 t
abbrev bI : Vec Ideal S8x320x1024 .bf16 := iblk m c 6 t
abbrev bO : Vec Ideal S8x128x1024 .bf16 := iblk m c 7 t
abbrev bW : Vec Ideal S32x512 .f32 := iblk m c 8 t
abbrev bR : Vec Ideal S8x512 .f32 := iblk m c 9 t
abbrev rSh : Vec Ideal S1x1x1024 .f32 := View.ld (bM m c t) (Rect.unit ![0, 0, 0] ![1, 1, 1024] inb_S1x6x1024_S1x1x1024_0_0_0)
abbrev rSc : Vec Ideal S1x1x1024 .f32 := View.ld (bM m c t) (Rect.unit ![0, 1, 0] ![1, 1, 1024] inb_S1x6x1024_S1x1x1024_0_1_0)
abbrev rG1 : Vec Ideal S1x1x1024 .f32 := View.ld (bM m c t) (Rect.unit ![0, 2, 0] ![1, 1, 1024] inb_S1x6x1024_S1x1x1024_0_2_0)
abbrev rP0 : Vec Ideal S1x256x512 .f32 := View.ld (bP m c t) (Rect.unit ![0, 0, 0] ![1, 256, 512] inb_S1x256x2560_S1x256x512_0_0_0)
abbrev rP1 : Vec Ideal S1x256x512 .f32 := View.ld (bP m c t) (Rect.unit ![0, 0, 512] ![1, 256, 512] inb_S1x256x2560_S1x256x512_0_0_512)
abbrev rP2 : Vec Ideal S1x256x512 .f32 := View.ld (bP m c t) (Rect.unit ![0, 0, 1024] ![1, 256, 512] inb_S1x256x2560_S1x256x512_0_0_1024)
abbrev rP3 : Vec Ideal S1x256x512 .f32 := View.ld (bP m c t) (Rect.unit ![0, 0, 1536] ![1, 256, 512] inb_S1x256x2560_S1x256x512_0_0_1536)
abbrev rP4 : Vec Ideal S1x256x512 .f32 := View.ld (bP m c t) (Rect.unit ![0, 0, 2048] ![1, 256, 512] inb_S1x256x2560_S1x256x512_0_0_2048)
/-- A row of the packed small parameters, and a tap's row. -/
abbrev rR (k : ℕ) (hk : ∀ a : Fin 2, (![k, 0] : Fin 2 → ℕ) a + (![1, 512] : Fin 2 → ℕ) a ≤ (![8, 512] : Fin 2 → ℕ) a) : Vec Ideal S1x512 .f32 :=
  View.ld (bR m c t) (Rect.unit (s := S8x512) ![k, 0] ![1, 512] hk)
def rW (k : ℕ) : Vec Ideal S1x512 .f32 :=
  View.ld (bW m c t) (Rect.unit (s := S32x512) ![k % 31, 0] ![1, 512] (fun a => by fin_cases a <;> simp [S32x512]; omega))

variable {m c} {D : Data} (h : HoldsAt m D c)

include h

theorem reads : Reads D (bat t) (tok t) (bG m c t) (bX m c t) (rSh m c t) (rSc m c t) (rG1 m c t) (rP0 m c t) (rP1 m c t) (rP2 m c t)
    (rP3 m c t) (rP4 m c t) (bA m c t) (bV m c t) (rR m c t 1 inb_S8x512_S1x512_1_0) (rR m c t 2 inb_S8x512_S1x512_2_0)
    (rR m c t 3 inb_S8x512_S1x512_3_0) (rR m c t 4 inb_S8x512_S1x512_4_0) (rR m c t 5 inb_S8x512_S1x512_5_0) (bI m c t) (bO m c t) where
  hg := g_at h t
  hx := x_at h t
  hsh d := (View.ld_unit_apply_of _ _ _ _ _ (ix3 0 0 d) fun a => by fin_cases a <;> simp).trans (mod_at h t 0 d)
  hsc d := (View.ld_unit_apply_of _ _ _ _ _ (ix3 0 1 d) fun a => by fin_cases a <;> simp).trans (mod_at h t 1 d)
  hg1 d := (View.ld_unit_apply_of _ _ _ _ _ (ix3 0 2 d) fun a => by fin_cases a <;> simp).trans (mod_at h t 2 d)
  hp0 r e := (View.ld_unit_apply_of _ _ _ _ _ (ix3 0 r (col 0 e)) fun a => by fin_cases a <;> simp).trans (pj_at h t r _)
  hp1 r e := (View.ld_unit_apply_of _ _ _ _ _ (ix3 0 r (col 1 e)) fun a => by fin_cases a <;> simp).trans (pj_at h t r _)
  hp2 r e := (View.ld_unit_apply_of _ _ _ _ _ (ix3 0 r (col 2 e)) fun a => by fin_cases a <;> simp).trans (pj_at h t r _)
  hp3 r e := (View.ld_unit_apply_of _ _ _ _ _ (ix3 0 r (col 3 e)) fun a => by fin_cases a <;> simp).trans (pj_at h t r _)
  hp4 r e := (View.ld_unit_apply_of _ _ _ _ _ (ix3 0 r (col 4 e)) fun a => by fin_cases a <;> simp).trans (pj_at h t r _)
  ha1 := a1_at h t
  hcv := cv_at h t
  hlg e := (View.ld_unit_apply_of _ _ _ _ _ (ix2 1 e) fun a => by fin_cases a <;> simp).trans (lg_at h t e)
  hlb e := (View.ld_unit_apply_of _ _ _ _ _ (ix2 2 e) fun a => by fin_cases a <;> simp).trans (lb_at h t e)
  hw0 e := (View.ld_unit_apply_of _ _ _ _ _ (ix2 3 e) fun a => by fin_cases a <;> simp).trans (ws_at h t 0 e)
  hw1 e := (View.ld_unit_apply_of _ _ _ _ _ (ix2 4 e) fun a => by fin_cases a <;> simp).trans (ws_at h t 1 e)
  hw2 e := (View.ld_unit_apply_of _ _ _ _ _ (ix2 5 e) fun a => by fin_cases a <;> simp).trans (ws_at h t 2 e)
  hwi := wi_at h t
  hwo := wo_at h t

/-- The taps as a sequence. -/
abbrev wd (D : Data) (k : ℕ) (e : Fin 512) : ℝ := D.Wd ⟨k % 31, by omega⟩ e

theorem rW_at (k : ℕ) (e : Fin 512) : rW m c t k (ix2 0 e) = ((wd D k e : ℝ) : EReal) := by
  refine (View.ld_unit_apply_of _ _ _ _ _ (ix2 (⟨k % 31, by omega⟩ : Fin 32) e) fun a => by fin_cases a <;> simp).trans ?_
  exact wd_at h t ⟨k % 31, by omega⟩ e

end reads

/-! ## The gradients along the sequence -/

section rows

variable (D : Data) (t : Fin cfg0.N)

/-- The rows from a point's first token on, zero beyond the sequence: the conformer's and the short branch's. -/
def rowD (n : ℕ) (e : Fin 512) : ℝ := fut (fun s => D.da1 (bat t) s e) (base t) n
def rowC (n : ℕ) (e : Fin 512) : ℝ := fut (fun s => D.dcv (bat t) s e) (base t) n
/-- The gated unit's rows. -/
def rowA (n : ℕ) (e : Fin 512) : ℝ := if h : n < 256 then D.a0 (bat t) (tok t ⟨n, h⟩) e else 0

theorem rowD_in (r : Fin 256) (e : Fin 512) : rowD D t r.val e = D.da1 (bat t) (tok t r) e :=
  dif_pos (show (15 - t.val % 16) * 256 + r.val < 4096 by omega)

theorem rowC_in (r : Fin 256) (e : Fin 512) : rowC D t r.val e = D.dcv (bat t) (tok t r) e :=
  dif_pos (show (15 - t.val % 16) * 256 + r.val < 4096 by omega)

theorem rowD_fut (r : Fin 256) (k : ℕ) (e : Fin 512) : rowD D t (r.val + k) e = fut (fun s => D.da1 (bat t) s e) (tok t r).val k :=
  (fut_add _ _ _ _).symm

theorem rowC_fut (r : Fin 256) (k : ℕ) (e : Fin 512) : rowC D t (k + r.val) e = fut (fun s => D.dcv (bat t) s e) (tok t r).val k :=
  ((fut_add _ _ _ _).trans (congrArg _ (Nat.add_comm _ _))).symm

/-- The rows beyond the block: none at a batch element's last block, the point before's first rows elsewhere. -/
theorem rowD_last (ht : t.val % 16 = 0) (r : ℕ) (e : Fin 512) : rowD D t (256 + r) e = 0 :=
  dif_neg (show ¬(15 - t.val % 16) * 256 + (256 + r) < 4096 by omega)

theorem rowC_last (ht : t.val % 16 = 0) (r : ℕ) (e : Fin 512) : rowC D t (256 + r) e = 0 :=
  dif_neg (show ¬(15 - t.val % 16) * 256 + (256 + r) < 4096 by omega)

abbrev prev (t : Fin cfg0.N) : Fin cfg0.N := ⟨t.val - 1, Nat.lt_of_le_of_lt (Nat.sub_le _ _) t.isLt⟩

theorem bat_prev (ht : ¬t.val % 16 = 0) : bat (prev t) = bat t := Fin.ext (by show (t.val - 1) / 16 = t.val / 16; omega)
theorem base_prev (ht : ¬t.val % 16 = 0) : base (prev t) = base t + 256 := by
  show (15 - (t.val - 1) % 16) * 256 = (15 - t.val % 16) * 256 + 256
  omega

theorem rowD_prev (ht : ¬t.val % 16 = 0) (r : ℕ) (e : Fin 512) : rowD D (prev t) r e = rowD D t (256 + r) e := by
  unfold rowD
  rw [bat_prev t ht, base_prev t ht, fut_add]

theorem rowC_prev (ht : ¬t.val % 16 = 0) (r : ℕ) (e : Fin 512) : rowC D (prev t) r e = rowC D t (256 + r) e := by
  unfold rowC
  rw [bat_prev t ht, base_prev t ht, fut_add]

theorem rowA_in (r : Fin 256) (e : Fin 512) : rowA D t r.val e = D.a0 (bat t) (tok t r) e := dif_pos r.isLt

end rows

/-! ## The stored rows -/

section stored

variable (m : (ℓ : Loc nD τ sig) → Buf (Elt Ideal) ℓ) (c : Dev nD) (t : Fin cfg0.N)

/-- What the point stores of the two convolutions' gradients: its block over the rows beyond. -/
abbrev lstD (Q : Vec Ideal S32x512 .f32) : List (View.Piece (Elt Ideal) S288x512 .f32) :=
  [⟨Rect.unit (s := S288x512) ![0, 0] ![256, 512] inb_S288x512_S256x512_0_0, k0_pay43 (k0_pay34 (bA m c t)) (k0_pay35 (bA m c t))
      (k0_pay36 (rR m c t 1 inb_S8x512_S1x512_1_0)) (k0_pay37 (k0_pay17 (k0_pay15 (bG m c t) (rG1 m c t)) (bO m c t)) (bA m c t)
        (rR m c t 1 inb_S8x512_S1x512_1_0) (rR m c t 2 inb_S8x512_S1x512_2_0))⟩,
    ⟨Rect.unit (s := S288x512) ![256, 0] ![32, 512] inb_S288x512_S32x512_256_0, Q⟩]
abbrev lstC (Q : Vec Ideal S8x512 .f32) : List (View.Piece (Elt Ideal) S264x512 .f32) :=
  [⟨Rect.unit (s := S264x512) ![0, 0] ![256, 512] inb_S264x512_S256x512_0_0,
      k0_pay24 (k0_pay15 (bG m c t) (rG1 m c t)) (bO m c t) (rP2 m c t)⟩,
    ⟨Rect.unit (s := S264x512) ![256, 0] ![8, 512] inb_S264x512_S8x512_256_0, Q⟩]

variable {m c} {D : Data} (h : HoldsAt m D c)

/-- The rows beyond hold the sequence's. -/
abbrev TailD (D : Data) (Q : Vec Ideal S32x512 .f32) : Prop := ∀ r e, Q (ix2 r e) = ((rowD D t (256 + r.val) e : ℝ) : EReal)
abbrev TailC (D : Data) (Q : Vec Ideal S8x512 .f32) : Prop := ∀ r e, Q (ix2 r e) = ((rowC D t (256 + r.val) e : ℝ) : EReal)

theorem tailD_zero (ht : t.val % 16 = 0) : TailD t D (k0_pay11 (F := Ideal)) := fun r e => by
  rw [rowD_last D t ht]
  pointwise [k0_pay11]
  exact EReal.coe_zero.symm

theorem tailC_zero (ht : t.val % 16 = 0) : TailC t D (k0_pay12 (F := Ideal)) := fun r e => by
  rw [rowC_last D t ht]
  pointwise [k0_pay12]
  exact EReal.coe_zero.symm

theorem keepD_at (x : Vec Ideal S32x512 .f32) (r : Fin 32) (e : Fin 512) : k0_pay13 (F := Ideal) x (ix2 r e) = x (ix2 r e) := by
  pointwise [k0_pay13]
theorem keepC_at (x : Vec Ideal S8x512 .f32) (r : Fin 8) (e : Fin 512) : k0_pay14 (F := Ideal) x (ix2 r e) = x (ix2 r e) := by
  pointwise [k0_pay14]

theorem tailD_prev (ht : ¬t.val % 16 = 0) (Y : Vec Ideal S288x512 .f32) (hY : ∀ n e, Y (ix2 n e) = ((rowD D (prev t) n.val e : ℝ) : EReal)) :
    TailD t D (k0_pay13 (F := Ideal) (View.ld Y (Rect.unit (s := S288x512) ![0, 0] ![32, 512] inb_S288x512_S32x512_0_0))) := fun r e => by
  rw [keepD_at, ← rowD_prev D t ht]
  exact (View.ld_unit_apply_of _ _ _ _ _ (ix2 (⟨r.val, by omega⟩ : Fin 288) e) fun a => by fin_cases a <;> simp).trans (hY _ e)

theorem tailC_prev (ht : ¬t.val % 16 = 0) (Y : Vec Ideal S264x512 .f32) (hY : ∀ n e, Y (ix2 n e) = ((rowC D (prev t) n.val e : ℝ) : EReal)) :
    TailC t D (k0_pay14 (F := Ideal) (View.ld Y (Rect.unit (s := S264x512) ![0, 0] ![8, 512] inb_S264x512_S8x512_0_0))) := fun r e => by
  rw [keepC_at, ← rowC_prev D t ht]
  exact (View.ld_unit_apply_of _ _ _ _ _ (ix2 (⟨r.val, by omega⟩ : Fin 264) e) fun a => by fin_cases a <;> simp).trans (hY _ e)

include h

theorem lstD_at {Q : Vec Ideal S32x512 .f32} (hQ : TailD t D Q) (n : Fin 288) (e : Fin 512) :
    View.canon (lstD m c t Q) (ix2 n e) = ((rowD D t n.val e : ℝ) : EReal) :=
  seq_at (rowD D t) _ _ _ Q (fun r e => (da1_at (reads t h) r e).trans (by rw [rowD_in])) hQ (by norm_num) n e

theorem lstC_at {Q : Vec Ideal S8x512 .f32} (hQ : TailC t D Q) (n : Fin 264) (e : Fin 512) :
    View.canon (lstC m c t Q) (ix2 n e) = ((rowC D t n.val e : ℝ) : EReal) :=
  seq_at (rowC D t) _ _ _ Q (fun r e => (dcv_at (reads t h) r e).trans (by rw [rowC_in])) hQ (by norm_num) n e

/-- The short branch's rows read back at a shift. -/
theorem backC {Q : Vec Ideal S8x512 .f32} (hQ : TailC t D Q) {κ : Kind} {sp : Space} (v : View sig κ sp S264x512 .f32) (k : ℕ)
    (inb : ∀ a : Fin 2, (![k, 0] : Fin 2 → ℕ) a + (![256, 512] : Fin 2 → ℕ) a ≤ (![264, 512] : Fin 2 → ℕ) a) (r : Fin 256) (e : Fin 512) :
    (v.readCov (lstC m c t Q) (Rect.unit (s := S264x512) ![k, 0] ![256, 512] inb).toLoadRect : Vec Ideal S256x512 .f32) (ix2 r e)
      = ((fut (fun s => D.dcv (bat t) s e) (tok t r).val k : ℝ) : EReal) := by
  have hk : k + 256 ≤ 264 := inb 0
  refine (rows_back v _ inb r e (by omega)).trans ((lstC_at t h hQ _ e).trans ?_)
  exact congrArg _ (rowC_fut D t r k e)

/-- The gated unit's gradient read back. -/
theorem backA {Q : Vec Ideal S32x512 .f32} (hQ : TailD t D Q) {κ0 κ6 κ : Kind} {sp0 sp6 sp : Space} {v0 : View sig κ0 sp0 S288x512 .f32}
    (v6 : View sig κ6 sp6 S7x280x512 .f32) (v : View sig κ sp S256x512 .f32) {L : List (View.Piece (Elt Ideal) S288x512 .f32)}
    {L6 : List (View.Piece (Elt Ideal) S7x280x512 .f32)} (hL : lstD m c t Q = L) (h6 : shL v0 L 7 = L6) (r : Fin 256) (e : Fin 512) :
    (v.readCov (sumL v0 v6 L L6 (rW m c t) 8) (Rect.unit (s := S256x512) ![0, 0] ![256, 512] inb_S256x512_S256x512_0_0).toLoadRect
      : Vec Ideal S256x512 .f32) (ix2 r e) = ((D.da0 (bat t) (tok t r) e : ℝ) : EReal) := by
  subst hL
  refine (sum_back v0 v6 (rowD D t) (lstD_at t h hQ) h6.symm (wd D) (rW_at t h) v _ r e).trans (congrArg _ ?_)
  rw [Finset.sum_range]
  unfold Data.da0
  refine Finset.sum_congr rfl fun k _ => ?_
  rw [rowD_fut]
  simp only [wd, Nat.mod_eq_of_lt k.isLt, Fin.eta]

omit h

/-- The gated unit's rows as the point computes them. -/
abbrev valA (m : (ℓ : Loc nD τ sig) → Buf (Elt Ideal) ℓ) (c : Dev nD) (t : Fin cfg0.N) : Vec Ideal S256x512 .f32 :=
  k0_pay46 (k0_pay45 (k0_pay19 (rP0 m c t)) (k0_pay20 (rP1 m c t)))

include h

theorem valA_at (r : Fin 256) (e : Fin 512) : valA m c t (ix2 r e) = ((rowA D t r.val e : ℝ) : EReal) := by
  rw [rowA_in]
  exact a0_at (reads t h) r e

/-- The taps' partial sums after a point. -/
theorem keepT {Q : Vec Ideal S32x512 .f32} (hQ : TailD t D Q) {κ0 κ6 κ2 κ4 : Kind} {sp0 sp6 sp2 sp4 : Space}
    {v0 : View sig κ0 sp0 S288x512 .f32} (v6 : View sig κ6 sp6 S7x280x512 .f32) (v2 : View sig κ2 sp2 S256x512 .f32)
    (v4 : View sig κ4 sp4 S256x512 .f32) {L : List (View.Piece (Elt Ideal) S288x512 .f32)}
    {L6 : List (View.Piece (Elt Ideal) S7x280x512 .f32)} (hL : lstD m c t Q = L) (h6 : shL v0 L 7 = L6) (f : v4.ty.Contents (Elt Ideal))
    (y : Fin 256) (e : Fin 512) :
    v4.read (Elt Ideal) (v4.writes (Elt Ideal) f (tapL v0 v6 L L6 v2 (valA m c t) (rdKeep v4 (v4.read (Elt Ideal) f)) [] 248)) (ix2 y e)
      = v4.read (Elt Ideal) f (ix2 y e) + ((tapBlk (rowA D t) (rowD D t) y.val e : ℝ) : EReal) := by
  subst hL
  exact tap_keep v0 v6 (rowD D t) (lstD_at t h hQ) h6.symm v2 v4 (rowA D t) (valA_at t h) _ f (fun _ => rfl) y e

theorem newT {Q : Vec Ideal S32x512 .f32} (hQ : TailD t D Q) {κ0 κ6 κ2 κ4 : Kind} {sp0 sp6 sp2 sp4 : Space}
    {v0 : View sig κ0 sp0 S288x512 .f32} (v6 : View sig κ6 sp6 S7x280x512 .f32) (v2 : View sig κ2 sp2 S256x512 .f32)
    (v4 : View sig κ4 sp4 S256x512 .f32) {L : List (View.Piece (Elt Ideal) S288x512 .f32)}
    {L6 : List (View.Piece (Elt Ideal) S7x280x512 .f32)} (hL : lstD m c t Q = L) (h6 : shL v0 L 7 = L6)
    (y : Fin 256) (e : Fin 512) :
    View.canon (tapL v0 v6 L L6 v2 (valA m c t) (rdNew v4)
        [⟨Rect.unit (s := S256x512) ![0, 0] ![256, 512] inb_S256x512_S256x512_0_0, k0_pay8 (F := Ideal)⟩] 248) (ix2 y e)
      = ((tapBlk (rowA D t) (rowD D t) y.val e : ℝ) : EReal) := by
  subst hL
  rw [← View.read_writes_junk_apply_eq_canon v4]
  exact tap_new v0 v6 (rowD D t) (lstD_at t h hQ) h6.symm v2 v4 (rowA D t) (valA_at t h) _ (fun j => by pointwise [k0_pay8]) _ y e

end stored

end Cert.Kernel2Ideal.Mix
-- ==== Proof.MixPt.lean ====
/-
  One point of the mixer kernel in each of its four cases: a batch element's last block of tokens, where the rows beyond the
  block are filled with zeros (the first of these also clears the two accumulators), and the other blocks, where they are
  read from what the point before left (the last of these also writes the small parameters' gradients).
-/
module

public import proofs.«01_k».proof.Proof.MixOut
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

/-- What the point before left. -/
abbrev old (m : (ℓ : Loc nD τ sig) → Buf (Elt Ideal) ℓ) (c : Dev nD) (t : Fin cfg0.N) :=
  outsAt0 m c (t.val - 1) (Nat.lt_of_le_of_lt (Nat.sub_le _ _) t.isLt)

theorem back0 (x : Vec Ideal S288x512 .f32) :
    View.read (Elt Ideal) (View.whole cc0_scratch0) ((Memref.isWhole_whole cc0_scratch0).unread x) = x := Memref.IsWhole.read_unread _ _
theorem back1 (x : Vec Ideal S264x512 .f32) :
    View.read (Elt Ideal) (View.whole cc0_scratch1) ((Memref.isWhole_whole cc0_scratch1).unread x) = x := Memref.IsWhole.read_unread _ _

/-- The rows beyond the block, from what the point before left. -/
theorem tailD_old (ht : ¬t.val % 16 = 0) (ih : ¬t.val % 16 = 0 → ∀ n e, (old m c t).2.2.2.2.2.1 (ix2 n e) = ((rowD D (prev t) n.val e : ℝ) : EReal)) :
    TailD t D (k0_pay13 (F := Ideal) (View.ld (View.read (Elt Ideal) (View.whole cc0_scratch0)
      ((Memref.isWhole_whole cc0_scratch0).unread (old m c t).2.2.2.2.2.1)) (Rect.unit (s := S288x512) ![0, 0] ![32, 512] inb_S288x512_S32x512_0_0))) :=
  tailD_prev t ht _ fun n e => by rw [back0]; exact ih ht n e

theorem tailC_old (ht : ¬t.val % 16 = 0) (ih : ¬t.val % 16 = 0 → ∀ n e, (old m c t).2.2.2.2.2.2.1 (ix2 n e) = ((rowC D (prev t) n.val e : ℝ) : EReal)) :
    TailC t D (k0_pay14 (F := Ideal) (View.ld (View.read (Elt Ideal) (View.whole cc0_scratch1)
      ((Memref.isWhole_whole cc0_scratch1).unread (old m c t).2.2.2.2.2.2.1)) (Rect.unit (s := S264x512) ![0, 0] ![8, 512] inb_S264x512_S8x512_0_0))) :=
  tailC_prev t ht _ fun n e => by rw [back1]; exact ih ht n e

/-- The four cases of a point. -/
theorem four (t : Fin cfg0.N) : (t.val % 32 = 0 ∧ t.val % 16 = 0 ∧ ¬1 ≤ t.val % 16 ∧ ¬t.val % 32 = 31)
    ∨ (¬t.val % 32 = 0 ∧ ¬t.val % 16 = 0 ∧ 1 ≤ t.val % 16 ∧ ¬t.val % 32 = 31)
    ∨ (¬t.val % 32 = 0 ∧ t.val % 16 = 0 ∧ ¬1 ≤ t.val % 16 ∧ ¬t.val % 32 = 31)
    ∨ (¬t.val % 32 = 0 ∧ ¬t.val % 16 = 0 ∧ 1 ≤ t.val % 16 ∧ t.val % 32 = 31) := by
  omega

/-- The point before left its rows of the two convolutions' gradients, where there is one in the same batch element. -/
structure Before (m : (ℓ : Loc nD τ sig) → Buf (Elt Ideal) ℓ) (D : Data) (c : Dev nD) (t : Fin cfg0.N) : Prop where
  hD : ¬t.val % 16 = 0 → ∀ n e, (old m c t).2.2.2.2.2.1 (ix2 n e) = ((rowD D (prev t) n.val e : ℝ) : EReal)
  hC : ¬t.val % 16 = 0 → ∀ n e, (old m c t).2.2.2.2.2.2.1 (ix2 n e) = ((rowC D (prev t) n.val e : ℝ) : EReal)

include h

/-- The projection's gradient at the block's tokens. -/
theorem pjg_at {QD : Vec Ideal S32x512 .f32} {QC : Vec Ideal S8x512 .f32} (hD : TailD t D QD) (hC : TailC t D QC)
    {κ0 κ6 κ3 κ1 : Kind} {sp0 sp6 sp3 sp1 : Space} {v0 : View sig κ0 sp0 S288x512 .f32} {v6 : View sig κ6 sp6 S7x280x512 .f32}
    {v3 : View sig κ3 sp3 S256x512 .f32} {v1 : View sig κ1 sp1 S264x512 .f32} {L : List (View.Piece (Elt Ideal) S288x512 .f32)}
    {L6 : List (View.Piece (Elt Ideal) S7x280x512 .f32)} (hL : lstD m c t QD = L) (h6 : shL v0 L 7 = L6) (r : Fin 256) (e : Fin 2560) :
    k0_pay734 (F := Ideal) (k0_pay19 (rP0 m c t)) (k0_pay23 (k0_pay15 (bG m c t) (rG1 m c t)) (bO m c t) (bV m c t))
      (k0_pay31 (k0_pay22 (rP4 m c t)) (k0_pay26
          (v1.readCov (lstC m c t QC) (Rect.unit (s := S264x512) ![2, 0] ![256, 512] inb_S264x512_S256x512_2_0).toLoadRect) (rR m c t 3 inb_S8x512_S1x512_3_0))
        (v1.readCov (lstC m c t QC) (Rect.unit (s := S264x512) ![1, 0] ![256, 512] inb_S264x512_S256x512_1_0).toLoadRect) (rR m c t 4 inb_S8x512_S1x512_4_0)
        (v1.readCov (lstC m c t QC) (Rect.unit (s := S264x512) ![0, 0] ![256, 512] inb_S264x512_S256x512_0_0).toLoadRect) (rR m c t 5 inb_S8x512_S1x512_5_0))
      (k0_pay32 (k0_pay21 (rP3 m c t)) (k0_pay29 (k0_pay26
          (v1.readCov (lstC m c t QC) (Rect.unit (s := S264x512) ![2, 0] ![256, 512] inb_S264x512_S256x512_2_0).toLoadRect) (rR m c t 3 inb_S8x512_S1x512_3_0))
        (v1.readCov (lstC m c t QC) (Rect.unit (s := S264x512) ![1, 0] ![256, 512] inb_S264x512_S256x512_1_0).toLoadRect) (rR m c t 4 inb_S8x512_S1x512_4_0)
        (v1.readCov (lstC m c t QC) (Rect.unit (s := S264x512) ![0, 0] ![256, 512] inb_S264x512_S256x512_0_0).toLoadRect) (rR m c t 5 inb_S8x512_S1x512_5_0)))
      (k0_pay44 (k0_pay20 (rP1 m c t)))
      (v3.readCov (sumL v0 v6 L L6 (rW m c t) 8) (Rect.unit (s := S256x512) ![0, 0] ![256, 512] inb_S256x512_S256x512_0_0).toLoadRect) (ix2 r e)
      = ((D.dpj (bat t) (tok t r) e : ℝ) : EReal) :=
  dpj_at (reads t h) (backC t h hC v1 0 _) (backC t h hC v1 1 _) (backC t h hC v1 2 _) (backA t h hD v6 v3 hL h6) r e

omit h in
/-- The projection's gradient as it is stored. -/
theorem put_at (a b p q g A : FVec Ideal S256x512 .f32) (r : Fin 256) (e : Fin 2560) :
    k0_pay735 (F := Ideal) a b p q g A (ix3 0 r e) = k0_pay734 a b p q g A (ix2 r e) := by
  pointwise [k0_pay735]

end Cert.Kernel2Ideal.Mix
-- ==== Proof.MixGx.lean ====
/-
  The mixer kernel's gradient in the residual stream at a point.
-/
module

public import proofs.«01_k».proof.Proof.MixPt

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

attribute [local irreducible] View.readCov View.canon

include h

set_option maxHeartbeats 4000000 in
/-- The gradient in the residual stream, as a point writes it. -/
theorem gx_pt (hb : Before m D c t) (r : Fin 256) (d : Fin 1024) :
    (outsAt0 m c t.val t.isLt).1 (ix3 0 r d) = ((D.gx (bat t) (tok t r) d : ℝ) : EReal) := by
  rcases four t with ⟨h0, h1, h2, h3⟩ | ⟨h0, h1, h2, h3⟩ | ⟨h0, h1, h2, h3⟩ | ⟨h0, h1, h2, h3⟩ <;>
    [refine (congrArg (fun p => p.1 (ix3 0 r d)) (outsAt0_A m c t h0 h1 h2 h3)).trans ?_;
     refine (congrArg (fun p => p.1 (ix3 0 r d)) (outsAt0_B m c t h0 h1 h2 h3)).trans ?_;
     refine (congrArg (fun p => p.1 (ix3 0 r d)) (outsAt0_C m c t h0 h1 h2 h3)).trans ?_;
     refine (congrArg (fun p => p.1 (ix3 0 r d)) (outsAt0_D m c t h0 h1 h2 h3)).trans ?_]
  all_goals
    dsimp only; frame_open; frame_out
    first
      | exact gx_at (reads t h) (pjg_at h t (tailD_zero t h1) (tailC_zero t h1) rfl rfl) r d
      | exact gx_at (reads t h) (pjg_at h t (tailD_old t h1 hb.hD) (tailC_old t h1 hb.hC) rfl rfl) r d

end Cert.Kernel2Ideal.Mix
-- ==== Proof.MixPj.lean ====
/-
  The mixer kernel's gradient in the projection at a point.
-/
module

public import proofs.«01_k».proof.Proof.MixPt

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

attribute [local irreducible] View.readCov View.canon

include h

set_option maxHeartbeats 4000000 in
/-- The projection's gradient, as a point writes it. -/
theorem pj_pt (hb : Before m D c t) (r : Fin 256) (e : Fin 2560) :
    (outsAt0 m c t.val t.isLt).2.1 (ix3 0 r e) = ((D.dpj (bat t) (tok t r) e : ℝ) : EReal) := by
  rcases four t with ⟨h0, h1, h2, h3⟩ | ⟨h0, h1, h2, h3⟩ | ⟨h0, h1, h2, h3⟩ | ⟨h0, h1, h2, h3⟩ <;>
    [refine (congrArg (fun p => p.2.1 (ix3 0 r e)) (outsAt0_A m c t h0 h1 h2 h3)).trans ?_;
     refine (congrArg (fun p => p.2.1 (ix3 0 r e)) (outsAt0_B m c t h0 h1 h2 h3)).trans ?_;
     refine (congrArg (fun p => p.2.1 (ix3 0 r e)) (outsAt0_C m c t h0 h1 h2 h3)).trans ?_;
     refine (congrArg (fun p => p.2.1 (ix3 0 r e)) (outsAt0_D m c t h0 h1 h2 h3)).trans ?_]
  all_goals
    dsimp only; frame_open; frame_out
    first
      | exact (put_at _ _ _ _ _ _ r e).trans (pjg_at h t (tailD_zero t h1) (tailC_zero t h1) rfl rfl r e)
      | exact (put_at _ _ _ _ _ _ r e).trans (pjg_at h t (tailD_old t h1 hb.hD) (tailC_old t h1 hb.hC) rfl rfl r e)

end Cert.Kernel2Ideal.Mix
-- ==== Proof.MixRow.lean ====
/-
  The mixer kernel's two accumulators of single rows: the packed small parameters' rows, kept over the whole grid, and the
  modulation rows, kept over a batch element. A point reads each row, adds its tokens' sum and stores it back.
-/
module

public import proofs.«01_k».proof.Proof.MixPt

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix
open Cert.Rows (rows_back rows_new rows_old)

/-! ## Rows of the packed parameters -/

section rows

variable {κ : Kind} {sp : Space}

theorem line_row {o : ℕ} (v : View sig κ sp S8x512 .f32) (f : v.ty.Contents (Elt Ideal))
    (inb : ∀ a : Fin S8x512.rank, (![o, 0] : Fin 2 → ℕ) a + (![1, 512] : Fin 2 → ℕ) a ≤ S8x512.size a)
    (P : Vec Ideal S1x512 .f32) (L : List (View.Piece (Elt Ideal) S8x512 .f32)) (k : Fin 8) (e : Fin 512) :
    v.read (Elt Ideal) (v.writes (Elt Ideal) f (⟨Rect.unit ![o, 0] ![1, 512] inb, P⟩ :: L)) (ix2 k e)
      = if k.val = o then P (ix2 0 e) else v.read (Elt Ideal) (v.writes (Elt Ideal) f L) (ix2 k e) := by
  by_cases hk : k.val = o
  · rw [if_pos hk]
    refine View.read_writes_cons_unit_of_mem v f inb P L (ix2 k e) (ix2 0 e) rfl fun a => ?_
    fin_cases a <;> simp [hk]
  · rw [if_neg hk]
    exact View.read_writes_cons_unit_of_not_mem v f inb P L (ix2 k e) rfl 0 (by
      show k.val < o ∨ o + 1 ≤ k.val
      omega)

/-- A row of a block as a point loads it. -/
theorem line_ld {o : ℕ} (B : Vec Ideal S8x512 .f32) (k : Fin 8) (hk : k.val = o)
    (inb : ∀ a : Fin S8x512.rank, (![o, 0] : Fin 2 → ℕ) a + (![1, 512] : Fin 2 → ℕ) a ≤ S8x512.size a) (e : Fin 512) :
    (View.ld B (Rect.unit ![o, 0] ![1, 512] inb) : Vec Ideal S1x512 .f32) (ix2 0 e) = B (ix2 k e) :=
  View.ld_unit_apply_of _ _ _ _ _ (ix2 k e) fun a => by fin_cases a <;> simp [hk]

/-- A row read back under rows stored elsewhere, over a block of zeros. -/
theorem line_back {o : ℕ} (v : View sig κ sp S8x512 .f32) (L : List (View.Piece (Elt Ideal) S8x512 .f32)) (k : Fin 8) (hk : k.val = o)
    (inb : ∀ a : Fin S8x512.rank, (![o, 0] : Fin 2 → ℕ) a + (![1, 512] : Fin 2 → ℕ) a ≤ S8x512.size a)
    (hL : ∀ e, View.canon L (ix2 k e) = 0) (e : Fin 512) :
    (v.readCov L (Rect.unit (s := S8x512) ![o, 0] ![1, 512] inb).toLoadRect : Vec Ideal S1x512 .f32) (ix2 0 e) = 0 := by
  subst hk
  exact (rows_back v L inb 0 e (by show k.val + 0 < 8; omega)).trans (hL e)

theorem line_skip {o : ℕ} (L : List (View.Piece (Elt Ideal) S8x512 .f32)) (k : Fin 8) (hk : k.val ≠ o)
    (inb : ∀ a : Fin S8x512.rank, (![o, 0] : Fin 2 → ℕ) a + (![1, 512] : Fin 2 → ℕ) a ≤ S8x512.size a) (P : Vec Ideal S1x512 .f32)
    (hL : ∀ e, View.canon L (ix2 k e) = 0) (e : Fin 512) : View.canon (⟨Rect.unit (s := S8x512) ![o, 0] ![1, 512] inb, P⟩ :: L) (ix2 k e) = 0 :=
  (rows_old inb P L e k (by omega)).trans (hL e)

theorem line_fill (k : Fin 8) (e : Fin 512) :
    View.canon [(⟨Rect.unit (s := S8x512) ![0, 0] ![8, 512] inb_S8x512_S8x512_0_0, k0_pay9 (F := Ideal)⟩ : View.Piece (Elt Ideal) S8x512 .f32)] (ix2 k e) = 0 := by
  refine (rows_new _ _ [] k e k (by simp)).trans ?_
  pointwise [k0_pay9]

/-- The six rows stored, each what it was and a term, over a block that holds what they were. -/
theorem lines_at (v : View sig κ sp S8x512 .f32) (f : v.ty.Contents (Elt Ideal)) (X : Vec Ideal S8x512 .f32) (g : Fin 8 → Fin 512 → ℝ)
    {P0 P1 P2 P3 P4 P5 : Vec Ideal S1x512 .f32} {L : List (View.Piece (Elt Ideal) S8x512 .f32)}
    (hL : ∀ k e, v.read (Elt Ideal) (v.writes (Elt Ideal) f L) (ix2 k e) = X (ix2 k e))
    (h0 : ∀ e, P0 (ix2 0 e) = X (ix2 0 e) + ((g 0 e : ℝ) : EReal)) (h1 : ∀ e, P1 (ix2 0 e) = X (ix2 1 e) + ((g 1 e : ℝ) : EReal))
    (h2 : ∀ e, P2 (ix2 0 e) = X (ix2 2 e) + ((g 2 e : ℝ) : EReal)) (h3 : ∀ e, P3 (ix2 0 e) = X (ix2 3 e) + ((g 3 e : ℝ) : EReal))
    (h4 : ∀ e, P4 (ix2 0 e) = X (ix2 4 e) + ((g 4 e : ℝ) : EReal)) (h5 : ∀ e, P5 (ix2 0 e) = X (ix2 5 e) + ((g 5 e : ℝ) : EReal))
    (hg : ∀ k e, 6 ≤ k.val → g k e = 0) (k : Fin 8) (e : Fin 512) :
    v.read (Elt Ideal) (v.writes (Elt Ideal) f
        (⟨Rect.unit ![3, 0] ![1, 512] inb_S8x512_S1x512_3_0, P3⟩ :: ⟨Rect.unit ![5, 0] ![1, 512] inb_S8x512_S1x512_5_0, P5⟩
          :: ⟨Rect.unit ![4, 0] ![1, 512] inb_S8x512_S1x512_4_0, P4⟩ :: ⟨Rect.unit ![2, 0] ![1, 512] inb_S8x512_S1x512_2_0, P2⟩
          :: ⟨Rect.unit ![1, 0] ![1, 512] inb_S8x512_S1x512_1_0, P1⟩ :: ⟨Rect.unit ![0, 0] ![1, 512] inb_S8x512_S1x512_0_0, P0⟩ :: L)) (ix2 k e)
      = X (ix2 k e) + ((g k e : ℝ) : EReal) := by
  rw [line_row, line_row, line_row, line_row, line_row, line_row]
  split_ifs with e3 e5 e4 e2 e1 e0
  · rw [h3, show k = 3 from Fin.ext e3]
  · rw [h5, show k = 5 from Fin.ext e5]
  · rw [h4, show k = 4 from Fin.ext e4]
  · rw [h2, show k = 2 from Fin.ext e2]
  · rw [h1, show k = 1 from Fin.ext e1]
  · rw [h0, show k = 0 from Fin.ext e0]
  · rw [hL, hg k e (by omega), EReal.coe_zero]
    exact (add_zero _).symm

/-! ## The modulation rows -/

theorem mod_row {o : ℕ} (v : View sig κ sp S1x8x1024 .f32) (f : v.ty.Contents (Elt Ideal))
    (inb : ∀ a : Fin S1x8x1024.rank, (![0, o, 0] : Fin 3 → ℕ) a + (![1, 1, 1024] : Fin 3 → ℕ) a ≤ S1x8x1024.size a)
    (P : Vec Ideal S1x1x1024 .f32) (L : List (View.Piece (Elt Ideal) S1x8x1024 .f32)) (k : Fin 8) (d : Fin 1024) :
    v.read (Elt Ideal) (v.writes (Elt Ideal) f (⟨Rect.unit ![0, o, 0] ![1, 1, 1024] inb, P⟩ :: L)) (ix3 0 k d)
      = if k.val = o then P (ix3 0 0 d) else v.read (Elt Ideal) (v.writes (Elt Ideal) f L) (ix3 0 k d) := by
  by_cases hk : k.val = o
  · rw [if_pos hk]
    refine View.read_writes_cons_unit_of_mem v f inb P L (ix3 0 k d) (ix3 0 0 d) rfl fun a => ?_
    fin_cases a <;> simp [hk]
  · rw [if_neg hk]
    exact View.read_writes_cons_unit_of_not_mem v f inb P L (ix3 0 k d) rfl 1 (by
      show k.val < o ∨ o + 1 ≤ k.val
      omega)

theorem mod_ld {o : ℕ} (B : Vec Ideal S1x8x1024 .f32) (k : Fin 8) (hk : k.val = o)
    (inb : ∀ a : Fin S1x8x1024.rank, (![0, o, 0] : Fin 3 → ℕ) a + (![1, 1, 1024] : Fin 3 → ℕ) a ≤ S1x8x1024.size a) (d : Fin 1024) :
    (View.ld B (Rect.unit ![0, o, 0] ![1, 1, 1024] inb) : Vec Ideal S1x1x1024 .f32) (ix3 0 0 d) = B (ix3 0 k d) :=
  View.ld_unit_apply_of _ _ _ _ _ (ix3 0 k d) fun a => by fin_cases a <;> simp [hk]

theorem mod_back {o : ℕ} (v : View sig κ sp S1x8x1024 .f32) (L : List (View.Piece (Elt Ideal) S1x8x1024 .f32)) (k : Fin 8) (hk : k.val = o)
    (inb : ∀ a : Fin S1x8x1024.rank, (![0, o, 0] : Fin 3 → ℕ) a + (![1, 1, 1024] : Fin 3 → ℕ) a ≤ S1x8x1024.size a)
    (hL : ∀ d, v.read (Elt Ideal) (v.writes (Elt Ideal) v.junk L) (ix3 0 k d) = 0) (d : Fin 1024) :
    (v.readCov L (Rect.unit (s := S1x8x1024) ![0, o, 0] ![1, 1, 1024] inb).toLoadRect : Vec Ideal S1x1x1024 .f32) (ix3 0 0 d) = 0 := by
  rw [View.readCov_eq_canon']
  refine Eq.trans (congrArg (View.canon L) (funext fun a => Fin.ext ?_)) ((View.read_writes_junk_apply_eq_canon v (ix3 0 k d) L).symm.trans (hL d))
  fin_cases a <;> simp [Rect.toLoadRect, LoadRect.idx, Rect.unit, hk]

theorem mod_fill (v : View sig κ sp S1x8x1024 .f32) (f : v.ty.Contents (Elt Ideal)) (k : Fin 8) (d : Fin 1024) :
    v.read (Elt Ideal) (v.writes (Elt Ideal) f
      [⟨Rect.unit ![0, 0, 0] ![1, 8, 1024] inb_S1x8x1024_S1x8x1024_0_0_0, k0_pay10 (F := Ideal)⟩]) (ix3 0 k d) = 0 := by
  refine (View.read_writes_cons_unit_of_mem v f _ _ [] (ix3 0 k d) (ix3 0 k d) rfl fun a => by fin_cases a <;> simp).trans ?_
  pointwise [k0_pay10]

/-- The two rows stored, each what it was and a term, over a block that holds what they were. -/
theorem mods_at (v : View sig κ sp S1x8x1024 .f32) (f : v.ty.Contents (Elt Ideal)) (X : Vec Ideal S1x8x1024 .f32) (g : Fin 8 → Fin 1024 → ℝ)
    {P0 P1 : Vec Ideal S1x1x1024 .f32} {L : List (View.Piece (Elt Ideal) S1x8x1024 .f32)}
    (hL : ∀ k d, v.read (Elt Ideal) (v.writes (Elt Ideal) f L) (ix3 0 k d) = X (ix3 0 k d))
    (h0 : ∀ d, P0 (ix3 0 0 d) = X (ix3 0 0 d) + ((g 0 d : ℝ) : EReal)) (h1 : ∀ d, P1 (ix3 0 0 d) = X (ix3 0 1 d) + ((g 1 d : ℝ) : EReal))
    (hg : ∀ k d, 2 ≤ k.val → g k d = 0) (k : Fin 8) (d : Fin 1024) :
    v.read (Elt Ideal) (v.writes (Elt Ideal) f
        (⟨Rect.unit ![0, 1, 0] ![1, 1, 1024] inb_S1x8x1024_S1x1x1024_0_1_0, P1⟩
          :: ⟨Rect.unit ![0, 0, 0] ![1, 1, 1024] inb_S1x8x1024_S1x1x1024_0_0_0, P0⟩ :: L)) (ix3 0 k d)
      = X (ix3 0 k d) + ((g k d : ℝ) : EReal) := by
  rw [mod_row, mod_row]
  split_ifs with e1 e0
  · rw [h1, show k = 1 from Fin.ext e1]
  · rw [h0, show k = 0 from Fin.ext e0]
  · rw [hL, hg k d (by omega), EReal.coe_zero]
    exact (add_zero _).symm

end rows

/-! ## What one point adds -/

/-- The sum over a point's tokens of the packed rows. -/
def rowBlk (D : Data) (t : Fin cfg0.N) (k : Fin 8) (e : Fin 512) : ℝ := ∑ r, D.rowTerm (bat t) (tok t r) k e

/-- The sum over a point's tokens of the modulation rows. -/
def modBlk (D : Data) (t : Fin cfg0.N) (k : Fin 8) (d : Fin 1024) : ℝ := ∑ r, D.modTerm (bat t) (tok t r) k d

theorem rowBlk_top (D : Data) (t : Fin cfg0.N) (k : Fin 8) (e : Fin 512) (hk : 6 ≤ k.val) : rowBlk D t k e = 0 :=
  Finset.sum_eq_zero fun r _ => by
    unfold Data.rowTerm
    rw [if_neg (by omega), if_neg (by omega), if_neg (by omega), if_neg (by omega)]

theorem modBlk_top (D : Data) (t : Fin cfg0.N) (k : Fin 8) (d : Fin 1024) (hk : 2 ≤ k.val) : modBlk D t k d = 0 :=
  Finset.sum_eq_zero fun r _ => by
    unfold Data.modTerm
    rw [if_neg (by omega), if_neg (by omega)]

section point

variable {m : (ℓ : Loc nD τ sig) → Buf (Elt Ideal) ℓ} {D : Data} {c : Dev nD} (h : HoldsAt m D c) (t : Fin cfg0.N)

include h

/-- The packed rows a point stores, over a block that holds what they were. -/
theorem lines_pt {QC : Vec Ideal S8x512 .f32} (hC : TailC t D QC) {κ1 κ5 : Kind} {sp1 sp5 : Space} {v1 : View sig κ1 sp1 S264x512 .f32}
    (v5 : View sig κ5 sp5 S8x512 .f32) (f : v5.ty.Contents (Elt Ideal)) (X : Vec Ideal S8x512 .f32) {A0 A1 A2 A3 A4 A5 : Vec Ideal S1x512 .f32}
    {L : List (View.Piece (Elt Ideal) S8x512 .f32)} (hL : ∀ k e, v5.read (Elt Ideal) (v5.writes (Elt Ideal) f L) (ix2 k e) = X (ix2 k e))
    (h0 : ∀ e, A0 (ix2 0 e) = X (ix2 0 e)) (h1 : ∀ e, A1 (ix2 0 e) = X (ix2 1 e)) (h2 : ∀ e, A2 (ix2 0 e) = X (ix2 2 e))
    (h3 : ∀ e, A3 (ix2 0 e) = X (ix2 3 e)) (h4 : ∀ e, A4 (ix2 0 e) = X (ix2 4 e)) (h5 : ∀ e, A5 (ix2 0 e) = X (ix2 5 e))
    (k : Fin 8) (e : Fin 512) :
    v5.read (Elt Ideal) (v5.writes (Elt Ideal) f
        (⟨Rect.unit ![3, 0] ![1, 512] inb_S8x512_S1x512_3_0, k0_pay42 (k0_pay34 (bA m c t)) (k0_pay35 (bA m c t)) (k0_pay36 (rR m c t 1 inb_S8x512_S1x512_1_0))
            (k0_pay37 (k0_pay17 (k0_pay15 (bG m c t) (rG1 m c t)) (bO m c t)) (bA m c t) (rR m c t 1 inb_S8x512_S1x512_1_0) (rR m c t 2 inb_S8x512_S1x512_2_0)) A3⟩
          :: ⟨Rect.unit ![5, 0] ![1, 512] inb_S8x512_S1x512_5_0,
            k0_pay40 (k0_pay37 (k0_pay17 (k0_pay15 (bG m c t) (rG1 m c t)) (bO m c t)) (bA m c t) (rR m c t 1 inb_S8x512_S1x512_1_0) (rR m c t 2 inb_S8x512_S1x512_2_0)) A5⟩
          :: ⟨Rect.unit ![4, 0] ![1, 512] inb_S8x512_S1x512_4_0,
            k0_pay39 (k0_pay38 (k0_pay17 (k0_pay15 (bG m c t) (rG1 m c t)) (bO m c t)) (bA m c t) (rR m c t 1 inb_S8x512_S1x512_1_0) (rR m c t 2 inb_S8x512_S1x512_2_0) A4)⟩
          :: ⟨Rect.unit ![2, 0] ![1, 512] inb_S8x512_S1x512_2_0, k0_pay30 (k0_pay25 (rP3 m c t) (rP4 m c t))
            (v1.readCov (lstC m c t QC) (Rect.unit (s := S264x512) ![0, 0] ![256, 512] inb_S264x512_S256x512_0_0).toLoadRect) A2⟩
          :: ⟨Rect.unit ![1, 0] ![1, 512] inb_S8x512_S1x512_1_0, k0_pay28 (k0_pay25 (rP3 m c t) (rP4 m c t))
            (v1.readCov (lstC m c t QC) (Rect.unit (s := S264x512) ![1, 0] ![256, 512] inb_S264x512_S256x512_1_0).toLoadRect) A1⟩
          :: ⟨Rect.unit ![0, 0] ![1, 512] inb_S8x512_S1x512_0_0, k0_pay27 (k0_pay25 (rP3 m c t) (rP4 m c t))
            (v1.readCov (lstC m c t QC) (Rect.unit (s := S264x512) ![2, 0] ![256, 512] inb_S264x512_S256x512_2_0).toLoadRect) A0⟩ :: L)) (ix2 k e)
      = X (ix2 k e) + ((rowBlk D t k e : ℝ) : EReal) :=
  lines_at v5 f X (rowBlk D t) hL
    (fun e => (row0_at (reads t h) (backC t h hC v1 2 _) A0 e).trans (congrArg (· + _) (h0 e)))
    (fun e => (row1_at (reads t h) (backC t h hC v1 1 _) A1 e).trans (congrArg (· + _) (h1 e)))
    (fun e => (row2_at (reads t h) (backC t h hC v1 0 _) A2 e).trans (congrArg (· + _) (h2 e)))
    (fun e => (row3_at (reads t h) A3 e).trans (congrArg (· + _) (h3 e)))
    (fun e => (row4_at (reads t h) A4 e).trans (congrArg (· + _) (h4 e)))
    (fun e => (row5_at (reads t h) A5 e).trans (congrArg (· + _) (h5 e)))
    (rowBlk_top D t) k e

/-- The modulation rows a point stores, over a block that holds what they were. -/
theorem mods_pt {P : FVec Ideal S256x2560 .bf16} (hP : ∀ r e, P (ix2 r e) = ((D.dpj (bat t) (tok t r) e : ℝ) : EReal)) {κ : Kind} {sp : Space}
    (v : View sig κ sp S1x8x1024 .f32) (f : v.ty.Contents (Elt Ideal)) (X : Vec Ideal S1x8x1024 .f32) {A0 A1 : Vec Ideal S1x1x1024 .f32}
    {L : List (View.Piece (Elt Ideal) S1x8x1024 .f32)} (hL : ∀ k d, v.read (Elt Ideal) (v.writes (Elt Ideal) f L) (ix3 0 k d) = X (ix3 0 k d))
    (h0 : ∀ d, A0 (ix3 0 0 d) = X (ix3 0 0 d)) (h1 : ∀ d, A1 (ix3 0 0 d) = X (ix3 0 1 d)) (k : Fin 8) (d : Fin 1024) :
    v.read (Elt Ideal) (v.writes (Elt Ideal) f
        (⟨Rect.unit ![0, 1, 0] ![1, 1, 1024] inb_S1x8x1024_S1x1x1024_0_1_0, k0_pay1 (k0_pay741 (k0_pay5 (bX m c t)) P (bI m c t) A1)⟩
          :: ⟨Rect.unit ![0, 0, 0] ![1, 1, 1024] inb_S1x8x1024_S1x1x1024_0_0_0, k0_pay740 P (bI m c t) A0⟩ :: L)) (ix3 0 k d)
      = X (ix3 0 k d) + ((modBlk D t k d : ℝ) : EReal) :=
  mods_at v f X (modBlk D t) hL
    (fun d => (mod0_at (reads t h) hP A0 d).trans (congrArg (· + _) (h0 d)))
    (fun d => (mod1_at (reads t h) hP A1 d).trans (congrArg (· + _) (h1 d)))
    (modBlk_top D t) k d

end point

/-- Values carried along the grid, each point adding a term, that start anew every `K` points: the terms since the last start. -/
theorem carried {N K : ℕ} (hK : 0 < K) (f : (n : ℕ) → n < N → EReal) (p : ℕ → ℝ) (h0 : ∀ n hn, n % K = 0 → f n hn = ((p n : ℝ) : EReal))
    (h1 : ∀ n hn, n % K ≠ 0 → f n hn = f (n - 1) (Nat.lt_of_le_of_lt (Nat.sub_le _ _) hn) + ((p n : ℝ) : EReal)) (n : ℕ) (hn : n < N) :
    f n hn = ((∑ j ∈ Finset.range (n % K + 1), p (n - n % K + j) : ℝ) : EReal) := by
  induction n with
  | zero => rw [h0 0 hn (Nat.zero_mod K)]; simp
  | succ n ih =>
    by_cases hk : (n + 1) % K = 0
    · rw [h0 _ hn hk, hk]
      simp
    · have hm : (n + 1) % K = n % K + 1 := by
        rcases Nat.lt_or_ge (n % K + 1) K with h | h
        · rw [Nat.add_mod, Nat.mod_eq_of_lt (show 1 < K by omega), Nat.mod_eq_of_lt h]
        · have hs : n % K + 1 = K := le_antisymm (Nat.mod_lt _ hK) h
          exact absurd (by rw [show n + 1 = n % K + 1 + K * (n / K) by have := Nat.mod_add_div n K; omega, hs]; simp) hk
      have hle := Nat.mod_le n K
      rw [h1 _ hn hk, hm, Finset.sum_range_succ, EReal.coe_add, show n + 1 - (n % K + 1) = n - n % K by omega, show n - n % K + (n % K + 1) = n + 1 by omega]
      exact congrArg (· + _) (ih _)

end Cert.Kernel2Ideal.Mix
-- ==== Proof.MixLines.lean ====
/-
  The packed rows' accumulator at a point of the mixer kernel.
-/
module

public import proofs.«01_k».proof.Proof.MixRow

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

attribute [local irreducible] View.readCov View.canon

theorem back5 (x : Vec Ideal S8x512 .f32) :
    View.read (Elt Ideal) (View.whole cc0_scratch5) ((Memref.isWhole_whole cc0_scratch5).unread x) = x := Memref.IsWhole.read_unread _ _

theorem old5 (X : Vec Ideal S8x512 .f32) {o : ℕ} (k : Fin 8) (hk : k.val = o)
    (inb : ∀ a : Fin S8x512.rank, (![o, 0] : Fin 2 → ℕ) a + (![1, 512] : Fin 2 → ℕ) a ≤ S8x512.size a) (e : Fin 512) :
    (View.ld (View.read (Elt Ideal) (View.whole cc0_scratch5) ((Memref.isWhole_whole cc0_scratch5).unread X)) (Rect.unit ![o, 0] ![1, 512] inb)
      : Vec Ideal S1x512 .f32) (ix2 0 e) = X (ix2 k e) :=
  (line_ld _ k hk inb e).trans (by rw [back5])

include h

/-- The packed rows a point leaves. -/
theorem lines_after (hb : Before m D c t) (k : Fin 8) (e : Fin 512) :
    (outsAt0 m c t.val t.isLt).2.2.2.2.2.2.2.2 (ix2 k e) = (if t.val % 32 = 0 then 0 else (old m c t).2.2.2.2.2.2.2.2 (ix2 k e)) + ((rowBlk D t k e : ℝ) : EReal) := by
  rcases four t with ⟨h0, h1, h2, h3⟩ | ⟨h0, h1, h2, h3⟩ | ⟨h0, h1, h2, h3⟩ | ⟨h0, h1, h2, h3⟩ <;>
    [(rw [if_pos h0]; refine (congrArg (fun p => p.2.2.2.2.2.2.2.2 (ix2 k e)) (outsAt0_A m c t h0 h1 h2 h3)).trans ?_);
     (rw [if_neg h0]; refine (congrArg (fun p => p.2.2.2.2.2.2.2.2 (ix2 k e)) (outsAt0_B m c t h0 h1 h2 h3)).trans ?_);
     (rw [if_neg h0]; refine (congrArg (fun p => p.2.2.2.2.2.2.2.2 (ix2 k e)) (outsAt0_C m c t h0 h1 h2 h3)).trans ?_);
     (rw [if_neg h0]; refine (congrArg (fun p => p.2.2.2.2.2.2.2.2 (ix2 k e)) (outsAt0_D m c t h0 h1 h2 h3)).trans ?_)]
  all_goals dsimp only; frame_open; frame_out
  · refine (View.read_writes_junk_apply_eq_canon (View.whole cc0_scratch5) _ _).symm.trans
      (lines_pt h t (tailC_zero t h1) _ _ (fun _ => 0) (fun k e => (View.read_writes_junk_apply_eq_canon _ _ _).trans (line_fill k e))
        (line_back _ _ 0 rfl _ ?_) (line_back _ _ 1 rfl _ ?_) (line_back _ _ 2 rfl _ ?_) (line_back _ _ 3 rfl _ ?_) (line_back _ _ 4 rfl _ ?_)
        (line_back _ _ 5 rfl _ ?_) k e)
    all_goals
      repeat refine line_skip _ _ (by decide) _ _ ?_
      exact line_fill _
  all_goals
    refine lines_pt h t ?_ _ _ (old m c t).2.2.2.2.2.2.2.2 (fun k e => congrFun (back5 _) _)
      (old5 _ 0 rfl _) (old5 _ 1 rfl _) (old5 _ 2 rfl _) (old5 _ 3 rfl _) (old5 _ 4 rfl _) (old5 _ 5 rfl _) k e
    first
      | exact tailC_zero t h1
      | exact tailC_old t h1 hb.hC

end Cert.Kernel2Ideal.Mix
-- ==== Proof.MixMod.lean ====
/-
  The modulation rows' accumulator at a point of the mixer kernel.
-/
module

public import proofs.«01_k».proof.Proof.MixRow

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

attribute [local irreducible] View.readCov View.canon

include h

set_option maxHeartbeats 4000000 in
/-- The modulation rows a point leaves. -/
theorem mods_after (hb : Before m D c t) (k : Fin 8) (d : Fin 1024) :
    (outsAt0 m c t.val t.isLt).2.2.2.1 (ix3 0 k d) = (if t.val % 16 = 0 then 0 else (old m c t).2.2.2.1 (ix3 0 k d)) + ((modBlk D t k d : ℝ) : EReal) := by
  rcases four t with ⟨h0, h1, h2, h3⟩ | ⟨h0, h1, h2, h3⟩ | ⟨h0, h1, h2, h3⟩ | ⟨h0, h1, h2, h3⟩ <;>
    [(rw [if_pos h1]; refine (congrArg (fun p => p.2.2.2.1 (ix3 0 k d)) (outsAt0_A m c t h0 h1 h2 h3)).trans ?_);
     (rw [if_neg h1]; refine (congrArg (fun p => p.2.2.2.1 (ix3 0 k d)) (outsAt0_B m c t h0 h1 h2 h3)).trans ?_);
     (rw [if_pos h1]; refine (congrArg (fun p => p.2.2.2.1 (ix3 0 k d)) (outsAt0_C m c t h0 h1 h2 h3)).trans ?_);
     (rw [if_neg h1]; refine (congrArg (fun p => p.2.2.2.1 (ix3 0 k d)) (outsAt0_D m c t h0 h1 h2 h3)).trans ?_)]
  all_goals dsimp only; frame_open; frame_out
  all_goals first
    | refine (View.read_writes_junk_apply_eq_canon (ms0_13 t).view _ _).symm.trans (mods_pt h t (P := _) ?_ _ _ (fun _ => 0) (mod_fill _ _)
        (mod_back _ _ 0 rfl _ (mod_fill _ _ 0))
        (mod_back _ _ 1 rfl _ fun d => (mod_row _ _ _ _ _ 1 d).trans ((if_neg (by decide)).trans (mod_fill _ _ 1 d))) k d)
    | refine mods_pt h t (P := _) ?_ _ _ (old m c t).2.2.2.1 (fun k d => congrFun (Memref.IsWhole.read_unread _ _) _)
        (mod_ld _ 0 rfl _) (mod_ld _ 1 rfl _) k d
  all_goals first
    | exact pjg_at h t (tailD_zero t h1) (tailC_zero t h1) rfl rfl
    | exact pjg_at h t (tailD_old t h1 hb.hD) (tailC_old t h1 hb.hC) rfl rfl

end Cert.Kernel2Ideal.Mix
-- ==== Proof.MixTaps.lean ====
/-
  The long taps' partial sums: the 248 partial products a point adds, one tap and one chunk of tokens at a time.
-/
module

public import proofs.«01_k».proof.Proof.MixRow

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

attribute [local irreducible] View.readCov View.canon

theorem back4 (x : Vec Ideal S256x512 .f32) :
    View.read (Elt Ideal) (View.whole cc0_scratch4) ((Memref.isWhole_whole cc0_scratch4).unread x) = x := Memref.IsWhole.read_unread _ _

section step
variable {κ0 κ6 κ2 κ4 : Kind} {sp0 sp6 sp2 sp4 : Space} {v0 : View sig κ0 sp0 S288x512 .f32} {v6 : View sig κ6 sp6 S7x280x512 .f32}
  {v2 : View sig κ2 sp2 S256x512 .f32} {L : List (View.Piece (Elt Ideal) S288x512 .f32)} {L6 : List (View.Piece (Elt Ideal) S7x280x512 .f32)}
  {A : Vec Ideal S256x512 .f32} {rd : ℕ → List (View.Piece (Elt Ideal) S256x512 .f32) → Vec Ideal S8x512 .f32}
  {L4 : List (View.Piece (Elt Ideal) S256x512 .f32)}

/-- One store more, its payload given. -/
theorem isTap_put (n : ℕ) (P : Vec Ideal S8x512 .f32) (B : List (View.Piece (Elt Ideal) S256x512 .f32)) (inb)
    (hP : P = tapAdd (rd n B) (gate v2 A (n / 31)) (win v0 v6 L L6 (n / 31) n)) (hB : IsTap v0 v6 L L6 v2 A rd L4 n B) :
    IsTap v0 v6 L L6 v2 A rd L4 (n + 1) (⟨Rect.unit (s := S256x512) ![8 * (n % 31), 0] ![8, 512] inb, P⟩ :: B) := by
  subst hP
  exact isTap_succ v0 v6 L L6 v2 A rd L4 n B hB

theorem tapAdd_congr {o o' : Vec Ideal S8x512 .f32} {g g' w w' : Vec Ideal S32x512 .f32} (h1 : o = o') (h2 : g = g') (h3 : w = w') :
    tapAdd o g w = tapAdd o' g' w' := by
  rw [h1, h2, h3]

end step

/-- The partial sums a point leaves, over what the point before left. -/
theorem taps_keep {Q : Vec Ideal S32x512 .f32} (h : HoldsAt m D c) (hQ : TailD t D Q) {L : List (View.Piece (Elt Ideal) S288x512 .f32)}
    {L6 : List (View.Piece (Elt Ideal) S7x280x512 .f32)} (X : Vec Ideal S256x512 .f32) {B : List (View.Piece (Elt Ideal) S256x512 .f32)}
    (hB : IsTap (View.whole cc0_scratch0) (View.whole cc0_scratch6) L L6 (View.whole cc0_scratch2) (valA m c t)
      (rdKeep (View.whole cc0_scratch4) (View.read (Elt Ideal) (View.whole cc0_scratch4) ((Memref.isWhole_whole cc0_scratch4).unread X))) [] 248 B)
    (hL : lstD m c t Q = L) (h6 : shL (View.whole cc0_scratch0) L 7 = L6) (y : Fin 256) (e : Fin 512) :
    (View.whole cc0_scratch4).read (Elt Ideal) ((View.whole cc0_scratch4).writes (Elt Ideal) ((Memref.isWhole_whole cc0_scratch4).unread X) B) (ix2 y e)
      = X (ix2 y e) + ((tapBlk (rowA D t) (rowD D t) y.val e : ℝ) : EReal) := by
  unfold IsTap at hB
  subst hB
  exact (keepT t h hQ (View.whole cc0_scratch6) (View.whole cc0_scratch2) (View.whole cc0_scratch4) hL h6 _ y e).trans (by rw [back4])

/-- The partial sums the first point leaves. -/
theorem taps_new {Q : Vec Ideal S32x512 .f32} (h : HoldsAt m D c) (hQ : TailD t D Q) {L : List (View.Piece (Elt Ideal) S288x512 .f32)}
    {L6 : List (View.Piece (Elt Ideal) S7x280x512 .f32)} {B : List (View.Piece (Elt Ideal) S256x512 .f32)}
    (hB : IsTap (View.whole cc0_scratch0) (View.whole cc0_scratch6) L L6 (View.whole cc0_scratch2) (valA m c t)
      (rdNew (View.whole cc0_scratch4)) [⟨Rect.unit (s := S256x512) ![0, 0] ![256, 512] inb_S256x512_S256x512_0_0, k0_pay8 (F := Ideal)⟩] 248 B)
    (hL : lstD m c t Q = L) (h6 : shL (View.whole cc0_scratch0) L 7 = L6) (y : Fin 256) (e : Fin 512) :
    View.canon B (ix2 y e) = 0 + ((tapBlk (rowA D t) (rowD D t) y.val e : ℝ) : EReal) := by
  unfold IsTap at hB
  subst hB
  exact (newT t h hQ (View.whole cc0_scratch6) (View.whole cc0_scratch2) (View.whole cc0_scratch4) hL h6 y e).trans (zero_add _).symm

include h

set_option maxHeartbeats 4000000 in
/-- The long taps' partial sums a point leaves. -/
theorem taps_pt (hb : Before m D c t) (y : Fin 256) (e : Fin 512) :
    (outsAt0 m c t.val t.isLt).2.2.2.2.2.2.2.1 (ix2 y e) = (if t.val % 32 = 0 then 0 else (old m c t).2.2.2.2.2.2.2.1 (ix2 y e)) + ((tapBlk (rowA D t) (rowD D t) y.val e : ℝ) : EReal) := by
  rcases four t with ⟨h0, h1, h2, h3⟩ | ⟨h0, h1, h2, h3⟩ | ⟨h0, h1, h2, h3⟩ | ⟨h0, h1, h2, h3⟩ <;>
    [(rw [if_pos h0]; refine (congrArg (fun p => p.2.2.2.2.2.2.2.1 (ix2 y e)) (outsAt0_A m c t h0 h1 h2 h3)).trans ?_);
     (rw [if_neg h0]; refine (congrArg (fun p => p.2.2.2.2.2.2.2.1 (ix2 y e)) (outsAt0_B m c t h0 h1 h2 h3)).trans ?_);
     (rw [if_neg h0]; refine (congrArg (fun p => p.2.2.2.2.2.2.2.1 (ix2 y e)) (outsAt0_C m c t h0 h1 h2 h3)).trans ?_);
     (rw [if_neg h0]; refine (congrArg (fun p => p.2.2.2.2.2.2.2.1 (ix2 y e)) (outsAt0_D m c t h0 h1 h2 h3)).trans ?_)]
  all_goals
    dsimp only; frame_open; frame_out
    first
      | refine taps_new (Q := ?_) (L := ?_) (L6 := ?_) t h ?_ ?_ ?_ ?_ y e
      | refine taps_keep (Q := ?_) (L := ?_) (L6 := ?_) t h ?_ _ ?_ ?_ ?_ y e
    rotate_left 1
    · first
        | exact tailD_zero t h1
        | exact tailD_old t h1 hb.hD
    rotate_left 2
    · refine isTap_put _ _ _ _ ?_ ?_
      · refine (rfl : k0_pay732 (F := Ideal) _ _ _ = tapAdd _ _ _).trans ?_
        refine tapAdd_congr ?_ ?_ ?_
        · exact rfl
        · exact rfl
        · exact rfl
      refine isTap_put _ _ _ _ ?_ ?_
      · refine (rfl : k0_pay731 (F := Ideal) (k0_pay730 _ _ _) = tapAdd _ _ _).trans ?_
        refine tapAdd_congr ?_ ?_ ?_
        · exact rfl
        · exact rfl
        · exact rfl
      iterate 246 refine isTap_succ _ _ _ _ _ _ _ _ _ _ ?_
      exact isTap_zero ..
    · exact rfl
    · exact rfl

end Cert.Kernel2Ideal.Mix
-- ==== Proof.MixPack.lean ====
/-
  The packed gradients the mixer kernel's last point writes, in terms of the two accumulators it leaves.
-/
module

public import proofs.«01_k».proof.Proof.MixRow

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix
open Cert.Rows (rows_back rows_new rows_old)

variable {m : (ℓ : Loc nD τ sig) → Buf (Elt Ideal) ℓ} {D : Data} {c : Dev nD} (h : HoldsAt m D c) (t : Fin cfg0.N)

attribute [local irreducible] View.readCov View.canon

/-- Eight rows summed. -/
theorem fold_at (x : Vec Ideal S256x512 .f32) (r : Fin 32) (e : Fin 512) :
    k0_pay3 (F := Ideal) x (ix2 r e) = ∑ i : Fin 8, x (ix2 ⟨r.val * 8 + i.val, by omega⟩ e) := by
  pointwise [k0_pay3]

/-- The packed gradients the last point writes: the partial sums folded, -/
theorem packTap_pt (h3 : t.val % 32 = 31) (r : Fin 40) (hr : r.val < 32) (e : Fin 512) :
    (outsAt0 m c t.val t.isLt).2.2.2.2.1 (ix2 r e) = k0_pay3 (F := Ideal) (outsAt0 m c t.val t.isLt).2.2.2.2.2.2.2.1 (ix2 ⟨r.val, hr⟩ e) := by
  rw [outsAt0_D m c t (by omega) (by omega) (by omega) h3]
  dsimp only; frame_open; frame_out
  exact (rows_old _ _ _ e r (by omega)).trans (rows_new _ _ _ ⟨r.val, hr⟩ e r (by simp))

/-- and the single rows. -/
theorem packRow_pt (h3 : t.val % 32 = 31) (r : Fin 40) (hr : 32 ≤ r.val) (e : Fin 512) :
    (outsAt0 m c t.val t.isLt).2.2.2.2.1 (ix2 r e) = (outsAt0 m c t.val t.isLt).2.2.2.2.2.2.2.2 (ix2 ⟨r.val - 32, by omega⟩ e) := by
  rw [outsAt0_D m c t (by omega) (by omega) (by omega) h3]
  dsimp only; frame_open; frame_out
  exact rows_new _ _ _ ⟨r.val - 32, by omega⟩ e r (by simp; omega)

end Cert.Kernel2Ideal.Mix
-- ==== Proof.MixState.lean ====
/-
  What a point of the mixer kernel leaves for the next: the rows of the two convolutions' gradients. With them, the
  sub-layer's input, which needs none of what was left.
-/
module

public import proofs.«01_k».proof.Proof.MixPt

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

attribute [local irreducible] View.readCov View.canon

include h

/-- The long branch's rows a point leaves. -/
theorem rowsD_pt (hb : Before m D c t) (n : Fin 288) (e : Fin 512) :
    (outsAt0 m c t.val t.isLt).2.2.2.2.2.1 (ix2 n e) = ((rowD D t n.val e : ℝ) : EReal) := by
  rcases four t with ⟨h0, h1, h2, h3⟩ | ⟨h0, h1, h2, h3⟩ | ⟨h0, h1, h2, h3⟩ | ⟨h0, h1, h2, h3⟩ <;>
    [refine (congrArg (fun p => p.2.2.2.2.2.1 (ix2 n e)) (outsAt0_A m c t h0 h1 h2 h3)).trans ?_;
     refine (congrArg (fun p => p.2.2.2.2.2.1 (ix2 n e)) (outsAt0_B m c t h0 h1 h2 h3)).trans ?_;
     refine (congrArg (fun p => p.2.2.2.2.2.1 (ix2 n e)) (outsAt0_C m c t h0 h1 h2 h3)).trans ?_;
     refine (congrArg (fun p => p.2.2.2.2.2.1 (ix2 n e)) (outsAt0_D m c t h0 h1 h2 h3)).trans ?_]
  all_goals
    dsimp only; frame_open; frame_out
    first
      | exact lstD_at t h (tailD_zero t h1) n e
      | exact lstD_at t h (tailD_old t h1 hb.hD) n e

/-- The short branch's rows a point leaves. -/
theorem rowsC_pt (hb : Before m D c t) (n : Fin 264) (e : Fin 512) :
    (outsAt0 m c t.val t.isLt).2.2.2.2.2.2.1 (ix2 n e) = ((rowC D t n.val e : ℝ) : EReal) := by
  rcases four t with ⟨h0, h1, h2, h3⟩ | ⟨h0, h1, h2, h3⟩ | ⟨h0, h1, h2, h3⟩ | ⟨h0, h1, h2, h3⟩ <;>
    [refine (congrArg (fun p => p.2.2.2.2.2.2.1 (ix2 n e)) (outsAt0_A m c t h0 h1 h2 h3)).trans ?_;
     refine (congrArg (fun p => p.2.2.2.2.2.2.1 (ix2 n e)) (outsAt0_B m c t h0 h1 h2 h3)).trans ?_;
     refine (congrArg (fun p => p.2.2.2.2.2.2.1 (ix2 n e)) (outsAt0_C m c t h0 h1 h2 h3)).trans ?_;
     refine (congrArg (fun p => p.2.2.2.2.2.2.1 (ix2 n e)) (outsAt0_D m c t h0 h1 h2 h3)).trans ?_]
  all_goals
    dsimp only; frame_open; frame_out
    first
      | exact lstC_at t h (tailC_zero t h1) n e
      | exact lstC_at t h (tailC_old t h1 hb.hC) n e

/-- The sub-layer's input, as a point writes it. -/
theorem h_pt (r : Fin 256) (d : Fin 1024) :
    (outsAt0 m c t.val t.isLt).2.2.1 (ix3 0 r d) = ((D.h (bat t) (tok t r) d : ℝ) : EReal) := by
  rcases four t with ⟨h0, h1, h2, h3⟩ | ⟨h0, h1, h2, h3⟩ | ⟨h0, h1, h2, h3⟩ | ⟨h0, h1, h2, h3⟩ <;>
    [refine (congrArg (fun p => p.2.2.1 (ix3 0 r d)) (outsAt0_A m c t h0 h1 h2 h3)).trans ?_;
     refine (congrArg (fun p => p.2.2.1 (ix3 0 r d)) (outsAt0_B m c t h0 h1 h2 h3)).trans ?_;
     refine (congrArg (fun p => p.2.2.1 (ix3 0 r d)) (outsAt0_C m c t h0 h1 h2 h3)).trans ?_;
     refine (congrArg (fun p => p.2.2.1 (ix3 0 r d)) (outsAt0_D m c t h0 h1 h2 h3)).trans ?_]
  all_goals
    dsimp only; frame_open; frame_out
    exact h_at (reads t h) r d

/-- Every point finds what it needs of the point before. -/
theorem before (n : ℕ) (t : Fin cfg0.N) (hn : t.val = n) : Before m D c t := by
  induction n generalizing t with
  | zero => exact ⟨fun hc => absurd (by rw [hn]) hc, fun hc => absurd (by rw [hn]) hc⟩
  | succ n ih =>
    have hp := ih (prev t) (by show t.val - 1 = n; omega)
    exact ⟨fun _ => rowsD_pt h (prev t) hp, fun _ => rowsC_pt h (prev t) hp⟩

end Cert.Kernel2Ideal.Mix
-- ==== Proof.MixAcc.lean ====
/-
  The sums the points carry, over the whole grid: the token blocks of a batch element walked backwards, the batch
  elements one after the other.
-/
module

public import proofs.«01_k».proof.Proof.MixGx
public import proofs.«01_k».proof.Proof.MixPj
public import proofs.«01_k».proof.Proof.MixLines
public import proofs.«01_k».proof.Proof.MixMod
public import proofs.«01_k».proof.Proof.MixTaps
public import proofs.«01_k».proof.Proof.MixPack
public import proofs.«01_k».proof.Proof.MixState

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Kernel2Ideal.Pay Cert.Kernel2Ideal.Tap Cert.Lift Cert.Mix

variable {m : (ℓ : Loc nD τ sig) → Buf (Elt Ideal) ℓ} {D : Data} {c : Dev nD} (h : HoldsAt m D c) (t : Fin cfg0.N)

/-- The sixteen blocks, last one first, hold all tokens. -/
theorem back_sum (g : Fin 4096 → ℝ) : ∑ s : Fin 16, ∑ r : Fin 256, g ⟨(15 - s.val) * 256 + r.val, by omega⟩ = ∑ i, g i := by
  rw [← Fin.sum_mul_add_fin (M := ℝ) (L := 4096) 16 256 g,
    ← Equiv.sum_comp Fin.revPerm fun s : Fin 16 => ∑ k : Fin 256, g ⟨s.val * 256 + k.val, by omega⟩]
  refine Finset.sum_congr rfl fun s _ => Finset.sum_congr rfl fun r _ => congrArg g (Fin.ext ?_)
  simp only [Fin.revPerm_apply, Fin.val_rev]
  omega

/-- The points hold all tokens of both batch elements. -/
theorem grid_sum (g : Fin 2 → Fin 4096 → ℝ) : ∑ t : Fin cfg0.N, ∑ r : Fin 256, g (bat t) (tok t r) = ∑ b, ∑ i, g b i :=
  (Fin.sum_divmod_fin (N := 32) (A := 2) 16 fun b s => ∑ r : Fin 256, g b ⟨(15 - s.val) * 256 + r.val, by omega⟩).trans
    (Finset.sum_congr rfl fun b _ => back_sum (g b))

/-- A sequence's first 256 terms, in chunks of 32 each read in four runs of eight. -/
theorem chunk_sum (g : ℕ → ℝ) :
    ∑ i : Fin 8, ∑ ch ∈ Finset.range 8, ∑ q : Fin 4, g (32 * ch + (8 * q.val + i.val)) = ∑ r : Fin 256, g r.val := by
  rw [← Fin.sum_mul_add_fin (M := ℝ) (L := 256) 8 32 fun r => g r.val, Finset.sum_comm, Finset.sum_range]
  refine Finset.sum_congr rfl fun ch _ => ?_
  rw [← Fin.sum_mul_add_fin (M := ℝ) (L := 32) 4 8 fun r => g (ch.val * 32 + r.val), Finset.sum_comm]
  refine Finset.sum_congr rfl fun q _ => Finset.sum_congr rfl fun i _ => congrArg g ?_
  dsimp only
  omega

/-- A tap's eight partial sums of a point add up to the tap's terms at the point's tokens. -/
theorem tap_fold (k : ℕ) (hk : k < 31) (e : Fin 512) :
    ∑ i : Fin 8, tapBlk (rowA D t) (rowD D t) (k * 8 + i.val) e = ∑ r : Fin 256, D.tapTerm (bat t) (tok t r) k e := by
  have e1 (i : Fin 8) : tapBlk (rowA D t) (rowD D t) (k * 8 + i.val) e = ∑ ch ∈ Finset.range 8, ∑ q : Fin 4,
      (fun n => rowA D t n e * rowD D t (n + (30 - k)) e) (32 * ch + (8 * q.val + i.val)) := by
    unfold tapBlk
    rw [if_pos (by omega)]
    refine Finset.sum_congr rfl fun ch _ => ?_
    have hd : (k * 8 + i.val) / 8 = k := by omega
    have hm : (⟨(k * 8 + i.val) % 8, Nat.mod_lt _ (by norm_num)⟩ : Fin 8) = i := Fin.ext (by show (k * 8 + i.val) % 8 = i.val; omega)
    rw [hd, hm]
    rfl
  refine (Finset.sum_congr rfl fun i _ => e1 i).trans ((chunk_sum fun n => rowA D t n e * rowD D t (n + (30 - k)) e).trans ?_)
  exact Finset.sum_congr rfl fun r _ => congrArg₂ (· * ·) (rowA_in D t r e) (rowD_fut D t r (30 - k) e)

theorem tap_void (k : ℕ) (hk : 31 ≤ k) (e : Fin 512) : ∑ i : Fin 8, tapBlk (rowA D t) (rowD D t) (k * 8 + i.val) e = 0 :=
  Finset.sum_eq_zero fun i _ => if_neg (by omega)

/-- A point's term of a sum, the points counted. -/
def nth (p : Fin cfg0.N → ℝ) (n : ℕ) : ℝ := if hn : n < cfg0.N then p ⟨n, hn⟩ else 0

theorem nth_at (p : Fin cfg0.N → ℝ) : nth p t.val = p t := dif_pos t.isLt

/-- What the last point has carried over all points. -/
theorem carried_all (f : (n : ℕ) → n < cfg0.N → EReal) (p : Fin cfg0.N → ℝ)
    (hf : ∀ t : Fin cfg0.N, f t.val t.isLt
      = (if t.val % 32 = 0 then 0 else f (t.val - 1) (Nat.lt_of_le_of_lt (Nat.sub_le _ _) t.isLt)) + ((p t : ℝ) : EReal))
    (h3 : t.val % 32 = 31) : f t.val t.isLt = ((∑ t, p t : ℝ) : EReal) := by
  have ht : t.val = 31 := by have h := t.isLt; change t.val < 32 at h; omega
  refine (carried (K := 32) (by norm_num) f (nth p) (fun n hn h0 => ?_) (fun n hn h0 => ?_) t.val t.isLt).trans ?_
  · exact (hf ⟨n, hn⟩).trans (by rw [if_pos h0, zero_add, ← show nth p n = p ⟨n, hn⟩ from nth_at ⟨n, hn⟩ p])
  · exact (hf ⟨n, hn⟩).trans (by rw [if_neg h0, ← show nth p n = p ⟨n, hn⟩ from nth_at ⟨n, hn⟩ p])
  · rw [ht]
    refine congrArg _ ((Finset.sum_range _).trans ?_)
    show ∑ i : Fin 32, nth p (0 + i.val) = _
    refine Finset.sum_congr rfl fun i _ => ?_
    rw [zero_add]
    exact nth_at i p

/-- What a batch element's last point has carried over the element's points. -/
theorem carried_run (f : (n : ℕ) → n < cfg0.N → EReal) (p : Fin cfg0.N → ℝ)
    (hf : ∀ t : Fin cfg0.N, f t.val t.isLt
      = (if t.val % 16 = 0 then 0 else f (t.val - 1) (Nat.lt_of_le_of_lt (Nat.sub_le _ _) t.isLt)) + ((p t : ℝ) : EReal))
    (h3 : t.val % 16 = 15) :
    f t.val t.isLt = ((∑ s : Fin 16, p ⟨t.val / 16 * 16 + s.val, by have h := t.isLt; change t.val < 32 at h; show _ < 32; omega⟩ : ℝ) : EReal) := by
  refine (carried (K := 16) (by norm_num) f (nth p) (fun n hn h0 => ?_) (fun n hn h0 => ?_) t.val t.isLt).trans ?_
  · exact (hf ⟨n, hn⟩).trans (by rw [if_pos h0, zero_add, ← show nth p n = p ⟨n, hn⟩ from nth_at ⟨n, hn⟩ p])
  · exact (hf ⟨n, hn⟩).trans (by rw [if_neg h0, ← show nth p n = p ⟨n, hn⟩ from nth_at ⟨n, hn⟩ p])
  · rw [h3]
    refine congrArg _ ((Finset.sum_range _).trans (Finset.sum_congr rfl fun s _ => ?_))
    have e : t.val - 15 + s.val = t.val / 16 * 16 + s.val := by omega
    rw [e]
    exact nth_at ⟨_, _⟩ p

include h

/-- The modulation gradients of a batch element, at its last point. -/
theorem mod_end (h3 : t.val % 16 = 15) (k : Fin 8) (d : Fin 1024) :
    (outsAt0 m c t.val t.isLt).2.2.2.1 (ix3 0 k d) = ((∑ i, D.modTerm (bat t) i k d : ℝ) : EReal) := by
  refine (carried_run t (fun n hn => (outsAt0 m c n hn).2.2.2.1 (ix3 0 k d)) (fun t => modBlk D t k d)
    (fun t => mods_after h t (before h _ t rfl) k d) h3).trans (congrArg _ ?_)
  refine Eq.trans (Finset.sum_congr rfl fun s _ => ?_) (back_sum fun i => D.modTerm (bat t) i k d)
  refine Finset.sum_congr rfl fun r _ => ?_
  have hb : bat ⟨t.val / 16 * 16 + s.val, by have h := t.isLt; change t.val < 32 at h; show _ < 32; omega⟩ = bat t :=
    Fin.ext (by show (t.val / 16 * 16 + s.val) / 16 = t.val / 16; omega)
  have ht : tok ⟨t.val / 16 * 16 + s.val, by have h := t.isLt; change t.val < 32 at h; show _ < 32; omega⟩ r
      = ⟨(15 - s.val) * 256 + r.val, by omega⟩ :=
    Fin.ext (by show (15 - (t.val / 16 * 16 + s.val) % 16) * 256 + r.val = (15 - s.val) * 256 + r.val; omega)
  rw [hb, ht]

/-- The packed gradients, at the last point. -/
theorem pack_end (h3 : t.val % 32 = 31) (r : Fin 40) (e : Fin 512) :
    (outsAt0 m c t.val t.isLt).2.2.2.2.1 (ix2 r e) = ((∑ b, ∑ i, D.packTerm b i r e : ℝ) : EReal) := by
  by_cases hr : r.val < 32
  · rw [packTap_pt t h3 r hr e, fold_at]
    rw [Finset.sum_congr rfl fun i _ => carried_all t (fun n hn => (outsAt0 m c n hn).2.2.2.2.2.2.2.1 (ix2 ⟨r.val * 8 + i.val, by omega⟩ e))
      (fun t => tapBlk (rowA D t) (rowD D t) (r.val * 8 + i.val) e) (fun t => taps_pt h t (before h _ t rfl) _ e) h3, sum_coe, Finset.sum_comm]
    refine congrArg _ ?_
    by_cases hk : r.val < 31
    · rw [Finset.sum_congr rfl fun t _ => tap_fold t r.val hk e]
      refine (grid_sum fun b i => D.tapTerm b i r.val e).trans ?_
      exact Finset.sum_congr rfl fun b _ => Finset.sum_congr rfl fun i _ => (if_pos hk).symm
    · rw [Finset.sum_congr rfl fun t _ => tap_void t r.val (by omega) e, Finset.sum_const_zero]
      exact (Finset.sum_eq_zero fun b _ => Finset.sum_eq_zero fun i _ => (if_neg hk).trans (dif_neg fun hc => by omega)).symm
  · rw [packRow_pt t h3 r (by omega) e]
    refine (carried_all t (fun n hn => (outsAt0 m c n hn).2.2.2.2.2.2.2.2 (ix2 ⟨r.val - 32, by omega⟩ e))
      (fun t => rowBlk D t ⟨r.val - 32, by omega⟩ e) (fun t => lines_after h t (before h _ t rfl) _ e) h3).trans (congrArg _ ?_)
    refine (grid_sum fun b i => D.rowTerm b i ⟨r.val - 32, by omega⟩ e).trans ?_
    refine Finset.sum_congr rfl fun b _ => Finset.sum_congr rfl fun i _ => Eq.symm ?_
    unfold Data.packTerm
    rw [if_neg (by omega), dif_pos (by omega)]

end Cert.Kernel2Ideal.Mix

end
-- ==== Proof.MixArr.lean ====
/-
  What the mixer's kernel leaves in its five result arrays: every block is the block of the array over the real data.
-/
module

public import proofs.«01_k».proof.Proof.MixAcc

@[expose] public section

set_option maxRecDepth 16384

noncomputable section

open Idealize.ShloMosaic Idealize.ShloMosaic.TcCoe Idealize.SL.Sem
open Idealize.ShloMosaic.Pipeline (Dat)

namespace Cert.Kernel2Ideal.Mix

open Cert.Kernel2Ideal Cert.Kernel2Ideal.Gen Cert.Lift Cert.Mix

variable {m : (ℓ : Loc nD τ sig) → Buf (Elt Ideal) ℓ} {D : Data} {c : Dev nD} (h : HoldsAt m D c)

/-- Where a point writes. -/
theorem odx : ∀ t : Fin cfg0.N, win0_10.index t = ![t.val / 16, 15 - t.val % 16, 0] ∧ win0_11.index t = ![t.val / 16, 15 - t.val % 16, 0]
    ∧ win0_12.index t = ![t.val / 16, 15 - t.val % 16, 0] ∧ win0_13.index t = ![t.val / 16, 0, 0] ∧ win0_14.index t = ![0, 0] :=
  (by decide +kernel : ∀ t : Fin grid0.N, _)

theorem emb10 (t : Fin cfg0.N) (r : Fin 256) (d : Fin 1024) :
    (win0_10.blk t).view.emb (ix3 0 r d) = ix3 (bat t) (tok t r) d := by
  blk_ext! [odx t]

theorem emb11 (t : Fin cfg0.N) (r : Fin 256) (e : Fin 2560) :
    (win0_11.blk t).view.emb (ix3 0 r e) = ix3 (bat t) (tok t r) e := by
  blk_ext! [odx t]

theorem emb12 (t : Fin cfg0.N) (r : Fin 256) (d : Fin 1024) :
    (win0_12.blk t).view.emb (ix3 0 r d) = ix3 (bat t) (tok t r) d := by
  blk_ext! [odx t]

theorem emb13 (t : Fin cfg0.N) (k : Fin 8) (d : Fin 1024) : (win0_13.blk t).view.emb (ix3 0 k d) = ix3 (bat t) k d := by
  blk_ext! [odx t]

theorem emb14 (t : Fin cfg0.N) (k : Fin 40) (e : Fin 512) : (win0_14.blk t).view.emb (ix2 k e) = ix2 k e := by
  blk_ext! [odx t]

/-- An index of a block whose leading axis has extent one. -/
theorem lead {a b : ℕ} (y : (⟨3, ![1, a, b]⟩ : Shape).Idx) : ∃ (r : Fin a) (d : Fin b), y = ix3 0 r d :=
  ⟨y 1, y 2, by
    rw [eq_ix3 y]
    congr
    exact Fin.fin_one_eq_zero _⟩

include h

theorem out10 : (dats m 0 c).arrAt 10 cfg0.N = D.arrGx := by
  refine (dats m 0 c).arrAt_eq_of_covers 10 _ (by decide +kernel) fun t hf y => ?_
  blk_simp
  rw [after0_10]
  obtain ⟨r, d, rfl⟩ := lead y
  exact (gx_pt h t (before h _ t rfl) r d).trans (congrArg D.arrGx (emb10 t r d)).symm

theorem out11 : (dats m 0 c).arrAt 11 cfg0.N = D.arrDpj := by
  refine (dats m 0 c).arrAt_eq_of_covers 11 _ (by decide +kernel) fun t hf y => ?_
  blk_simp
  rw [after0_11]
  obtain ⟨r, e, rfl⟩ := lead y
  exact (pj_pt h t (before h _ t rfl) r e).trans (congrArg D.arrDpj (emb11 t r e)).symm

theorem out12 : (dats m 0 c).arrAt 12 cfg0.N = D.arrH := by
  refine (dats m 0 c).arrAt_eq_of_covers 12 _ (by decide +kernel) fun t hf y => ?_
  blk_simp
  rw [after0_12]
  obtain ⟨r, d, rfl⟩ := lead y
  exact (h_pt h t r d).trans (congrArg D.arrH (emb12 t r d)).symm

theorem out13 : (dats m 0 c).arrAt 13 cfg0.N = D.arrMod := by
  refine (dats m 0 c).arrAt_eq_of_covers 13 _ (by decide +kernel) fun t hf y => ?_
  blk_simp
  rw [after0_13]
  obtain ⟨k, d, rfl⟩ := lead y
  exact (mod_end h t ((flush0_13 t).mp hf) k d).trans (congrArg D.arrMod (emb13 t k d)).symm

theorem out14 : (dats m 0 c).arrAt 14 cfg0.N = D.arrPack := by
  refine (dats m 0 c).arrAt_eq_of_covers 14 _ (by decide +kernel) fun t hf y => ?_
  blk_simp
  rw [after0_14]
  obtain ⟨k, e, rfl⟩ : ∃ (k : Fin 40) (e : Fin 512), y = ix2 k e := ⟨y 0, y 1, eq_ix2 y⟩
  exact (pack_end h t ((flush0_14 t).mp hf) k e).trans (congrArg D.arrPack (emb14 t k e)).symm

end Cert.Kernel2Ideal.Mix

end
-- ==== Proof.MixRef.lean ====
/-
  The mixer's reference, forward: its values read at an index, each the coerced real the specification names.
-/
module

public import proofs.«01_k».proof.Proof.MixSpec
public import proofs.«01_k».proof.Proof.Gen.Reference2Ideal.Run

@[expose] public section

set_option maxRecDepth 16384

noncomputable section

open Idealize.ShloMosaic Idealize.ShloMosaic.TcCoe Idealize.SL.Sem

namespace Cert.Reference2Ideal.Mix

open Cert.Reference2Ideal Cert.Reference2Ideal.Gen Cert.Reference2Ideal.Value Cert.Lift Cert.Mix

/-- The reference's arguments hold the data. -/
abbrev HoldsAt (D : Data) (V : Valuation τ sig (Elt Ideal)) : Prop :=
  Holds D (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9))

variable {D : Data} {V : Valuation τ sig (Elt Ideal)}

/-! ## The shift matrices -/

/-- A comparison of two positions as a number. -/
theorem mask_at {p : BitVec 1} {q : Prop} [Decidable q] (h : p = 1#1 ↔ q) :
    (((p.toNat : ℝ)) : EReal) = ((if q then 1 else 0 : ℝ) : EReal) := by
  by_cases hq : q
  · rw [if_pos hq, h.mpr hq]; simp
  · have : p = 0#1 := by
      rcases BitVec.eq_zero_or_eq_one p with e | e
      · exact e
      · exact absurd (h.mp e) hq
    rw [if_neg hq, this]; simp

theorem cmpi_eq_iff (x y : BitVec 32) : IntOp.cmpi .eq x y = 1#1 ↔ x = y := by
  show BitVec.ofBool (x == y) = 1#1 ↔ _
  rw [← beq_iff_eq (a := x)]
  cases (x == y) <;> decide

/-- Two positions compared in the machine's integers are compared as numbers: they are small. -/
theorem shift_iff (s t k n : ℕ) (hs : s < 4096) (ht : t < 4096) (hk : k ≤ n) (hn : n < 4096) :
    IntOp.cmpi .eq (BitVec.ofNat 32 s) (IntOp.addi (IntOp.subi (BitVec.ofNat 32 t) (BitVec.ofNat 32 n)) (BitVec.ofNat 32 k)) = 1#1
      ↔ s + (n - k) = t := by
  rw [cmpi_eq_iff, ← BitVec.toNat_inj]
  simp only [IntOp.addi, IntOp.subi, BitVec.toNat_add, BitVec.toNat_sub, BitVec.toNat_ofNat]
  omega

theorem v52_at (k : Fin 31) (t s : Fin 4096) :
    res_main_v52 V (ix3 k t s) = ((if s.val + (30 - k.val) = t.val then 1 else 0 : ℝ) : EReal) := by
  pointwise [res_main_v52]
  exact mask_at (shift_iff s.val t.val k.val 30 s.isLt t.isLt (by omega) (by omega))

theorem v114_at (k : Fin 3) (t s : Fin 4096) :
    res_main_v114 V (ix3 k t s) = ((if s.val + (2 - k.val) = t.val then 1 else 0 : ℝ) : EReal) := by
  pointwise [res_main_v114]
  exact mask_at (shift_iff s.val t.val k.val 2 s.isLt t.isLt (by omega) (by omega))

variable (h : HoldsAt D V)

include h

/-! ## The sub-layer's input and its projection -/

theorem v12_at (b : Fin 2) (t : Fin 4096) : res_main_v12 V (ix3 b t 0) = ((ms (D.X b t) : ℝ) : EReal) := by
  pointwise [res_main_v12]
  simp only [h.h1]
  rw [ms_at]

theorem v13_at (b : Fin 2) (t : Fin 4096) : res_main_v13 V (ix3 b t 0) = ((rn (D.X b t) : ℝ) : EReal) := by
  pointwise [res_main_v13]
  rw [v12_at h, rn_at]

theorem v18_at (b : Fin 2) (t : Fin 4096) (d : Fin 1024) : res_main_v18 V (ix3 b t d) = ((D.xn b t d : ℝ) : EReal) := by
  pointwise [res_main_v18]
  simp only [h.h1, v13_at h, ← EReal.coe_mul]
  rfl

theorem v21_at (b : Fin 2) (d : Fin 1024) : res_main_v21 V (ix3 b 0 d) = ((1 + D.sc b d : ℝ) : EReal) := by
  pointwise [res_main_v21]
  simp only [h.h2, ← EReal.coe_one, ← EReal.coe_add]
  rfl

theorem v26_at (b : Fin 2) (t : Fin 4096) (d : Fin 1024) : res_main_v26 V (ix3 b t d) = ((D.h b t d : ℝ) : EReal) := by
  pointwise [res_main_v26]
  simp only [v18_at h, v21_at h, h.h2, ← EReal.coe_mul, ← EReal.coe_add, chan_zero]
  rfl

theorem v27_at (d : Fin 1024) (e : Fin 2560) : res_main_v27 V (ix2 d e) = ((D.Wi d e : ℝ) : EReal) := by
  pointwise [res_main_v27]
  simp only [h.h3]

theorem v28_at (b : Fin 2) (t : Fin 4096) (e : Fin 2560) : res_main_v28 V (ix3 b t e) = ((D.pj b t e : ℝ) : EReal) := by
  pointwise [res_main_v28]
  simp only [v26_at h, v27_at h, ← EReal.coe_mul, Lift.sum_coe]
  rfl

theorem v29_at (b : Fin 2) (t : Fin 4096) (c : Fin 512) : res_main_v29 V (ix3 b t c) = ((D.pj b t (col 0 c) : ℝ) : EReal) := by
  pointwise [res_main_v29]
  rw [v28_at h, col_zero]

theorem v39_at (b : Fin 2) (t : Fin 4096) (c : Fin 512) : res_main_v39 V (ix3 b t c) = ((D.sgg b t c : ℝ) : EReal) := by
  pointwise [res_main_v39]
  rw [v28_at h, ← EReal.coe_one, sig_at]
  rfl

theorem v97_at (b : Fin 2) (t : Fin 4096) (c : Fin 512) : res_main_v97 V (ix3 b t c) = ((D.pj b t (col 2 c) : ℝ) : EReal) := by
  pointwise [res_main_v97]
  rw [v28_at h]
  rfl

theorem v103_at (b : Fin 2) (t : Fin 4096) (c : Fin 512) : res_main_v103 V (ix3 b t c) = ((D.pj b t (col 3 c) : ℝ) : EReal) := by
  pointwise [res_main_v103]
  rw [v28_at h]
  rfl

theorem v104_at (b : Fin 2) (t : Fin 4096) (c : Fin 512) : res_main_v104 V (ix3 b t c) = ((D.pj b t (col 4 c) : ℝ) : EReal) := by
  pointwise [res_main_v104]
  rw [v28_at h]
  rfl

/-! ## The conformer convolution, its normalised row and its logistic -/

theorem v53_at (k : Fin 31) (c : Fin 512) : res_main_v53 V (ix4 k 0 0 c) = ((D.Wd k c : ℝ) : EReal) := by
  pointwise [res_main_v53]
  simp only [h.h4]

theorem v55_at (k : Fin 31) (b : Fin 2) (t : Fin 4096) (c : Fin 512) :
    res_main_v55 V (ix4 k b t c) = ((past (fun s => D.a0 b s c) t.val (30 - k.val) : ℝ) : EReal) := by
  pointwise [res_main_v55]
  simp only [v29_at h, v39_at h, v52_at, ← EReal.coe_mul, Lift.sum_coe]
  rw [← sum_past]
  rfl

theorem v62_at (b : Fin 2) (t : Fin 4096) (c : Fin 512) : res_main_v62 V (ix3 b t c) = ((D.a1 b t c : ℝ) : EReal) := by
  pointwise [res_main_v62]
  simp only [v53_at h, v55_at h, h.h5, ← EReal.coe_mul, Lift.sum_coe, ← EReal.coe_add]
  rfl

theorem v68_at (b : Fin 2) (t : Fin 4096) : res_main_v68 V (ix3 b t 0) = ((mu (D.a1 b t) : ℝ) : EReal) := by
  pointwise [res_main_v68]
  simp only [v62_at h, Lift.sum_coe, div_512]
  rfl

theorem v70_at (b : Fin 2) (t : Fin 4096) (c : Fin 512) : res_main_v70 V (ix3 b t c) = ((xc (D.a1 b t) c : ℝ) : EReal) := by
  pointwise [res_main_v70]
  simp only [v62_at h, v68_at h, ← EReal.coe_sub]
  rfl

theorem v79_at (b : Fin 2) (t : Fin 4096) (c : Fin 512) : res_main_v79 V (ix3 b t c) = ((xc (D.a1 b t) c : ℝ) : EReal) := v70_at h b t c

theorem v81_at (b : Fin 2) (t : Fin 4096) : res_main_v81 V (ix3 b t 0) = ((vr (D.a1 b t) : ℝ) : EReal) := by
  pointwise [res_main_v81]
  simp only [v70_at h]
  rw [vr_at]

theorem v82_at (b : Fin 2) (t : Fin 4096) : res_main_v82 V (ix3 b t 0) = ((rs (D.a1 b t) : ℝ) : EReal) := by
  pointwise [res_main_v82]
  rw [v81_at h, rs_at]

theorem v87_at (b : Fin 2) (t : Fin 4096) (c : Fin 512) : res_main_v87 V (ix3 b t c) = ((nm (D.a1 b t) c : ℝ) : EReal) := by
  pointwise [res_main_v87]
  simp only [v79_at h, v82_at h, ← EReal.coe_mul]
  rfl

theorem v88_at (c : Fin 512) : res_main_v88 V (ix3 0 0 c) = ((D.lg c : ℝ) : EReal) := by
  pointwise [res_main_v88]
  simp only [h.h6]

theorem v93_at (b : Fin 2) (t : Fin 4096) (c : Fin 512) : res_main_v93 V (ix3 b t c) = ((D.a2 b t c : ℝ) : EReal) := by
  pointwise [res_main_v93]
  simp only [v87_at h, v88_at h, h.h7, ← EReal.coe_mul, ← EReal.coe_add]
  rfl

theorem v94_at (b : Fin 2) (t : Fin 4096) (c : Fin 512) : res_main_v94_2 V (ix3 b t c) = ((D.sg b t c : ℝ) : EReal) := by
  pointwise [res_main_v94_2]
  rw [v93_at h, ← EReal.coe_one, sig_at]
  rfl

/-! ## The short convolution -/

theorem v115_at (k : Fin 3) (c : Fin 512) : res_main_v115 V (ix4 k 0 0 c) = ((D.Ws k c : ℝ) : EReal) := by
  pointwise [res_main_v115]
  simp only [h.h8]

theorem v117_at (k : Fin 3) (b : Fin 2) (t : Fin 4096) (c : Fin 512) :
    res_main_v117 V (ix4 k b t c) = ((past (fun s => D.q b s c) t.val (2 - k.val) : ℝ) : EReal) := by
  pointwise [res_main_v117]
  simp only [v103_at h, v104_at h, v114_at, ← EReal.coe_mul, Lift.sum_coe]
  rw [← sum_past]
  rfl

theorem v120_at (b : Fin 2) (t : Fin 4096) (c : Fin 512) : res_main_v120 V (ix3 b t c) = ((D.cv b t c : ℝ) : EReal) := by
  pointwise [res_main_v120]
  simp only [v115_at h, v117_at h, ← EReal.coe_mul, Lift.sum_coe]
  rfl

end Cert.Reference2Ideal.Mix
-- ==== Proof.MixRefB.lean ====
/-
  The mixer's reference, backward: the gradient's values read at an index.
-/
module

public import proofs.«01_k».proof.Proof.MixRef

@[expose] public section

set_option maxRecDepth 16384

noncomputable section

open Idealize.ShloMosaic Idealize.ShloMosaic.TcCoe Idealize.SL.Sem

namespace Cert.Reference2Ideal.Mix

open Cert.Reference2Ideal Cert.Reference2Ideal.Gen Cert.Reference2Ideal.Value Cert.Lift Cert.Mix

variable {D : Data} {V : Valuation τ sig (Elt Ideal)} (h : HoldsAt D V)

include h

/-! ## The mixed row and the short branch -/

theorem v123_at (b : Fin 2) (d : Fin 1024) : res_main_v123 V (ix3 b 0 d) = ((D.g1 b d : ℝ) : EReal) := by
  pointwise [res_main_v123]
  simp only [h.h2]
  rfl

theorem v124_at (e d : Fin 1024) : res_main_v124 V (ix2 e d) = ((D.Wo e d : ℝ) : EReal) := by
  pointwise [res_main_v124]
  simp only [h.h9]

theorem v132_at (b : Fin 2) (t : Fin 4096) (e : Fin 1024) : res_main_v132 V (ix3 b t e) = ((D.dmx b t e : ℝ) : EReal) := by
  pointwise [res_main_v132]
  simp only [v123_at h, v124_at h, h.h0, ← EReal.coe_mul, Lift.sum_coe]
  rfl

theorem v133_at (b : Fin 2) (t : Fin 4096) (c : Fin 512) : res_main_v133 V (ix3 b t c) = ((D.dmx b t (half 0 c) : ℝ) : EReal) := by
  pointwise [res_main_v133]
  rw [v132_at h, half_zero]

theorem v134_at (b : Fin 2) (t : Fin 4096) (c : Fin 512) : res_main_v134 V (ix3 b t c) = ((D.dmx b t (half 1 c) : ℝ) : EReal) := by
  pointwise [res_main_v134]
  rw [v132_at h]
  rfl

theorem v137_at (k : Fin 3) (b : Fin 2) (t : Fin 4096) (c : Fin 512) : res_main_v137 V (ix4 k b t c) = ((D.dcv b t c : ℝ) : EReal) := by
  pointwise [res_main_v137]
  simp only [v97_at h, v134_at h, ← EReal.coe_mul]
  rw [mul_comm]
  rfl

theorem v145_at (b : Fin 2) (t : Fin 4096) (c : Fin 512) : res_main_v145 V (ix3 b t c) = ((D.dq b t c : ℝ) : EReal) := by
  pointwise [res_main_v145]
  simp only [v115_at h, v137_at h, v114_at, ← EReal.coe_mul, Lift.sum_coe]
  refine congrArg _ (Finset.sum_congr rfl fun k _ => ?_)
  rw [← sum_fut, Finset.mul_sum]
  exact Finset.sum_congr rfl fun s _ => mul_assoc _ _ _

/-! ## The conformer branch -/

theorem v160_at (b : Fin 2) (t : Fin 4096) (c : Fin 512) : res_main_v160 V (ix3 b t c) = ((D.da2 b t c : ℝ) : EReal) := by
  pointwise [res_main_v160]
  simp only [v133_at h, v94_at h, v93_at h, ← EReal.coe_one, ← EReal.coe_mul, ← EReal.coe_sub, ← EReal.coe_add]
  unfold Data.da2
  exact congrArg _ (by ring)

theorem v168_at (b : Fin 2) (t : Fin 4096) (c : Fin 512) : res_main_v168 V (ix3 b t c) = ((D.da2 b t c * D.lg c : ℝ) : EReal) := by
  pointwise [res_main_v168]
  simp only [v160_at h, v88_at h, ← EReal.coe_mul]

theorem v174_at (b : Fin 2) (t : Fin 4096) (c : Fin 512) :
    res_main_v174 V (ix3 b t c) = ((D.da2 b t c * D.lg c * rs (D.a1 b t) : ℝ) : EReal) := by
  pointwise [res_main_v174]
  simp only [v168_at h, v82_at h, ← EReal.coe_mul]

theorem v183_at (b : Fin 2) (t : Fin 4096) (c : Fin 512) :
    res_main_v183 V (ix3 b t c) = ((varBwd (D.a1 b t) (fun c => D.da2 b t c * D.lg c) c : ℝ) : EReal) := by
  pointwise [res_main_v183]
  simp only [v79_at h, v168_at h, v81_at h, v82_at h, v70_at h, c_neg_half, c_two, Fin.sum_univ_one, ← EReal.coe_mul, Lift.sum_coe,
    div_coe_coe (vr_pos _).ne', div_512]
  rfl

theorem v193_at (b : Fin 2) (t : Fin 4096) (c : Fin 512) : res_main_v193 V (ix3 b t c) = ((D.da1 b t c : ℝ) : EReal) := by
  pointwise [res_main_v193]
  simp only [v174_at h, v183_at h, Fin.sum_univ_one, ← EReal.coe_neg, Lift.sum_coe, ← EReal.coe_add, div_512]
  rw [Data.da1, lnBwd_eq]

theorem v200_at (k : Fin 31) (b : Fin 2) (t : Fin 4096) (c : Fin 512) : res_main_v200 V (ix4 k b t c) = ((D.da1 b t c : ℝ) : EReal) := by
  pointwise [res_main_v200]
  exact v193_at h b t c

theorem v208_at (b : Fin 2) (t : Fin 4096) (c : Fin 512) : res_main_v208 V (ix3 b t c) = ((D.da0 b t c : ℝ) : EReal) := by
  pointwise [res_main_v208]
  simp only [v53_at h, v200_at h, v52_at, ← EReal.coe_mul, Lift.sum_coe]
  refine congrArg _ (Finset.sum_congr rfl fun k _ => ?_)
  rw [← sum_fut, Finset.mul_sum]
  exact Finset.sum_congr rfl fun s _ => mul_assoc _ _ _

/-! ## The projection, the sub-layer's input, the stream -/

omit h in
theorem off2 (c : ℕ) : 1024 + c - 512 - 512 = c := by omega
omit h in
theorem off3 (c : ℕ) : 1536 + c - 512 - 512 - 512 = c := by omega
omit h in
theorem off4 (c : ℕ) : 2048 + c - 512 - 512 - 512 - 512 = c := by omega

theorem v218_at (b : Fin 2) (t : Fin 4096) (e : Fin 2560) : res_main_v218 V (ix3 b t e) = ((D.dpj b t e : ℝ) : EReal) := by
  obtain ⟨j, c, rfl⟩ := eq_col e
  rw [D.dpj_col]
  fin_cases j <;> pointwise [res_main_v218]
  all_goals
    simp only [v145_at h, v104_at h, v103_at h, v120_at h, v134_at h, v208_at h, v39_at h, v29_at h, ← EReal.coe_mul, ← EReal.coe_one,
      ← EReal.coe_sub]
    try simp (disch := omega) only [dif_pos, dif_neg, zero_add, add_zero]
    try simp only [off2, off3, off4]
    refine congrArg _ ?_
    unfold Data.part
    first | rfl | ring

theorem v219_at (b : Fin 2) (t : Fin 4096) (d : Fin 1024) : res_main_v219 V (ix3 b t d) = ((D.dh b t d : ℝ) : EReal) := by
  pointwise [res_main_v219]
  simp only [v218_at h, v27_at h, ← EReal.coe_mul, Lift.sum_coe]
  rfl

theorem v227_at (b : Fin 2) (t : Fin 4096) (d : Fin 1024) : res_main_v227 V (ix3 b t d) = ((D.dh b t d * (1 + D.sc b d) : ℝ) : EReal) := by
  pointwise [res_main_v227]
  simp only [v219_at h, v21_at h, ← EReal.coe_mul]

theorem v238_at (b : Fin 2) (t : Fin 4096) (d : Fin 1024) :
    res_main_v238 V (ix3 b t d) = ((msBwd (D.X b t) (fun d => D.dh b t d * (1 + D.sc b d)) : ℝ) : EReal) := by
  pointwise [res_main_v238]
  simp only [h.h1, v227_at h, v12_at h, v13_at h, c_neg_half, Fin.sum_univ_one, ← EReal.coe_mul, Lift.sum_coe, div_coe_coe (ms_pos _).ne', div_1024]
  rfl

omit h in
/-- The gradient in the residual stream, as the reference leaves it. -/
def gx (V : Valuation τ sig (Elt Ideal)) : FVec Ideal S2x4096x1024 .f32 :=
  addf (V (Proc.devRef .tc main_arg0)) (addf (addf (mulf (res_main_v227 V)
    (broadcastInDim S2x4096x1024 ![0, 1, 2] bcast_S2x4096x1_S2x4096x1024_0_1_2 (res_main_v13 V)))
    (mulf (V (Proc.devRef .tc main_arg1)) (res_main_v238 V))) (mulf (res_main_v238 V) (V (Proc.devRef .tc main_arg1))))

theorem gx_at (b : Fin 2) (t : Fin 4096) (d : Fin 1024) : gx V (ix3 b t d) = ((D.gx b t d : ℝ) : EReal) := by
  pointwise [gx]
  simp only [h.h0, h.h1, v227_at h, v13_at h, v238_at h, ← EReal.coe_mul, ← EReal.coe_add]
  rw [Data.gx, normBwd_eq]

end Cert.Reference2Ideal.Mix
-- ==== Proof.LiftSum.lean ====
/-
  A host sum over two axes of an array, as the double sum over them.
-/
module

public import Idealize.ShloMosaic.Lib.Pointwise

@[expose] public section

noncomputable section

open Idealize.ShloMosaic

namespace Cert.Lift

/-- A sum over both leading axes, at a channel. -/
theorem sum_lead {n0 n1 n2 : ℕ} (hr : (⟨3, ![n0, n1, n2]⟩ : Shape).ReducesTo [0, 1] ⟨1, ![n2]⟩)
    (v : (⟨3, ![n0, n1, n2]⟩ : Shape).Idx → EReal) (z : EReal) (d : Fin n2) :
    Ideal.hostReduceAdd hr v z (ix1 d) = z + ∑ b : Fin n0, ∑ t : Fin n1, v (ix3 b t d) := by
  refine congrArg (z + ·) ((Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans (Fintype.sum_prod_type _))
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl

/-- A sum over the two middle axes, at a row and a channel. -/
theorem sum_mid {n0 n1 n2 n3 : ℕ} (hr : (⟨4, ![n0, n1, n2, n3]⟩ : Shape).ReducesTo [1, 2] ⟨2, ![n0, n3]⟩)
    (v : (⟨4, ![n0, n1, n2, n3]⟩ : Shape).Idx → EReal) (z : EReal) (k : Fin n0) (d : Fin n3) :
    Ideal.hostReduceAdd hr v z (ix2 k d) = z + ∑ b : Fin n1, ∑ t : Fin n2, v (ix4 k b t d) := by
  refine congrArg (z + ·) ((Finset.sum_filter_eq_sum_of_fiber _ (fun p : Fin n1 × Fin n2 => ix4 k p.1 p.2 d)
    (fun _ _ e => Prod.ext (congrFun e 1) (congrFun e 2)) (fun i => ⟨fun e => ⟨(i 1, i 2), ?_⟩, ?_⟩) v).trans (Fintype.sum_prod_type _))
  · funext a
    match a with
    | ⟨0, _⟩ => exact Fin.ext (congrArg Fin.val (congrFun e 0)).symm
    | ⟨1, _⟩ => rfl
    | ⟨2, _⟩ => rfl
    | ⟨3, _⟩ => exact Fin.ext (congrArg Fin.val (congrFun e 1)).symm
  · rintro ⟨p, rfl⟩
    funext b
    match b with
    | ⟨0, _⟩ => rfl
    | ⟨1, _⟩ => rfl

end Cert.Lift
-- ==== Proof.MixRefC.lean ====
/-
  The mixer's reference: the gradients summed over tokens, and the five arrays it leaves.
-/
module

public import proofs.«01_k».proof.Proof.MixRefB
public import proofs.«01_k».proof.Proof.LiftSum

@[expose] public section

set_option maxRecDepth 16384

noncomputable section

open Idealize.ShloMosaic Idealize.ShloMosaic.TcCoe Idealize.SL.Sem

namespace Cert.Reference2Ideal.Mix

open Cert.Reference2Ideal Cert.Reference2Ideal.Gen Cert.Reference2Ideal.Value Cert.Lift Cert.Mix

/-! ## The packed modulation rows -/

/-- A gradient's sum over the tokens of each batch element. -/
def perBatch (a : FVec Ideal S2x4096x1024 .f32) : FVec Ideal S2x1x1024 .f32 :=
  broadcastInDim S2x1x1024 ![0, 2] bcast_S2x1024_S2x1x1024_0_2
    (Host.reduceAdd (shapeCast _ (Host.reduceAdd a (constant S_ .f32 0x00000000#32) reducesTo_S2x4096x1024_S2x1024_d1 h_S_)
      shapeCasts_S2x1024_S2x1x1024) (constant S_ .f32 0x00000000#32) reducesTo_S2x1x1024_S2x1024_d1 h_S_)

/-- A row left zero. -/
def noRow (V : Valuation τ sig (Elt Ideal)) : FVec Ideal S2x1x1024 .f32 :=
  broadcastInDim S2x1x1024 ![0, 2] bcast_S2x1024_S2x1x1024_0_2 (res_main_v243 V)

/-- The packed modulation gradient. -/
def dmod (V : Valuation τ sig (Elt Ideal)) : FVec Ideal S2x8x1024 .f32 :=
  concatenate S2x8x1024 1
    [⟨S2x1x1024, perBatch (res_main_v219 V)⟩, ⟨S2x1x1024, perBatch (mulf (res_main_v18 V) (res_main_v219 V))⟩,
     ⟨S2x1x1024, noRow V⟩, ⟨S2x1x1024, noRow V⟩, ⟨S2x1x1024, noRow V⟩, ⟨S2x1x1024, noRow V⟩, ⟨S2x1x1024, noRow V⟩, ⟨S2x1x1024, noRow V⟩]
    concatenates_S2x1x1024_S2x1x1024_S2x1x1024_S2x1x1024_S2x1x1024_S2x1x1024_S2x1x1024_S2x1x1024_S2x8x1024_d1

theorem perBatch_at (a : FVec Ideal S2x4096x1024 .f32) (b : Fin 2) (d : Fin 1024) : perBatch a (ix3 b 0 d) = ∑ t, a (ix3 b t d) := by
  pointwise [perBatch]
  simp only [Fin.sum_univ_one]

variable {D : Data} {V : Valuation τ sig (Elt Ideal)}

theorem noRow_at (b : Fin 2) (d : Fin 1024) : noRow V (ix3 b 0 d) = 0 := by
  pointwise [noRow, res_main_v243]

/-! ## The packed rows of the mixer's small parameters -/

/-- A gradient's sum over all tokens, a row. -/
def overAll (a : FVec Ideal S2x4096x512 .f32) : FVec Ideal S1x512 .f32 :=
  broadcastInDim S1x512 ![1] bcast_S512_S1x512_1
    (Host.reduceAdd (shapeCast _ (Host.reduceAdd a (constant S_ .f32 0x00000000#32) reducesTo_S2x4096x512_S512_d0_1 h_S_)
      shapeCasts_S512_S1x1x512) (constant S_ .f32 0x00000000#32) reducesTo_S1x1x512_S512_d0_1 h_S_)

theorem overAll_at (a : FVec Ideal S2x4096x512 .f32) (c : Fin 512) : overAll a (ix2 0 c) = ∑ b, ∑ t, a (ix3 b t c) := by
  pointwise [overAll]
  rw [sum_lead]
  pointwise
  simp only [Fin.sum_univ_one, zero_add, sum_lead]

/-- The long taps' gradient. -/
def taps31 (a : FVec Ideal S31x2x4096x512 .f32) : FVec Ideal S31x512 .f32 :=
  shapeCast _ (broadcastInDim S1x31x512 ![1, 2] bcast_S31x512_S1x31x512_1_2
    (Host.reduceAdd (shapeCast _ (Host.reduceAdd a (constant S_ .f32 0x00000000#32) reducesTo_S31x2x4096x512_S31x512_d1_2 h_S_)
      shapeCasts_S31x512_S31x1x1x512) (constant S_ .f32 0x00000000#32) reducesTo_S31x1x1x512_S31x512_d1_2 h_S_)) shapeCasts_S1x31x512_S31x512

theorem taps31_at (a : FVec Ideal S31x2x4096x512 .f32) (k : Fin 31) (c : Fin 512) : taps31 a (ix2 k c) = ∑ b, ∑ t, a (ix4 k b t c) := by
  pointwise [taps31]
  rw [sum_mid]
  pointwise
  simp only [Fin.sum_univ_one, zero_add, sum_mid]

/-- The short taps' gradient. -/
def taps3 (a : FVec Ideal S3x2x4096x512 .f32) : FVec Ideal S3x512 .f32 :=
  shapeCast _ (broadcastInDim S1x3x512 ![1, 2] bcast_S3x512_S1x3x512_1_2
    (Host.reduceAdd (shapeCast _ (Host.reduceAdd a (constant S_ .f32 0x00000000#32) reducesTo_S3x2x4096x512_S3x512_d1_2 h_S_)
      shapeCasts_S3x512_S3x1x1x512) (constant S_ .f32 0x00000000#32) reducesTo_S3x1x1x512_S3x512_d1_2 h_S_)) shapeCasts_S1x3x512_S3x512

theorem taps3_at (a : FVec Ideal S3x2x4096x512 .f32) (k : Fin 3) (c : Fin 512) : taps3 a (ix2 k c) = ∑ b, ∑ t, a (ix4 k b t c) := by
  pointwise [taps3]
  rw [sum_mid]
  pointwise
  simp only [Fin.sum_univ_one, zero_add, sum_mid]

/-- The packed rows. -/
def pack (V : Valuation τ sig (Elt Ideal)) : FVec Ideal S40x512 .f32 :=
  concatenate S40x512 0
    [⟨S31x512, taps31 (mulf (res_main_v200 V) (res_main_v55 V))⟩, ⟨S1x512, res_main_v253 V⟩,
     ⟨S3x512, taps3 (mulf (res_main_v137 V) (res_main_v117 V))⟩, ⟨S1x512, overAll (res_main_v193 V)⟩,
     ⟨S1x512, overAll (mulf (res_main_v87 V) (res_main_v160 V))⟩, ⟨S1x512, overAll (res_main_v160 V)⟩,
     ⟨S1x512, res_main_v253 V⟩, ⟨S1x512, res_main_v253 V⟩]
    concatenates_S31x512_S1x512_S3x512_S1x512_S1x512_S1x512_S1x512_S1x512_S40x512_d0

variable (h : HoldsAt D V)

include h

theorem dmod_at (b : Fin 2) (k : Fin 8) (d : Fin 1024) :
    dmod V (ix3 b k d) = ((∑ t, D.modTerm b t k d : ℝ) : EReal) := by
  have hd := v219_at h
  have hm (t : Fin 4096) : mulf (res_main_v18 V) (res_main_v219 V) (ix3 b t d) = ((D.xn b t d * D.dh b t d : ℝ) : EReal) := by
    pointwise
    rw [v18_at h, v219_at h, ← EReal.coe_mul]
  fin_cases k <;> pointwise [dmod]
  all_goals simp only [perBatch_at, noRow_at, hd, hm, Lift.sum_coe]
  all_goals simp [Data.modTerm, mul_comm]

/-- A long tap's gradient: the cotangent against the gated unit shifted is the gated unit against the cotangent shifted. -/
theorem tap_at (k : Fin 31) (c : Fin 512) :
    taps31 (mulf (res_main_v200 V) (res_main_v55 V)) (ix2 k c) = ((∑ b, ∑ t, D.tapTerm b t k.val c : ℝ) : EReal) := by
  rw [taps31_at]
  pointwise
  simp only [v200_at h, v55_at h, ← EReal.coe_mul, Lift.sum_coe]
  refine congrArg _ (Finset.sum_congr rfl fun b _ => ?_)
  unfold Data.tapTerm
  rw [← sum_past_mul]
  exact Finset.sum_congr rfl fun t _ => mul_comm _ _

theorem short_at (k : Fin 3) (c : Fin 512) :
    taps3 (mulf (res_main_v137 V) (res_main_v117 V)) (ix2 k c)
      = ((∑ b, ∑ t, D.q b t c * fut (fun s => D.dcv b s c) t.val (2 - k.val) : ℝ) : EReal) := by
  rw [taps3_at]
  pointwise
  simp only [v137_at h, v117_at h, ← EReal.coe_mul, Lift.sum_coe]
  refine congrArg _ (Finset.sum_congr rfl fun b _ => ?_)
  rw [← sum_past_mul]
  exact Finset.sum_congr rfl fun t _ => mul_comm _ _

theorem bias_at (c : Fin 512) : overAll (res_main_v193 V) (ix2 0 c) = ((∑ b, ∑ t, D.da1 b t c : ℝ) : EReal) := by
  rw [overAll_at]
  simp only [v193_at h, Lift.sum_coe]

theorem offset_at (c : Fin 512) : overAll (res_main_v160 V) (ix2 0 c) = ((∑ b, ∑ t, D.da2 b t c : ℝ) : EReal) := by
  rw [overAll_at]
  simp only [v160_at h, Lift.sum_coe]

theorem gain_at (c : Fin 512) : overAll (mulf (res_main_v87 V) (res_main_v160 V)) (ix2 0 c)
    = ((∑ b, ∑ t, D.da2 b t c * nm (D.a1 b t) c : ℝ) : EReal) := by
  rw [overAll_at]
  pointwise
  simp only [v87_at h, v160_at h, ← EReal.coe_mul, Lift.sum_coe]
  exact congrArg _ (Finset.sum_congr rfl fun b _ => Finset.sum_congr rfl fun t _ => mul_comm _ _)

theorem pack_at (r : Fin 40) (c : Fin 512) : pack V (ix2 r c) = ((∑ b, ∑ t, D.packTerm b t r c : ℝ) : EReal) := by
  by_cases h31 : r.val < 31
  · have e : pack V (ix2 r c) = taps31 (mulf (res_main_v200 V) (res_main_v55 V)) (ix2 ⟨r.val, h31⟩ c) := by
      pointwise [pack]
      rw [dif_pos h31]
    rw [e, tap_at h]
    simp only [Data.packTerm, if_pos h31]
  · obtain ⟨j, rfl⟩ : ∃ j : Fin 9, r = ⟨31 + j.val, Nat.add_lt_add_left j.isLt 31⟩ := ⟨⟨r.val - 31, by omega⟩, Fin.ext (by simp; omega)⟩
    fin_cases j <;> pointwise [pack, res_main_v253]
    all_goals try simp only [short_at h, bias_at h, offset_at h, gain_at h]
    all_goals simp [Data.packTerm, Data.rowTerm]

/-! ## The five arrays -/

theorem gx_arr : gx V = D.arrGx := by
  funext i
  rw [eq_ix3 i]
  exact gx_at h _ _ _

theorem dpj_arr : truncf .bf16 (res_main_v218 V) bitsLt_bf16_f32 = D.arrDpj := by
  funext i
  rw [eq_ix3 i]
  exact v218_at h _ _ _

theorem h_arr : truncf .bf16 (res_main_v26 V) bitsLt_bf16_f32 = D.arrH := by
  funext i
  rw [eq_ix3 i]
  exact v26_at h _ _ _

theorem mod_arr : dmod V = D.arrMod := by
  funext i
  rw [eq_ix3 i]
  exact dmod_at h _ _ _

theorem pack_arr : pack V = D.arrPack := by
  funext i
  rw [eq_ix2 i]
  exact pack_at h _ _

end Cert.Reference2Ideal.Mix
-- ==== Proof.FwdSpec.lean ====
/-
  The token-mixing sub-layer's forward lines over the extended reals: the projection of the modulated normalised stream,
  the gated unit and its causal depthwise convolution, the short branch's product and its causal convolution, the mixed
  row and its projection. Both programs spell each value in this way, so nothing is asked of the arguments.
-/
module

public import Idealize.ShloMosaic.Lib.Pointwise

@[expose] public section

noncomputable section

open Idealize.ShloMosaic

namespace Cert.Fwd

/-- The nine arguments: the residual stream, the modulation, the input projection, the conformer taps, bias, gain and
    offset, the short taps, the output projection. -/
structure Data where
  X : Fin 2 → Fin 4096 → Fin 1024 → EReal
  M : Fin 2 → Fin 6144 → EReal
  Wi : Fin 1024 → Fin 2560 → EReal
  Wd : Fin 31 → Fin 512 → EReal
  bd : Fin 512 → EReal
  lg : Fin 512 → EReal
  lb : Fin 512 → EReal
  Ws : Fin 3 → Fin 512 → EReal
  Wo : Fin 1024 → Fin 1024 → EReal

/-- Row `j` of the six modulation rows, at channel `d`. -/
abbrev chan (j : Fin 6) (d : Fin 1024) : Fin 6144 := ⟨j.val * 1024 + d.val, by omega⟩
/-- Part `j` of the five parts of a projected row, at channel `c`. -/
abbrev col (j : Fin 5) (c : Fin 512) : Fin 2560 := ⟨j.val * 512 + c.val, by omega⟩

theorem chan_zero (d : Fin 1024) (hd : d.val < 6144) : (⟨d.val, hd⟩ : Fin 6144) = chan 0 d := Fin.ext (by simp)
theorem col_zero (c : Fin 512) (hc : c.val < 2560) : (⟨c.val, hc⟩ : Fin 2560) = col 0 c := Fin.ext (by simp)

/-- The scale of a row of 1024 by its root mean square. -/
def rms (a : Fin 1024 → EReal) : EReal :=
  Ideal.rsqrt (Ideal.div (∑ k, a k * a k) (Ideal.ofBits .f32 0x44800000#32) + Ideal.ofBits .f32 0x358637BD#32)

/-- The logistic function. -/
def sig (z : EReal) : EReal := Ideal.div 1 (1 + Ideal.exp (-z))

/-- A row of 512 less its mean, and over its standard deviation. -/
def cen (a : Fin 512 → EReal) (c : Fin 512) : EReal := a c - Ideal.div (∑ k, a k) (Ideal.ofBits .f32 0x44000000#32)
def nrm (a : Fin 512 → EReal) (c : Fin 512) : EReal :=
  cen a c * Ideal.rsqrt (Ideal.div (∑ k, cen a k * cen a k) (Ideal.ofBits .f32 0x44000000#32) + Ideal.ofBits .f32 0x358637BD#32)

/-- The entry `k` places earlier in a sequence, zero before its start. -/
def past {n : ℕ} (f : Fin n → EReal) (t k : ℕ) : EReal := if h : k ≤ t ∧ t < n + k then f ⟨t - k, by omega⟩ else 0

/-- A shift is a sum against the zeros and ones of the shift's matrix. -/
theorem sum_past {n : ℕ} (f : Fin n → EReal) (t : Fin n) (k : ℕ) :
    (∑ s : Fin n, f s * (if s.val + k = t.val then 1 else 0)) = past f t.val k := by
  unfold past
  split
  · next h =>
    rw [Finset.sum_eq_single (⟨t.val - k, by omega⟩ : Fin n)]
    · rw [if_pos (by simp; omega), mul_one]
    · intro s _ hs
      rw [if_neg (fun e => hs (Fin.ext (by simp; omega))), mul_zero]
    · intro hn; exact absurd (Finset.mem_univ _) hn
  · next h =>
    refine Finset.sum_eq_zero fun s _ => ?_
    rw [if_neg (fun e => h ⟨by omega, by omega⟩), mul_zero]

namespace Data

variable (D : Data) (b : Fin 2) (t : Fin 4096)

/-- The sub-layer's input. -/
def h (d : Fin 1024) : EReal := D.X b t d * rms (D.X b t) * (1 + D.M b (chan 1 d)) + D.M b (chan 0 d)
/-- The projection. -/
def pj (e : Fin 2560) : EReal := ∑ d, D.h b t d * D.Wi d e
/-- The gated unit. -/
def a0 (c : Fin 512) : EReal := D.pj b t (col 0 c) * sig (D.pj b t (col 1 c))
/-- The conformer convolution. -/
def a1 (c : Fin 512) : EReal := (∑ k : Fin 31, D.Wd k c * past (fun s => D.a0 b s c) t.val (30 - k.val)) + D.bd c
/-- Its normalised row, scaled and offset. -/
def a2 (c : Fin 512) : EReal := nrm (D.a1 b t) c * D.lg c + D.lb c
/-- The short branch's product and its convolution. -/
def q (c : Fin 512) : EReal := D.pj b t (col 3 c) * D.pj b t (col 4 c)
def cv (c : Fin 512) : EReal := ∑ k : Fin 3, D.Ws k c * past (fun s => D.q b s c) t.val (2 - k.val)
/-- The mixed row: the smooth rectifier of one branch beside the gated other. -/
def mx (e : Fin 1024) : EReal :=
  if h : e.val < 512 then D.a2 b t ⟨e.val, h⟩ * sig (D.a2 b t ⟨e.val, h⟩)
  else D.pj b t (col 2 ⟨e.val - 512, by omega⟩) * D.cv b t ⟨e.val - 512, by omega⟩
/-- Its projection. -/
def y (d : Fin 1024) : EReal := ∑ e, D.mx b t e * D.Wo e d

/-! ## The five results -/

def arrPj : Vec Ideal ⟨3, ![2, 4096, 2560]⟩ .f32 := fun i => D.pj (i 0) (i 1) (i 2)
def arrA1 : Vec Ideal ⟨3, ![2, 4096, 512]⟩ .f32 := fun i => D.a1 (i 0) (i 1) (i 2)
def arrCv : Vec Ideal ⟨3, ![2, 4096, 512]⟩ .f32 := fun i => D.cv (i 0) (i 1) (i 2)
def arrMx : Vec Ideal ⟨3, ![2, 4096, 1024]⟩ .bf16 := fun i => D.mx (i 0) (i 1) (i 2)
def arrY : Vec Ideal ⟨3, ![2, 4096, 1024]⟩ .f32 := fun i => D.y (i 0) (i 1) (i 2)

end Data

/-- The data the nine argument arrays hold. -/
def Data.of (a0 : Vec Ideal ⟨3, ![2, 4096, 1024]⟩ .f32) (a1 : Vec Ideal ⟨2, ![2, 6144]⟩ .f32)
    (a2 : Vec Ideal ⟨3, ![1, 1024, 2560]⟩ .f32) (a3 : Vec Ideal ⟨3, ![1, 31, 512]⟩ .f32) (a4 a5 a6 : Vec Ideal ⟨2, ![1, 512]⟩ .f32)
    (a7 : Vec Ideal ⟨3, ![1, 3, 512]⟩ .f32) (a8 : Vec Ideal ⟨3, ![1, 1024, 1024]⟩ .f32) : Data where
  X b t d := a0 (ix3 b t d)
  M b c := a1 (ix2 b c)
  Wi d e := a2 (ix3 0 d e)
  Wd k c := a3 (ix3 0 k c)
  bd c := a4 (ix2 0 c)
  lg c := a5 (ix2 0 c)
  lb c := a6 (ix2 0 c)
  Ws k c := a7 (ix3 0 k c)
  Wo e d := a8 (ix3 0 e d)

end Cert.Fwd
-- ==== Proof.FwdRef.lean ====
/-
  The token-mixing sub-layer's reference, forward: its named values read at an index, and its five results.
-/
module

public import proofs.«01_k».proof.Proof.FwdSpec
public import proofs.«01_k».proof.Proof.MixRef
public import proofs.«01_k».proof.Proof.Gen.Reference3Ideal.Run

@[expose] public section

set_option maxRecDepth 16384

noncomputable section

open Idealize.ShloMosaic Idealize.ShloMosaic.TcCoe Idealize.SL.Sem

namespace Cert.Reference3Ideal.Fwd

open Cert.Reference3Ideal Cert.Reference3Ideal.Gen Cert.Reference3Ideal.Value Cert.Fwd
open Cert.Reference2Ideal.Mix (cmpi_eq_iff shift_iff)

variable (m : (ℓ : Loc nD τ sig) → Buf (Elt Ideal) ℓ) (c : Dev nD)

abbrev A0 : FVec Ideal S2x4096x1024 .f32 := m ((c.tc : Thread nD τ).loc main_arg0)
abbrev A1 : FVec Ideal S2x6144 .f32 := m ((c.tc : Thread nD τ).loc main_arg1)
abbrev A2 : FVec Ideal S1x1024x2560 .f32 := m ((c.tc : Thread nD τ).loc main_arg2)
abbrev A3 : FVec Ideal S1x31x512 .f32 := m ((c.tc : Thread nD τ).loc main_arg3)
abbrev A4 : FVec Ideal S1x512 .f32 := m ((c.tc : Thread nD τ).loc main_arg4)
abbrev A5 : FVec Ideal S1x512 .f32 := m ((c.tc : Thread nD τ).loc main_arg5)
abbrev A6 : FVec Ideal S1x512 .f32 := m ((c.tc : Thread nD τ).loc main_arg6)
abbrev A7 : FVec Ideal S1x3x512 .f32 := m ((c.tc : Thread nD τ).loc main_arg7)
abbrev A8 : FVec Ideal S1x1024x1024 .f32 := m ((c.tc : Thread nD τ).loc main_arg8)

/-- The data of the reference's arguments. -/
abbrev dat : Data := Data.of (A0 m c) (A1 m c) (A2 m c) (A3 m c) (A4 m c) (A5 m c) (A6 m c) (A7 m c) (A8 m c)

/-! ## The reference's values by name -/

/-- The sub-layer's input. -/
def tH : FVec Ideal S2x4096x1024 .f32 := addf (mulf (mulf (A0 m c) (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf (A0 m c) (A0 m c)) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))) (broadcastInDim S2x4096x1024 ![0, 1, 2] bcast_S2x1x1024_S2x4096x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] (A1 m c) slices_S2x6144_S2x1024_0_1024))))) (broadcastInDim S2x4096x1024 ![0, 1, 2] bcast_S2x1x1024_S2x4096x1024_0_1_2 (broadcastInDim S2x1x1024 ![0, 2] bcast_S2x1024_S2x1x1024_0_2 (extractStridedSlice S2x1024 ![0, 0] (A1 m c) slices_S2x6144_S2x1024_0_0)))

/-- The projection. -/
def tPj : FVec Ideal S2x4096x2560 .f32 := Host.dotGeneral dot_S2x4096x1024_S1024x2560_S2x4096x2560_2_0_01_1_n_n none (tH m c) (shapeCast _ (A2 m c) shapeCasts_S1x1024x2560_S1024x2560)

/-- The conformer convolution. -/
def tA1 : FVec Ideal S2x4096x512 .f32 := addf (Host.reduceAdd (mulf (broadcastInDim S31x2x4096x512 ![0, 1, 2, 3] bcast_S31x1x1x512_S31x2x4096x512_0_1_2_3 (broadcastInDim S31x1x1x512 ![0, 3] bcast_S31x512_S31x1x1x512_0_3 (shapeCast _ (A3 m c) shapeCasts_S1x31x512_S31x512))) (transpose S31x2x4096x512 [2, 0, 3, 1] (Host.dotGeneral dot_S2x4096x512_S31x4096x4096_S2x512x31x4096_1_2_02_01_n_n none (mulf (extractStridedSlice S2x4096x512 ![0, 0, 0] (tPj m c) slices_S2x4096x2560_S2x4096x512_0_0_0) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (extractStridedSlice S2x4096x512 ![0, 0, 512] (tPj m c) slices_S2x4096x2560_S2x4096x512_0_0_512)))))) (uitofp .f32 (cmpi .eq (iotaInDim S31x4096x4096 32 2) (addi (subi (iotaInDim S31x4096x4096 32 1) (broadcastInDim S31x4096x4096 ![] bcast_S_S31x4096x4096 (constantI S_ 32 30#32))) (iotaInDim S31x4096x4096 32 0))))) transposes_S2x512x31x4096_S31x2x4096x512_2_0_3_1)) (constant S_ .f32 0x00000000#32) reducesTo_S31x2x4096x512_S2x4096x512_d0 h_S_) (broadcastInDim S2x4096x512 ![0, 1, 2] bcast_S1x1x512_S2x4096x512_0_1_2 (broadcastInDim S1x1x512 ![2] bcast_S512_S1x1x512_2 (shapeCast _ (A4 m c) shapeCasts_S1x512_S512)))

/-- The short convolution. -/
def tCv : FVec Ideal S2x4096x512 .f32 := Host.reduceAdd (mulf (broadcastInDim S3x2x4096x512 ![0, 1, 2, 3] bcast_S3x1x1x512_S3x2x4096x512_0_1_2_3 (broadcastInDim S3x1x1x512 ![0, 3] bcast_S3x512_S3x1x1x512_0_3 (shapeCast _ (A7 m c) shapeCasts_S1x3x512_S3x512))) (transpose S3x2x4096x512 [2, 0, 3, 1] (Host.dotGeneral dot_S2x4096x512_S3x4096x4096_S2x512x3x4096_1_2_02_01_n_n none (mulf (extractStridedSlice S2x4096x512 ![0, 0, 1536] (tPj m c) slices_S2x4096x2560_S2x4096x512_0_0_1536) (extractStridedSlice S2x4096x512 ![0, 0, 2048] (tPj m c) slices_S2x4096x2560_S2x4096x512_0_0_2048)) (uitofp .f32 (cmpi .eq (iotaInDim S3x4096x4096 32 2) (addi (subi (iotaInDim S3x4096x4096 32 1) (broadcastInDim S3x4096x4096 ![] bcast_S_S3x4096x4096 (constantI S_ 32 2#32))) (iotaInDim S3x4096x4096 32 0))))) transposes_S2x512x3x4096_S3x2x4096x512_2_0_3_1)) (constant S_ .f32 0x00000000#32) reducesTo_S3x2x4096x512_S2x4096x512_d0 h_S_

/-- The conformer row less its mean. -/
def tXc : FVec Ideal S2x4096x512 .f32 := subf (tA1 m c) (broadcastInDim S2x4096x512 ![0, 1, 2] bcast_S2x4096x1_S2x4096x512_0_1_2 (Host.divf (broadcastInDim S2x4096x1 ![0, 1] bcast_S2x4096_S2x4096x1_0_1 (Host.reduceAdd (tA1 m c) (constant S_ .f32 0x00000000#32) reducesTo_S2x4096x512_S2x4096_d2 h_S_)) (broadcastInDim S2x4096x1 ![] bcast_S_S2x4096x1 (constant S_ .f32 0x44000000#32))))

/-- The normalised row, scaled and offset. -/
def tA2 : FVec Ideal S2x4096x512 .f32 := addf (mulf (mulf (tXc m c) (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf (tXc m c) (tXc m c)) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32)))))) (broadcastInDim S2x4096x512 ![0, 1, 2] bcast_S1x1x512_S2x4096x512_0_1_2 (broadcastInDim S1x1x512 ![2] bcast_S512_S1x1x512_2 (shapeCast _ (A5 m c) shapeCasts_S1x512_S512)))) (broadcastInDim S2x4096x512 ![0, 1, 2] bcast_S1x1x512_S2x4096x512_0_1_2 (broadcastInDim S1x1x512 ![2] bcast_S512_S1x1x512_2 (shapeCast _ (A6 m c) shapeCasts_S1x512_S512)))

/-- The mixed row. -/
def tMx : FVec Ideal S2x4096x1024 .f32 := concatenate S2x4096x1024 2 [⟨S2x4096x512, (mulf (tA2 m c) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (tA2 m c))))))⟩, ⟨S2x4096x512, (mulf (extractStridedSlice S2x4096x512 ![0, 0, 1024] (tPj m c) slices_S2x4096x2560_S2x4096x512_0_0_1024) (tCv m c))⟩] concatenates_S2x4096x512_S2x4096x512_S2x4096x1024_d2

/-- The mixed row's projection. -/
def tY : FVec Ideal S2x4096x1024 .f32 := Host.dotGeneral dot_S2x4096x1024_S1024x1024_S2x4096x1024_2_0_01_1_n_n none (tMx m c) (shapeCast _ (A8 m c) shapeCasts_S1x1024x1024_S1024x1024)

/-! ## The shift matrices -/

/-- A comparison of two positions as a number. -/
theorem mask_at {p : BitVec 1} {q : Prop} [Decidable q] (h : p = 1#1 ↔ q) :
    (((p.toNat : ℝ)) : EReal) = if q then 1 else 0 := by
  by_cases hq : q
  · rw [if_pos hq, h.mpr hq]; simp
  · have : p = 0#1 := by
      rcases BitVec.eq_zero_or_eq_one p with e | e
      · exact e
      · exact absurd (h.mp e) hq
    rw [if_neg hq, this]; simp

/-! ## The values at an index -/

variable (b : Fin 2) (t : Fin 4096)

theorem h_at (d : Fin 1024) : tH m c (ix3 b t d) = (dat m c).h b t d := by
  pointwise [tH]
  simp only [chan_zero]
  rfl

theorem pj_at (e : Fin 2560) : tPj m c (ix3 b t e) = (dat m c).pj b t e := by
  pointwise [tPj]
  simp only [h_at]
  rfl

theorem a1_at (e : Fin 512) : tA1 m c (ix3 b t e) = (dat m c).a1 b t e := by
  pointwise [tA1]
  simp only [pj_at, col_zero]
  refine congrArg₂ (· + ·) (Finset.sum_congr rfl fun k _ => congrArg₂ (· * ·) rfl ?_) rfl
  refine Eq.trans (Finset.sum_congr rfl fun s _ => congrArg₂ (· * ·) rfl
    (mask_at (shift_iff s.val t.val k.val 30 s.isLt t.isLt (by omega) (by omega)))) ?_
  exact sum_past (fun s => (dat m c).a0 b s e) t (30 - k.val)

theorem cv_at (e : Fin 512) : tCv m c (ix3 b t e) = (dat m c).cv b t e := by
  pointwise [tCv]
  simp only [pj_at]
  refine Finset.sum_congr rfl fun k _ => congrArg₂ (· * ·) rfl ?_
  refine Eq.trans (Finset.sum_congr rfl fun s _ => congrArg₂ (· * ·) rfl
    (mask_at (shift_iff s.val t.val k.val 2 s.isLt t.isLt (by omega) (by omega)))) ?_
  exact sum_past (fun s => (dat m c).q b s e) t (2 - k.val)

theorem xc_at (e : Fin 512) : tXc m c (ix3 b t e) = cen ((dat m c).a1 b t) e := by
  pointwise [tXc]
  simp only [a1_at]
  rfl

theorem a2_at (e : Fin 512) : tA2 m c (ix3 b t e) = (dat m c).a2 b t e := by
  pointwise [tA2]
  simp only [xc_at]
  rfl

theorem mx_at (e : Fin 1024) : tMx m c (ix3 b t e) = (dat m c).mx b t e := by
  pointwise [tMx]
  simp only [a2_at, pj_at, cv_at]
  rfl

theorem y_at (d : Fin 1024) : tY m c (ix3 b t d) = (dat m c).y b t d := by
  pointwise [tY]
  simp only [mx_at]
  rfl

/-! ## The five results -/

theorem res_mx : res_main_v114 m c = truncf .bf16 (tMx m c) bitsLt_bf16_f32 := rfl

theorem res_y : res_main_v113 m c = tY m c := rfl

theorem out_pj : tPj m c = (dat m c).arrPj := funext fun i => by rw [eq_ix3 i]; exact pj_at m c _ _ _
theorem out_a1 : tA1 m c = (dat m c).arrA1 := funext fun i => by rw [eq_ix3 i]; exact a1_at m c _ _ _
theorem out_cv : tCv m c = (dat m c).arrCv := funext fun i => by rw [eq_ix3 i]; exact cv_at m c _ _ _
theorem out_mx : res_main_v114 m c = (dat m c).arrMx := funext fun i => by rw [eq_ix3 i, res_mx]; exact mx_at m c _ _ _
theorem out_y : res_main_v113 m c = (dat m c).arrY := funext fun i => by rw [eq_ix3 i, res_y]; exact y_at m c _ _ _

end Cert.Reference3Ideal.Fwd
-- ==== Proof.FwdBlk.lean ====
/-
  The forward mixer kernel's operands and its blocks at a grid point: the tokens' rows and the parameters. The grid walks
  each batch element's token blocks forwards.
-/
module

public import proofs.«01_k».proof.Proof.FwdSpec
public import proofs.«01_k».proof.Proof.Gen.Kernel3Ideal.Frame
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel3Ideal.Fwd

open Cert.Kernel3Ideal Cert.Kernel3Ideal.Gen Cert.Fwd

variable (m : (ℓ : Loc nD τ sig) → Buf (Elt Ideal) ℓ) (c : Dev nD)

/-- The data of the kernel's arguments. -/
abbrev dat : Data := Data.of (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8))

/-! ## The parameters as the host's lines leave them -/

theorem v12_at (b : Fin 2) (j : Fin 6) (d : Fin 1024) : (V m c main_v12 : Vec Ideal S2x6x1024 .f32) (ix3 b j d) = (dat m c).M b (chan j d) := by
  unfold V
  after_reads_at
  rfl

theorem v3_at (k : Fin 8) (l : Fin 320) (d : Fin 1024) :
    (V m c main_v3 : Vec Ideal S8x320x1024 .bf16) (ix3 k l d) = (dat m c).Wi d ⟨k.val * 320 + l.val, by omega⟩ := by
  unfold V
  after_reads_at
  rfl

theorem v6_at (k : Fin 8) (l : Fin 128) (d : Fin 1024) :
    (V m c main_v6 : Vec Ideal S8x128x1024 .bf16) (ix3 k l d) = (dat m c).Wo ⟨k.val * 128 + l.val, by omega⟩ d := by
  unfold V
  after_reads_at
  rfl

theorem v8_at (k : Fin 31) (e : Fin 512) : (V m c main_v8 : Vec Ideal S32x512 .f32) (ix2 ⟨k.val, by omega⟩ e) = (dat m c).Wd k e := by
  unfold V
  after_reads_at
  rfl

theorem v11_0 (e : Fin 512) : (V m c main_v11 : Vec Ideal S8x512 .f32) (ix2 0 e) = (dat m c).bd e := by
  unfold V
  after_reads_at
  rfl

theorem v11_1 (e : Fin 512) : (V m c main_v11 : Vec Ideal S8x512 .f32) (ix2 1 e) = (dat m c).lg e := by
  unfold V
  after_reads_at
  rfl

theorem v11_2 (e : Fin 512) : (V m c main_v11 : Vec Ideal S8x512 .f32) (ix2 2 e) = (dat m c).lb e := by
  unfold V
  after_reads_at
  rfl

theorem v11_3 (k : Fin 3) (e : Fin 512) : (V m c main_v11 : Vec Ideal S8x512 .f32) (ix2 ⟨3 + k.val, by omega⟩ e) = (dat m c).Ws k e := by
  unfold V
  after_reads_at
  simp (disch := omega) only [dif_pos, dif_neg]
  after_reads_at
  exact congrArg (fun k => (dat m c).Ws k e) (Fin.ext (by simp only; omega))

/-! ## The blocks -/

/-- The batch element, the block's first token and the tokens of a grid point. -/
abbrev bat (t : Fin cfg0.N) : Fin 2 := ⟨t.val / 8, Nat.div_lt_of_lt_mul t.isLt⟩
abbrev base (t : Fin cfg0.N) : ℕ := t.val % 8 * 512
abbrev tok (t : Fin cfg0.N) (r : Fin 512) : Fin 4096 := ⟨t.val % 8 * 512 + r.val, by omega⟩

theorem idx : ∀ t : Fin cfg0.N, win0_0.index t = ![t.val / 8, t.val % 8, 0] ∧ win0_1.index t = ![t.val / 8, 0, 0]
    ∧ win0_2.index t = ![0, 0, 0] ∧ win0_3.index t = ![0, 0, 0] ∧ win0_4.index t = ![0, 0] ∧ win0_5.index t = ![0, 0] :=
  (by decide +kernel : ∀ t : Fin grid0.N, _)

variable (t : Fin cfg0.N)

theorem x_at (r : Fin 512) (d : Fin 1024) : (iblk m c 0 t : Vec Ideal S1x512x1024 .f32) (ix3 0 r d) = (dat m c).X (bat t) (tok t r) d := by
  show _ = m ((c.tc : Thread nD τ).loc main_arg0) (ix3 (bat t) (tok t r) d)
  blk_ext! [iblk, V, idx t]

theorem mod_at (j : Fin 6) (d : Fin 1024) : (iblk m c 1 t : Vec Ideal S1x6x1024 .f32) (ix3 0 j d) = (dat m c).M (bat t) (chan j d) := by
  rw [← v12_at]
  blk_ext! [iblk, idx t]

theorem wi_at (k : Fin 8) (l : Fin 320) (d : Fin 1024) :
    (iblk m c 2 t : Vec Ideal S8x320x1024 .bf16) (ix3 k l d) = (dat m c).Wi d ⟨k.val * 320 + l.val, by omega⟩ := by
  rw [← v3_at]
  blk_ext! [iblk, idx t]

theorem wo_at (k : Fin 8) (l : Fin 128) (d : Fin 1024) :
    (iblk m c 3 t : Vec Ideal S8x128x1024 .bf16) (ix3 k l d) = (dat m c).Wo ⟨k.val * 128 + l.val, by omega⟩ d := by
  rw [← v6_at]
  blk_ext! [iblk, idx t]

theorem wd_at (k : Fin 31) (e : Fin 512) : (iblk m c 4 t : Vec Ideal S32x512 .f32) (ix2 ⟨k.val, by omega⟩ e) = (dat m c).Wd k e := by
  rw [← v8_at]
  blk_ext! [iblk, idx t]

theorem bd_at (e : Fin 512) : (iblk m c 5 t : Vec Ideal S8x512 .f32) (ix2 0 e) = (dat m c).bd e := by
  rw [← v11_0]
  blk_ext! [iblk, idx t]

theorem lg_at (e : Fin 512) : (iblk m c 5 t : Vec Ideal S8x512 .f32) (ix2 1 e) = (dat m c).lg e := by
  rw [← v11_1]
  blk_ext! [iblk, idx t]

theorem lb_at (e : Fin 512) : (iblk m c 5 t : Vec Ideal S8x512 .f32) (ix2 2 e) = (dat m c).lb e := by
  rw [← v11_2]
  blk_ext! [iblk, idx t]

theorem ws_at (k : Fin 3) (e : Fin 512) : (iblk m c 5 t : Vec Ideal S8x512 .f32) (ix2 ⟨3 + k.val, by omega⟩ e) = (dat m c).Ws k e := by
  rw [← v11_3]
  blk_ext! [iblk, idx t]

end Cert.Kernel3Ideal.Fwd
-- ==== Proof.FwdPay.lean ====
/-
  What the forward mixer kernel's printed operations compute on one block of 512 tokens, read at an index. The two
  convolutions' shifted rows are taken as given here.
-/
module

public import proofs.«01_k».proof.Proof.FwdSpec
public import proofs.«01_k».proof.Proof.Gen.Kernel3Ideal.Skeleton
public import Idealize.ShloMosaic.Lib.Pointwise

@[expose] public section

set_option maxRecDepth 16384

noncomputable section

open Idealize.ShloMosaic Idealize.ShloMosaic.TcCoe Idealize.SL.Sem

namespace Cert.Kernel3Ideal.Pay

open Cert.Kernel3Ideal Cert.Kernel3Ideal.Gen Cert.Fwd

/-- The logistic function as the kernel names it. -/
theorem logistic_at (z : EReal) : Ideal.logistic z = Cert.Fwd.sig z := by
  unfold Cert.Fwd.sig
  rw [← EReal.coe_one]
  rfl

/-- A row of the two weights, from its shard and its row there. -/
abbrev inRow (k : Fin 8) (l : Fin 320) : Fin 2560 := ⟨k.val * 320 + l.val, by omega⟩
abbrev outRow (k : Fin 8) (l : Fin 128) : Fin 1024 := ⟨k.val * 128 + l.val, by omega⟩

section block

variable {D : Data} {b : Fin 2} {tk : Fin 512 → Fin 4096}

/-! ## The projection and its parts -/

section proj

variable {x : Vec Ideal S1x512x1024 .f32} {sh sc : Vec Ideal S1x1x1024 .f32} {wi : Vec Ideal S8x320x1024 .bf16}
  (hx : ∀ r d, x (ix3 0 r d) = D.X b (tk r) d) (hsh : ∀ d, sh (ix3 0 0 d) = D.M b (chan 0 d)) (hsc : ∀ d, sc (ix3 0 0 d) = D.M b (chan 1 d))
  (hwi : ∀ k l d, wi (ix3 k l d) = D.Wi d (inRow k l))

include hx hsh hsc hwi

theorem pj_at (r : Fin 512) (e : Fin 2560) : k0_pay2 (F := Ideal) x sh sc wi (ix2 r e) = D.pj b (tk r) e := by
  pointwise [k0_pay2]
  simp only [hx, hsh, hsc, hwi]
  refine Finset.sum_congr rfl fun d _ => congrArg₂ (· * ·) rfl (congrArg (D.Wi d) (Fin.ext ?_))
  simp only
  omega

theorem pjOut_at (r : Fin 512) (e : Fin 2560) : k0_pay3 (F := Ideal) x sh sc wi (ix3 0 r e) = D.pj b (tk r) e := by
  rw [← pj_at hx hsh hsc hwi]
  pointwise [k0_pay3]

theorem p0_at (r e : Fin 512) : k0_pay4 (F := Ideal) x sh sc wi (ix2 r e) = D.pj b (tk r) (col 0 e) := by
  pointwise [k0_pay4]
  exact (pj_at hx hsh hsc hwi r _).trans (congrArg _ (col_zero e _))

theorem p1_at (r e : Fin 512) : k0_pay5 (F := Ideal) x sh sc wi (ix2 r e) = D.pj b (tk r) (col 1 e) := by
  pointwise [k0_pay5]
  exact pj_at hx hsh hsc hwi r _

theorem p2_at (r e : Fin 512) : k0_pay6 (F := Ideal) x sh sc wi (ix2 r e) = D.pj b (tk r) (col 2 e) := by
  pointwise [k0_pay6]
  exact pj_at hx hsh hsc hwi r _

theorem p3_at (r e : Fin 512) : k0_pay7 (F := Ideal) x sh sc wi (ix2 r e) = D.pj b (tk r) (col 3 e) := by
  pointwise [k0_pay7]
  exact pj_at hx hsh hsc hwi r _

theorem p4_at (r e : Fin 512) : k0_pay8 (F := Ideal) x sh sc wi (ix2 r e) = D.pj b (tk r) (col 4 e) := by
  pointwise [k0_pay8]
  exact pj_at hx hsh hsc hwi r _

theorem a0_at (r e : Fin 512) :
    k0_pay13 (F := Ideal) (k0_pay4 x sh sc wi) (k0_pay5 x sh sc wi) (ix2 r e) = D.a0 b (tk r) e := by
  pointwise [k0_pay13]
  rw [p0_at hx hsh hsc hwi, p1_at hx hsh hsc hwi, logistic_at]
  rfl

theorem q_at (r e : Fin 512) :
    k0_pay14 (F := Ideal) (k0_pay7 x sh sc wi) (k0_pay8 x sh sc wi) (ix2 r e) = D.q b (tk r) e := by
  pointwise [k0_pay14]
  rw [p3_at hx hsh hsc hwi, p4_at hx hsh hsc hwi]
  rfl

end proj

/-! ## The short convolution, the mixed row and its projection -/

section mix

variable {p2 q0 q1 q2 : Vec Ideal S512x512 .f32} {w0 w1 w2 lg lb : Vec Ideal S1x512 .f32} {a1 : Vec Ideal S1x512x512 .f32}
  {wo : Vec Ideal S8x128x1024 .bf16}
  (hq0 : ∀ r e, q0 (ix2 r e) = past (fun s => D.q b s e) (tk r).val 2) (hq1 : ∀ r e, q1 (ix2 r e) = past (fun s => D.q b s e) (tk r).val 1)
  (hq2 : ∀ r e, q2 (ix2 r e) = past (fun s => D.q b s e) (tk r).val 0) (hw0 : ∀ e, w0 (ix2 0 e) = D.Ws 0 e) (hw1 : ∀ e, w1 (ix2 0 e) = D.Ws 1 e)
  (hw2 : ∀ e, w2 (ix2 0 e) = D.Ws 2 e)
  (hp : ∀ r e, p2 (ix2 r e) = D.pj b (tk r) (col 2 e)) (ha : ∀ r e, a1 (ix3 0 r e) = D.a1 b (tk r) e)
  (hg : ∀ e, lg (ix2 0 e) = D.lg e) (hb : ∀ e, lb (ix2 0 e) = D.lb e)
  (hwo : ∀ k l d, wo (ix3 k l d) = D.Wo (outRow k l) d)

include hq0 hq1 hq2 hw0 hw1 hw2

theorem cv_at (r e : Fin 512) : k0_pay216 (F := Ideal) (k0_pay215 w0 q0 w1 q1) w2 q2 (ix2 r e) = D.cv b (tk r) e := by
  pointwise [k0_pay216, k0_pay215]
  rw [hq0, hq1, hq2, hw0, hw1, hw2]
  unfold Data.cv
  rw [Fin.sum_univ_three]
  rfl

theorem cvOut_at (r e : Fin 512) : k0_pay217 (F := Ideal) (k0_pay215 w0 q0 w1 q1) w2 q2 (ix3 0 r e) = D.cv b (tk r) e := by
  rw [← cv_at hq0 hq1 hq2 hw0 hw1 hw2]
  pointwise [k0_pay217]

include hp ha hg hb

theorem mx_at (r : Fin 512) (e : Fin 1024) :
    k0_pay218 (F := Ideal) p2 (k0_pay215 w0 q0 w1 q1) w2 q2 a1 lg lb (ix2 r e) = D.mx b (tk r) e := by
  pointwise [k0_pay218]
  simp only [cv_at hq0 hq1 hq2 hw0 hw1 hw2, hp, ha, hg, hb, logistic_at]
  rfl

theorem mxOut_at (r : Fin 512) (e : Fin 1024) :
    k0_pay219 (F := Ideal) (k0_pay218 p2 (k0_pay215 w0 q0 w1 q1) w2 q2 a1 lg lb) (ix3 0 r e) = D.mx b (tk r) e := by
  rw [← mx_at hq0 hq1 hq2 hw0 hw1 hw2 hp ha hg hb]
  pointwise [k0_pay219]

include hwo

theorem y_at (r : Fin 512) (d : Fin 1024) :
    k0_pay1 (F := Ideal) (k0_pay220 (k0_pay218 p2 (k0_pay215 w0 q0 w1 q1) w2 q2 a1 lg lb) wo) (ix3 0 r d) = D.y b (tk r) d := by
  pointwise [k0_pay1, k0_pay220]
  simp only [mx_at hq0 hq1 hq2 hw0 hw1 hw2 hp ha hg hb, hwo]
  refine Finset.sum_congr rfl fun e _ => congrArg₂ (· * ·) rfl (congrArg (fun e => D.Wo e d) (Fin.ext ?_))
  simp only
  omega

end mix

end block

end Cert.Kernel3Ideal.Pay
-- ==== Proof.FwdTap.lean ====
/-
  The conformer convolution as the forward mixer kernel computes it: the block's rows stand under the last rows of the block
  before, seven copies are shifted by one to seven rows, and thirty-one taps are summed over each of sixteen chunks of 32 rows.
-/
module

public import proofs.«01_k».proof.Proof.Rows
public import proofs.«01_k».proof.Proof.FwdPay

@[expose] public section

set_option maxRecDepth 16384

noncomputable section

open Idealize.ShloMosaic Idealize.ShloMosaic.TcCoe Idealize.SL.Sem

namespace Cert.Kernel3Ideal.Tap

open Cert.Kernel3Ideal Cert.Kernel3Ideal.Gen Cert.Fwd Cert.Rows

/-- Where a chunk's rows at a tap begin. -/
abbrev off (ch k : ℕ) : ℕ := 32 * (ch % 16) + (2 + k % 31)

theorem off_le (ch k : ℕ) : off ch k ≤ 512 := by unfold off; omega

variable {κ0 κ2 : Kind} {sp0 sp2 : Space} (v0 : View sig κ0 sp0 S544x512 .f32) (v2 : View sig κ2 sp2 S7x536x512 .f32)
  (L : List (View.Piece (Elt Ideal) S544x512 .f32)) (L2 : List (View.Piece (Elt Ideal) S7x536x512 .f32))

/-- The seven shifted copies, newest first. -/
def shL (n : ℕ) : List (View.Piece (Elt Ideal) S7x536x512 .f32) :=
  Nat.rec [] (fun p A => ⟨Rect.unit (s := S7x536x512) ![p % 7, 0, 0] ![1, 536, 512] (fun a => by fin_cases a <;> simp [S7x536x512]; omega),
    k0_pay15 (F := Ideal) (v0.readCov L (Rect.unit (s := S544x512) ![p % 7 + 1, 0] ![536, 512] (fun a => by fin_cases a <;> simp [S544x512]; omega)).toLoadRect)⟩
      :: A) n

/-- A chunk's rows at a tap, as they are read. -/
def win (ch k : ℕ) : Vec Ideal S32x512 .f32 :=
  Bool.rec (motive := fun _ => Vec Ideal S32x512 .f32)
    (shapeCast S32x512 (v2.readCov L2 (Rect.unit (s := S7x536x512) ![off ch k % 8 - 1, (off ch k - off ch k % 8) % 512, 0] ![1, 32, 512]
      (fun a => by have := off_le ch k; fin_cases a <;> simp [S7x536x512] <;> omega)).toLoadRect : Vec Ideal S1x32x512 .f32)
      shapeCasts_S1x32x512_S32x512)
    (v0.readCov L (Rect.unit (s := S544x512) ![off ch k, 0] ![32, 512] (fun a => by have := off_le ch k; fin_cases a <;> simp [S544x512]; omega)).toLoadRect)
    (Nat.beq (off ch k % 8) 0)

theorem lead_at (x : Vec Ideal S536x512 .f32) (r : Fin 536) (c : Fin 512) : k0_pay15 (F := Ideal) x (ix3 0 r c) = x (ix2 r c) := by
  pointwise [k0_pay15]

theorem drop_at (x : Vec Ideal S1x32x512 .f32) (r : Fin 32) (c : Fin 512) :
    shapeCast S32x512 x shapeCasts_S1x32x512_S32x512 (ix2 r c) = x (ix3 0 r c) := by
  pointwise

variable {v0 L L2} (F : ℕ → Fin 512 → EReal) (hL : ∀ (n : Fin 544) c, View.canon L (ix2 n c) = F n.val c) (h2 : shL v0 L 7 = L2)

include hL

theorem shL_at (n : ℕ) (hn : n ≤ 7) (p : Fin 7) (hp : p.val < n) (r : Fin 536) (c : Fin 512) :
    View.canon (shL v0 L n) (ix3 p r c) = F (p.val + 1 + r.val) c := by
  induction n with
  | zero => omega
  | succ n ih =>
    by_cases hpn : p.val = n
    · have hs : n % 7 = p.val := by omega
      refine (slab_new (B := 7) (M := 536) (R := 536) (o := 0) (p := n % 7) _ _ (shL v0 L n) r c p (by omega) r (by omega)).trans ?_
      refine (lead_at _ r c).trans ((rows_back v0 L _ r c (by omega)).trans ?_)
      rw [hL]
      simp only [hs]
    · exact (slab_old (B := 7) (M := 536) (R := 536) (o := 0) (p := n % 7) _ _ (shL v0 L n) c p r (by omega)).trans (ih (by omega) (by omega))

include h2

theorem win_at (ch k : ℕ) (r : Fin 32) (c : Fin 512) : win v0 v2 L L2 ch k (ix2 r c) = F (off ch k + r.val) c := by
  have ho := off_le ch k
  unfold win
  cases hb : Nat.beq (off ch k % 8) 0
  · have hz : off ch k % 8 ≠ 0 := fun h => by simp [h] at hb
    refine (drop_at _ r c).trans ?_
    refine (slab_back v2 L2 _ r c (by omega) (by omega)).trans ?_
    rw [← h2]
    refine (shL_at F hL 7 le_rfl ⟨off ch k % 8 - 1, by omega⟩ (by show off ch k % 8 - 1 < 7; omega) ⟨(off ch k - off ch k % 8) % 512 + r.val, by omega⟩ c).trans ?_
    simp only [show off ch k % 8 - 1 + 1 + ((off ch k - off ch k % 8) % 512 + r.val) = off ch k + r.val by omega]
  · refine (rows_back v0 L _ r c (by omega)).trans ?_
    rw [hL]

omit hL h2

/-! ## Thirty-one taps over a chunk -/

variable (v0 L L2) (W : ℕ → Vec Ideal S1x512 .f32) (B : Vec Ideal S1x512 .f32)

/-- The first `n` taps summed over a chunk's rows. -/
def accTo (ch n : ℕ) : Vec Ideal S32x512 .f32 :=
  Nat.rec (broadcast S32x512 (Scalar.ofBits (F := Ideal) .f32 0x00000000#32))
    (fun k A => addf (F := Ideal) (φ := .f32) A (mulf (F := Ideal) (φ := .f32)
      (broadcastTo S32x512 (shapeCast S1x512 (W k) shapeCasts_S1x512_S1x512 : Vec Ideal S1x512 .f32) broadcasts_S1x512_S32x512)
      (win v0 v2 L L2 ch k))) n

/-- A chunk's sum with the bias, as it is stored. -/
def sumOf (A : Vec Ideal S32x512 .f32) (b : Vec Ideal S1x512 .f32) : Vec Ideal S1x32x512 .f32 :=
  shapeCast S1x32x512 (addf (F := Ideal) (φ := .f32) A
    (broadcastTo S32x512 (shapeCast S1x512 b shapeCasts_S1x512_S1x512 : Vec Ideal S1x512 .f32) broadcasts_S1x512_S32x512)) shapeCasts_S32x512_S1x32x512

/-- The chunks' sums, newest first. -/
def sumL (n : ℕ) : List (View.Piece (Elt Ideal) S1x512x512 .f32) :=
  Nat.rec [] (fun ch A => ⟨Rect.unit (s := S1x512x512) ![0, 32 * (ch % 16), 0] ![1, 32, 512] (fun a => by fin_cases a <;> simp [S1x512x512]; omega),
    sumOf (accTo v0 v2 L L2 W ch 31) B⟩ :: A) n

theorem step_at (A X : Vec Ideal S32x512 .f32) (w : Vec Ideal S1x512 .f32) (r : Fin 32) (c : Fin 512) :
    addf (F := Ideal) (φ := .f32) A (mulf (broadcastTo S32x512 (shapeCast S1x512 w shapeCasts_S1x512_S1x512 : Vec Ideal S1x512 .f32) broadcasts_S1x512_S32x512) X) (ix2 r c)
      = A (ix2 r c) + w (ix2 0 c) * X (ix2 r c) := by
  pointwise

theorem zero_at (r : Fin 32) (c : Fin 512) : (broadcast S32x512 (Scalar.ofBits (F := Ideal) .f32 0x00000000#32) : FVec Ideal S32x512 .f32) (ix2 r c) = 0 := by
  pointwise

theorem sumOf_at (A : Vec Ideal S32x512 .f32) (b : Vec Ideal S1x512 .f32) (r : Fin 32) (c : Fin 512) :
    sumOf A b (ix3 0 r c) = A (ix2 r c) + b (ix2 0 c) := by
  pointwise [sumOf]

variable {W L L2 B} (w : ℕ → Fin 512 → EReal) (hW : ∀ k c, W k (ix2 0 c) = w k c)

include hL hW h2

theorem accTo_at (ch n : ℕ) (r : Fin 32) (c : Fin 512) :
    accTo v0 v2 L L2 W ch n (ix2 r c) = ∑ k ∈ Finset.range n, w k c * F (off ch k + r.val) c := by
  induction n with
  | zero => exact (zero_at r c).trans (by simp)
  | succ n ih =>
    refine (step_at _ _ _ r c).trans ?_
    rw [hW, win_at v2 F hL h2, Finset.sum_range_succ]
    exact congrArg (· + _) ih

theorem sumL_at (n : ℕ) (hn : n ≤ 16) (y : Fin 512) (hy : y.val < 32 * n) (c : Fin 512) :
    View.canon (sumL v0 v2 L L2 W B n) (ix3 0 y c) = (∑ k ∈ Finset.range 31, w k c * F (y.val + (2 + k)) c) + B (ix2 0 c) := by
  induction n with
  | zero => omega
  | succ n ih =>
    have hm : n % 16 = n := Nat.mod_eq_of_lt (by omega)
    by_cases h : 32 * n ≤ y.val
    · refine (slab_new (B := 1) (M := 512) (R := 32) (o := 32 * (n % 16)) (p := 0) _ _ (sumL v0 v2 L L2 W B n) ⟨y.val - 32 * n, by omega⟩ c 0 rfl y
        (by simp; omega)).trans ?_
      refine (sumOf_at _ _ _ c).trans (congrArg (· + _) ((accTo_at v0 v2 F hL h2 w hW n 31 _ c).trans ?_))
      refine Finset.sum_congr rfl fun k hk => ?_
      have := Finset.mem_range.mp hk
      simp only [off, show 32 * (n % 16) + (2 + k % 31) + (y.val - 32 * n) = y.val + (2 + k) by omega]
    · refine (slab_old (B := 1) (M := 512) (R := 32) (o := 32 * (n % 16)) (p := 0) _ _ (sumL v0 v2 L L2 W B n) c 0 y (by omega)).trans ?_
      exact ih (by omega) (by omega)

/-- The convolution read back whole. -/
theorem sum_back {κ : Kind} {sp : Space} (v : View sig κ sp S1x512x512 .f32)
    (inb : ∀ a : Fin 3, (![0, 0, 0] : Fin 3 → ℕ) a + (![1, 512, 512] : Fin 3 → ℕ) a ≤ (![1, 512, 512] : Fin 3 → ℕ) a) (y : Fin 512) (c : Fin 512) :
    (v.readCov (sumL v0 v2 L L2 W B 16) (Rect.unit (s := S1x512x512) ![0, 0, 0] ![1, 512, 512] inb).toLoadRect : Vec Ideal S1x512x512 .f32) (ix3 0 y c)
      = (∑ k ∈ Finset.range 31, w k c * F (y.val + (2 + k)) c) + B (ix2 0 c) := by
  refine (slab_back (B := 1) (M := 512) (R := 512) (o := 0) (p := 0) v _ inb y c (by omega) (by omega)).trans ?_
  simp only [Nat.zero_add, Fin.eta]
  exact sumL_at v0 v2 F hL h2 w hW 16 le_rfl y (by omega) c

end Cert.Kernel3Ideal.Tap
-- ==== Proof.FwdOut.lean ====
/-
  One point of the forward mixer kernel: the block's inputs, the two convolutions' rows followed along the sequence, and the
  blocks of the five results. The rows above a block are the last rows of the point before; at a batch element's first block
  they are zero.
-/
module

public import proofs.«01_k».proof.Proof.FwdBlk
public import proofs.«01_k».proof.Proof.FwdTap

@[expose] public section

set_option maxRecDepth 16384

noncomputable section

open Idealize.ShloMosaic Idealize.ShloMosaic.TcCoe Idealize.SL.Sem
open Idealize.ShloMosaic.Pipeline (Dat)

namespace Cert.Kernel3Ideal.Fwd

open Cert.Kernel3Ideal Cert.Kernel3Ideal.Gen Cert.Kernel3Ideal.Pay Cert.Kernel3Ideal.Tap Cert.Fwd Cert.Rows

/-- A shift counted from an earlier row. -/
theorem past_shift {n : ℕ} (f : Fin n → EReal) {t t' k k' : ℕ} (h : t' + k = t + k') (hk : k ≤ k') : past f t' k' = past f t k := by
  unfold past
  by_cases hc : k ≤ t ∧ t < n + k
  · rw [dif_pos hc, dif_pos (by omega)]
    exact congrArg f (Fin.ext (by simp only; omega))
  · rw [dif_neg hc, dif_neg (by omega)]

theorem past_zero {n : ℕ} (f : Fin n → EReal) (t : Fin n) : past f t.val 0 = f t := by
  unfold past
  rw [dif_pos (by omega)]
  rfl

/-! ## The rows along the sequence -/

section rows

variable (D : Data) (t : Fin cfg0.N)

/-- The rows from 32, or 8, tokens before a point's first, zero before the sequence: the gated unit's and the short
    branch's product's. -/
def rowA (n : ℕ) (e : Fin 512) : EReal := past (fun s => D.a0 (bat t) s e) (base t + n) 32
def rowQ (n : ℕ) (e : Fin 512) : EReal := past (fun s => D.q (bat t) s e) (base t + n) 8

theorem rowA_in (r : Fin 512) (e : Fin 512) : D.a0 (bat t) (tok t r) e = rowA D t (32 + r.val) e :=
  ((past_shift _ (by show base t + (32 + r.val) + 0 = base t + r.val + 32; omega) (Nat.zero_le _)).trans (past_zero (fun s => D.a0 (bat t) s e) (tok t r))).symm

theorem rowQ_in (r : Fin 512) (e : Fin 512) : D.q (bat t) (tok t r) e = rowQ D t (8 + r.val) e :=
  ((past_shift _ (by show base t + (8 + r.val) + 0 = base t + r.val + 8; omega) (Nat.zero_le _)).trans (past_zero (fun s => D.q (bat t) s e) (tok t r))).symm

theorem rowA_first (ht : t.val % 8 = 0) (r : Fin 32) (e : Fin 512) : rowA D t r.val e = 0 :=
  dif_neg (by unfold base; omega)

theorem rowQ_first (ht : t.val % 8 = 0) (r : Fin 8) (e : Fin 512) : rowQ D t r.val e = 0 :=
  dif_neg (by unfold base; omega)

abbrev prev (t : Fin cfg0.N) : Fin cfg0.N := ⟨t.val - 1, Nat.lt_of_le_of_lt (Nat.sub_le _ _) t.isLt⟩

theorem bat_prev (ht : ¬t.val % 8 = 0) : bat (prev t) = bat t := Fin.ext (by show (t.val - 1) / 8 = t.val / 8; omega)
theorem base_prev (ht : ¬t.val % 8 = 0) : base (prev t) + 512 = base t := by
  show (t.val - 1) % 8 * 512 + 512 = t.val % 8 * 512
  omega

theorem rowA_prev (ht : ¬t.val % 8 = 0) (r : ℕ) (e : Fin 512) : rowA D (prev t) (512 + r) e = rowA D t r e := by
  unfold rowA
  rw [bat_prev t ht, ← base_prev t ht, Nat.add_assoc]

theorem rowQ_prev (ht : ¬t.val % 8 = 0) (r : ℕ) (e : Fin 512) : rowQ D (prev t) (512 + r) e = rowQ D t r e := by
  unfold rowQ
  rw [bat_prev t ht, ← base_prev t ht, Nat.add_assoc]

theorem rowA_past (r : Fin 512) (k : ℕ) (hk : k ≤ 30) (e : Fin 512) :
    rowA D t (r.val + (2 + k)) e = past (fun s => D.a0 (bat t) s e) (tok t r).val (30 - k) :=
  past_shift _ (by show base t + (r.val + (2 + k)) + (30 - k) = base t + r.val + 32; omega) (by omega)

theorem rowQ_past (r : Fin 512) (k : ℕ) (hk : k ≤ 2) (e : Fin 512) :
    rowQ D t (6 + k + r.val) e = past (fun s => D.q (bat t) s e) (tok t r).val (2 - k) :=
  past_shift _ (by show base t + (6 + k + r.val) + (2 - k) = base t + r.val + 8; omega) (by omega)

end rows

/-! ## The reads of a point -/

variable (m : (ℓ : Loc nD τ sig) → Buf (Elt Ideal) ℓ) (c : Dev nD) (t : Fin cfg0.N)

abbrev bX : Vec Ideal S1x512x1024 .f32 := iblk m c 0 t
abbrev bM : Vec Ideal S1x6x1024 .f32 := iblk m c 1 t
abbrev bI : Vec Ideal S8x320x1024 .bf16 := iblk m c 2 t
abbrev bO : Vec Ideal S8x128x1024 .bf16 := iblk m c 3 t
abbrev bW : Vec Ideal S32x512 .f32 := iblk m c 4 t
abbrev bR : Vec Ideal S8x512 .f32 := iblk m c 5 t
abbrev rSh : Vec Ideal S1x1x1024 .f32 := View.ld (bM m c t) (Rect.unit ![0, 0, 0] ![1, 1, 1024] inb_S1x6x1024_S1x1x1024_0_0_0)
abbrev rSc : Vec Ideal S1x1x1024 .f32 := View.ld (bM m c t) (Rect.unit ![0, 1, 0] ![1, 1, 1024] inb_S1x6x1024_S1x1x1024_0_1_0)
/-- A row of the packed small parameters, and a tap's row. -/
abbrev rR (k : ℕ) (hk : ∀ a : Fin 2, (![k, 0] : Fin 2 → ℕ) a + (![1, 512] : Fin 2 → ℕ) a ≤ (![8, 512] : Fin 2 → ℕ) a) : Vec Ideal S1x512 .f32 :=
  View.ld (bR m c t) (Rect.unit (s := S8x512) ![k, 0] ![1, 512] hk)
def rW (k : ℕ) : Vec Ideal S1x512 .f32 :=
  View.ld (bW m c t) (Rect.unit (s := S32x512) ![k % 31, 0] ![1, 512] (fun a => by fin_cases a <;> simp [S32x512]; omega))
abbrev p2 : FVec Ideal S512x512 .f32 := k0_pay6 (bX m c t) (rSh m c t) (rSc m c t) (bI m c t)
abbrev aNew : FVec Ideal S512x512 .f32 := k0_pay13 (k0_pay4 (bX m c t) (rSh m c t) (rSc m c t) (bI m c t)) (k0_pay5 (bX m c t) (rSh m c t) (rSc m c t) (bI m c t))
abbrev qNew : FVec Ideal S512x512 .f32 := k0_pay14 (k0_pay7 (bX m c t) (rSh m c t) (rSc m c t) (bI m c t)) (k0_pay8 (bX m c t) (rSh m c t) (rSc m c t) (bI m c t))

theorem sh_at (d : Fin 1024) : rSh m c t (ix3 0 0 d) = (dat m c).M (bat t) (chan 0 d) :=
  (View.ld_unit_apply_of _ _ _ _ _ (ix3 0 0 d) fun a => by fin_cases a <;> simp).trans (mod_at m c t 0 d)
theorem sc_at (d : Fin 1024) : rSc m c t (ix3 0 0 d) = (dat m c).M (bat t) (chan 1 d) :=
  (View.ld_unit_apply_of _ _ _ _ _ (ix3 0 1 d) fun a => by fin_cases a <;> simp).trans (mod_at m c t 1 d)
theorem rR_at (k : Fin 8) (hk) (e : Fin 512) : rR m c t k.val hk (ix2 0 e) = bR m c t (ix2 k e) :=
  View.ld_unit_apply_of _ _ _ _ _ (ix2 k e) fun a => by fin_cases a <;> simp
/-- The taps as a sequence. -/
abbrev wd (D : Data) (k : ℕ) (e : Fin 512) : EReal := D.Wd ⟨k % 31, by omega⟩ e
theorem rW_at (k : ℕ) (e : Fin 512) : rW m c t k (ix2 0 e) = wd (dat m c) k e :=
  (View.ld_unit_apply_of _ _ _ _ _ (ix2 (⟨k % 31, by omega⟩ : Fin 32) e) fun a => by fin_cases a <;> simp).trans (wd_at m c t ⟨k % 31, by omega⟩ e)

/-! ## The stored rows -/

/-- What the point stores of the two branches: its block over the rows before. -/
abbrev lstA (Q : Vec Ideal S32x512 .f32) : List (View.Piece (Elt Ideal) S544x512 .f32) :=
  [⟨Rect.unit (s := S544x512) ![32, 0] ![512, 512] inb_S544x512_S512x512_32_0, aNew m c t⟩,
    ⟨Rect.unit (s := S544x512) ![0, 0] ![32, 512] inb_S544x512_S32x512_0_0, Q⟩]
abbrev lstQ (Q : Vec Ideal S8x512 .f32) : List (View.Piece (Elt Ideal) S520x512 .f32) :=
  [⟨Rect.unit (s := S520x512) ![8, 0] ![512, 512] inb_S520x512_S512x512_8_0, qNew m c t⟩,
    ⟨Rect.unit (s := S520x512) ![0, 0] ![8, 512] inb_S520x512_S8x512_0_0, Q⟩]

/-- The rows before hold the sequence's. -/
abbrev HeadA (Q : Vec Ideal S32x512 .f32) : Prop := ∀ r e, Q (ix2 r e) = rowA (dat m c) t r.val e
abbrev HeadQ (Q : Vec Ideal S8x512 .f32) : Prop := ∀ r e, Q (ix2 r e) = rowQ (dat m c) t r.val e

theorem headA_zero (ht : t.val % 8 = 0) : HeadA m c t (k0_pay9 (F := Ideal)) := fun r e => by
  rw [rowA_first _ t ht]
  pointwise [k0_pay9]

theorem headQ_zero (ht : t.val % 8 = 0) : HeadQ m c t (k0_pay10 (F := Ideal)) := fun r e => by
  rw [rowQ_first _ t ht]
  pointwise [k0_pay10]

theorem keepA_at (x : Vec Ideal S32x512 .f32) (r : Fin 32) (e : Fin 512) : k0_pay11 (F := Ideal) x (ix2 r e) = x (ix2 r e) := by
  pointwise [k0_pay11]
theorem keepQ_at (x : Vec Ideal S8x512 .f32) (r : Fin 8) (e : Fin 512) : k0_pay12 (F := Ideal) x (ix2 r e) = x (ix2 r e) := by
  pointwise [k0_pay12]

theorem headA_prev (ht : ¬t.val % 8 = 0) (Y : Vec Ideal S544x512 .f32) (hY : ∀ n e, Y (ix2 n e) = rowA (dat m c) (prev t) n.val e) :
    HeadA m c t (k0_pay11 (F := Ideal) (View.ld Y (Rect.unit (s := S544x512) ![512, 0] ![32, 512] inb_S544x512_S32x512_512_0))) := fun r e => by
  rw [keepA_at, ← rowA_prev _ t ht]
  exact (View.ld_unit_apply_of _ _ _ _ _ (ix2 (⟨512 + r.val, by omega⟩ : Fin 544) e) fun a => by fin_cases a <;> simp).trans (hY _ e)

theorem headQ_prev (ht : ¬t.val % 8 = 0) (Y : Vec Ideal S520x512 .f32) (hY : ∀ n e, Y (ix2 n e) = rowQ (dat m c) (prev t) n.val e) :
    HeadQ m c t (k0_pay12 (F := Ideal) (View.ld Y (Rect.unit (s := S520x512) ![512, 0] ![8, 512] inb_S520x512_S8x512_512_0))) := fun r e => by
  rw [keepQ_at, ← rowQ_prev _ t ht]
  exact (View.ld_unit_apply_of _ _ _ _ _ (ix2 (⟨512 + r.val, by omega⟩ : Fin 520) e) fun a => by fin_cases a <;> simp).trans (hY _ e)

theorem lstA_at {Q : Vec Ideal S32x512 .f32} (hQ : HeadA m c t Q) (n : Fin 544) (e : Fin 512) :
    View.canon (lstA m c t Q) (ix2 n e) = rowA (dat m c) t n.val e :=
  seq_at (rowA (dat m c) t) _ _ _ Q
    (fun r e => (a0_at (x_at m c t) (sh_at m c t) (sc_at m c t) (wi_at m c t) r e).trans (rowA_in _ t r e)) hQ (by norm_num) n e

theorem lstQ_at {Q : Vec Ideal S8x512 .f32} (hQ : HeadQ m c t Q) (n : Fin 520) (e : Fin 512) :
    View.canon (lstQ m c t Q) (ix2 n e) = rowQ (dat m c) t n.val e :=
  seq_at (rowQ (dat m c) t) _ _ _ Q
    (fun r e => (q_at (x_at m c t) (sh_at m c t) (sc_at m c t) (wi_at m c t) r e).trans (rowQ_in _ t r e)) hQ (by norm_num) n e

/-- The short branch's rows read back at a shift. -/
theorem backQ {Q : Vec Ideal S8x512 .f32} (hQ : HeadQ m c t Q) {κ : Kind} {sp : Space} (v : View sig κ sp S520x512 .f32) (k : ℕ) (hk : k ≤ 2)
    (inb : ∀ a : Fin 2, (![6 + k, 0] : Fin 2 → ℕ) a + (![512, 512] : Fin 2 → ℕ) a ≤ (![520, 512] : Fin 2 → ℕ) a) (r : Fin 512) (e : Fin 512) :
    (v.readCov (lstQ m c t Q) (Rect.unit (s := S520x512) ![6 + k, 0] ![512, 512] inb).toLoadRect : Vec Ideal S512x512 .f32) (ix2 r e)
      = past (fun s => (dat m c).q (bat t) s e) (tok t r).val (2 - k) :=
  (rows_back v _ inb r e (by omega)).trans ((lstQ_at m c t hQ _ e).trans (rowQ_past _ t r k hk e))

section conv

variable {Q : Vec Ideal S32x512 .f32} (hQ : HeadA m c t Q) {κ0 κ2 : Kind} {sp0 sp2 : Space} {v0 : View sig κ0 sp0 S544x512 .f32}
  (v2 : View sig κ2 sp2 S7x536x512 .f32) {L : List (View.Piece (Elt Ideal) S544x512 .f32)} {L2 : List (View.Piece (Elt Ideal) S7x536x512 .f32)}
  (hL : lstA m c t Q = L) (h2 : shL v0 L 7 = L2)

include hQ in
theorem taps_sum (r : Fin 512) (e : Fin 512) :
    (∑ k ∈ Finset.range 31, wd (dat m c) k e * rowA (dat m c) t (r.val + (2 + k)) e) + rR m c t 0 inb_S8x512_S1x512_0_0 (ix2 0 e)
      = (dat m c).a1 (bat t) (tok t r) e := by
  unfold Data.a1
  refine congrArg₂ (· + ·) ?_ ((rR_at m c t 0 _ e).trans (bd_at m c t e))
  rw [Finset.sum_range]
  refine Finset.sum_congr rfl fun k _ => ?_
  rw [rowA_past _ t r k.val (by omega)]
  simp only [wd, Nat.mod_eq_of_lt k.isLt, Fin.eta]

include hQ hL h2

/-- The conformer convolution's block, as it is written and read back. -/
theorem a1_canon (r : Fin 512) (e : Fin 512) :
    View.canon (sumL v0 v2 L L2 (rW m c t) (rR m c t 0 inb_S8x512_S1x512_0_0) 16) (ix3 0 r e) = (dat m c).a1 (bat t) (tok t r) e := by
  subst hL
  exact (sumL_at v0 v2 (rowA (dat m c) t) (lstA_at m c t hQ) h2 (wd (dat m c)) (rW_at m c t) 16 le_rfl r (by omega) e).trans (taps_sum m c t hQ r e)

theorem a1_back {κ : Kind} {sp : Space} (v : View sig κ sp S1x512x512 .f32) (r : Fin 512) (e : Fin 512) :
    (v.readCov (sumL v0 v2 L L2 (rW m c t) (rR m c t 0 inb_S8x512_S1x512_0_0) 16)
      (Rect.unit (s := S1x512x512) ![0, 0, 0] ![1, 512, 512] inb_S1x512x512_S1x512x512_0_0_0).toLoadRect : Vec Ideal S1x512x512 .f32) (ix3 0 r e)
      = (dat m c).a1 (bat t) (tok t r) e := by
  subst hL
  exact (sum_back v0 v2 (rowA (dat m c) t) (lstA_at m c t hQ) h2 (wd (dat m c)) (rW_at m c t) v _ r e).trans (taps_sum m c t hQ r e)

end conv

/-! ## The short convolution, the mixed row and its projection -/

section short

variable {QC : Vec Ideal S8x512 .f32} (hC : HeadQ m c t QC) {κ1 : Kind} {sp1 : Space} (v1 : View sig κ1 sp1 S520x512 .f32)

/-- The short branch's rows at the three shifts, and the two first taps' part. -/
abbrev q0 (v1 : View sig κ1 sp1 S520x512 .f32) (QC : Vec Ideal S8x512 .f32) : Vec Ideal S512x512 .f32 :=
  v1.readCov (lstQ m c t QC) (Rect.unit (s := S520x512) ![6, 0] ![512, 512] inb_S520x512_S512x512_6_0).toLoadRect
abbrev q1 (v1 : View sig κ1 sp1 S520x512 .f32) (QC : Vec Ideal S8x512 .f32) : Vec Ideal S512x512 .f32 :=
  v1.readCov (lstQ m c t QC) (Rect.unit (s := S520x512) ![7, 0] ![512, 512] inb_S520x512_S512x512_7_0).toLoadRect
abbrev q2 (v1 : View sig κ1 sp1 S520x512 .f32) (QC : Vec Ideal S8x512 .f32) : Vec Ideal S512x512 .f32 :=
  v1.readCov (lstQ m c t QC) (Rect.unit (s := S520x512) ![8, 0] ![512, 512] inb_S520x512_S512x512_8_0).toLoadRect
abbrev w0 : Vec Ideal S1x512 .f32 := rR m c t 3 inb_S8x512_S1x512_3_0
abbrev w1 : Vec Ideal S1x512 .f32 := rR m c t 4 inb_S8x512_S1x512_4_0
abbrev w2 : Vec Ideal S1x512 .f32 := rR m c t 5 inb_S8x512_S1x512_5_0

theorem w0_at (e : Fin 512) : w0 m c t (ix2 0 e) = (dat m c).Ws 0 e := (rR_at m c t 3 _ e).trans (ws_at m c t 0 e)
theorem w1_at (e : Fin 512) : w1 m c t (ix2 0 e) = (dat m c).Ws 1 e := (rR_at m c t 4 _ e).trans (ws_at m c t 1 e)
theorem w2_at (e : Fin 512) : w2 m c t (ix2 0 e) = (dat m c).Ws 2 e := (rR_at m c t 5 _ e).trans (ws_at m c t 2 e)
theorem g_at (e : Fin 512) : rR m c t 1 inb_S8x512_S1x512_1_0 (ix2 0 e) = (dat m c).lg e := (rR_at m c t 1 _ e).trans (lg_at m c t e)
theorem b_at (e : Fin 512) : rR m c t 2 inb_S8x512_S1x512_2_0 (ix2 0 e) = (dat m c).lb e := (rR_at m c t 2 _ e).trans (lb_at m c t e)

include hC

theorem cv_out (r e : Fin 512) :
    k0_pay217 (F := Ideal) (k0_pay215 (w0 m c t) (q0 m c t v1 QC) (w1 m c t) (q1 m c t v1 QC)) (w2 m c t) (q2 m c t v1 QC) (ix3 0 r e)
      = (dat m c).cv (bat t) (tok t r) e :=
  cvOut_at (backQ m c t hC v1 0 (by norm_num) _) (backQ m c t hC v1 1 (by norm_num) _) (backQ m c t hC v1 2 (by norm_num) _) (w0_at m c t) (w1_at m c t) (w2_at m c t) r e

variable {Q : Vec Ideal S32x512 .f32} (hQ : HeadA m c t Q) {κ0 κ2 κ3 : Kind} {sp0 sp2 sp3 : Space} {v0 : View sig κ0 sp0 S544x512 .f32}
  (v2 : View sig κ2 sp2 S7x536x512 .f32) {L : List (View.Piece (Elt Ideal) S544x512 .f32)} {L2 : List (View.Piece (Elt Ideal) S7x536x512 .f32)}
  (v3 : View sig κ3 sp3 S1x512x512 .f32)
  (hL : lstA m c t Q = L) (h2 : shL v0 L 7 = L2)

include hQ hL h2

theorem mx_out (r : Fin 512) (e : Fin 1024) :
    k0_pay219 (F := Ideal) (k0_pay218 (p2 m c t) (k0_pay215 (w0 m c t) (q0 m c t v1 QC) (w1 m c t) (q1 m c t v1 QC)) (w2 m c t) (q2 m c t v1 QC)
      (v3.readCov (sumL v0 v2 L L2 (rW m c t) (rR m c t 0 inb_S8x512_S1x512_0_0) 16)
        (Rect.unit (s := S1x512x512) ![0, 0, 0] ![1, 512, 512] inb_S1x512x512_S1x512x512_0_0_0).toLoadRect)
      (rR m c t 1 inb_S8x512_S1x512_1_0) (rR m c t 2 inb_S8x512_S1x512_2_0)) (ix3 0 r e)
      = (dat m c).mx (bat t) (tok t r) e :=
  mxOut_at (backQ m c t hC v1 0 (by norm_num) _) (backQ m c t hC v1 1 (by norm_num) _) (backQ m c t hC v1 2 (by norm_num) _) (w0_at m c t) (w1_at m c t) (w2_at m c t)
    (p2_at (x_at m c t) (sh_at m c t) (sc_at m c t) (wi_at m c t)) (a1_back m c t hQ v2 hL h2 v3) (g_at m c t) (b_at m c t) r e

theorem y_out (r : Fin 512) (d : Fin 1024) :
    k0_pay1 (F := Ideal) (k0_pay220 (k0_pay218 (p2 m c t) (k0_pay215 (w0 m c t) (q0 m c t v1 QC) (w1 m c t) (q1 m c t v1 QC)) (w2 m c t) (q2 m c t v1 QC)
      (v3.readCov (sumL v0 v2 L L2 (rW m c t) (rR m c t 0 inb_S8x512_S1x512_0_0) 16)
        (Rect.unit (s := S1x512x512) ![0, 0, 0] ![1, 512, 512] inb_S1x512x512_S1x512x512_0_0_0).toLoadRect)
      (rR m c t 1 inb_S8x512_S1x512_1_0) (rR m c t 2 inb_S8x512_S1x512_2_0)) (bO m c t)) (ix3 0 r d)
      = (dat m c).y (bat t) (tok t r) d :=
  y_at (backQ m c t hC v1 0 (by norm_num) _) (backQ m c t hC v1 1 (by norm_num) _) (backQ m c t hC v1 2 (by norm_num) _) (w0_at m c t) (w1_at m c t) (w2_at m c t)
    (p2_at (x_at m c t) (sh_at m c t) (sc_at m c t) (wi_at m c t)) (a1_back m c t hQ v2 hL h2 v3) (g_at m c t) (b_at m c t) (wo_at m c t) r d

end short

end Cert.Kernel3Ideal.Fwd
-- ==== Proof.FwdPt.lean ====
/-
  One point of the forward mixer kernel in each of its two cases: a batch element's first block of tokens, where the rows
  before the block are zero, and the other blocks, where they are read from what the point before left.
-/
module

public import proofs.«01_k».proof.Proof.FwdOut
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Fwd

open Cert.Kernel3Ideal Cert.Kernel3Ideal.Gen Cert.Kernel3Ideal.Pay Cert.Kernel3Ideal.Tap Cert.Fwd Cert.Rows

variable (m : (ℓ : Loc nD τ sig) → Buf (Elt Ideal) ℓ) (c : Dev nD) (t : Fin cfg0.N)

/-- What the point before left. -/
abbrev old (m : (ℓ : Loc nD τ sig) → Buf (Elt Ideal) ℓ) (c : Dev nD) (t : Fin cfg0.N) := outsAt0 m c (t.val - 1) (Nat.lt_of_le_of_lt (Nat.sub_le _ _) t.isLt)

theorem back0 (x : Vec Ideal S544x512 .f32) :
    View.read (Elt Ideal) (View.whole cc0_scratch0) ((Memref.isWhole_whole cc0_scratch0).unread x) = x := Memref.IsWhole.read_unread _ _
theorem back1 (x : Vec Ideal S520x512 .f32) :
    View.read (Elt Ideal) (View.whole cc0_scratch1) ((Memref.isWhole_whole cc0_scratch1).unread x) = x := Memref.IsWhole.read_unread _ _

/-- The point before left its rows of the two branches, where there is one in the same batch element. -/
structure Before : Prop where
  hA : ¬t.val % 8 = 0 → ∀ n e, (old m c t).2.2.2.2.2.1 (ix2 n e) = rowA (dat m c) (prev t) n.val e
  hQ : ¬t.val % 8 = 0 → ∀ n e, (old m c t).2.2.2.2.2.2 (ix2 n e) = rowQ (dat m c) (prev t) n.val e

variable {m c t}

theorem headA_old (ht : ¬t.val % 8 = 0) (ih : Before m c t) :
    HeadA m c t (k0_pay11 (F := Ideal) (View.ld (View.read (Elt Ideal) (View.whole cc0_scratch0)
      ((Memref.isWhole_whole cc0_scratch0).unread (old m c t).2.2.2.2.2.1)) (Rect.unit (s := S544x512) ![512, 0] ![32, 512] inb_S544x512_S32x512_512_0))) :=
  headA_prev m c t ht _ fun n e => by rw [back0]; exact ih.hA ht n e

theorem headQ_old (ht : ¬t.val % 8 = 0) (ih : Before m c t) :
    HeadQ m c t (k0_pay12 (F := Ideal) (View.ld (View.read (Elt Ideal) (View.whole cc0_scratch1)
      ((Memref.isWhole_whole cc0_scratch1).unread (old m c t).2.2.2.2.2.2)) (Rect.unit (s := S520x512) ![512, 0] ![8, 512] inb_S520x512_S8x512_512_0))) :=
  headQ_prev m c t ht _ fun n e => by rw [back1]; exact ih.hQ ht n e

variable (m c t)

/-- The two cases of a point. -/
theorem two : (t.val % 8 = 0 ∧ ¬1 ≤ t.val % 8) ∨ (¬t.val % 8 = 0 ∧ 1 ≤ t.val % 8) := by
  omega

attribute [local irreducible] View.readCov View.canon

theorem pj_pt (r : Fin 512) (e : Fin 2560) :
    (outsAt0 m c t.val t.isLt).1 (ix3 0 r e) = (dat m c).pj (bat t) (tok t r) e := by
  rcases two t with ⟨h0, h1⟩ | ⟨h0, h1⟩
  · refine (congrArg (fun p => p.1 (ix3 0 r e)) (outsAt0_A m c t h0 h1)).trans ?_
    dsimp only
    frame_open
    frame_out
    exact pjOut_at (x_at m c t) (sh_at m c t) (sc_at m c t) (wi_at m c t) r e
  · refine (congrArg (fun p => p.1 (ix3 0 r e)) (outsAt0_B m c t h0 h1)).trans ?_
    dsimp only
    frame_open
    frame_out
    exact pjOut_at (x_at m c t) (sh_at m c t) (sc_at m c t) (wi_at m c t) r e

theorem sA_pt (ih : Before m c t) (n : Fin 544) (e : Fin 512) :
    (outsAt0 m c t.val t.isLt).2.2.2.2.2.1 (ix2 n e) = rowA (dat m c) t n.val e := by
  rcases two t with ⟨h0, h1⟩ | ⟨h0, h1⟩ <;>
    [refine (congrArg (fun p => p.2.2.2.2.2.1 (ix2 n e)) (outsAt0_A m c t h0 h1)).trans ?_;
     refine (congrArg (fun p => p.2.2.2.2.2.1 (ix2 n e)) (outsAt0_B m c t h0 h1)).trans ?_]
  all_goals
    dsimp only
    frame_open
    frame_out
    first
      | exact lstA_at m c t (headA_zero m c t h0) n e
      | exact lstA_at m c t (headA_old h0 ih) n e

theorem sQ_pt (ih : Before m c t) (n : Fin 520) (e : Fin 512) :
    (outsAt0 m c t.val t.isLt).2.2.2.2.2.2 (ix2 n e) = rowQ (dat m c) t n.val e := by
  rcases two t with ⟨h0, h1⟩ | ⟨h0, h1⟩ <;>
    [refine (congrArg (fun p => p.2.2.2.2.2.2 (ix2 n e)) (outsAt0_A m c t h0 h1)).trans ?_;
     refine (congrArg (fun p => p.2.2.2.2.2.2 (ix2 n e)) (outsAt0_B m c t h0 h1)).trans ?_]
  all_goals
    dsimp only
    frame_open
    frame_out
    first
      | exact lstQ_at m c t (headQ_zero m c t h0) n e
      | exact lstQ_at m c t (headQ_old h0 ih) n e

end Cert.Kernel3Ideal.Fwd
-- ==== Proof.FwdRes.lean ====
/-
  The blocks of the forward mixer kernel's results that depend on the rows before: the conformer convolution, the short
  convolution, the mixed row and its projection.
-/
module

public import proofs.«01_k».proof.Proof.FwdPt

@[expose] public section

set_option maxRecDepth 16384

noncomputable section

open Idealize.ShloMosaic Idealize.ShloMosaic.TcCoe Idealize.SL.Sem
open Idealize.ShloMosaic.Pipeline (Dat)

namespace Cert.Kernel3Ideal.Fwd

open Cert.Kernel3Ideal Cert.Kernel3Ideal.Gen Cert.Kernel3Ideal.Pay Cert.Kernel3Ideal.Tap Cert.Fwd Cert.Rows

variable (m : (ℓ : Loc nD τ sig) → Buf (Elt Ideal) ℓ) (c : Dev nD) (t : Fin cfg0.N)

attribute [local irreducible] View.readCov View.canon

set_option maxHeartbeats 4000000 in
theorem a1_pt (ih : Before m c t) (r e : Fin 512) :
    (outsAt0 m c t.val t.isLt).2.1 (ix3 0 r e) = (dat m c).a1 (bat t) (tok t r) e := by
  rcases two t with ⟨h0, h1⟩ | ⟨h0, h1⟩ <;>
    [refine (congrArg (fun p => p.2.1 (ix3 0 r e)) (outsAt0_A m c t h0 h1)).trans ?_;
     refine (congrArg (fun p => p.2.1 (ix3 0 r e)) (outsAt0_B m c t h0 h1)).trans ?_]
  all_goals
    dsimp only
    frame_open
    frame_out
    first
      | exact a1_canon m c t (headA_zero m c t h0) _ rfl rfl r e
      | exact a1_canon m c t (headA_old h0 ih) _ rfl rfl r e

theorem cv_pt (ih : Before m c t) (r e : Fin 512) :
    (outsAt0 m c t.val t.isLt).2.2.1 (ix3 0 r e) = (dat m c).cv (bat t) (tok t r) e := by
  rcases two t with ⟨h0, h1⟩ | ⟨h0, h1⟩ <;>
    [refine (congrArg (fun p => p.2.2.1 (ix3 0 r e)) (outsAt0_A m c t h0 h1)).trans ?_;
     refine (congrArg (fun p => p.2.2.1 (ix3 0 r e)) (outsAt0_B m c t h0 h1)).trans ?_]
  all_goals
    dsimp only
    frame_open
    frame_out
    first
      | exact cv_out m c t (headQ_zero m c t h0) _ r e
      | exact cv_out m c t (headQ_old h0 ih) _ r e

set_option maxHeartbeats 4000000 in
theorem mx_pt (ih : Before m c t) (r : Fin 512) (e : Fin 1024) :
    (outsAt0 m c t.val t.isLt).2.2.2.1 (ix3 0 r e) = (dat m c).mx (bat t) (tok t r) e := by
  rcases two t with ⟨h0, h1⟩ | ⟨h0, h1⟩ <;>
    [refine (congrArg (fun p => p.2.2.2.1 (ix3 0 r e)) (outsAt0_A m c t h0 h1)).trans ?_;
     refine (congrArg (fun p => p.2.2.2.1 (ix3 0 r e)) (outsAt0_B m c t h0 h1)).trans ?_]
  all_goals
    dsimp only
    frame_open
    frame_out
    first
      | exact mx_out m c t (headQ_zero m c t h0) _ (headA_zero m c t h0) _ _ rfl rfl r e
      | exact mx_out m c t (headQ_old h0 ih) _ (headA_old h0 ih) _ _ rfl rfl r e

set_option maxHeartbeats 4000000 in
theorem y_pt (ih : Before m c t) (r : Fin 512) (d : Fin 1024) :
    (outsAt0 m c t.val t.isLt).2.2.2.2.1 (ix3 0 r d) = (dat m c).y (bat t) (tok t r) d := by
  rcases two t with ⟨h0, h1⟩ | ⟨h0, h1⟩ <;>
    [refine (congrArg (fun p => p.2.2.2.2.1 (ix3 0 r d)) (outsAt0_A m c t h0 h1)).trans ?_;
     refine (congrArg (fun p => p.2.2.2.2.1 (ix3 0 r d)) (outsAt0_B m c t h0 h1)).trans ?_]
  all_goals
    dsimp only
    frame_open
    frame_out
    first
      | exact y_out m c t (headQ_zero m c t h0) _ (headA_zero m c t h0) _ _ rfl rfl r d
      | exact y_out m c t (headQ_old h0 ih) _ (headA_old h0 ih) _ _ rfl rfl r d

end Cert.Kernel3Ideal.Fwd
-- ==== Proof.FwdArr.lean ====
/-
  What the forward mixer kernel leaves in its five result arrays: every block is the block of the array over the data.
-/
module

public import proofs.«01_k».proof.Proof.FwdRes
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.Fwd

open Cert.Kernel3Ideal Cert.Kernel3Ideal.Gen Cert.Fwd

variable (m : (ℓ : Loc nD τ sig) → Buf (Elt Ideal) ℓ) (c : Dev nD)

/-- The point before leaves its rows, point by point. -/
theorem before (n : ℕ) : ∀ t : Fin cfg0.N, t.val = n → Before m c t := by
  induction n with
  | zero => exact fun t ht => ⟨fun h => absurd (by rw [ht]) h, fun h => absurd (by rw [ht]) h⟩
  | succ n ih => exact fun t ht =>
      ⟨fun _ k e => sA_pt m c (prev t) (ih (prev t) (by show t.val - 1 = n; omega)) k e,
        fun _ k e => sQ_pt m c (prev t) (ih (prev t) (by show t.val - 1 = n; omega)) k e⟩

/-- Where a point writes. -/
theorem odx : ∀ t : Fin cfg0.N, win0_6.index t = ![t.val / 8, t.val % 8, 0] ∧ win0_7.index t = ![t.val / 8, t.val % 8, 0]
    ∧ win0_8.index t = ![t.val / 8, t.val % 8, 0] ∧ win0_9.index t = ![t.val / 8, t.val % 8, 0] ∧ win0_10.index t = ![t.val / 8, t.val % 8, 0] :=
  (by decide +kernel : ∀ t : Fin grid0.N, _)

theorem emb6 (t : Fin cfg0.N) (r : Fin 512) (e : Fin 2560) : (win0_6.blk t).view.emb (ix3 0 r e) = ix3 (bat t) (tok t r) e := by
  blk_ext! [odx t]
theorem emb7 (t : Fin cfg0.N) (r : Fin 512) (e : Fin 512) : (win0_7.blk t).view.emb (ix3 0 r e) = ix3 (bat t) (tok t r) e := by
  blk_ext! [odx t]
theorem emb8 (t : Fin cfg0.N) (r : Fin 512) (e : Fin 512) : (win0_8.blk t).view.emb (ix3 0 r e) = ix3 (bat t) (tok t r) e := by
  blk_ext! [odx t]
theorem emb9 (t : Fin cfg0.N) (r : Fin 512) (d : Fin 1024) : (win0_9.blk t).view.emb (ix3 0 r d) = ix3 (bat t) (tok t r) d := by
  blk_ext! [odx t]
theorem emb10 (t : Fin cfg0.N) (r : Fin 512) (d : Fin 1024) : (win0_10.blk t).view.emb (ix3 0 r d) = ix3 (bat t) (tok t r) d := by
  blk_ext! [odx t]

/-- An index of a block whose leading axis has extent one. -/
theorem lead {a b : ℕ} (y : (⟨3, ![1, a, b]⟩ : Shape).Idx) : ∃ (r : Fin a) (d : Fin b), y = ix3 0 r d :=
  ⟨y 1, y 2, by
    rw [eq_ix3 y]
    congr
    exact Fin.fin_one_eq_zero _⟩

theorem out6 : (dats m 0 c).arrAt 6 cfg0.N = (dat m c).arrPj := by
  refine (dats m 0 c).arrAt_eq_of_covers 6 _ (by decide +kernel) fun t hf y => ?_
  blk_simp
  rw [after0_6]
  obtain ⟨r, d, rfl⟩ := lead y
  exact (pj_pt m c t r d).trans (congrArg (dat m c).arrPj (emb6 t r d)).symm

theorem out7 : (dats m 0 c).arrAt 7 cfg0.N = (dat m c).arrA1 := by
  refine (dats m 0 c).arrAt_eq_of_covers 7 _ (by decide +kernel) fun t hf y => ?_
  blk_simp
  rw [after0_7]
  obtain ⟨r, d, rfl⟩ := lead y
  exact (a1_pt m c t (before m c _ t rfl) r d).trans (congrArg (dat m c).arrA1 (emb7 t r d)).symm

theorem out8 : (dats m 0 c).arrAt 8 cfg0.N = (dat m c).arrCv := by
  refine (dats m 0 c).arrAt_eq_of_covers 8 _ (by decide +kernel) fun t hf y => ?_
  blk_simp
  rw [after0_8]
  obtain ⟨r, d, rfl⟩ := lead y
  exact (cv_pt m c t (before m c _ t rfl) r d).trans (congrArg (dat m c).arrCv (emb8 t r d)).symm

theorem out9 : (dats m 0 c).arrAt 9 cfg0.N = (dat m c).arrMx := by
  refine (dats m 0 c).arrAt_eq_of_covers 9 _ (by decide +kernel) fun t hf y => ?_
  blk_simp
  rw [after0_9]
  obtain ⟨r, d, rfl⟩ := lead y
  exact (mx_pt m c t (before m c _ t rfl) r d).trans (congrArg (dat m c).arrMx (emb9 t r d)).symm

theorem out10 : (dats m 0 c).arrAt 10 cfg0.N = (dat m c).arrY := by
  refine (dats m 0 c).arrAt_eq_of_covers 10 _ (by decide +kernel) fun t hf y => ?_
  blk_simp
  rw [after0_10]
  obtain ⟨r, d, rfl⟩ := lead y
  exact (y_pt m c t (before m c _ t rfl) r d).trans (congrArg (dat m c).arrY (emb10 t r d)).symm

end Cert.Kernel3Ideal.Fwd

end
-- ==== Proof.WgSpec.lean ====
/-
  The gradient of the up projection's weights: the product of the hidden cotangents and the modulated rows over all tokens
  of both sequences, over the extended reals.
-/
module

public import Idealize.ShloMosaic.Lib.Pointwise

@[expose] public section

noncomputable section

open Idealize.ShloMosaic

namespace Cert.Wg

/-- The two arguments: the hidden layer's cotangents and the rows the up projection read. -/
structure Data where
  Z : Fin 2 → Fin 4096 → Fin 4096 → EReal
  H : Fin 2 → Fin 4096 → Fin 1024 → EReal

abbrev Data.of (z : (⟨3, ![2, 4096, 4096]⟩ : Shape).Idx → EReal) (h : (⟨3, ![2, 4096, 1024]⟩ : Shape).Idx → EReal) : Data where
  Z b t i := z (ix3 b t i)
  H b t j := h (ix3 b t j)

/-- The gradient at an index. -/
def Data.g (D : Data) (i : Fin 4096) (j : Fin 1024) : EReal := ∑ b, ∑ t, D.Z b t i * D.H b t j

/-- The gradient as an array. -/
def Data.arr (D : Data) : (⟨2, ![4096, 1024]⟩ : Shape).Idx → EReal := fun y => D.g (y 0) (y 1)

end Cert.Wg

end
-- ==== Proof.WgRef.lean ====
/-
  The weights' gradient as the reference's derivative of the product leaves it.
-/
module

public import proofs.«01_k».proof.Proof.WgSpec
public import proofs.«01_k».proof.Proof.Gen.Reference4Ideal.Run

@[expose] public section

set_option maxRecDepth 16384

noncomputable section

open Idealize.ShloMosaic Idealize.ShloMosaic.TcCoe Idealize.SL.Sem

namespace Cert.Reference4Ideal.Wg

open Cert.Reference4Ideal Cert.Reference4Ideal.Gen Cert.Wg

theorem out_at (z : FVec Ideal S2x4096x4096 .bf16) (h : FVec Ideal S2x4096x1024 .bf16) :
    truncf .bf16 (transpose S4096x1024 [1, 0] (transpose S1024x4096 [1, 0]
      (Host.dotGeneral dot_S2x4096x4096_S2x4096x1024_S4096x1024_01_01_2_2_n_n none (extf .f32 z bitsLt_bf16_f32) (extf .f32 h bitsLt_bf16_f32))
      transposes_S4096x1024_S1024x4096_1_0) transposes_S1024x4096_S4096x1024_1_0) bitsLt_bf16_f32 = (Data.of z h).arr := by
  funext y
  obtain ⟨i, j, rfl⟩ : ∃ (i : Fin 4096) (j : Fin 1024), y = ix2 i j := ⟨y 0, y 1, eq_ix2 y⟩
  pointwise []
  rfl

end Cert.Reference4Ideal.Wg

end
-- ==== Proof.WgArr.lean ====
/-
  The weights' gradient kernel: each block of rows adds up, over four points, the products of the blocks of tokens, and
  writes the sum at the last of them.
-/
module

public import proofs.«01_k».proof.Proof.WgSpec
public import proofs.«01_k».proof.Proof.Gen.Kernel4Ideal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Wg

open Cert.Kernel4Ideal Cert.Kernel4Ideal.Gen Cert.Wg

/-! ## A point's arithmetic -/

theorem zero_at (r : Fin 1024) (j : Fin 1024) : k0_pay1 (F := Ideal) (ix2 r j) = 0 := by
  pointwise [k0_pay1]

theorem step_at (acc : Vec Ideal S1024x1024 .f32) (a b : Vec Ideal S2048x1024 .bf16) (r j : Fin 1024) :
    k0_pay2 acc a b (ix2 r j) = acc (ix2 r j) + ∑ k : Fin 2048, a (ix2 k r) * b (ix2 k j) := by
  pointwise [k0_pay2]

theorem last_at (acc : Vec Ideal S1024x1024 .f32) (r j : Fin 1024) : k0_pay3 acc (ix2 r j) = acc (ix2 r j) := by
  pointwise [k0_pay3]

/-! ## The blocks -/

variable (m : (ℓ : Loc nD τ sig) → Buf (Elt Ideal) ℓ) (c : Dev nD)

/-- The data of the kernel's arguments. -/
abbrev dat : Data := Data.of (m ((c.tc : Thread nD τ).loc main_arg0)) (m ((c.tc : Thread nD τ).loc main_arg1))

/-- The sequence, the tokens and the weights' rows of a grid point. -/
abbrev bat (t : Fin cfg0.N) : Fin 2 := ⟨t.val % 4 / 2, by omega⟩
abbrev tok (t : Fin cfg0.N) (k : Fin 2048) : Fin 4096 := ⟨t.val % 4 % 2 * 2048 + k.val, by omega⟩
abbrev row (t : Fin cfg0.N) (r : Fin 1024) : Fin 4096 := ⟨t.val / 4 * 1024 + r.val, by have h := t.isLt; change t.val < 16 at h; omega⟩
abbrev flat (t : Fin cfg0.N) (k : Fin 2048) : Fin 8192 := ⟨t.val % 4 * 2048 + k.val, by omega⟩

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem v0_at (b : Fin 2) (t : Fin 4096) (i : Fin 4096) (n : Fin 8192) (hn : n.val = b.val * 4096 + t.val) :
    (V m c main_v0 : Vec Ideal S8192x4096 .bf16) (ix2 n i) = (dat m c).Z b t i := by
  unfold V
  after_reads_at
  exact congrArg₂ (fun b t => (dat m c).Z b t i) (Fin.ext (by simp only; omega)) (Fin.ext (by simp only; omega))

theorem v1_at (b : Fin 2) (t : Fin 4096) (j : Fin 1024) (n : Fin 8192) (hn : n.val = b.val * 4096 + t.val) :
    (V m c main_v1 : Vec Ideal S8192x1024 .bf16) (ix2 n j) = (dat m c).H b t j := by
  unfold V
  after_reads_at
  exact congrArg₂ (fun b t => (dat m c).H b t j) (Fin.ext (by simp only; omega)) (Fin.ext (by simp only; omega))

variable (t : Fin cfg0.N)

theorem z_at (k : Fin 2048) (r : Fin 1024) : (iblk m c 0 t : Vec Ideal S2048x1024 .bf16) (ix2 k r) = (dat m c).Z (bat t) (tok t k) (row t r) := by
  rw [← v0_at m c (bat t) (tok t k) (row t r) (flat t k) (by simp only; omega)]
  blk_ext! [iblk, idx t]

theorem h_at (k : Fin 2048) (j : Fin 1024) : (iblk m c 1 t : Vec Ideal S2048x1024 .bf16) (ix2 k j) = (dat m c).H (bat t) (tok t k) j := by
  rw [← v1_at m c (bat t) (tok t k) j (flat t k) (by simp only; omega)]
  blk_ext! [iblk, idx t]

/-! ## The points -/

/-- What a point adds. -/
def part (r j : Fin 1024) : EReal := ∑ k : Fin 2048, (dat m c).Z (bat t) (tok t k) (row t r) * (dat m c).H (bat t) (tok t k) j

theorem back (x : Vec Ideal S1024x1024 .f32) :
    View.read (Elt Ideal) (View.whole cc0_scratch0) ((Memref.isWhole_whole cc0_scratch0).unread x) = x := Memref.IsWhole.read_unread _ _

theorem add_at (acc : Vec Ideal S1024x1024 .f32) (r j : Fin 1024) :
    k0_pay2 acc (iblk m c 0 t) (iblk m c 1 t) (ix2 r j) = acc (ix2 r j) + part m c t r j := by
  rw [step_at]
  exact congrArg _ (Finset.sum_congr rfl fun k _ => congrArg₂ (· * ·) (z_at m c t k r) (h_at m c t k j))

attribute [local irreducible] View.readCov View.canon

theorem acc_first (h0 : t.val % 4 = 0) (r j : Fin 1024) : (outsAt0 m c t.val t.isLt).2 (ix2 r j) = 0 + part m c t r j := by
  refine (congrArg (fun p => p.2 (ix2 r j)) (outsAt0_A m c t h0 (by omega))).trans ?_
  dsimp only
  frame_open
  frame_out
  exact (add_at m c t _ r j).trans (congrArg (· + _) (zero_at r j))

theorem acc_next (h0 : ¬t.val % 4 = 0) (r j : Fin 1024) : (outsAt0 m c t.val t.isLt).2 (ix2 r j)
    = (outsAt0 m c (t.val - 1) (Nat.lt_of_le_of_lt (Nat.sub_le _ _) t.isLt)).2 (ix2 r j) + part m c t r j := by
  by_cases h1 : t.val % 4 = 3 <;>
    [refine (congrArg (fun p => p.2 (ix2 r j)) (outsAt0_C m c t h0 h1)).trans ?_;
     refine (congrArg (fun p => p.2 (ix2 r j)) (outsAt0_B m c t h0 h1)).trans ?_]
  all_goals
    dsimp only
    frame_open
    frame_out
    refine (add_at m c t _ r j).trans (congrArg (· + _) ?_)
    rw [back]

theorem out_last (h1 : t.val % 4 = 3) (r j : Fin 1024) : (outsAt0 m c t.val t.isLt).1 (ix2 r j) = (outsAt0 m c t.val t.isLt).2 (ix2 r j) := by
  have e := outsAt0_C m c t (by omega) h1
  refine (congrArg (fun p => p.1 (ix2 r j)) e).trans (Eq.trans ?_ (congrArg (fun p => p.2 (ix2 r j)) e).symm)
  dsimp only
  frame_open
  frame_out
  exact last_at _ r j

/-- The four points of a block of rows hold all tokens. -/
theorem acc_all (h1 : t.val % 4 = 3) (r j : Fin 1024) : (outsAt0 m c t.val t.isLt).2 (ix2 r j) = (dat m c).g (row t r) j := by
  refine (Pipeline.eq_sum_fin_of_reset_step_of_flush (fun n h => (outsAt0 m c n h).2 (ix2 r j)) 4 0 (fun t => part m c t r j)
    (fun t h => acc_first m c t h r j) (fun t h => acc_next m c t h r j) t h1).trans ((zero_add _).trans ?_)
  refine Eq.trans (Finset.sum_congr rfl fun s _ => ?_)
    (Fin.sum_points_lanes_fin (N := 4) (n := 2048) 2 fun b l => (dat m c).Z b l (row t r) * (dat m c).H b l j)
  refine Finset.sum_congr rfl fun k _ => ?_
  have eb : bat ⟨4 * (t.val / 4) + s.val, Pipeline.run_point_lt_of_flush t h1 s⟩ = ⟨s.val / 2, by omega⟩ := Fin.ext (by simp only; omega)
  have et : tok ⟨4 * (t.val / 4) + s.val, Pipeline.run_point_lt_of_flush t h1 s⟩ k = ⟨s.val % 2 * 2048 + k.val, by omega⟩ :=
    Fin.ext (by simp only; omega)
  have er : row ⟨4 * (t.val / 4) + s.val, Pipeline.run_point_lt_of_flush t h1 s⟩ r = row t r := Fin.ext (by simp only; omega)
  rw [eb, et, er]

theorem emb (r j : Fin 1024) : (win0_2.blk t).view.emb (ix2 r j) = ix2 (row t r) j := by
  blk_ext! [idx t]

theorem out2 : (dats m 0 c).arrAt 2 cfg0.N = (dat m c).arr := by
  refine (dats m 0 c).arrAt_eq_of_covers 2 _ (by decide +kernel) fun t hf y => ?_
  blk_simp
  rw [after0_2]
  obtain ⟨r, j, rfl⟩ : ∃ (r : Fin 1024) (j : Fin 1024), y = ix2 r j := ⟨y 0, y 1, eq_ix2 y⟩
  exact ((out_last m c t ((flush0_2 t).mp hf) r j).trans (acc_all m c t ((flush0_2 t).mp hf) r j)).trans
    (congrArg (dat m c).arr (emb t r j)).symm

end Cert.Kernel4Ideal.Wg

end
-- ==== Proof.AdaSpec.lean ====
/-
  The modulation of one device, the gradient of its weight, a sum of four partial sums, and the AdamW step of a weight,
  over the extended reals.
-/
module

public import Idealize.ShloMosaic.Lib.Pointwise

@[expose] public section

noncomputable section

open Idealize.ShloMosaic

namespace Cert.Ada

/-- The swish of a conditioning entry. -/
def swish (z : EReal) : EReal := z * Ideal.div 1 (1 + Ideal.exp (-z))

/-- Sixteen entries, two of each of eight devices, laid out eight to a device, zero where a device has none. -/
def padded (f : Fin 16 → EReal) (n : Fin 64) : EReal := if h : n.val % 8 < 2 then f ⟨n.val / 8 * 2 + n.val % 8, by omega⟩ else 0

theorem padded_of (f : Fin 16 → EReal) (p q : Fin 8) (z : EReal) (hz : z = 0) :
    (if h : q.val < 2 then f ⟨p.val * 2 + q.val, by omega⟩ else z) = padded f ⟨p.val * 8 + q.val, by omega⟩ := by
  have e1 : (p.val * 8 + q.val) / 8 = p.val := by omega
  have e2 : (p.val * 8 + q.val) % 8 = q.val := by omega
  unfold padded
  simp only [e1, e2, hz]

/-- The integer zero the padding is made of. -/
theorem zero_int : (FloatOps.sitofp (F := Ideal) .f32 (0#32 : BitVec 32) : EReal) = 0 := by
  show (((0#32 : BitVec 32).toInt : ℝ) : EReal) = 0
  norm_num

/-- The padding rows add nothing to a product over the rows. -/
theorem sum_padded (f g : Fin 16 → EReal) : (∑ n, swish (padded f n) * padded g n) = ∑ b, g b * swish (f b) := by
  refine (Fintype.sum_of_injective (fun b : Fin 16 => (⟨b.val / 2 * 8 + b.val % 2, by omega⟩ : Fin 64)) ?_ _ _ ?_ ?_).symm
  · intro a b h
    have h' := congrArg Fin.val h
    simp only at h'
    exact Fin.ext (by omega)
  · intro n hn
    have : ¬n.val % 8 < 2 := fun h => hn ⟨⟨n.val / 8 * 2 + n.val % 8, by omega⟩, Fin.ext (by simp only; omega)⟩
    unfold padded
    rw [dif_neg this, dif_neg this, mul_zero]
  · intro b
    have h : (b.val / 2 * 8 + b.val % 2) % 8 < 2 := by omega
    have e : (⟨(b.val / 2 * 8 + b.val % 2) / 8 * 2 + (b.val / 2 * 8 + b.val % 2) % 8, by omega⟩ : Fin 16) = b :=
      Fin.ext (by simp only; omega)
    unfold padded
    simp only [dif_pos h, e]
    exact mul_comm _ _

/-- The first moment, the second moment and the step that AdamW leaves of a weight's entry. -/
def fst (g m : EReal) : EReal := Ideal.ofBits .f32 0x3F666666#32 * m + Ideal.ofBits .f32 0x3DCCCCCD#32 * g
def snd (g v : EReal) : EReal := Ideal.ofBits .f32 0x3F7FBE77#32 * v + Ideal.ofBits .f32 0x3A83126F#32 * (g * g)
def stp (w g m v : EReal) : EReal :=
  Ideal.ofBits .f32 0xBA83126F#32 * (Ideal.div (Ideal.div (fst g m) (Ideal.ofBits .f32 0x3F26BD02#32))
    (Ideal.sqrt (Ideal.div (snd g v) (Ideal.ofBits .f32 0x3C231ACC#32)) + Ideal.ofBits .f32 0x322BCC77#32)
      + Ideal.ofBits .f32 0x3C23D70A#32 * w)

/-- An array of two axes by its entries, and the entries of an array with one leading block. -/
abbrev Two (p q : ℕ) : Type := (⟨2, ![p, q]⟩ : Shape).Idx → EReal
abbrev One (p q : ℕ) : Type := (⟨3, ![1, p, q]⟩ : Shape).Idx → EReal
def two {p q : ℕ} (f : Fin p → Fin q → EReal) : Two p q := fun y => f (y 0) (y 1)

/-- The four arrays of a weight's AdamW call, from its gradient. -/
def grad {p q : ℕ} (g : Fin p → Fin q → EReal) : Two p q := two g
def delta {p q : ℕ} (g : Fin p → Fin q → EReal) (w m v : One p q) : Two p q :=
  two fun i j => stp (w (ix3 0 i j)) (g i j) (m (ix3 0 i j)) (v (ix3 0 i j))
def first {p q : ℕ} (g : Fin p → Fin q → EReal) (m : One p q) : Two p q := two fun i j => fst (g i j) (m (ix3 0 i j))
def second {p q : ℕ} (g : Fin p → Fin q → EReal) (v : One p q) : Two p q := two fun i j => snd (g i j) (v (ix3 0 i j))

/-- The modulation's columns at a padded row. -/
def cols (c : Two 16 1024) (w : One 1024 768) (b : Two 1 768) : Two 64 768 :=
  two fun n e => (∑ d, swish (padded (fun r => c (ix2 r d)) n) * w (ix3 0 d e)) + b (ix2 0 e)

/-- The gradient of the modulation's weight. -/
def wgrad (c : Two 16 1024) (dm : Two 16 768) (d : Fin 1024) (e : Fin 768) : EReal := ∑ b, dm (ix2 b e) * swish (c (ix2 b d))

/-- The sum of four partial sums, transposed. -/
def total (s : (⟨3, ![4, 512, 1024]⟩ : Shape).Idx → EReal) (i : Fin 1024) (j : Fin 512) : EReal := ∑ k, s (ix3 k j i)

end Cert.Ada

end
-- ==== Proof.AdaRef.lean ====
/-
  The modulation's columns, the gradient of its weight and the AdamW steps as the references leave them.
-/
module

public import proofs.«01_k».proof.Proof.AdaSpec
public import proofs.«01_k».proof.Proof.Gen.Reference5Ideal.Run
public import proofs.«01_k».proof.Proof.Gen.Reference6Ideal.Run
public import proofs.«01_k».proof.Proof.Gen.Reference7Ideal.Run

@[expose] public section

set_option maxRecDepth 16384

noncomputable section

open Idealize.ShloMosaic Idealize.ShloMosaic.TcCoe Idealize.SL.Sem

namespace Cert.Reference6Ideal.Ada

open Cert.Reference6Ideal Cert.Reference6Ideal.Gen Cert.Ada

variable (c : FVec Ideal S16x1024 .f32) (dm : FVec Ideal S16x768 .f32) (w m v : FVec Ideal S1x1024x768 .f32)

/-- The gradient's term. -/
abbrev gT : FVec Ideal S1024x768 .f32 :=
  transpose S1024x768 [1, 0] (Host.dotGeneral dot_S16x768_S16x1024_S768x1024_0_0_1_1_n_n none dm (mulf c (Host.divf (broadcastInDim S16x1024 ![] bcast_S_S16x1024 (constant S_ .f32 0x3F800000#32)) (addf (broadcastInDim S16x1024 ![] bcast_S_S16x1024 (constant S_ .f32 0x3F800000#32)) (Host.exp (Host.negf c)))))) transposes_S768x1024_S1024x768_1_0

theorem g_at (i : Fin 1024) (j : Fin 768) : gT c dm (ix2 i j) = wgrad c dm i j := by
  pointwise [gT]
  rfl

theorem grad_eq : gT c dm = grad (wgrad c dm) := by
  funext y
  obtain ⟨i, j, rfl⟩ : ∃ (i : Fin 1024) (j : Fin 768), y = ix2 i j := ⟨y 0, y 1, eq_ix2 y⟩
  exact g_at c dm i j

/-- The moments' terms, from the gradient's. -/
abbrev mT (g : FVec Ideal S1024x768 .f32) : FVec Ideal S1024x768 .f32 :=
  addf (mulf (broadcastInDim S1024x768 ![] bcast_S_S1024x768 (constant S_ .f32 0x3F666666#32)) (shapeCast _ m shapeCasts_S1x1024x768_S1024x768)) (mulf (broadcastInDim S1024x768 ![] bcast_S_S1024x768 (constant S_ .f32 0x3DCCCCCD#32)) g)
abbrev vT (g : FVec Ideal S1024x768 .f32) : FVec Ideal S1024x768 .f32 :=
  addf (mulf (broadcastInDim S1024x768 ![] bcast_S_S1024x768 (constant S_ .f32 0x3F7FBE77#32)) (shapeCast _ v shapeCasts_S1x1024x768_S1024x768)) (mulf (broadcastInDim S1024x768 ![] bcast_S_S1024x768 (constant S_ .f32 0x3A83126F#32)) (mulf g g))
/-- The step's term. -/
abbrev dT (g : FVec Ideal S1024x768 .f32) : FVec Ideal S1024x768 .f32 :=
  mulf (broadcastInDim S1024x768 ![] bcast_S_S1024x768 (constant S_ .f32 0xBA83126F#32)) (addf (Host.divf (Host.divf (mT m g) (broadcastInDim S1024x768 ![] bcast_S_S1024x768 (constant S_ .f32 0x3F26BD02#32))) (addf (Host.sqrt (Host.divf (vT v g) (broadcastInDim S1024x768 ![] bcast_S_S1024x768 (constant S_ .f32 0x3C231ACC#32)))) (broadcastInDim S1024x768 ![] bcast_S_S1024x768 (constant S_ .f32 0x322BCC77#32)))) (mulf (broadcastInDim S1024x768 ![] bcast_S_S1024x768 (constant S_ .f32 0x3C23D70A#32)) (shapeCast _ w shapeCasts_S1x1024x768_S1024x768)))

variable (g : Fin 1024 → Fin 768 → EReal)

theorem first_eq : mT m (grad g) = first g m := by
  funext y
  obtain ⟨i, j, rfl⟩ : ∃ (i : Fin 1024) (j : Fin 768), y = ix2 i j := ⟨y 0, y 1, eq_ix2 y⟩
  pointwise [mT]
  rfl

theorem second_eq : vT v (grad g) = second g v := by
  funext y
  obtain ⟨i, j, rfl⟩ : ∃ (i : Fin 1024) (j : Fin 768), y = ix2 i j := ⟨y 0, y 1, eq_ix2 y⟩
  pointwise [vT]
  rfl

theorem delta_eq : dT w m v (grad g) = delta g w m v := by
  unfold dT
  rw [first_eq, second_eq]
  funext y
  obtain ⟨i, j, rfl⟩ : ∃ (i : Fin 1024) (j : Fin 768), y = ix2 i j := ⟨y 0, y 1, eq_ix2 y⟩
  pointwise []
  rfl

end Cert.Reference6Ideal.Ada

namespace Cert.Reference5Ideal.Ada

open Cert.Reference5Ideal Cert.Reference5Ideal.Gen Cert.Ada

variable (c : FVec Ideal S16x1024 .f32) (w : FVec Ideal S1x1024x768 .f32) (b : FVec Ideal S1x768 .f32)

theorem pad_at (p q : Fin 8) (d : Fin 1024) :
    pad S8x8x1024 ![0, 0, 0] ![0, 6, 0] ![0, 0, 0] (shapeCast _ c shapeCasts_S16x1024_S8x2x1024) (sitofp (F := Ideal) .f32 (constantI S_ 32 0#32)) pads_S8x2x1024_S8x8x1024_000_060_000 h_S_ (ix3 p q d) = padded (fun r => c (ix2 r d)) ⟨p.val * 8 + q.val, by omega⟩ := by
  pointwise []
  exact padded_of (fun r => c (ix2 r d)) p q _ zero_int

theorem out_at : shapeCast _ (addf (Host.dotGeneral dot_S8x8x1024_S1024x768_S8x8x768_2_0_01_1_n_n none (mulf (pad S8x8x1024 ![0, 0, 0] ![0, 6, 0] ![0, 0, 0] (shapeCast _ c shapeCasts_S16x1024_S8x2x1024) (sitofp .f32 (constantI S_ 32 0#32)) pads_S8x2x1024_S8x8x1024_000_060_000 h_S_) (Host.divf (broadcastInDim S8x8x1024 ![] bcast_S_S8x8x1024 (constant S_ .f32 0x3F800000#32)) (addf (broadcastInDim S8x8x1024 ![] bcast_S_S8x8x1024 (constant S_ .f32 0x3F800000#32)) (Host.exp (Host.negf (pad S8x8x1024 ![0, 0, 0] ![0, 6, 0] ![0, 0, 0] (shapeCast _ c shapeCasts_S16x1024_S8x2x1024) (sitofp .f32 (constantI S_ 32 0#32)) pads_S8x2x1024_S8x8x1024_000_060_000 h_S_)))))) (shapeCast _ w shapeCasts_S1x1024x768_S1024x768)) (broadcastInDim S8x8x768 ![0, 1, 2] bcast_S1x1x768_S8x8x768_0_1_2 (broadcastInDim S1x1x768 ![2] bcast_S768_S1x1x768_2 (shapeCast _ b shapeCasts_S1x768_S768)))) shapeCasts_S8x8x768_S64x768 = cols c w b := by
  have hp := pad_at c
  generalize pad S8x8x1024 ![0, 0, 0] ![0, 6, 0] ![0, 0, 0] (shapeCast _ c shapeCasts_S16x1024_S8x2x1024) (sitofp (F := Ideal) .f32 (constantI S_ 32 0#32)) pads_S8x2x1024_S8x8x1024_000_060_000 h_S_ = x at hp ⊢
  funext y
  obtain ⟨n, e, rfl⟩ : ∃ (n : Fin 64) (e : Fin 768), y = ix2 n e := ⟨y 0, y 1, eq_ix2 y⟩
  pointwise []
  simp only [hp]
  have en : (⟨n.val / 8 * 8 + n.val % 8, by omega⟩ : Fin 64) = n := Fin.ext (by simp only; omega)
  simp only [en]
  rfl

end Cert.Reference5Ideal.Ada

namespace Cert.Reference7Ideal.Ada

open Cert.Reference7Ideal Cert.Reference7Ideal.Gen Cert.Ada

variable (s : FVec Ideal S4x512x1024 .bf16) (w m v : FVec Ideal S1x1024x512 .f32)

/-- The sum's term. -/
abbrev gT : FVec Ideal S1024x512 .f32 :=
  transpose S1024x512 [1, 0] (Host.reduceAdd (extf .f32 s bitsLt_bf16_f32) (constant S_ .f32 0x00000000#32) reducesTo_S4x512x1024_S512x1024_d0 h_S_) transposes_S512x1024_S1024x512_1_0

theorem grad_eq : gT s = grad (total s) := by
  funext y
  obtain ⟨i, j, rfl⟩ : ∃ (i : Fin 1024) (j : Fin 512), y = ix2 i j := ⟨y 0, y 1, eq_ix2 y⟩
  pointwise [gT]
  rfl

/-- The moments' terms, from the gradient's. -/
abbrev mT (g : FVec Ideal S1024x512 .f32) : FVec Ideal S1024x512 .f32 :=
  addf (mulf (broadcastInDim S1024x512 ![] bcast_S_S1024x512 (constant S_ .f32 0x3F666666#32)) (shapeCast _ m shapeCasts_S1x1024x512_S1024x512)) (mulf (broadcastInDim S1024x512 ![] bcast_S_S1024x512 (constant S_ .f32 0x3DCCCCCD#32)) g)
abbrev vT (g : FVec Ideal S1024x512 .f32) : FVec Ideal S1024x512 .f32 :=
  addf (mulf (broadcastInDim S1024x512 ![] bcast_S_S1024x512 (constant S_ .f32 0x3F7FBE77#32)) (shapeCast _ v shapeCasts_S1x1024x512_S1024x512)) (mulf (broadcastInDim S1024x512 ![] bcast_S_S1024x512 (constant S_ .f32 0x3A83126F#32)) (mulf g g))
/-- The step's term. -/
abbrev dT (g : FVec Ideal S1024x512 .f32) : FVec Ideal S1024x512 .f32 :=
  mulf (broadcastInDim S1024x512 ![] bcast_S_S1024x512 (constant S_ .f32 0xBA83126F#32)) (addf (Host.divf (Host.divf (mT m g) (broadcastInDim S1024x512 ![] bcast_S_S1024x512 (constant S_ .f32 0x3F26BD02#32))) (addf (Host.sqrt (Host.divf (vT v g) (broadcastInDim S1024x512 ![] bcast_S_S1024x512 (constant S_ .f32 0x3C231ACC#32)))) (broadcastInDim S1024x512 ![] bcast_S_S1024x512 (constant S_ .f32 0x322BCC77#32)))) (mulf (broadcastInDim S1024x512 ![] bcast_S_S1024x512 (constant S_ .f32 0x3C23D70A#32)) (shapeCast _ w shapeCasts_S1x1024x512_S1024x512)))

variable (g : Fin 1024 → Fin 512 → EReal)

theorem first_eq : mT m (grad g) = first g m := by
  funext y
  obtain ⟨i, j, rfl⟩ : ∃ (i : Fin 1024) (j : Fin 512), y = ix2 i j := ⟨y 0, y 1, eq_ix2 y⟩
  pointwise [mT]
  rfl

theorem second_eq : vT v (grad g) = second g v := by
  funext y
  obtain ⟨i, j, rfl⟩ : ∃ (i : Fin 1024) (j : Fin 512), y = ix2 i j := ⟨y 0, y 1, eq_ix2 y⟩
  pointwise [vT]
  rfl

theorem delta_eq : dT w m v (grad g) = delta g w m v := by
  unfold dT
  rw [first_eq, second_eq]
  funext y
  obtain ⟨i, j, rfl⟩ : ∃ (i : Fin 1024) (j : Fin 512), y = ix2 i j := ⟨y 0, y 1, eq_ix2 y⟩
  pointwise []
  rfl

end Cert.Reference7Ideal.Ada

end
-- ==== Proof.AdaMod.lean ====
/-
  The modulation's columns as the gathering call leaves them.
-/
module

public import proofs.«01_k».proof.Proof.AdaSpec
public import proofs.«01_k».proof.Proof.Gen.Kernel5Ideal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Ada

open Cert.Kernel5Ideal Cert.Kernel5Ideal.Gen Cert.Ada

theorem pay_at (x : Vec Ideal S8x8x1024 .f32) (w : Vec Ideal S1024x768 .f32) (b : Vec Ideal S1x768 .f32) (n : Fin 64) (e : Fin 768) :
    k0_pay1 x w b (ix2 n e) = (∑ d : Fin 1024, swish (x (ix3 ⟨n.val / 8, by omega⟩ ⟨n.val % 8, by omega⟩ d)) * w (ix2 d e)) + b (ix2 0 e) := by
  pointwise [k0_pay1]
  rfl

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] :=
  (by decide +kernel : ∀ t : Fin grid0.N, _)

theorem v1_at (p q : Fin 8) (d : Fin 1024) : (V m c main_v1 : Vec Ideal S8x8x1024 .f32) (ix3 p q d)
    = padded (fun r => (m ((c.tc : Thread nD τ).loc main_arg0) : Vec Ideal S16x1024 .f32) (ix2 r d)) ⟨p.val * 8 + q.val, by omega⟩ := by
  unfold V
  after_reads_at
  exact padded_of (fun r => (m ((c.tc : Thread nD τ).loc main_arg0) : Vec Ideal S16x1024 .f32) (ix2 r d)) p q _ zero_int

theorem v2_at (d : Fin 1024) (e : Fin 768) : (V m c main_v2 : Vec Ideal S1024x768 .f32) (ix2 d e)
    = (m ((c.tc : Thread nD τ).loc main_arg1) : Vec Ideal S1x1024x768 .f32) (ix3 0 d e) := by
  unfold V
  after_reads_at

variable (t : Fin cfg0.N)

theorem x_at (p q : Fin 8) (d : Fin 1024) : (iblk m c 0 t : Vec Ideal S8x8x1024 .f32) (ix3 p q d)
    = padded (fun r => (m ((c.tc : Thread nD τ).loc main_arg0) : Vec Ideal S16x1024 .f32) (ix2 r d)) ⟨p.val * 8 + q.val, by omega⟩ := by
  rw [← v1_at m c]
  blk_ext! [iblk, idx t]

theorem w_at (d : Fin 1024) (e : Fin 768) : (iblk m c 1 t : Vec Ideal S1024x768 .f32) (ix2 d e)
    = (m ((c.tc : Thread nD τ).loc main_arg1) : Vec Ideal S1x1024x768 .f32) (ix3 0 d e) := by
  rw [← v2_at m c]
  blk_ext! [iblk, idx t]

theorem b_at (e : Fin 768) : (iblk m c 2 t : Vec Ideal S1x768 .f32) (ix2 0 e)
    = (m ((c.tc : Thread nD τ).loc main_arg2) : Vec Ideal S1x768 .f32) (ix2 0 e) := by
  rw [← V_main_arg2 m c]
  blk_ext! [iblk, idx t]

theorem emb (n : Fin 64) (e : Fin 768) : (win0_3.blk t).view.emb (ix2 n e) = ix2 n e := by
  blk_ext! [idx t]

theorem out3 : (dats m 0 c).arrAt 3 cfg0.N = cols (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  blk_simp
  rw [after0_3]
  obtain ⟨n, e, rfl⟩ : ∃ (n : Fin 64) (e : Fin 768), y = ix2 n e := ⟨y 0, y 1, eq_ix2 y⟩
  refine Eq.trans ?_ (congrArg (cols _ _ _) (emb t n e)).symm
  unfold out0_3
  frame_out
  rw [pay_at, b_at]
  have en : (⟨n.val / 8 * 8 + n.val % 8, by omega⟩ : Fin 64) = n := Fin.ext (by simp only; omega)
  simp only [x_at, w_at, en]
  rfl

end Cert.Kernel5Ideal.Ada

end
-- ==== Proof.AdaGrad.lean ====
/-
  The gradient of the modulation's weight and its AdamW step as the call leaves them: a block of the weight's rows at a point.
-/
module

public import proofs.«01_k».proof.Proof.AdaSpec
public import proofs.«01_k».proof.Proof.Gen.Kernel6Ideal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel6Ideal.Ada

open Cert.Kernel6Ideal Cert.Kernel6Ideal.Gen Cert.Ada

/-! ## A point's arithmetic -/

section
variable (x : Vec Ideal S64x256 .f32) (dm : Vec Ideal S64x768 .f32) (w m v : Vec Ideal S256x768 .f32) (r : Fin 256) (e : Fin 768)

theorem grad_at : k0_pay1 x dm (ix2 r e) = ∑ n : Fin 64, swish (x (ix2 n r)) * dm (ix2 n e) := by
  pointwise [k0_pay1]
  rfl

theorem first_at : k0_pay2 x dm m (ix2 r e) = fst (k0_pay1 x dm (ix2 r e)) (m (ix2 r e)) := by
  unfold k0_pay2
  generalize k0_pay1 x dm = g
  pointwise []
  rfl

theorem second_at : k0_pay3 x dm v (ix2 r e) = snd (k0_pay1 x dm (ix2 r e)) (v (ix2 r e)) := by
  unfold k0_pay3
  generalize k0_pay1 x dm = g
  pointwise []
  rfl

theorem delta_at : k0_pay4 x dm w m v (ix2 r e) = stp (w (ix2 r e)) (k0_pay1 x dm (ix2 r e)) (m (ix2 r e)) (v (ix2 r e)) := by
  unfold stp
  rw [← first_at x dm m, ← second_at x dm v]
  unfold k0_pay4
  generalize k0_pay2 x dm m = a
  generalize k0_pay3 x dm v = b
  pointwise []

end

/-! ## The blocks -/

variable (m : (ℓ : Loc nD τ sig) → Buf (Elt Ideal) ℓ) (c : Dev nD)

/-- The five arguments. -/
abbrev cond : Two 16 1024 := m ((c.tc : Thread nD τ).loc main_arg0)
abbrev dmod : Two 16 768 := m ((c.tc : Thread nD τ).loc main_arg1)
abbrev wgt : One 1024 768 := m ((c.tc : Thread nD τ).loc main_arg2)
abbrev mom : One 1024 768 := m ((c.tc : Thread nD τ).loc main_arg3)
abbrev vel : One 1024 768 := m ((c.tc : Thread nD τ).loc main_arg4)

theorem idx : ∀ t : Fin cfg0.N, win0_0.index t = ![0, t.val] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The weight's row at a point. -/
abbrev row (t : Fin cfg0.N) (r : Fin 256) : Fin 1024 := ⟨t.val * 256 + r.val, by have h := t.isLt; change t.val < 4 at h; omega⟩

theorem v2_at (n : Fin 64) (d : Fin 1024) : (V m c main_v2 : Vec Ideal S64x1024 .f32) (ix2 n d) = padded (fun b => cond m c (ix2 b d)) n := by
  unfold V
  after_reads_at
  exact dite_congr (propext ⟨fun h => h.2, fun h => ⟨by omega, h⟩⟩) (fun _ => rfl) (fun _ => zero_int)

theorem v5_at (n : Fin 64) (e : Fin 768) : (V m c main_v5 : Vec Ideal S64x768 .f32) (ix2 n e) = padded (fun b => dmod m c (ix2 b e)) n := by
  unfold V
  after_reads_at
  exact dite_congr (propext ⟨fun h => h.2, fun h => ⟨by omega, h⟩⟩) (fun _ => rfl) (fun _ => zero_int)

theorem v6_at (d : Fin 1024) (e : Fin 768) : (V m c main_v6 : Vec Ideal S1024x768 .f32) (ix2 d e) = wgt m c (ix3 0 d e) := by
  unfold V
  after_reads_at

theorem v7_at (d : Fin 1024) (e : Fin 768) : (V m c main_v7 : Vec Ideal S1024x768 .f32) (ix2 d e) = mom m c (ix3 0 d e) := by
  unfold V
  after_reads_at

theorem v8_at (d : Fin 1024) (e : Fin 768) : (V m c main_v8 : Vec Ideal S1024x768 .f32) (ix2 d e) = vel m c (ix3 0 d e) := by
  unfold V
  after_reads_at

variable (t : Fin cfg0.N) (r : Fin 256) (e : Fin 768)

theorem x_at (n : Fin 64) : (iblk m c 0 t : Vec Ideal S64x256 .f32) (ix2 n r) = padded (fun b => cond m c (ix2 b (row t r))) n := by
  rw [← v2_at m c]
  blk_ext! [iblk, idx t]

theorem dm_at (n : Fin 64) : (iblk m c 1 t : Vec Ideal S64x768 .f32) (ix2 n e) = padded (fun b => dmod m c (ix2 b e)) n := by
  rw [← v5_at m c]
  blk_ext! [iblk, idx t]

theorem w_at : (iblk m c 2 t : Vec Ideal S256x768 .f32) (ix2 r e) = wgt m c (ix3 0 (row t r) e) := by
  rw [← v6_at m c]
  blk_ext! [iblk, idx t]

theorem m_at : (iblk m c 3 t : Vec Ideal S256x768 .f32) (ix2 r e) = mom m c (ix3 0 (row t r) e) := by
  rw [← v7_at m c]
  blk_ext! [iblk, idx t]

theorem v_at : (iblk m c 4 t : Vec Ideal S256x768 .f32) (ix2 r e) = vel m c (ix3 0 (row t r) e) := by
  rw [← v8_at m c]
  blk_ext! [iblk, idx t]

theorem g_at : k0_pay1 (iblk m c 0 t : Vec Ideal S64x256 .f32) (iblk m c 1 t : Vec Ideal S64x768 .f32) (ix2 r e)
    = wgrad (cond m c) (dmod m c) (row t r) e := by
  rw [grad_at]
  simp only [x_at, dm_at]
  exact sum_padded _ _

theorem emb5 : (win0_5.blk t).view.emb (ix2 r e) = ix2 (row t r) e := by blk_ext! [idx t]
theorem emb6 : (win0_6.blk t).view.emb (ix2 r e) = ix2 (row t r) e := by blk_ext! [idx t]
theorem emb7 : (win0_7.blk t).view.emb (ix2 r e) = ix2 (row t r) e := by blk_ext! [idx t]
theorem emb8 : (win0_8.blk t).view.emb (ix2 r e) = ix2 (row t r) e := by blk_ext! [idx t]

/-! ## The final arrays -/

theorem out5 : (dats m 0 c).arrAt 5 cfg0.N = grad (wgrad (cond m c) (dmod m c)) := by
  refine (dats m 0 c).arrAt_eq_of_covers 5 _ (by decide +kernel) fun t hf y => ?_
  blk_simp
  rw [after0_5]
  obtain ⟨r, e, rfl⟩ : ∃ (r : Fin 256) (e : Fin 768), y = ix2 r e := ⟨y 0, y 1, eq_ix2 y⟩
  refine Eq.trans ?_ (congrArg (grad _) (emb5 t r e)).symm
  unfold out0_5
  frame_out
  exact g_at m c t r e

theorem out6 : (dats m 0 c).arrAt 6 cfg0.N = delta (wgrad (cond m c) (dmod m c)) (wgt m c) (mom m c) (vel m c) := by
  refine (dats m 0 c).arrAt_eq_of_covers 6 _ (by decide +kernel) fun t hf y => ?_
  blk_simp
  rw [after0_6]
  obtain ⟨r, e, rfl⟩ : ∃ (r : Fin 256) (e : Fin 768), y = ix2 r e := ⟨y 0, y 1, eq_ix2 y⟩
  refine Eq.trans ?_ (congrArg (delta _ _ _ _) (emb6 t r e)).symm
  unfold out0_6
  frame_out
  rw [delta_at, g_at, w_at, m_at, v_at]
  rfl

theorem out7 : (dats m 0 c).arrAt 7 cfg0.N = first (wgrad (cond m c) (dmod m c)) (mom m c) := by
  refine (dats m 0 c).arrAt_eq_of_covers 7 _ (by decide +kernel) fun t hf y => ?_
  blk_simp
  rw [after0_7]
  obtain ⟨r, e, rfl⟩ : ∃ (r : Fin 256) (e : Fin 768), y = ix2 r e := ⟨y 0, y 1, eq_ix2 y⟩
  refine Eq.trans ?_ (congrArg (first _ _) (emb7 t r e)).symm
  unfold out0_7
  frame_out
  rw [first_at, g_at, m_at]
  rfl

theorem out8 : (dats m 0 c).arrAt 8 cfg0.N = second (wgrad (cond m c) (dmod m c)) (vel m c) := by
  refine (dats m 0 c).arrAt_eq_of_covers 8 _ (by decide +kernel) fun t hf y => ?_
  blk_simp
  rw [after0_8]
  obtain ⟨r, e, rfl⟩ : ∃ (r : Fin 256) (e : Fin 768), y = ix2 r e := ⟨y 0, y 1, eq_ix2 y⟩
  refine Eq.trans ?_ (congrArg (second _ _) (emb8 t r e)).symm
  unfold out0_8
  frame_out
  rw [second_at, g_at, v_at]
  rfl

end Cert.Kernel6Ideal.Ada

end
-- ==== Proof.AdaSum.lean ====
/-
  The sum of a weight's four partial sums and its AdamW step as the call leaves them: a block of the weight's columns at a point.
-/
module

public import proofs.«01_k».proof.Proof.AdaSpec
public import proofs.«01_k».proof.Proof.Gen.Kernel7Ideal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel7Ideal.Ada

open Cert.Kernel7Ideal Cert.Kernel7Ideal.Gen Cert.Ada

/-! ## A point's arithmetic -/

section
variable (a b p q : Vec Ideal S1x256x1024 .bf16) (w m v : Vec Ideal S1024x256 .f32) (i : Fin 1024) (r : Fin 256)

theorem sum_at : k0_pay2 a b p q (ix2 i r) = a (ix3 0 r i) + b (ix3 0 r i) + p (ix3 0 r i) + q (ix3 0 r i) := by
  pointwise [k0_pay2]

theorem first_at : k0_pay4 a b p q m (ix2 i r) = fst (k0_pay2 a b p q (ix2 i r)) (m (ix2 i r)) := by
  unfold k0_pay4
  generalize k0_pay2 a b p q = g
  pointwise []
  rfl

theorem second_at : k0_pay5 a b p q v (ix2 i r) = snd (k0_pay2 a b p q (ix2 i r)) (v (ix2 i r)) := by
  unfold k0_pay5
  generalize k0_pay2 a b p q = g
  pointwise []
  rfl

theorem delta_at : k0_pay1 (k0_pay3 w) (k0_pay5 a b p q v) (k0_pay6 a b p q m) (Ideal.ofBits .f32 0x3C231ACC#32) (ix2 i r)
    = stp (w (ix2 i r)) (k0_pay2 a b p q (ix2 i r)) (m (ix2 i r)) (v (ix2 i r)) := by
  unfold stp
  rw [← first_at a b p q m, ← second_at a b p q v]
  unfold k0_pay6
  generalize k0_pay4 a b p q m = f
  generalize k0_pay5 a b p q v = s
  pointwise [k0_pay1, k0_pay3]

end

/-! ## The blocks -/

variable (m : (ℓ : Loc nD τ sig) → Buf (Elt Ideal) ℓ) (c : Dev nD)

/-- The four arguments. -/
abbrev slabs : (⟨3, ![4, 512, 1024]⟩ : Shape).Idx → EReal := m ((c.tc : Thread nD τ).loc main_arg0)
abbrev wgt : One 1024 512 := m ((c.tc : Thread nD τ).loc main_arg1)
abbrev mom : One 1024 512 := m ((c.tc : Thread nD τ).loc main_arg2)
abbrev vel : One 1024 512 := m ((c.tc : Thread nD τ).loc main_arg3)

theorem idx : ∀ t : Fin cfg0.N, win0_0.index t = ![0, t.val, 0] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] :=
  (by decide +kernel : ∀ t : Fin grid0.N, _)

/-- The weight's column at a point. -/
abbrev col (t : Fin cfg0.N) (r : Fin 256) : Fin 512 := ⟨t.val * 256 + r.val, by have h := t.isLt; change t.val < 2 at h; omega⟩

theorem v0_at (i : Fin 1024) (j : Fin 512) : (V m c main_v0 : Vec Ideal S1024x512 .f32) (ix2 i j) = wgt m c (ix3 0 i j) := by
  unfold V
  after_reads_at

theorem v1_at (i : Fin 1024) (j : Fin 512) : (V m c main_v1 : Vec Ideal S1024x512 .f32) (ix2 i j) = mom m c (ix3 0 i j) := by
  unfold V
  after_reads_at

theorem v2_at (i : Fin 1024) (j : Fin 512) : (V m c main_v2 : Vec Ideal S1024x512 .f32) (ix2 i j) = vel m c (ix3 0 i j) := by
  unfold V
  after_reads_at

variable (t : Fin cfg0.N) (i : Fin 1024) (r : Fin 256)

theorem s_at (k : Fin 4) : (iblk m c 0 t : Vec Ideal S4x256x1024 .bf16) (ix3 k r i) = slabs m c (ix3 k (col t r) i) := by
  unfold slabs
  rw [← V_main_arg0 m c]
  blk_ext! [iblk, idx t]

theorem w_at : (iblk m c 1 t : Vec Ideal S1024x256 .f32) (ix2 i r) = wgt m c (ix3 0 i (col t r)) := by
  rw [← v0_at m c]
  blk_ext! [iblk, idx t]

theorem m_at : (iblk m c 2 t : Vec Ideal S1024x256 .f32) (ix2 i r) = mom m c (ix3 0 i (col t r)) := by
  rw [← v1_at m c]
  blk_ext! [iblk, idx t]

theorem v_at : (iblk m c 3 t : Vec Ideal S1024x256 .f32) (ix2 i r) = vel m c (ix3 0 i (col t r)) := by
  rw [← v2_at m c]
  blk_ext! [iblk, idx t]

/-- The four partial sums' rows of the block. -/
theorem lds (x : Vec Ideal S4x256x1024 .bf16) : View.ld x r0_0 (ix3 0 r i) = x (ix3 0 r i) ∧ View.ld x r0_1 (ix3 0 r i) = x (ix3 1 r i)
    ∧ View.ld x r0_2 (ix3 0 r i) = x (ix3 2 r i) ∧ View.ld x r0_3 (ix3 0 r i) = x (ix3 3 r i) := by
  refine ⟨?_, ?_, ?_, ?_⟩ <;>
  · refine congrArg x (funext fun a => Fin.ext ?_)
    match a with
    | ⟨0, _⟩ => rfl
    | ⟨1, _⟩ => show 0 + 1 * r.val = r.val; omega
    | ⟨2, _⟩ => show 0 + 1 * i.val = i.val; omega

theorem g_at : k0_pay2 (View.ld (iblk m c 0 t : Vec Ideal S4x256x1024 .bf16) r0_0) (View.ld (iblk m c 0 t : Vec Ideal S4x256x1024 .bf16) r0_1)
    (View.ld (iblk m c 0 t : Vec Ideal S4x256x1024 .bf16) r0_2) (View.ld (iblk m c 0 t : Vec Ideal S4x256x1024 .bf16) r0_3) (ix2 i r)
      = total (slabs m c) i (col t r) := by
  rw [sum_at]
  unfold total
  obtain ⟨h0, h1, h2, h3⟩ := lds i r (iblk m c 0 t : Vec Ideal S4x256x1024 .bf16)
  rw [Fin.sum_univ_four, h0, h1, h2, h3, s_at, s_at, s_at, s_at]

theorem emb4 : (win0_4.blk t).view.emb (ix2 i r) = ix2 i (col t r) := by blk_ext! [idx t]
theorem emb5 : (win0_5.blk t).view.emb (ix2 i r) = ix2 i (col t r) := by blk_ext! [idx t]
theorem emb6 : (win0_6.blk t).view.emb (ix2 i r) = ix2 i (col t r) := by blk_ext! [idx t]
theorem emb7 : (win0_7.blk t).view.emb (ix2 i r) = ix2 i (col t r) := by blk_ext! [idx t]

/-! ## The final arrays -/

theorem out4 : (dats m 0 c).arrAt 4 cfg0.N = grad (total (slabs m c)) := by
  refine (dats m 0 c).arrAt_eq_of_covers 4 _ (by decide +kernel) fun t hf y => ?_
  blk_simp
  rw [after0_4]
  obtain ⟨i, r, rfl⟩ : ∃ (i : Fin 1024) (r : Fin 256), y = ix2 i r := ⟨y 0, y 1, eq_ix2 y⟩
  refine Eq.trans ?_ (congrArg (grad _) (emb4 t i r)).symm
  refine Eq.trans ?_ (g_at m c t i r)
  unfold out0_4
  frame_out
  rfl

theorem out5 : (dats m 0 c).arrAt 5 cfg0.N = delta (total (slabs m c)) (wgt m c) (mom m c) (vel m c) := by
  refine (dats m 0 c).arrAt_eq_of_covers 5 _ (by decide +kernel) fun t hf y => ?_
  blk_simp
  rw [after0_5]
  obtain ⟨i, r, rfl⟩ : ∃ (i : Fin 1024) (r : Fin 256), y = ix2 i r := ⟨y 0, y 1, eq_ix2 y⟩
  refine Eq.trans ?_ (congrArg (delta _ _ _ _) (emb5 t i r)).symm
  have hg := g_at m c t i r
  unfold_out out0_5
  frame_out
  refine (delta_at _ _ _ _ _ _ _ _ _).trans ?_
  rw [w_at, m_at, v_at]
  exact congrArg (fun g => stp _ g _ _) hg

theorem out6 : (dats m 0 c).arrAt 6 cfg0.N = first (total (slabs m c)) (mom m c) := by
  refine (dats m 0 c).arrAt_eq_of_covers 6 _ (by decide +kernel) fun t hf y => ?_
  blk_simp
  rw [after0_6]
  obtain ⟨i, r, rfl⟩ : ∃ (i : Fin 1024) (r : Fin 256), y = ix2 i r := ⟨y 0, y 1, eq_ix2 y⟩
  refine Eq.trans ?_ (congrArg (first _ _) (emb6 t i r)).symm
  unfold_out out0_6
  frame_out
  refine (first_at _ _ _ _ _ _ _).trans ?_
  rw [m_at]
  exact congrArg (fun g => fst g _) (g_at m c t i r)

theorem out7 : (dats m 0 c).arrAt 7 cfg0.N = second (total (slabs m c)) (vel m c) := by
  refine (dats m 0 c).arrAt_eq_of_covers 7 _ (by decide +kernel) fun t hf y => ?_
  blk_simp
  rw [after0_7]
  obtain ⟨i, r, rfl⟩ : ∃ (i : Fin 1024) (r : Fin 256), y = ix2 i r := ⟨y 0, y 1, eq_ix2 y⟩
  refine Eq.trans ?_ (congrArg (second _ _) (emb7 t i r)).symm
  unfold_out out0_7
  frame_out
  refine (second_at _ _ _ _ _ _ _).trans ?_
  rw [v_at]
  exact congrArg (fun g => snd g _) (g_at m c t i r)

end Cert.Kernel7Ideal.Ada

end
-- ==== Proof.lean ====
/-
Seven calls of the step, against the reference's own lines, the gradients of these lines, and the optimiser's lines.

The MLP call: the forward MLP with the loss and their hand-written gradient in one kernel. `Proof/Lift.lean` has the
extended-real arithmetic, `Proof/MlpSpec.lean` the values over the real numbers, `Proof/MlpRef.lean` what the reference
leaves, `Proof/MlpPay.lean` to `Proof/MlpArr.lean` what the kernel leaves, and `Proof/Finite.lean` what the precondition says.

The mixer's backward call: the hand-written gradient of the two causal convolutions, the layer norm, the gates and the
two projections. `Proof/MixSpec.lean` has the values, `Proof/MixRef.lean` to `Proof/MixRefC.lean` what the reference
leaves, `Proof/MixLine.lean` to `Proof/MixArr.lean` what the kernel leaves, and `Proof/MixFinite.lean` the precondition.

The mixer's forward call: the values it saves and its output. `Proof/FwdSpec.lean` has the values, `Proof/FwdRef.lean` what the
reference leaves, `Proof/FwdBlk.lean` to `Proof/FwdArr.lean` what the kernel leaves; `Proof/Rows.lean` has what both mixer calls
use of stores into rows.

The smaller calls: a weight's gradient in `Proof/WgSpec.lean`, `Proof/WgRef.lean` and `Proof/WgArr.lean`; the modulation's
columns, the gradient of its weight and the sum of four partial sums, the latter two with AdamW, in `Proof/AdaSpec.lean`
(the values), `Proof/AdaRef.lean`, and `Proof/AdaMod.lean`, `Proof/AdaGrad.lean` and `Proof/AdaSum.lean`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Finite
public import Idealize.ShloMosaic.Lib.Quiescent
public import proofs.«01_k».proof.Proof.MlpArr
public import proofs.«01_k».proof.Proof.MlpRef
public import proofs.«01_k».proof.Proof.MixFinite
public import proofs.«01_k».proof.Proof.MixArr
public import proofs.«01_k».proof.Proof.MixRefC
public import proofs.«01_k».proof.Proof.FwdRef
public import proofs.«01_k».proof.Proof.FwdArr
public import proofs.«01_k».proof.Proof.WgRef
public import proofs.«01_k».proof.Proof.WgArr
public import proofs.«01_k».proof.Proof.AdaRef
public import proofs.«01_k».proof.Proof.AdaMod
public import proofs.«01_k».proof.Proof.AdaGrad
public import proofs.«01_k».proof.Proof.AdaSum

@[expose] public section

noncomputable section

namespace Cert.Proof

open Idealize.ShloMosaic Idealize.SL.Sem
open Cert.Mlp

/-- The two programs leave the same eight arrays, each the value over the real data. -/
theorem algebraic : Cert.algebraic_KernelIdeal_ReferenceIdeal_pre_finite := by
  intro m g m' g' hpre hargs
  let D (c : Dev Cert.KernelIdeal.nD) : Data := Data.of
    (m (c.tc.loc Cert.KernelIdeal.main_arg0)) (m (c.tc.loc Cert.KernelIdeal.main_arg1)) (m (c.tc.loc Cert.KernelIdeal.main_arg2))
    (m (c.tc.loc Cert.KernelIdeal.main_arg3)) (m (c.tc.loc Cert.KernelIdeal.main_arg4)) (m (c.tc.loc Cert.KernelIdeal.main_arg5))
    (m (c.tc.loc Cert.KernelIdeal.main_arg6))
  have hK (c : Dev Cert.KernelIdeal.nD) : Cert.KernelIdeal.Mlp.HoldsAt m (D c) c := holds_of_finite _ _ _ _ _ _ _ (hpre c)
  have hR (c : Dev Cert.ReferenceIdeal.nD) : Cert.ReferenceIdeal.Mlp.HoldsAt (D c) (StableHlo.launchContents m' c) := by
    obtain ⟨e0, e1, e2, e3, e4, e5, e6⟩ := hargs c
    show Holds (D c) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4))
      (m' (c.tc.loc Cert.ReferenceIdeal.main_arg5)) (m' (c.tc.loc Cert.ReferenceIdeal.main_arg6))
    rw [e0, e1, e2, e3, e4, e5, e6]
    exact hK c
  refine ⟨fun c => (D c).arrDx1, fun c => (D c).arrH2, fun c => (D c).arrDy2, fun c => (D c).arrU, fun c => (D c).arrDz,
    fun c => (D c).arrMod, fun c => (D c).arrHead, fun c => (D c).arrDy1, ?_, ?_⟩
  · refine (θ_run _ _ _).mono (fun r h c => ?_) (Cert.KernelIdeal.Value.run_blocks m g)
    obtain ⟨o0, o1, o2, o3, o4, o5, o6, o7, kept⟩ := h c
    exact ⟨o0.trans (Cert.KernelIdeal.Mlp.out7 (hK c)), o1.trans (Cert.KernelIdeal.Mlp.out8 (hK c)), o2.trans (Cert.KernelIdeal.Mlp.out9 (hK c)),
      o3.trans (Cert.KernelIdeal.Mlp.out10 (hK c)), o4.trans (Cert.KernelIdeal.Mlp.out11 (hK c)), o5.trans (Cert.KernelIdeal.Mlp.out12 (hK c)),
      o6.trans (Cert.KernelIdeal.Mlp.out13 (hK c)), o7.trans (Cert.KernelIdeal.Mlp.out14 (hK c)), kept⟩
  · refine (θ_run _ _ _).mono (fun r h c => ?_) (Cert.ReferenceIdeal.Value.run m' g')
    obtain ⟨o0, o1, o2, o3, o4, o5, o6, o7, kept⟩ := h c
    exact ⟨o0.trans (Cert.ReferenceIdeal.Mlp.dx1_arr (hR c)), o1.trans (Cert.ReferenceIdeal.Mlp.h2_arr (hR c)),
      o2.trans (Cert.ReferenceIdeal.Mlp.dy2_arr (hR c)), o3.trans (Cert.ReferenceIdeal.Mlp.u_arr (hR c)),
      o4.trans (Cert.ReferenceIdeal.Mlp.dz_arr (hR c)), o5.trans (Cert.ReferenceIdeal.Mlp.mod_arr (hR c)),
      o6.trans (Cert.ReferenceIdeal.Mlp.head_arr (hR c)), o7.trans (Cert.ReferenceIdeal.Mlp.dy1_arr (hR c)), kept⟩

/-- The reference leaves its arguments as they were, and has no semaphore. -/
theorem frame_reference : Cert.quiescent_ReferenceIdeal := fun m ρ _ =>
  (θ_run Cert.ReferenceIdeal.defs _ _).mono
    (fun r h => ⟨fun c => (h c).2.2.2.2.2.2.2.2, sem_eq_zero_of_no_sems (by decide) r.2⟩)
    (Cert.ReferenceIdeal.Value.run (F := Ideal) m ρ)

/-- The mixer's two programs leave the same five arrays, each the value over the real data. -/
theorem algebraic2 : Cert.algebraic_Kernel2Ideal_Reference2Ideal_pre_finite2 := by
  intro m g m' g' hpre hargs
  let D (c : Dev Cert.Kernel2Ideal.nD) : Cert.Mix.Data := Cert.Mix.Data.of
    (m (c.tc.loc Cert.Kernel2Ideal.main_arg0)) (m (c.tc.loc Cert.Kernel2Ideal.main_arg1)) (m (c.tc.loc Cert.Kernel2Ideal.main_arg2))
    (m (c.tc.loc Cert.Kernel2Ideal.main_arg3)) (m (c.tc.loc Cert.Kernel2Ideal.main_arg4)) (m (c.tc.loc Cert.Kernel2Ideal.main_arg5))
    (m (c.tc.loc Cert.Kernel2Ideal.main_arg6)) (m (c.tc.loc Cert.Kernel2Ideal.main_arg7)) (m (c.tc.loc Cert.Kernel2Ideal.main_arg8))
    (m (c.tc.loc Cert.Kernel2Ideal.main_arg9))
  have hK (c : Dev Cert.Kernel2Ideal.nD) : Cert.Kernel2Ideal.Mix.HoldsAt m (D c) c :=
    Cert.Mix.holds_of_finite _ _ _ _ _ _ _ _ _ _ (hpre c)
  have hR (c : Dev Cert.Reference2Ideal.nD) : Cert.Reference2Ideal.Mix.HoldsAt (D c) (StableHlo.launchContents m' c) := by
    obtain ⟨e0, e1, e2, e3, e4, e5, e6, e7, e8, e9⟩ := hargs c
    show Cert.Mix.Holds (D c) (m' (c.tc.loc Cert.Reference2Ideal.main_arg0)) (m' (c.tc.loc Cert.Reference2Ideal.main_arg1))
      (m' (c.tc.loc Cert.Reference2Ideal.main_arg2)) (m' (c.tc.loc Cert.Reference2Ideal.main_arg3)) (m' (c.tc.loc Cert.Reference2Ideal.main_arg4))
      (m' (c.tc.loc Cert.Reference2Ideal.main_arg5)) (m' (c.tc.loc Cert.Reference2Ideal.main_arg6)) (m' (c.tc.loc Cert.Reference2Ideal.main_arg7))
      (m' (c.tc.loc Cert.Reference2Ideal.main_arg8)) (m' (c.tc.loc Cert.Reference2Ideal.main_arg9))
    rw [e0, e1, e2, e3, e4, e5, e6, e7, e8, e9]
    exact hK c
  refine ⟨fun c => (D c).arrGx, fun c => (D c).arrDpj, fun c => (D c).arrH, fun c => (D c).arrMod, fun c => (D c).arrPack, ?_, ?_⟩
  · refine (θ_run _ _ _).mono (fun r h c => ?_) (Cert.Kernel2Ideal.Value.run_blocks m g)
    obtain ⟨o0, o1, o2, o3, o4, kept⟩ := h c
    exact ⟨o0.trans (Cert.Kernel2Ideal.Mix.out10 (hK c)), o1.trans (Cert.Kernel2Ideal.Mix.out11 (hK c)),
      o2.trans (Cert.Kernel2Ideal.Mix.out12 (hK c)), o3.trans (Cert.Kernel2Ideal.Mix.out13 (hK c)),
      o4.trans (Cert.Kernel2Ideal.Mix.out14 (hK c)), kept⟩
  · refine (θ_run _ _ _).mono (fun r h c => ?_) (Cert.Reference2Ideal.Value.run m' g')
    obtain ⟨o0, o1, o2, o3, o4, kept⟩ := h c
    exact ⟨o0.trans (Cert.Reference2Ideal.Mix.gx_arr (hR c)), o1.trans (Cert.Reference2Ideal.Mix.dpj_arr (hR c)),
      o2.trans (Cert.Reference2Ideal.Mix.h_arr (hR c)), o3.trans (Cert.Reference2Ideal.Mix.mod_arr (hR c)),
      o4.trans (Cert.Reference2Ideal.Mix.pack_arr (hR c)), kept⟩

/-- The mixer's reference leaves its arguments as they were, and has no semaphore. -/
theorem frame_reference2 : Cert.quiescent_Reference2Ideal := fun m ρ _ =>
  (θ_run Cert.Reference2Ideal.defs _ _).mono
    (fun r h => ⟨fun c => (h c).2.2.2.2.2, sem_eq_zero_of_no_sems (by decide) r.2⟩)
    (Cert.Reference2Ideal.Value.run (F := Ideal) m ρ)

/-- The forward mixer's two programs leave the same five arrays, each the value over the extended reals. -/
theorem algebraic3 : Cert.algebraic_Kernel3Ideal_Reference3Ideal := by
  intro m g m' g' _ hargs
  have hD (c : Dev Cert.Kernel3Ideal.nD) : Cert.Reference3Ideal.Fwd.dat m' c = Cert.Kernel3Ideal.Fwd.dat m c := by
    obtain ⟨e0, e1, e2, e3, e4, e5, e6, e7, e8⟩ := hargs c
    show Cert.Fwd.Data.of (m' (c.tc.loc Cert.Reference3Ideal.main_arg0)) (m' (c.tc.loc Cert.Reference3Ideal.main_arg1))
      (m' (c.tc.loc Cert.Reference3Ideal.main_arg2)) (m' (c.tc.loc Cert.Reference3Ideal.main_arg3)) (m' (c.tc.loc Cert.Reference3Ideal.main_arg4))
      (m' (c.tc.loc Cert.Reference3Ideal.main_arg5)) (m' (c.tc.loc Cert.Reference3Ideal.main_arg6)) (m' (c.tc.loc Cert.Reference3Ideal.main_arg7))
      (m' (c.tc.loc Cert.Reference3Ideal.main_arg8)) = _
    rw [e0, e1, e2, e3, e4, e5, e6, e7, e8]
  refine ⟨fun c => (Cert.Kernel3Ideal.Fwd.dat m c).arrPj, fun c => (Cert.Kernel3Ideal.Fwd.dat m c).arrA1, fun c => (Cert.Kernel3Ideal.Fwd.dat m c).arrCv,
    fun c => (Cert.Kernel3Ideal.Fwd.dat m c).arrMx, fun c => (Cert.Kernel3Ideal.Fwd.dat m c).arrY, ?_, ?_⟩
  · refine (θ_run _ _ _).mono (fun r h c => ?_) (Cert.Kernel3Ideal.Value.run_blocks m g)
    obtain ⟨o0, o1, o2, o3, o4, kept⟩ := h c
    exact ⟨o0.trans (Cert.Kernel3Ideal.Fwd.out6 m c), o1.trans (Cert.Kernel3Ideal.Fwd.out7 m c), o2.trans (Cert.Kernel3Ideal.Fwd.out8 m c),
      o3.trans (Cert.Kernel3Ideal.Fwd.out9 m c), o4.trans (Cert.Kernel3Ideal.Fwd.out10 m c), kept⟩
  · refine (θ_run _ _ _).mono (fun r h c => ?_) (Cert.Reference3Ideal.Value.run m' g')
    obtain ⟨o0, o1, o2, o3, o4, kept⟩ := h c
    exact ⟨o0.trans ((Cert.Reference3Ideal.Fwd.out_pj m' c).trans (congrArg Cert.Fwd.Data.arrPj (hD c))),
      o1.trans ((Cert.Reference3Ideal.Fwd.out_a1 m' c).trans (congrArg Cert.Fwd.Data.arrA1 (hD c))),
      o2.trans ((Cert.Reference3Ideal.Fwd.out_cv m' c).trans (congrArg Cert.Fwd.Data.arrCv (hD c))),
      o3.trans ((Cert.Reference3Ideal.Fwd.out_mx m' c).trans (congrArg Cert.Fwd.Data.arrMx (hD c))),
      o4.trans ((Cert.Reference3Ideal.Fwd.out_y m' c).trans (congrArg Cert.Fwd.Data.arrY (hD c))), kept⟩

/-- The forward mixer's reference leaves its arguments as they were, and has no semaphore. -/
theorem frame_reference3 : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

/-- The two programs leave the same gradient of the up projection's weight. -/
theorem algebraic4 : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1, (hagree c).1, (hagree c).2]
  exact (Cert.Reference4Ideal.Wg.out_at _ _).trans (Cert.Kernel4Ideal.Wg.out2 m c).symm

theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The two programs leave the same modulation's columns. -/
theorem algebraic5 : Cert.algebraic_Kernel5Ideal_Reference5Ideal := by
  intro m g m' g' _ hargs
  refine ⟨_, Cert.Kernel5Ideal.Value.run_blocks (F := Ideal) m g, ?_⟩
  refine (θ_run _ _ _).mono (fun r h c => ?_) (Cert.Reference5Ideal.Value.run m' g')
  obtain ⟨e0, e1, e2⟩ := hargs c
  obtain ⟨o0, kept⟩ := h c
  rw [e0, e1, e2] at o0
  exact ⟨o0.trans ((Cert.Reference5Ideal.Ada.out_at _ _ _).trans (Cert.Kernel5Ideal.Ada.out3 m c).symm), kept⟩

theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The two programs leave the same gradient of the modulation's weight, and the same AdamW step of it. -/
theorem algebraic6 : Cert.algebraic_Kernel6Ideal_Reference6Ideal := by
  intro m g m' g' _ hargs
  refine ⟨_, _, _, _, Cert.Kernel6Ideal.Value.run_blocks (F := Ideal) m g, ?_⟩
  refine (θ_run _ _ _).mono (fun r h c => ?_) (Cert.Reference6Ideal.Value.run m' g')
  obtain ⟨e0, e1, e2, e3, e4⟩ := hargs c
  obtain ⟨o0, o1, o2, o3, kept⟩ := h c
  have hg := Cert.Reference6Ideal.Ada.grad_eq (m (c.tc.loc Cert.Kernel6Ideal.main_arg0)) (m (c.tc.loc Cert.Kernel6Ideal.main_arg1))
  rw [e0, e1] at o0
  rw [e0, e1, e2, e3, e4] at o1
  rw [e0, e1, e3] at o2
  rw [e0, e1, e4] at o3
  exact ⟨o0.trans (hg.trans (Cert.Kernel6Ideal.Ada.out5 m c).symm),
    o1.trans ((congrArg (Cert.Reference6Ideal.Ada.dT _ _ _) hg).trans ((Cert.Reference6Ideal.Ada.delta_eq _ _ _ _).trans (Cert.Kernel6Ideal.Ada.out6 m c).symm)),
    o2.trans ((congrArg (Cert.Reference6Ideal.Ada.mT _) hg).trans ((Cert.Reference6Ideal.Ada.first_eq _ _).trans (Cert.Kernel6Ideal.Ada.out7 m c).symm)),
    o3.trans ((congrArg (Cert.Reference6Ideal.Ada.vT _) hg).trans ((Cert.Reference6Ideal.Ada.second_eq _ _).trans (Cert.Kernel6Ideal.Ada.out8 m c).symm)), kept⟩

theorem frame_reference6 : Cert.quiescent_Reference6Ideal := fun m ρ _ =>
  (θ_run Cert.Reference6Ideal.defs _ _).mono
    (fun r h => ⟨fun c => (h c).2.2.2.2, sem_eq_zero_of_no_sems (by decide) r.2⟩)
    (Cert.Reference6Ideal.Value.run (F := Ideal) m ρ)

/-- The two programs leave the same sum of the partial sums, and the same AdamW step of it. -/
theorem algebraic7 : Cert.algebraic_Kernel7Ideal_Reference7Ideal := by
  intro m g m' g' _ hargs
  refine ⟨_, _, _, _, Cert.Kernel7Ideal.Value.run_blocks (F := Ideal) m g, ?_⟩
  refine (θ_run _ _ _).mono (fun r h c => ?_) (Cert.Reference7Ideal.Value.run m' g')
  obtain ⟨e0, e1, e2, e3⟩ := hargs c
  obtain ⟨o0, o1, o2, o3, kept⟩ := h c
  have hg := Cert.Reference7Ideal.Ada.grad_eq (m (c.tc.loc Cert.Kernel7Ideal.main_arg0))
  rw [e0] at o0
  rw [e0, e1, e2, e3] at o1
  rw [e0, e2] at o2
  rw [e0, e3] at o3
  exact ⟨o0.trans (hg.trans (Cert.Kernel7Ideal.Ada.out4 m c).symm),
    o1.trans ((congrArg (Cert.Reference7Ideal.Ada.dT _ _ _) hg).trans ((Cert.Reference7Ideal.Ada.delta_eq _ _ _ _).trans (Cert.Kernel7Ideal.Ada.out5 m c).symm)),
    o2.trans ((congrArg (Cert.Reference7Ideal.Ada.mT _) hg).trans ((Cert.Reference7Ideal.Ada.first_eq _ _).trans (Cert.Kernel7Ideal.Ada.out6 m c).symm)),
    o3.trans ((congrArg (Cert.Reference7Ideal.Ada.vT _) hg).trans ((Cert.Reference7Ideal.Ada.second_eq _ _).trans (Cert.Kernel7Ideal.Ada.out7 m c).symm)), kept⟩

theorem frame_reference7 : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    trivial, algebraic, trivial, algebraic2, trivial, algebraic3,
    trivial, algebraic4, trivial, algebraic5, trivial, algebraic6, trivial, algebraic7⟩

end Cert.Proof

end
